-- ==== Defs.lean ====
def Pre_Kernel [hPre_named : Cert.Pre_named.Facts] (m : (ℓ : Loc Cert.Kernel.nD Cert.Kernel.τ Cert.Kernel.sig) → Buf (Elt Bits) ℓ) : Prop :=
  ∀ c : Dev Cert.Kernel.nD,
    (Cert.Pre_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_named : Cert.Pre_named.Facts] (m : (ℓ : Loc Cert.KernelIdeal.nD Cert.KernelIdeal.τ Cert.KernelIdeal.sig) → Buf (Elt Ideal) ℓ) : Prop :=
  ∀ c : Dev Cert.KernelIdeal.nD,
    (Cert.Pre_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_named [hPre_named : Cert.Pre_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_named : Cert.Pre_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_named : Cert.Pre_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_named [hReferenceIdeal : Cert.ReferenceIdeal.Facts] [hPre_named : Cert.Pre_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_named : Cert.Pre_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_named : Cert.Pre_named.Facts),
    quiescent_Kernel (hKernel := hKernel) (hPre_named := hPre_named)
    ∧ quiescent_KernelIdeal (hKernelIdeal := hKernelIdeal) (hPre_named := hPre_named)
    ∧ quiescent_ReferenceIdeal (hReferenceIdeal := hReferenceIdeal)
    ∧ quiescent_ReferenceIdeal_pre_named (hReferenceIdeal := hReferenceIdeal) (hPre_named := hPre_named)
    ∧ preserves_Kernel_KernelIdeal
    ∧ algebraic_KernelIdeal_ReferenceIdeal (hKernelIdeal := hKernelIdeal) (hReferenceIdeal := hReferenceIdeal) (hPre_named := hPre_named)
-- ==== Pre_named.lean ====
abbrev S896x2816 : Shape := ⟨2, ![896, 2816]⟩
abbrev S9 : Shape := ⟨1, ![9]⟩
abbrev S1 : Shape := ⟨1, ![1]⟩
abbrev S8x1408x14336 : Shape := ⟨3, ![8, 1408, 14336]⟩
abbrev S8x22x14336 : Shape := ⟨3, ![8, 22, 14336]⟩
abbrev S8x3584x2816 : Shape := ⟨3, ![8, 3584, 2816]⟩
abbrev S8x56x2816 : Shape := ⟨3, ![8, 56, 2816]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel
  bcast_S_S1 : S_.BroadcastsInDim S1 (![] : Fin 0 → Fin S1.rank)
  reducesTo_S1_S_d0 : S1.ReducesTo [0] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S9 32) (arg1 : IVec S_ 32) : IVec S9 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S9 32 := broadcastInDim S9 ![] bcast_S_S9 v2
  let v4 : IVec S9 32 := Host.remsi arg0 v3
  let c_1 : IVec S_ 32 := constantI S_ 32 0#32
  let v5 : IVec S9 32 := broadcastInDim S9 ![] bcast_S_S9 c_1
  let v6 : IVec S9 1 := cmpi .ne v4 v5
  let c_2 : IVec S_ 32 := constantI S_ 32 0#32
  let v7 : IVec S9 32 := broadcastInDim S9 ![] bcast_S_S9 c_2
  let v8 : IVec S9 1 := cmpi .slt v4 v7
  let c_3 : IVec S_ 32 := constantI S_ 32 0#32
  let v9 : IVec S_ 1 := cmpi .slt v2 c_3
  let v10 : IVec S9 1 := broadcastInDim S9 ![] bcast_S_S9 v9
  let v11 : IVec S9 1 := cmpi .ne v8 v10
  let v12 : IVec S9 1 := andi v11 v6
  let v13 : IVec S9 32 := broadcastInDim S9 ![] bcast_S_S9 v2
  let v14 : IVec S9 32 := addi v4 v13
  let v15 : IVec S9 32 := select v12 v14 v4
  v15

def fn_part1 {F : FTy → Type} [FloatOps F] (main_arg3 : IVec S1 32) (main_v5 : IVec S_ 1) (main_v15 : IVec S_ 1) : IVec S_ 1 :=
  let main_v16 : IVec S_ 1 := andi main_v5 main_v15
  let main_c_7 : IVec S_ 32 := constantI S_ 32 1#32
  let main_v17 : IVec S1 32 := broadcastInDim S1 ![] bcast_S_S1 main_c_7
  let main_v18 : IVec S1 1 := cmpi .sge main_arg3 main_v17
  let main_c_8 : IVec S_ 32 := constantI S_ 32 9#32
  let main_v19 : IVec S1 32 := broadcastInDim S1 ![] bcast_S_S1 main_c_8
  let main_v20 : IVec S1 1 := cmpi .sle main_arg3 main_v19
  let main_v21 : IVec S1 1 := andi main_v18 main_v20
  let main_c_9 : IVec S_ 1 := constantI S_ 1 1#1
  let main_v22 : IVec S_ 1 := (fun x v => Host.reduce IntOp.andi x v reducesTo_S1_S_d0 h_S_) main_v21 main_c_9
  let main_v23 : IVec S_ 1 := andi main_v16 main_v22
  main_v23

def fn {F : FTy → Type} [FloatOps F] (main_arg0 : FVec F S896x2816 .bf16) (main_arg1 : IVec S9 32) (main_arg2 : IVec S9 32) (main_arg3 : IVec S1 32) (main_arg4 : IVec S8x1408x14336 8) (main_arg5 : FVec F S8x22x14336 .bf16) (main_arg6 : IVec S8x3584x2816 8) (main_arg7 : FVec F S8x56x2816 .bf16) : IVec S_ 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 8#32
  let main_v2 : IVec S9 32 := broadcastInDim S9 ![] bcast_S_S9 main_c_0
  let main_v3 : IVec S9 1 := cmpi .slt main_arg1 main_v2
  let main_v4 : IVec S9 1 := andi main_v1 main_v3
  let main_c_1 : IVec S_ 1 := constantI S_ 1 1#1
  let main_v5 : IVec S_ 1 := (fun x v => Host.reduce IntOp.andi x v reducesTo_S9_S_d0 h_S_) main_v4 main_c_1
  let main_c_2 : IVec S_ 32 := constantI S_ 32 0#32
  let main_v6 : IVec S9 32 := broadcastInDim S9 ![] bcast_S_S9 main_c_2
  let main_v7 : IVec S9 1 := cmpi .sge main_arg2 main_v6
  let main_c_3 : IVec S_ 32 := constantI S_ 32 640#32
  let main_v8 : IVec S9 32 := broadcastInDim S9 ![] bcast_S_S9 main_c_3
  let main_v9 : IVec S9 1 := cmpi .sle main_arg2 main_v8
  let main_v10 : IVec S9 1 := andi main_v7 main_v9
  let main_c_4 : IVec S_ 32 := constantI S_ 32 16#32
  let main_v11 : IVec S9 32 := fn_remainder (F := F) main_arg2 main_c_4
  let main_c_5 : IVec S_ 32 := constantI S_ 32 0#32
  let main_v12 : IVec S9 32 := broadcastInDim S9 ![] bcast_S_S9 main_c_5
  let main_v13 : IVec S9 1 := cmpi .eq main_v11 main_v12
  let main_v14 : IVec S9 1 := andi main_v10 main_v13
  let main_c_6 : IVec S_ 1 := constantI S_ 1 1#1
  let main_v15 : IVec S_ 1 := (fun x v => Host.reduce IntOp.andi x v reducesTo_S9_S_d0 h_S_) main_v14 main_c_6
  fn_part1 (F := F) main_arg3 main_v5 main_v15
-- ==== Kernel.lean ====
abbrev S896x2816 : Shape := ⟨2, ![896, 2816]⟩
abbrev S9 : Shape := ⟨1, ![9]⟩
abbrev S1 : Shape := ⟨1, ![1]⟩
abbrev S8x1408x14336 : Shape := ⟨3, ![8, 1408, 14336]⟩
abbrev S8x22x14336 : Shape := ⟨3, ![8, 22, 14336]⟩
abbrev S8x3584x2816 : Shape := ⟨3, ![8, 3584, 2816]⟩
abbrev S8x56x2816 : Shape := ⟨3, ![8, 56, 2816]⟩
abbrev S256x7168 : Shape := ⟨2, ![256, 7168]⟩
abbrev S6x2x1408x256 : Shape := ⟨4, ![6, 2, 1408, 256]⟩
abbrev S2x22x14336 : Shape := ⟨3, ![2, 22, 14336]⟩
abbrev S4x3584x256 : Shape := ⟨3, ![4, 3584, 256]⟩
abbrev S2x56x2816 : Shape := ⟨3, ![2, 56, 2816]⟩
abbrev S6 : Shape := ⟨1, ![6]⟩
abbrev S4 : Shape := ⟨1, ![4]⟩
abbrev S2 : Shape := ⟨1, ![2]⟩
abbrev S_ : Shape := ⟨0, ![]⟩
abbrev S1x22x14336 : Shape := ⟨3, ![1, 22, 14336]⟩
abbrev S22x14336 : Shape := ⟨2, ![22, 14336]⟩
abbrev S1x1x1408x256 : Shape := ⟨4, ![1, 1, 1408, 256]⟩
abbrev S1408x256 : Shape := ⟨2, ![1408, 256]⟩
abbrev S1x1408x256 : Shape := ⟨3, ![1, 1408, 256]⟩
abbrev S1x56x2816 : Shape := ⟨3, ![1, 56, 2816]⟩
abbrev S56x2816 : Shape := ⟨2, ![56, 2816]⟩
abbrev S1x3584x256 : Shape := ⟨3, ![1, 3584, 256]⟩
abbrev S3584x256 : Shape := ⟨2, ![3584, 256]⟩
abbrev S1x22x256 : Shape := ⟨3, ![1, 22, 256]⟩
abbrev S22x256 : Shape := ⟨2, ![22, 256]⟩
abbrev S256x2816 : Shape := ⟨2, ![256, 2816]⟩
abbrev S352x256 : Shape := ⟨2, ![352, 256]⟩
abbrev S352x1x256 : Shape := ⟨3, ![352, 1, 256]⟩
abbrev S352x8x256 : Shape := ⟨3, ![352, 8, 256]⟩
abbrev S2816x256 : Shape := ⟨2, ![2816, 256]⟩
abbrev S128x256 : Shape := ⟨2, ![128, 256]⟩
abbrev S1x256 : Shape := ⟨2, ![1, 256]⟩
abbrev S256x256 : Shape := ⟨2, ![256, 256]⟩
abbrev S1x56x256 : Shape := ⟨3, ![1, 56, 256]⟩
abbrev S56x256 : Shape := ⟨2, ![56, 256]⟩
abbrev S896x256 : Shape := ⟨2, ![896, 256]⟩
abbrev S896x1x256 : Shape := ⟨3, ![896, 1, 256]⟩
abbrev S896x8x256 : Shape := ⟨3, ![896, 8, 256]⟩
abbrev S7168x256 : Shape := ⟨2, ![7168, 256]⟩

abbrev nBuf : Space → Nat
  | .hbm => 9
  | .vmem => 7
  | .smem => 3
  | _ => 0

abbrev bufTy : (tb : Table) → Fin (tcTables nBuf tb) → BufTy
  | .hbm, ⟨0, _⟩ => ⟨S896x2816, .bf16⟩
  | .hbm, ⟨1, _⟩ => ⟨S9, .i32⟩
  | .hbm, ⟨2, _⟩ => ⟨S9, .i32⟩
  | .hbm, ⟨3, _⟩ => ⟨S1, .i32⟩
  | .hbm, ⟨4, _⟩ => ⟨S8x1408x14336, .i8⟩
  | .hbm, ⟨5, _⟩ => ⟨S8x22x14336, .bf16⟩
  | .hbm, ⟨6, _⟩ => ⟨S8x3584x2816, .i8⟩
  | .hbm, ⟨7, _⟩ => ⟨S8x56x2816, .bf16⟩
  | .hbm, ⟨8, _⟩ => ⟨S896x2816, .f32⟩
  | .local _ .vmem, ⟨0, _⟩ => ⟨S896x2816, .bf16⟩
  | .local _ .vmem, ⟨1, _⟩ => ⟨S896x2816, .f32⟩
  | .local _ .vmem, ⟨2, _⟩ => ⟨S256x7168, .bf16⟩
  | .local _ .vmem, ⟨3, _⟩ => ⟨S6x2x1408x256, .i8⟩
  | .local _ .vmem, ⟨4, _⟩ => ⟨S2x22x14336, .bf16⟩
  | .local _ .vmem, ⟨5, _⟩ => ⟨S4x3584x256, .i8⟩
  | .local _ .vmem, ⟨6, _⟩ => ⟨S2x56x2816, .bf16⟩
  | .local _ .smem, ⟨0, _⟩ => ⟨S9, .i32⟩
  | .local _ .smem, ⟨1, _⟩ => ⟨S9, .i32⟩
  | .local _ .smem, ⟨2, _⟩ => ⟨S1, .i32⟩
  | _, _ => ⟨S896x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg3_0 : Ref sig .tc := ⟨.vmem, 0, rfl⟩
abbrev cc0_stg4_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (v0 : BitVec 32) : Fin 3 → Nat :=
  let c0_i32_3 : BitVec 32 := 0#32
  let c0_i32_4 : BitVec 32 := 0#32
  ![v0.toNat, 0, 0]

def k0_mult1 : BitVec 32 :=
  let c0_i32_6 : BitVec 32 := 0#32
  c0_i32_6
def k0_off2 (c0_i32_5 : BitVec 32) : Fin 1 → Nat :=
  let c6_i32 : BitVec 32 := 6#32
  let v7 : BitVec 32 := Scalar.remsi c0_i32_5 c6_i32
  ![v7.toNat]
def k0_off3 (c0_i32_5 : BitVec 32) : Fin 4 → Nat :=
  let c6_i32 : BitVec 32 := 6#32
  let v7 : BitVec 32 := Scalar.remsi c0_i32_5 c6_i32
  let c0_i32_7 : BitVec 32 := 0#32
  let c0_i32_8 : BitVec 32 := 0#32
  let c0_i32_9 : BitVec 32 := 0#32
  ![v7.toNat, 0, 0, 0]
def k0_off4 (v0 : BitVec 32) : Fin 3 → Nat :=
  let c0_i32_10 : BitVec 32 := 0#32
  let c0_i32_6 : BitVec 32 := 0#32
  let v8 : BitVec 32 := c0_i32_6
  ![v0.toNat, 0, 0]
def k0_mult2 : BitVec 32 :=
  let c7168_i32 : BitVec 32 := 7168#32
  c7168_i32
def k0_off5 (c0_i32_5 : BitVec 32) : Fin 4 → Nat :=
  let c6_i32 : BitVec 32 := 6#32
  let v7 : BitVec 32 := Scalar.remsi c0_i32_5 c6_i32
  let c1_i32 : BitVec 32 := 1#32
  let c0_i32_11 : BitVec 32 := 0#32
  let c0_i32_12 : BitVec 32 := 0#32
  ![v7.toNat, 1, 0, 0]
def k0_off6 (v0 : BitVec 32) : Fin 3 → Nat :=
  let c0_i32_13 : BitVec 32 := 0#32
  let c7168_i32 : BitVec 32 := 7168#32
  let v15 : BitVec 32 := c7168_i32
  ![v0.toNat, 0, 7168]
def k0_mult3 : BitVec 32 :=
  let c256_i32 : BitVec 32 := 256#32
  c256_i32
def k0_off7 (v0 : BitVec 32) : Fin 3 → Nat :=
  let c0_i32_19 : BitVec 32 := 0#32
  let c256_i32 : BitVec 32 := 256#32
  let v23 : BitVec 32 := c256_i32
  ![v0.toNat, 0, 256]
def k0_mult4 : BitVec 32 :=
  let c7424_i32 : BitVec 32 := 7424#32
  c7424_i32
def k0_off8 (v0 : BitVec 32) : Fin 3 → Nat :=
  let c0_i32_23 : BitVec 32 := 0#32
  let c7424_i32 : BitVec 32 := 7424#32
  let v30 : BitVec 32 := c7424_i32
  ![v0.toNat, 0, 7424]
def k0_mult5 : BitVec 32 :=
  let c512_i32 : BitVec 32 := 512#32
  c512_i32
def k0_off9 (v0 : BitVec 32) : Fin 3 → Nat :=
  let c0_i32_28 : BitVec 32 := 0#32
  let c512_i32 : BitVec 32 := 512#32
  let v38 : BitVec 32 := c512_i32
  ![v0.toNat, 0, 512]
def k0_mult6 : BitVec 32 :=
  let c7680_i32 : BitVec 32 := 7680#32
  c7680_i32
def k0_off10 (v0 : BitVec 32) : Fin 3 → Nat :=
  let c0_i32_32 : BitVec 32 := 0#32
  let c7680_i32 : BitVec 32 := 7680#32
  let v45 : BitVec 32 := c7680_i32
  ![v0.toNat, 0, 7680]
def k0_mult7 : BitVec 32 :=
  let c768_i32 : BitVec 32 := 768#32
  c768_i32
def k0_off11 (v0 : BitVec 32) : Fin 3 → Nat :=
  let c0_i32_37 : BitVec 32 := 0#32
  let c768_i32 : BitVec 32 := 768#32
  let v53 : BitVec 32 := c768_i32
  ![v0.toNat, 0, 768]
def k0_mult8 : BitVec 32 :=
  let c7936_i32 : BitVec 32 := 7936#32
  c7936_i32
def k0_off12 (v0 : BitVec 32) : Fin 3 → Nat :=
  let c0_i32_41 : BitVec 32 := 0#32
  let c7936_i32 : BitVec 32 := 7936#32
  let v60 : BitVec 32 := c7936_i32
  ![v0.toNat, 0, 7936]
def k0_mult9 : BitVec 32 :=
  let c1024_i32 : BitVec 32 := 1024#32
  c1024_i32
def k0_off13 (v0 : BitVec 32) : Fin 3 → Nat :=
  let c0_i32_46 : BitVec 32 := 0#32
  let c1024_i32 : BitVec 32 := 1024#32
  let v68 : BitVec 32 := c1024_i32
  ![v0.toNat, 0, 1024]
def k0_mult10 : BitVec 32 :=
  let c8192_i32 : BitVec 32 := 8192#32
  c8192_i32
def k0_off14 (v0 : BitVec 32) : Fin 3 → Nat :=
  let c0_i32_50 : BitVec 32 := 0#32
  let c8192_i32 : BitVec 32 := 8192#32
  let v75 : BitVec 32 := c8192_i32
  ![v0.toNat, 0, 8192]
def k0_mult11 : BitVec 32 :=
  let c1280_i32 : BitVec 32 := 1280#32
  c1280_i32
def k0_off15 (v0 : BitVec 32) : Fin 3 → Nat :=
  let c0_i32_55 : BitVec 32 := 0#32
  let c1280_i32 : BitVec 32 := 1280#32
  let v83 : BitVec 32 := c1280_i32
  ![v0.toNat, 0, 1280]
def k0_mult12 : BitVec 32 :=
  let c8448_i32 : BitVec 32 := 8448#32
  c8448_i32
def k0_off16 (v0 : BitVec 32) : Fin 3 → Nat :=
  let c0_i32_59 : BitVec 32 := 0#32
  let c8448_i32 : BitVec 32 := 8448#32
  let v90 : BitVec 32 := c8448_i32
  ![v0.toNat, 0, 8448]

def k0_chk1 (v0 : BitVec 32) : Prop :=
  (∀ a, (k0_off1 v0) a + S1x22x14336.size a ≤ S8x22x14336.size a) ∧
  (∀ (hinb : ∀ a, (k0_off1 v0) a + S1x22x14336.size a ≤ S8x22x14336.size a), (Rect.unit (s := S8x22x14336) (k0_off1 v0) S1x22x14336.size hinb).WholeWords (EltTy.packing .bf16)) ∧
  (∀ a, (k0_off4 v0) a + S1x1408x256.size a ≤ S8x1408x14336.size a) ∧
  (∀ (hinb : ∀ a, (k0_off4 v0) a + S1x1408x256.size a ≤ S8x1408x14336.size a), (Rect.unit (s := S8x1408x14336) (k0_off4 v0) S1x1408x256.size hinb).WholeWords (EltTy.packing .i8)) ∧
  (∀ a, (k0_off6 v0) a + S1x1408x256.size a ≤ S8x1408x14336.size a) ∧
  (∀ (hinb : ∀ a, (k0_off6 v0) a + S1x1408x256.size a ≤ S8x1408x14336.size a), (Rect.unit (s := S8x1408x14336) (k0_off6 v0) S1x1408x256.size hinb).WholeWords (EltTy.packing .i8)) ∧
  (∀ a, (k0_off7 v0) a + S1x1408x256.size a ≤ S8x1408x14336.size a) ∧
  (∀ (hinb : ∀ a, (k0_off7 v0) a + S1x1408x256.size a ≤ S8x1408x14336.size a), (Rect.unit (s := S8x1408x14336) (k0_off7 v0) S1x1408x256.size hinb).WholeWords (EltTy.packing .i8)) ∧
  (∀ a, (k0_off8 v0) a + S1x1408x256.size a ≤ S8x1408x14336.size a) ∧
  (∀ (hinb : ∀ a, (k0_off8 v0) a + S1x1408x256.size a ≤ S8x1408x14336.size a), (Rect.unit (s := S8x1408x14336) (k0_off8 v0) S1x1408x256.size hinb).WholeWords (EltTy.packing .i8)) ∧
  (∀ a, (k0_off9 v0) a + S1x1408x256.size a ≤ S8x1408x14336.size a) ∧
  (∀ (hinb : ∀ a, (k0_off9 v0) a + S1x1408x256.size a ≤ S8x1408x14336.size a), (Rect.unit (s := S8x1408x14336) (k0_off9 v0) S1x1408x256.size hinb).WholeWords (EltTy.packing .i8)) ∧
  (∀ a, (k0_off10 v0) a + S1x1408x256.size a ≤ S8x1408x14336.size a) ∧
  (∀ (hinb : ∀ a, (k0_off10 v0) a + S1x1408x256.size a ≤ S8x1408x14336.size a), (Rect.unit (s := S8x1408x14336) (k0_off10 v0) S1x1408x256.size hinb).WholeWords (EltTy.packing .i8)) ∧
  (∀ a, (k0_off11 v0) a + S1x1408x256.size a ≤ S8x1408x14336.size a) ∧
  (∀ (hinb : ∀ a, (k0_off11 v0) a + S1x1408x256.size a ≤ S8x1408x14336.size a), (Rect.unit (s := S8x1408x14336) (k0_off11 v0) S1x1408x256.size hinb).WholeWords (EltTy.packing .i8)) ∧
  (∀ a, (k0_off12 v0) a + S1x1408x256.size a ≤ S8x1408x14336.size a) ∧
  (∀ (hinb : ∀ a, (k0_off12 v0) a + S1x1408x256.size a ≤ S8x1408x14336.size a), (Rect.unit (s := S8x1408x14336) (k0_off12 v0) S1x1408x256.size hinb).WholeWords (EltTy.packing .i8)) ∧
  (∀ a, (k0_off13 v0) a + S1x1408x256.size a ≤ S8x1408x14336.size a) ∧
  (∀ (hinb : ∀ a, (k0_off13 v0) a + S1x1408x256.size a ≤ S8x1408x14336.size a), (Rect.unit (s := S8x1408x14336) (k0_off13 v0) S1x1408x256.size hinb).WholeWords (EltTy.packing .i8)) ∧
  (∀ a, (k0_off14 v0) a + S1x1408x256.size a ≤ S8x1408x14336.size a) ∧
  (∀ (hinb : ∀ a, (k0_off14 v0) a + S1x1408x256.size a ≤ S8x1408x14336.size a), (Rect.unit (s := S8x1408x14336) (k0_off14 v0) S1x1408x256.size hinb).WholeWords (EltTy.packing .i8)) ∧
  (∀ a, (k0_off15 v0) a + S1x1408x256.size a ≤ S8x1408x14336.size a) ∧
  (∀ (hinb : ∀ a, (k0_off15 v0) a + S1x1408x256.size a ≤ S8x1408x14336.size a), (Rect.unit (s := S8x1408x14336) (k0_off15 v0) S1x1408x256.size hinb).WholeWords (EltTy.packing .i8)) ∧
  (∀ a, (k0_off16 v0) a + S1x1408x256.size a ≤ S8x1408x14336.size a) ∧
  (∀ (hinb : ∀ a, (k0_off16 v0) a + S1x1408x256.size a ≤ S8x1408x14336.size a), (Rect.unit (s := S8x1408x14336) (k0_off16 v0) S1x1408x256.size hinb).WholeWords (EltTy.packing .i8))
theorem k0_off1_inb : ∀ (v0 : BitVec 32) (k0_hw1 : k0_chk1 v0), ∀ a, (k0_off1 v0) a + S1x22x14336.size a ≤ S8x22x14336.size a := fun v0 k0_hw1 => k0_hw1.1
theorem k0_off1_wordsbf16 : ∀ (v0 : BitVec 32) (k0_hw1 : k0_chk1 v0), (Rect.unit (s := S8x22x14336) (k0_off1 v0) S1x22x14336.size (k0_off1_inb v0 k0_hw1)).WholeWords (EltTy.packing .bf16) := fun v0 k0_hw1 => k0_hw1.2.1 (k0_off1_inb v0 k0_hw1)
theorem k0_off4_inb : ∀ (v0 : BitVec 32) (k0_hw1 : k0_chk1 v0), ∀ a, (k0_off4 v0) a + S1x1408x256.size a ≤ S8x1408x14336.size a := fun v0 k0_hw1 => k0_hw1.2.2.1
theorem k0_off4_wordsi8 : ∀ (v0 : BitVec 32) (k0_hw1 : k0_chk1 v0), (Rect.unit (s := S8x1408x14336) (k0_off4 v0) S1x1408x256.size (k0_off4_inb v0 k0_hw1)).WholeWords (EltTy.packing .i8) := fun v0 k0_hw1 => k0_hw1.2.2.2.1 (k0_off4_inb v0 k0_hw1)
theorem k0_off6_inb : ∀ (v0 : BitVec 32) (k0_hw1 : k0_chk1 v0), ∀ a, (k0_off6 v0) a + S1x1408x256.size a ≤ S8x1408x14336.size a := fun v0 k0_hw1 => k0_hw1.2.2.2.2.1
theorem k0_off6_wordsi8 : ∀ (v0 : BitVec 32) (k0_hw1 : k0_chk1 v0), (Rect.unit (s := S8x1408x14336) (k0_off6 v0) S1x1408x256.size (k0_off6_inb v0 k0_hw1)).WholeWords (EltTy.packing .i8) := fun v0 k0_hw1 => k0_hw1.2.2.2.2.2.1 (k0_off6_inb v0 k0_hw1)
theorem k0_off7_inb : ∀ (v0 : BitVec 32) (k0_hw1 : k0_chk1 v0), ∀ a, (k0_off7 v0) a + S1x1408x256.size a ≤ S8x1408x14336.size a := fun v0 k0_hw1 => k0_hw1.2.2.2.2.2.2.1
theorem k0_off7_wordsi8 : ∀ (v0 : BitVec 32) (k0_hw1 : k0_chk1 v0), (Rect.unit (s := S8x1408x14336) (k0_off7 v0) S1x1408x256.size (k0_off7_inb v0 k0_hw1)).WholeWords (EltTy.packing .i8) := fun v0 k0_hw1 => k0_hw1.2.2.2.2.2.2.2.1 (k0_off7_inb v0 k0_hw1)
theorem k0_off8_inb : ∀ (v0 : BitVec 32) (k0_hw1 : k0_chk1 v0), ∀ a, (k0_off8 v0) a + S1x1408x256.size a ≤ S8x1408x14336.size a := fun v0 k0_hw1 => k0_hw1.2.2.2.2.2.2.2.2.1
theorem k0_off8_wordsi8 : ∀ (v0 : BitVec 32) (k0_hw1 : k0_chk1 v0), (Rect.unit (s := S8x1408x14336) (k0_off8 v0) S1x1408x256.size (k0_off8_inb v0 k0_hw1)).WholeWords (EltTy.packing .i8) := fun v0 k0_hw1 => k0_hw1.2.2.2.2.2.2.2.2.2.1 (k0_off8_inb v0 k0_hw1)
theorem k0_off9_inb : ∀ (v0 : BitVec 32) (k0_hw1 : k0_chk1 v0), ∀ a, (k0_off9 v0) a + S1x1408x256.size a ≤ S8x1408x14336.size a := fun v0 k0_hw1 => k0_hw1.2.2.2.2.2.2.2.2.2.2.1
theorem k0_off9_wordsi8 : ∀ (v0 : BitVec 32) (k0_hw1 : k0_chk1 v0), (Rect.unit (s := S8x1408x14336) (k0_off9 v0) S1x1408x256.size (k0_off9_inb v0 k0_hw1)).WholeWords (EltTy.packing .i8) := fun v0 k0_hw1 => k0_hw1.2.2.2.2.2.2.2.2.2.2.2.1 (k0_off9_inb v0 k0_hw1)
theorem k0_off10_inb : ∀ (v0 : BitVec 32) (k0_hw1 : k0_chk1 v0), ∀ a, (k0_off10 v0) a + S1x1408x256.size a ≤ S8x1408x14336.size a := fun v0 k0_hw1 => k0_hw1.2.2.2.2.2.2.2.2.2.2.2.2.1
theorem k0_off10_wordsi8 : ∀ (v0 : BitVec 32) (k0_hw1 : k0_chk1 v0), (Rect.unit (s := S8x1408x14336) (k0_off10 v0) S1x1408x256.size (k0_off10_inb v0 k0_hw1)).WholeWords (EltTy.packing .i8) := fun v0 k0_hw1 => k0_hw1.2.2.2.2.2.2.2.2.2.2.2.2.2.1 (k0_off10_inb v0 k0_hw1)
theorem k0_off11_inb : ∀ (v0 : BitVec 32) (k0_hw1 : k0_chk1 v0), ∀ a, (k0_off11 v0) a + S1x1408x256.size a ≤ S8x1408x14336.size a := fun v0 k0_hw1 => k0_hw1.2.2.2.2.2.2.2.2.2.2.2.2.2.2.1
theorem k0_off11_wordsi8 : ∀ (v0 : BitVec 32) (k0_hw1 : k0_chk1 v0), (Rect.unit (s := S8x1408x14336) (k0_off11 v0) S1x1408x256.size (k0_off11_inb v0 k0_hw1)).WholeWords (EltTy.packing .i8) := fun v0 k0_hw1 => k0_hw1.2.2.2.2.2.2.2.2.2.2.2.2.2.2.2.1 (k0_off11_inb v0 k0_hw1)
theorem k0_off12_inb : ∀ (v0 : BitVec 32) (k0_hw1 : k0_chk1 v0), ∀ a, (k0_off12 v0) a + S1x1408x256.size a ≤ S8x1408x14336.size a := fun v0 k0_hw1 => k0_hw1.2.2.2.2.2.2.2.2.2.2.2.2.2.2.2.2.1
theorem k0_off12_wordsi8 : ∀ (v0 : BitVec 32) (k0_hw1 : k0_chk1 v0), (Rect.unit (s := S8x1408x14336) (k0_off12 v0) S1x1408x256.size (k0_off12_inb v0 k0_hw1)).WholeWords (EltTy.packing .i8) := fun v0 k0_hw1 => k0_hw1.2.2.2.2.2.2.2.2.2.2.2.2.2.2.2.2.2.1 (k0_off12_inb v0 k0_hw1)
theorem k0_off13_inb : ∀ (v0 : BitVec 32) (k0_hw1 : k0_chk1 v0), ∀ a, (k0_off13 v0) a + S1x1408x256.size a ≤ S8x1408x14336.size a := fun v0 k0_hw1 => k0_hw1.2.2.2.2.2.2.2.2.2.2.2.2.2.2.2.2.2.2.1
theorem k0_off13_wordsi8 : ∀ (v0 : BitVec 32) (k0_hw1 : k0_chk1 v0), (Rect.unit (s := S8x1408x14336) (k0_off13 v0) S1x1408x256.size (k0_off13_inb v0 k0_hw1)).WholeWords (EltTy.packing .i8) := fun v0 k0_hw1 => k0_hw1.2.2.2.2.2.2.2.2.2.2.2.2.2.2.2.2.2.2.2.1 (k0_off13_inb v0 k0_hw1)
theorem k0_off14_inb : ∀ (v0 : BitVec 32) (k0_hw1 : k0_chk1 v0), ∀ a, (k0_off14 v0) a + S1x1408x256.size a ≤ S8x1408x14336.size a := fun v0 k0_hw1 => k0_hw1.2.2.2.2.2.2.2.2.2.2.2.2.2.2.2.2.2.2.2.2.1
theorem k0_off14_wordsi8 : ∀ (v0 : BitVec 32) (k0_hw1 : k0_chk1 v0), (Rect.unit (s := S8x1408x14336) (k0_off14 v0) S1x1408x256.size (k0_off14_inb v0 k0_hw1)).WholeWords (EltTy.packing .i8) := fun v0 k0_hw1 => k0_hw1.2.2.2.2.2.2.2.2.2.2.2.2.2.2.2.2.2.2.2.2.2.1 (k0_off14_inb v0 k0_hw1)
theorem k0_off15_inb : ∀ (v0 : BitVec 32) (k0_hw1 : k0_chk1 v0), ∀ a, (k0_off15 v0) a + S1x1408x256.size a ≤ S8x1408x14336.size a := fun v0 k0_hw1 => k0_hw1.2.2.2.2.2.2.2.2.2.2.2.2.2.2.2.2.2.2.2.2.2.2.1
theorem k0_off15_wordsi8 : ∀ (v0 : BitVec 32) (k0_hw1 : k0_chk1 v0), (Rect.unit (s := S8x1408x14336) (k0_off15 v0) S1x1408x256.size (k0_off15_inb v0 k0_hw1)).WholeWords (EltTy.packing .i8) := fun v0 k0_hw1 => k0_hw1.2.2.2.2.2.2.2.2.2.2.2.2.2.2.2.2.2.2.2.2.2.2.2.1 (k0_off15_inb v0 k0_hw1)
theorem k0_off16_inb : ∀ (v0 : BitVec 32) (k0_hw1 : k0_chk1 v0), ∀ a, (k0_off16 v0) a + S1x1408x256.size a ≤ S8x1408x14336.size a := fun v0 k0_hw1 => k0_hw1.2.2.2.2.2.2.2.2.2.2.2.2.2.2.2.2.2.2.2.2.2.2.2.2.1
theorem k0_off16_wordsi8 : ∀ (v0 : BitVec 32) (k0_hw1 : k0_chk1 v0), (Rect.unit (s := S8x1408x14336) (k0_off16 v0) S1x1408x256.size (k0_off16_inb v0 k0_hw1)).WholeWords (EltTy.packing .i8) := fun v0 k0_hw1 => k0_hw1.2.2.2.2.2.2.2.2.2.2.2.2.2.2.2.2.2.2.2.2.2.2.2.2.2 (k0_off16_inb v0 k0_hw1)

@[reducible] def k0_t1_loop (v97 : BitVec 32) : Scf.Loop 32 :=
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_71 : BitVec 32 := 1#32
  ⟨c0_i32_69, v108, c1_i32_71⟩

def k0_off17 (v97 : BitVec 32) (k0_t1 : Fin (k0_t1_loop v97).trips) : Fin 1 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let v111 : Index := Scalar.indexCast v110
  ![v111.toNat]
def k0_mult13 (v114 : BitVec 32) : BitVec 32 :=
  v114

def k0_off18 (v97 : BitVec 32) (k0_t1 : Fin (k0_t1_loop v97).trips) : Fin 1 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  ![v116.toNat]
def k0_off19 (v97 : BitVec 32) (k0_t1 : Fin (k0_t1_loop v97).trips) : Fin 3 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_74 : BitVec 32 := 0#32
  let c0_i32_75 : BitVec 32 := 0#32
  ![v116.toNat, 0, 0]
def k0_off20 (v112 : BitVec 32) : Fin 3 → Nat :=
  let c0_i32_76 : BitVec 32 := 0#32
  let c0_i32_77 : BitVec 32 := 0#32
  ![v112.toNat, 0, 0]

def k0_mult14 : BitVec 32 :=
  let c0_i32_78 : BitVec 32 := 0#32
  c0_i32_78
def k0_off21 (v112 : BitVec 32) : Fin 3 → Nat :=
  let c0_i32_83 : BitVec 32 := 0#32
  let c0_i32_78 : BitVec 32 := 0#32
  let v123 : BitVec 32 := c0_i32_78
  ![v112.toNat, 0, 0]
def k0_mult15 : BitVec 32 :=
  let c256_i32_84 : BitVec 32 := 256#32
  c256_i32_84
def k0_off22 (v112 : BitVec 32) : Fin 3 → Nat :=
  let c0_i32_89 : BitVec 32 := 0#32
  let c256_i32_84 : BitVec 32 := 256#32
  let v130 : BitVec 32 := c256_i32_84
  ![v112.toNat, 0, 256]
def k0_mult16 : BitVec 32 :=
  let c512_i32_90 : BitVec 32 := 512#32
  c512_i32_90
def k0_off23 (v112 : BitVec 32) : Fin 3 → Nat :=
  let c0_i32_95 : BitVec 32 := 0#32
  let c512_i32_90 : BitVec 32 := 512#32
  let v137 : BitVec 32 := c512_i32_90
  ![v112.toNat, 0, 512]
def k0_mult17 : BitVec 32 :=
  let c768_i32_96 : BitVec 32 := 768#32
  c768_i32_96
def k0_off24 (v112 : BitVec 32) : Fin 3 → Nat :=
  let c0_i32_101 : BitVec 32 := 0#32
  let c768_i32_96 : BitVec 32 := 768#32
  let v144 : BitVec 32 := c768_i32_96
  ![v112.toNat, 0, 768]
def k0_off25 (v97 : BitVec 32) (k0_t1 : Fin (k0_t1_loop v97).trips) : Fin 1 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  ![v116.toNat]
def k0_off26 (v97 : BitVec 32) (k0_t1 : Fin (k0_t1_loop v97).trips) : Fin 3 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_102 : BitVec 32 := 0#32
  let c0_i32_103 : BitVec 32 := 0#32
  ![v116.toNat, 0, 0]
def k0_off27 (v112 : BitVec 32) : Fin 3 → Nat :=
  let c0_i32_104 : BitVec 32 := 0#32
  let c0_i32_105 : BitVec 32 := 0#32
  ![v112.toNat, 0, 0]
@[reducible] def k0_t2_loop : Scf.Loop 32 :=
  let c0_i32_106 : BitVec 32 := 0#32
  let c28_i32 : BitVec 32 := 28#32
  let v157 : BitVec 32 := Scalar.addi c0_i32_106 c28_i32
  let c1_i32_107 : BitVec 32 := 1#32
  ⟨c0_i32_106, v157, c1_i32_107⟩
def k0_mult18 (k0_t2 : Fin k0_t2_loop.trips) : BitVec 32 :=
  let c0_i32_123 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_122 : BitVec 32 := 256#32
  let v173 : BitVec 32 := Scalar.muli v170 c256_i32_122
  let v174 : BitVec 32 := Scalar.addi c0_i32_123 v173
  v174
def k0_off28 (k0_t2 : Fin k0_t2_loop.trips) : Fin 1 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  ![v172.toNat]
def k0_off29 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  let c0_i32_124 : BitVec 32 := 0#32
  let c0_i32_125 : BitVec 32 := 0#32
  let c0_i32_126 : BitVec 32 := 0#32
  ![v172.toNat, 0, 0, 0]
def k0_off30 (v112 : BitVec 32) (k0_t2 : Fin k0_t2_loop.trips) (c0_i32_123 : BitVec 32) : Fin 3 → Nat :=
  let c0_i32_127 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_122 : BitVec 32 := 256#32
  let v173 : BitVec 32 := Scalar.muli v170 c256_i32_122
  let v174 : BitVec 32 := Scalar.addi c0_i32_123 v173
  let v175 : BitVec 32 := v174
  ![v112.toNat, 0, v175.toNat]
def k0_mult19 (k0_t2 : Fin k0_t2_loop.trips) : BitVec 32 :=
  let c7168_i32_129 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_128 : BitVec 32 := 256#32
  let v182 : BitVec 32 := Scalar.muli v170 c256_i32_128
  let v183 : BitVec 32 := Scalar.addi c7168_i32_129 v182
  v183
def k0_off31 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  let c1_i32_130 : BitVec 32 := 1#32
  let c0_i32_131 : BitVec 32 := 0#32
  let c0_i32_132 : BitVec 32 := 0#32
  ![v172.toNat, 1, 0, 0]
def k0_mult20 (k0_t2 : Fin k0_t2_loop.trips) : BitVec 32 :=
  let c0_i32_135 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_134 : BitVec 32 := 256#32
  let v191 : BitVec 32 := Scalar.muli v170 c256_i32_134
  let v192 : BitVec 32 := Scalar.addi c0_i32_135 v191
  v192
def k0_off32 (v97 : BitVec 32) (k0_t1 : Fin (k0_t1_loop v97).trips) (k0_t2 : Fin k0_t2_loop.trips) (c0_i32_135 : BitVec 32) : Fin 3 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v194 : Index := Scalar.indexCast v116
  let c0_136 : Index := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_134 : BitVec 32 := 256#32
  let v191 : BitVec 32 := Scalar.muli v170 c256_i32_134
  let v192 : BitVec 32 := Scalar.addi c0_i32_135 v191
  let v193 : BitVec 32 := v192
  let v195 : Index := Scalar.indexCast v193
  ![v194.toNat, 0, v195.toNat]
def k0_off33 (v114 : BitVec 32) : Fin 2 → Nat :=
  let v115 : BitVec 32 := v114
  let v198 : Index := Scalar.indexCast v115
  let c0_137 : Index := 0#32
  ![v198.toNat, 0]
def k0_off34 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_120 : BitVec 32 := 6#32
  let v171 : BitVec 32 := Scalar.remsi v170 c6_i32_120
  let v200 : Index := Scalar.indexCast v171
  let c0_138 : Index := 0#32
  let c0_139 : Index := 0#32
  let c0_140 : Index := 0#32
  ![v200.toNat, 0, 0, 0]
def k0_mult21 (k0_t2 : Fin k0_t2_loop.trips) : BitVec 32 :=
  let c7168_i32_146 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_145 : BitVec 32 := 256#32
  let v309 : BitVec 32 := Scalar.muli v170 c256_i32_145
  let v310 : BitVec 32 := Scalar.addi c7168_i32_146 v309
  v310
def k0_off35 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_120 : BitVec 32 := 6#32
  let v171 : BitVec 32 := Scalar.remsi v170 c6_i32_120
  let v318 : Index := Scalar.indexCast v171
  let c1 : Index := 1#32
  let c0_149 : Index := 0#32
  let c0_150 : Index := 0#32
  ![v318.toNat, 1, 0, 0]
def k0_mult22 (k0_t2 : Fin k0_t2_loop.trips) : BitVec 32 :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_156 : BitVec 32 := 256#32
  let v431 : BitVec 32 := Scalar.muli v170 c256_i32_156
  v431
def k0_off36 (k0_t2 : Fin k0_t2_loop.trips) : Fin 2 → Nat :=
  let c0_157 : Index := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c256_i32_156 : BitVec 32 := 256#32
  let v431 : BitVec 32 := Scalar.muli v170 c256_i32_156
  let v432 : BitVec 32 := v431
  let v433 : Index := Scalar.indexCast v432
  ![0, v433.toNat]
def k0_cond1 (k0_t2 : Fin k0_t2_loop.trips) : BitVec 1 :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_158 : BitVec 32 := 6#32
  let v437 : BitVec 32 := Scalar.addi v170 c6_i32_158
  let c28_i32_159 : BitVec 32 := 28#32
  let v438 : BitVec 1 := Scalar.cmpi .slt v437 c28_i32_159
  let v439 : BitVec 32 := Scalar.extui v438
  let c0_i32_160 : BitVec 32 := 0#32
  let v440 : BitVec 1 := Scalar.cmpi .ne v439 c0_i32_160
  v440

def k0_mult23 (k0_t2 : Fin k0_t2_loop.trips) : BitVec 32 :=
  let c0_i32_164 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_163 : BitVec 32 := 256#32
  let v443 : BitVec 32 := Scalar.muli v441 c256_i32_163
  let v444 : BitVec 32 := Scalar.addi c0_i32_164 v443
  v444
def k0_off37 (k0_t2 : Fin k0_t2_loop.trips) : Fin 1 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  ![v442.toNat]
def k0_off38 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  let c0_i32_165 : BitVec 32 := 0#32
  let c0_i32_166 : BitVec 32 := 0#32
  let c0_i32_167 : BitVec 32 := 0#32
  ![v442.toNat, 0, 0, 0]
def k0_off39 (v112 : BitVec 32) (k0_t2 : Fin k0_t2_loop.trips) (c0_i32_164 : BitVec 32) : Fin 3 → Nat :=
  let c0_i32_168 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_163 : BitVec 32 := 256#32
  let v443 : BitVec 32 := Scalar.muli v441 c256_i32_163
  let v444 : BitVec 32 := Scalar.addi c0_i32_164 v443
  let v445 : BitVec 32 := v444
  ![v112.toNat, 0, v445.toNat]
def k0_mult24 (k0_t2 : Fin k0_t2_loop.trips) : BitVec 32 :=
  let c7168_i32_170 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_169 : BitVec 32 := 256#32
  let v452 : BitVec 32 := Scalar.muli v441 c256_i32_169
  let v453 : BitVec 32 := Scalar.addi c7168_i32_170 v452
  v453
def k0_off40 (k0_t2 : Fin k0_t2_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t2
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  let c1_i32_171 : BitVec 32 := 1#32
  let c0_i32_172 : BitVec 32 := 0#32
  let c0_i32_173 : BitVec 32 := 0#32
  ![v442.toNat, 1, 0, 0]
def k0_off41 (v97 : BitVec 32) (k0_t1 : Fin (k0_t1_loop v97).trips) : Fin 3 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_109 : BitVec 32 := 0#32
  let c0_i32_110 : BitVec 32 := 0#32
  ![v116.toNat, 0, 0]
def k0_off42 (v97 : BitVec 32) (k0_t1 : Fin (k0_t1_loop v97).trips) : Fin 1 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c1_i32_118 : BitVec 32 := 1#32
  let v169 : BitVec 32 := Scalar.addi v110 c1_i32_118
  let v170 : Index := Scalar.indexCast v169
  ![v170.toNat]
def k0_cond2 (v97 : BitVec 32) (k0_t1 : Fin (k0_t1_loop v97).trips) : BitVec 1 :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c1_i32_113 : BitVec 32 := 1#32
  let v164 : BitVec 32 := Scalar.addi v110 c1_i32_113
  let v165 : BitVec 1 := Scalar.cmpi .slt v164 v97
  let v166 : BitVec 32 := Scalar.extui v165
  let c0_i32_114 : BitVec 32 := 0#32
  let v167 : BitVec 1 := Scalar.cmpi .ne v166 c0_i32_114
  v167

def k0_off43 (v97 : BitVec 32) (k0_t1 : Fin (k0_t1_loop v97).trips) : Fin 1 → Nat :=
  let c1_i32_119 : BitVec 32 := 1#32
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v172 : BitVec 32 := Scalar.subi c1_i32_119 v116
  ![v172.toNat]
def k0_off44 (v97 : BitVec 32) (k0_t1 : Fin (k0_t1_loop v97).trips) : Fin 3 → Nat :=
  let c1_i32_119 : BitVec 32 := 1#32
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v172 : BitVec 32 := Scalar.subi c1_i32_119 v116
  let c0_i32_120 : BitVec 32 := 0#32
  let c0_i32_121 : BitVec 32 := 0#32
  ![v172.toNat, 0, 0]
def k0_off45 (v171 : BitVec 32) : Fin 3 → Nat :=
  let c0_i32_122 : BitVec 32 := 0#32
  let c0_i32_123 : BitVec 32 := 0#32
  ![v171.toNat, 0, 0]

def k0_mult25 : BitVec 32 :=
  let c0_i32_126 : BitVec 32 := 0#32
  c0_i32_126
def k0_off46 (c0_i32_124 : BitVec 32) : Fin 1 → Nat :=
  let c6_i32_125 : BitVec 32 := 6#32
  let v179 : BitVec 32 := Scalar.remsi c0_i32_124 c6_i32_125
  ![v179.toNat]
def k0_off47 (c0_i32_124 : BitVec 32) : Fin 4 → Nat :=
  let c6_i32_125 : BitVec 32 := 6#32
  let v179 : BitVec 32 := Scalar.remsi c0_i32_124 c6_i32_125
  let c0_i32_127 : BitVec 32 := 0#32
  let c0_i32_128 : BitVec 32 := 0#32
  let c0_i32_129 : BitVec 32 := 0#32
  ![v179.toNat, 0, 0, 0]
def k0_off48 (v171 : BitVec 32) : Fin 3 → Nat :=
  let c0_i32_130 : BitVec 32 := 0#32
  let c0_i32_126 : BitVec 32 := 0#32
  let v180 : BitVec 32 := c0_i32_126
  ![v171.toNat, 0, 0]
def k0_mult26 : BitVec 32 :=
  let c7168_i32_131 : BitVec 32 := 7168#32
  c7168_i32_131
def k0_off49 (c0_i32_124 : BitVec 32) : Fin 4 → Nat :=
  let c6_i32_125 : BitVec 32 := 6#32
  let v179 : BitVec 32 := Scalar.remsi c0_i32_124 c6_i32_125
  let c1_i32_132 : BitVec 32 := 1#32
  let c0_i32_133 : BitVec 32 := 0#32
  let c0_i32_134 : BitVec 32 := 0#32
  ![v179.toNat, 1, 0, 0]
def k0_off50 (v171 : BitVec 32) : Fin 3 → Nat :=
  let c0_i32_135 : BitVec 32 := 0#32
  let c7168_i32_131 : BitVec 32 := 7168#32
  let v187 : BitVec 32 := c7168_i32_131
  ![v171.toNat, 0, 7168]
def k0_mult27 : BitVec 32 :=
  let c256_i32_138 : BitVec 32 := 256#32
  c256_i32_138
def k0_off51 (v171 : BitVec 32) : Fin 3 → Nat :=
  let c0_i32_142 : BitVec 32 := 0#32
  let c256_i32_138 : BitVec 32 := 256#32
  let v195 : BitVec 32 := c256_i32_138
  ![v171.toNat, 0, 256]
def k0_mult28 : BitVec 32 :=
  let c7424_i32_143 : BitVec 32 := 7424#32
  c7424_i32_143
def k0_off52 (v171 : BitVec 32) : Fin 3 → Nat :=
  let c0_i32_147 : BitVec 32 := 0#32
  let c7424_i32_143 : BitVec 32 := 7424#32
  let v202 : BitVec 32 := c7424_i32_143
  ![v171.toNat, 0, 7424]
def k0_mult29 : BitVec 32 :=
  let c512_i32_150 : BitVec 32 := 512#32
  c512_i32_150
def k0_off53 (v171 : BitVec 32) : Fin 3 → Nat :=
  let c0_i32_154 : BitVec 32 := 0#32
  let c512_i32_150 : BitVec 32 := 512#32
  let v210 : BitVec 32 := c512_i32_150
  ![v171.toNat, 0, 512]
def k0_mult30 : BitVec 32 :=
  let c7680_i32_155 : BitVec 32 := 7680#32
  c7680_i32_155
def k0_off54 (v171 : BitVec 32) : Fin 3 → Nat :=
  let c0_i32_159 : BitVec 32 := 0#32
  let c7680_i32_155 : BitVec 32 := 7680#32
  let v217 : BitVec 32 := c7680_i32_155
  ![v171.toNat, 0, 7680]
def k0_mult31 : BitVec 32 :=
  let c768_i32_162 : BitVec 32 := 768#32
  c768_i32_162
def k0_off55 (v171 : BitVec 32) : Fin 3 → Nat :=
  let c0_i32_166 : BitVec 32 := 0#32
  let c768_i32_162 : BitVec 32 := 768#32
  let v225 : BitVec 32 := c768_i32_162
  ![v171.toNat, 0, 768]
def k0_mult32 : BitVec 32 :=
  let c7936_i32_167 : BitVec 32 := 7936#32
  c7936_i32_167
def k0_off56 (v171 : BitVec 32) : Fin 3 → Nat :=
  let c0_i32_171 : BitVec 32 := 0#32
  let c7936_i32_167 : BitVec 32 := 7936#32
  let v232 : BitVec 32 := c7936_i32_167
  ![v171.toNat, 0, 7936]
def k0_mult33 : BitVec 32 :=
  let c1024_i32_174 : BitVec 32 := 1024#32
  c1024_i32_174
def k0_off57 (v171 : BitVec 32) : Fin 3 → Nat :=
  let c0_i32_178 : BitVec 32 := 0#32
  let c1024_i32_174 : BitVec 32 := 1024#32
  let v240 : BitVec 32 := c1024_i32_174
  ![v171.toNat, 0, 1024]
def k0_mult34 : BitVec 32 :=
  let c8192_i32_179 : BitVec 32 := 8192#32
  c8192_i32_179
def k0_off58 (v171 : BitVec 32) : Fin 3 → Nat :=
  let c0_i32_183 : BitVec 32 := 0#32
  let c8192_i32_179 : BitVec 32 := 8192#32
  let v247 : BitVec 32 := c8192_i32_179
  ![v171.toNat, 0, 8192]
def k0_mult35 : BitVec 32 :=
  let c1280_i32_186 : BitVec 32 := 1280#32
  c1280_i32_186
def k0_off59 (v171 : BitVec 32) : Fin 3 → Nat :=
  let c0_i32_190 : BitVec 32 := 0#32
  let c1280_i32_186 : BitVec 32 := 1280#32
  let v255 : BitVec 32 := c1280_i32_186
  ![v171.toNat, 0, 1280]
def k0_mult36 : BitVec 32 :=
  let c8448_i32_191 : BitVec 32 := 8448#32
  c8448_i32_191
def k0_off60 (v171 : BitVec 32) : Fin 3 → Nat :=
  let c0_i32_195 : BitVec 32 := 0#32
  let c8448_i32_191 : BitVec 32 := 8448#32
  let v262 : BitVec 32 := c8448_i32_191
  ![v171.toNat, 0, 8448]

def k0_chk5 (v97 : BitVec 32) (k0_t1 : Fin (k0_t1_loop v97).trips) (v171 : BitVec 32) : Prop :=
  (∀ (k0_h2 : k0_cond2 v97 k0_t1 = 1#1), ∀ a, (k0_off45 v171) a + S1x22x14336.size a ≤ S8x22x14336.size a) ∧
  (∀ (k0_h2 : k0_cond2 v97 k0_t1 = 1#1), ∀ (hinb : ∀ a, (k0_off45 v171) a + S1x22x14336.size a ≤ S8x22x14336.size a), (Rect.unit (s := S8x22x14336) (k0_off45 v171) S1x22x14336.size hinb).WholeWords (EltTy.packing .bf16)) ∧
  (∀ (k0_h2 : k0_cond2 v97 k0_t1 = 1#1), ∀ a, (k0_off48 v171) a + S1x1408x256.size a ≤ S8x1408x14336.size a) ∧
  (∀ (k0_h2 : k0_cond2 v97 k0_t1 = 1#1), ∀ (hinb : ∀ a, (k0_off48 v171) a + S1x1408x256.size a ≤ S8x1408x14336.size a), (Rect.unit (s := S8x1408x14336) (k0_off48 v171) S1x1408x256.size hinb).WholeWords (EltTy.packing .i8)) ∧
  (∀ (k0_h2 : k0_cond2 v97 k0_t1 = 1#1), ∀ a, (k0_off50 v171) a + S1x1408x256.size a ≤ S8x1408x14336.size a) ∧
  (∀ (k0_h2 : k0_cond2 v97 k0_t1 = 1#1), ∀ (hinb : ∀ a, (k0_off50 v171) a + S1x1408x256.size a ≤ S8x1408x14336.size a), (Rect.unit (s := S8x1408x14336) (k0_off50 v171) S1x1408x256.size hinb).WholeWords (EltTy.packing .i8)) ∧
  (∀ (k0_h2 : k0_cond2 v97 k0_t1 = 1#1), ∀ a, (k0_off51 v171) a + S1x1408x256.size a ≤ S8x1408x14336.size a) ∧
  (∀ (k0_h2 : k0_cond2 v97 k0_t1 = 1#1), ∀ (hinb : ∀ a, (k0_off51 v171) a + S1x1408x256.size a ≤ S8x1408x14336.size a), (Rect.unit (s := S8x1408x14336) (k0_off51 v171) S1x1408x256.size hinb).WholeWords (EltTy.packing .i8)) ∧
  (∀ (k0_h2 : k0_cond2 v97 k0_t1 = 1#1), ∀ a, (k0_off52 v171) a + S1x1408x256.size a ≤ S8x1408x14336.size a) ∧
  (∀ (k0_h2 : k0_cond2 v97 k0_t1 = 1#1), ∀ (hinb : ∀ a, (k0_off52 v171) a + S1x1408x256.size a ≤ S8x1408x14336.size a), (Rect.unit (s := S8x1408x14336) (k0_off52 v171) S1x1408x256.size hinb).WholeWords (EltTy.packing .i8)) ∧
  (∀ (k0_h2 : k0_cond2 v97 k0_t1 = 1#1), ∀ a, (k0_off53 v171) a + S1x1408x256.size a ≤ S8x1408x14336.size a) ∧
  (∀ (k0_h2 : k0_cond2 v97 k0_t1 = 1#1), ∀ (hinb : ∀ a, (k0_off53 v171) a + S1x1408x256.size a ≤ S8x1408x14336.size a), (Rect.unit (s := S8x1408x14336) (k0_off53 v171) S1x1408x256.size hinb).WholeWords (EltTy.packing .i8)) ∧
  (∀ (k0_h2 : k0_cond2 v97 k0_t1 = 1#1), ∀ a, (k0_off54 v171) a + S1x1408x256.size a ≤ S8x1408x14336.size a) ∧
  (∀ (k0_h2 : k0_cond2 v97 k0_t1 = 1#1), ∀ (hinb : ∀ a, (k0_off54 v171) a + S1x1408x256.size a ≤ S8x1408x14336.size a), (Rect.unit (s := S8x1408x14336) (k0_off54 v171) S1x1408x256.size hinb).WholeWords (EltTy.packing .i8)) ∧
  (∀ (k0_h2 : k0_cond2 v97 k0_t1 = 1#1), ∀ a, (k0_off55 v171) a + S1x1408x256.size a ≤ S8x1408x14336.size a) ∧
  (∀ (k0_h2 : k0_cond2 v97 k0_t1 = 1#1), ∀ (hinb : ∀ a, (k0_off55 v171) a + S1x1408x256.size a ≤ S8x1408x14336.size a), (Rect.unit (s := S8x1408x14336) (k0_off55 v171) S1x1408x256.size hinb).WholeWords (EltTy.packing .i8)) ∧
  (∀ (k0_h2 : k0_cond2 v97 k0_t1 = 1#1), ∀ a, (k0_off56 v171) a + S1x1408x256.size a ≤ S8x1408x14336.size a) ∧
  (∀ (k0_h2 : k0_cond2 v97 k0_t1 = 1#1), ∀ (hinb : ∀ a, (k0_off56 v171) a + S1x1408x256.size a ≤ S8x1408x14336.size a), (Rect.unit (s := S8x1408x14336) (k0_off56 v171) S1x1408x256.size hinb).WholeWords (EltTy.packing .i8)) ∧
  (∀ (k0_h2 : k0_cond2 v97 k0_t1 = 1#1), ∀ a, (k0_off57 v171) a + S1x1408x256.size a ≤ S8x1408x14336.size a) ∧
  (∀ (k0_h2 : k0_cond2 v97 k0_t1 = 1#1), ∀ (hinb : ∀ a, (k0_off57 v171) a + S1x1408x256.size a ≤ S8x1408x14336.size a), (Rect.unit (s := S8x1408x14336) (k0_off57 v171) S1x1408x256.size hinb).WholeWords (EltTy.packing .i8)) ∧
  (∀ (k0_h2 : k0_cond2 v97 k0_t1 = 1#1), ∀ a, (k0_off58 v171) a + S1x1408x256.size a ≤ S8x1408x14336.size a) ∧
  (∀ (k0_h2 : k0_cond2 v97 k0_t1 = 1#1), ∀ (hinb : ∀ a, (k0_off58 v171) a + S1x1408x256.size a ≤ S8x1408x14336.size a), (Rect.unit (s := S8x1408x14336) (k0_off58 v171) S1x1408x256.size hinb).WholeWords (EltTy.packing .i8)) ∧
  (∀ (k0_h2 : k0_cond2 v97 k0_t1 = 1#1), ∀ a, (k0_off59 v171) a + S1x1408x256.size a ≤ S8x1408x14336.size a) ∧
  (∀ (k0_h2 : k0_cond2 v97 k0_t1 = 1#1), ∀ (hinb : ∀ a, (k0_off59 v171) a + S1x1408x256.size a ≤ S8x1408x14336.size a), (Rect.unit (s := S8x1408x14336) (k0_off59 v171) S1x1408x256.size hinb).WholeWords (EltTy.packing .i8)) ∧
  (∀ (k0_h2 : k0_cond2 v97 k0_t1 = 1#1), ∀ a, (k0_off60 v171) a + S1x1408x256.size a ≤ S8x1408x14336.size a) ∧
  (∀ (k0_h2 : k0_cond2 v97 k0_t1 = 1#1), ∀ (hinb : ∀ a, (k0_off60 v171) a + S1x1408x256.size a ≤ S8x1408x14336.size a), (Rect.unit (s := S8x1408x14336) (k0_off60 v171) S1x1408x256.size hinb).WholeWords (EltTy.packing .i8))
theorem k0_off45_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off45 v171) a + S1x22x14336.size a ≤ S8x22x14336.size a := fun v97 k0_t1 v171 k0_hw5 k0_h2 => k0_hw5.1 k0_h2
theorem k0_off45_wordsbf16 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x22x14336) (k0_off45 v171) S1x22x14336.size (k0_off45_inb v97 k0_t1 v171 k0_hw5 k0_h2)).WholeWords (EltTy.packing .bf16) := fun v97 k0_t1 v171 k0_hw5 k0_h2 => k0_hw5.2.1 k0_h2 (k0_off45_inb v97 k0_t1 v171 k0_hw5 k0_h2)
theorem k0_off48_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off48 v171) a + S1x1408x256.size a ≤ S8x1408x14336.size a := fun v97 k0_t1 v171 k0_hw5 k0_h2 => k0_hw5.2.2.1 k0_h2
theorem k0_off48_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off48 v171) S1x1408x256.size (k0_off48_inb v97 k0_t1 v171 k0_hw5 k0_h2)).WholeWords (EltTy.packing .i8) := fun v97 k0_t1 v171 k0_hw5 k0_h2 => k0_hw5.2.2.2.1 k0_h2 (k0_off48_inb v97 k0_t1 v171 k0_hw5 k0_h2)
theorem k0_off50_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off50 v171) a + S1x1408x256.size a ≤ S8x1408x14336.size a := fun v97 k0_t1 v171 k0_hw5 k0_h2 => k0_hw5.2.2.2.2.1 k0_h2
theorem k0_off50_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off50 v171) S1x1408x256.size (k0_off50_inb v97 k0_t1 v171 k0_hw5 k0_h2)).WholeWords (EltTy.packing .i8) := fun v97 k0_t1 v171 k0_hw5 k0_h2 => k0_hw5.2.2.2.2.2.1 k0_h2 (k0_off50_inb v97 k0_t1 v171 k0_hw5 k0_h2)
theorem k0_off51_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off51 v171) a + S1x1408x256.size a ≤ S8x1408x14336.size a := fun v97 k0_t1 v171 k0_hw5 k0_h2 => k0_hw5.2.2.2.2.2.2.1 k0_h2
theorem k0_off51_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off51 v171) S1x1408x256.size (k0_off51_inb v97 k0_t1 v171 k0_hw5 k0_h2)).WholeWords (EltTy.packing .i8) := fun v97 k0_t1 v171 k0_hw5 k0_h2 => k0_hw5.2.2.2.2.2.2.2.1 k0_h2 (k0_off51_inb v97 k0_t1 v171 k0_hw5 k0_h2)
theorem k0_off52_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off52 v171) a + S1x1408x256.size a ≤ S8x1408x14336.size a := fun v97 k0_t1 v171 k0_hw5 k0_h2 => k0_hw5.2.2.2.2.2.2.2.2.1 k0_h2
theorem k0_off52_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off52 v171) S1x1408x256.size (k0_off52_inb v97 k0_t1 v171 k0_hw5 k0_h2)).WholeWords (EltTy.packing .i8) := fun v97 k0_t1 v171 k0_hw5 k0_h2 => k0_hw5.2.2.2.2.2.2.2.2.2.1 k0_h2 (k0_off52_inb v97 k0_t1 v171 k0_hw5 k0_h2)
theorem k0_off53_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off53 v171) a + S1x1408x256.size a ≤ S8x1408x14336.size a := fun v97 k0_t1 v171 k0_hw5 k0_h2 => k0_hw5.2.2.2.2.2.2.2.2.2.2.1 k0_h2
theorem k0_off53_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off53 v171) S1x1408x256.size (k0_off53_inb v97 k0_t1 v171 k0_hw5 k0_h2)).WholeWords (EltTy.packing .i8) := fun v97 k0_t1 v171 k0_hw5 k0_h2 => k0_hw5.2.2.2.2.2.2.2.2.2.2.2.1 k0_h2 (k0_off53_inb v97 k0_t1 v171 k0_hw5 k0_h2)
theorem k0_off54_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off54 v171) a + S1x1408x256.size a ≤ S8x1408x14336.size a := fun v97 k0_t1 v171 k0_hw5 k0_h2 => k0_hw5.2.2.2.2.2.2.2.2.2.2.2.2.1 k0_h2
theorem k0_off54_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off54 v171) S1x1408x256.size (k0_off54_inb v97 k0_t1 v171 k0_hw5 k0_h2)).WholeWords (EltTy.packing .i8) := fun v97 k0_t1 v171 k0_hw5 k0_h2 => k0_hw5.2.2.2.2.2.2.2.2.2.2.2.2.2.1 k0_h2 (k0_off54_inb v97 k0_t1 v171 k0_hw5 k0_h2)
theorem k0_off55_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off55 v171) a + S1x1408x256.size a ≤ S8x1408x14336.size a := fun v97 k0_t1 v171 k0_hw5 k0_h2 => k0_hw5.2.2.2.2.2.2.2.2.2.2.2.2.2.2.1 k0_h2
theorem k0_off55_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off55 v171) S1x1408x256.size (k0_off55_inb v97 k0_t1 v171 k0_hw5 k0_h2)).WholeWords (EltTy.packing .i8) := fun v97 k0_t1 v171 k0_hw5 k0_h2 => k0_hw5.2.2.2.2.2.2.2.2.2.2.2.2.2.2.2.1 k0_h2 (k0_off55_inb v97 k0_t1 v171 k0_hw5 k0_h2)
theorem k0_off56_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off56 v171) a + S1x1408x256.size a ≤ S8x1408x14336.size a := fun v97 k0_t1 v171 k0_hw5 k0_h2 => k0_hw5.2.2.2.2.2.2.2.2.2.2.2.2.2.2.2.2.1 k0_h2
theorem k0_off56_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off56 v171) S1x1408x256.size (k0_off56_inb v97 k0_t1 v171 k0_hw5 k0_h2)).WholeWords (EltTy.packing .i8) := fun v97 k0_t1 v171 k0_hw5 k0_h2 => k0_hw5.2.2.2.2.2.2.2.2.2.2.2.2.2.2.2.2.2.1 k0_h2 (k0_off56_inb v97 k0_t1 v171 k0_hw5 k0_h2)
theorem k0_off57_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off57 v171) a + S1x1408x256.size a ≤ S8x1408x14336.size a := fun v97 k0_t1 v171 k0_hw5 k0_h2 => k0_hw5.2.2.2.2.2.2.2.2.2.2.2.2.2.2.2.2.2.2.1 k0_h2
theorem k0_off57_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off57 v171) S1x1408x256.size (k0_off57_inb v97 k0_t1 v171 k0_hw5 k0_h2)).WholeWords (EltTy.packing .i8) := fun v97 k0_t1 v171 k0_hw5 k0_h2 => k0_hw5.2.2.2.2.2.2.2.2.2.2.2.2.2.2.2.2.2.2.2.1 k0_h2 (k0_off57_inb v97 k0_t1 v171 k0_hw5 k0_h2)
theorem k0_off58_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off58 v171) a + S1x1408x256.size a ≤ S8x1408x14336.size a := fun v97 k0_t1 v171 k0_hw5 k0_h2 => k0_hw5.2.2.2.2.2.2.2.2.2.2.2.2.2.2.2.2.2.2.2.2.1 k0_h2
theorem k0_off58_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off58 v171) S1x1408x256.size (k0_off58_inb v97 k0_t1 v171 k0_hw5 k0_h2)).WholeWords (EltTy.packing .i8) := fun v97 k0_t1 v171 k0_hw5 k0_h2 => k0_hw5.2.2.2.2.2.2.2.2.2.2.2.2.2.2.2.2.2.2.2.2.2.1 k0_h2 (k0_off58_inb v97 k0_t1 v171 k0_hw5 k0_h2)
theorem k0_off59_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off59 v171) a + S1x1408x256.size a ≤ S8x1408x14336.size a := fun v97 k0_t1 v171 k0_hw5 k0_h2 => k0_hw5.2.2.2.2.2.2.2.2.2.2.2.2.2.2.2.2.2.2.2.2.2.2.1 k0_h2
theorem k0_off59_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off59 v171) S1x1408x256.size (k0_off59_inb v97 k0_t1 v171 k0_hw5 k0_h2)).WholeWords (EltTy.packing .i8) := fun v97 k0_t1 v171 k0_hw5 k0_h2 => k0_hw5.2.2.2.2.2.2.2.2.2.2.2.2.2.2.2.2.2.2.2.2.2.2.2.1 k0_h2 (k0_off59_inb v97 k0_t1 v171 k0_hw5 k0_h2)
theorem k0_off60_inb : ∀ (v97 : BitVec 32) (k0_t1 : Fin (k0_t1_loop v97).trips) (v171 : BitVec 32) (k0_hw5 : k0_chk5 v97 k0_t1 v171), ∀ (k0_h2 : k0_cond2 v97 k0_t1 = 1#1), ∀ a, (k0_off60 v171) a + S1x1408x256.size a ≤ S8x1408x14336.size a := fun v97 k0_t1 v171 k0_hw5 k0_h2 => k0_hw5.2.2.2.2.2.2.2.2.2.2.2.2.2.2.2.2.2.2.2.2.2.2.2.2.1 k0_h2
theorem k0_off60_wordsi8 : ∀ (v97 : BitVec 32) (k0_t1 : Fin (k0_t1_loop v97).trips) (v171 : BitVec 32) (k0_hw5 : k0_chk5 v97 k0_t1 v171), ∀ (k0_h2 : k0_cond2 v97 k0_t1 = 1#1), (Rect.unit (s := S8x1408x14336) (k0_off60 v171) S1x1408x256.size (k0_off60_inb v97 k0_t1 v171 k0_hw5 k0_h2)).WholeWords (EltTy.packing .i8) := fun v97 k0_t1 v171 k0_hw5 k0_h2 => k0_hw5.2.2.2.2.2.2.2.2.2.2.2.2.2.2.2.2.2.2.2.2.2.2.2.2.2 k0_h2 (k0_off60_inb v97 k0_t1 v171 k0_hw5 k0_h2)

@[reducible] def k0_t3_loop : Scf.Loop 32 :=
  let c0_i32_115 : BitVec 32 := 0#32
  let c11_i32 : BitVec 32 := 11#32
  let v168 : BitVec 32 := Scalar.addi c0_i32_115 c11_i32
  let c1_i32_116 : BitVec 32 := 1#32
  ⟨c0_i32_115, v168, c1_i32_116⟩
def k0_mult37 (k0_t3 : Fin k0_t3_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c256_i32_121 : BitVec 32 := 256#32
  let v172 : BitVec 32 := Scalar.muli v170 c256_i32_121
  v172
def k0_off61 (k0_t3 : Fin k0_t3_loop.trips) : Fin 1 → Nat :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  ![v171.toNat]
def k0_off62 (k0_t3 : Fin k0_t3_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let c0_i32_122 : BitVec 32 := 0#32
  let c0_i32_123 : BitVec 32 := 0#32
  ![v171.toNat, 0, 0]
def k0_off63 (v112 : BitVec 32) (k0_t3 : Fin k0_t3_loop.trips) : Fin 3 → Nat :=
  let c0_i32_124 : BitVec 32 := 0#32
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c256_i32_121 : BitVec 32 := 256#32
  let v172 : BitVec 32 := Scalar.muli v170 c256_i32_121
  let v173 : BitVec 32 := v172
  ![v112.toNat, 0, v173.toNat]
def k0_mult38 (k0_t3 : Fin k0_t3_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  v180
def k0_off64 (k0_t3 : Fin k0_t3_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let v183 : Index := Scalar.indexCast v171
  let c0_128 : Index := 0#32
  let c0_129 : Index := 0#32
  ![v183.toNat, 0, 0]
def k0_off65 (v97 : BitVec 32) (k0_t1 : Fin (k0_t1_loop v97).trips) (k0_t3 : Fin k0_t3_loop.trips) : Fin 3 → Nat :=
  let c0_i32_68 : BitVec 32 := 0#32
  let c0_i32_69 : BitVec 32 := 0#32
  let c1_i32_71 : BitVec 32 := 1#32
  let arg18 : BitVec 32 := Scf.iv c0_i32_69 c1_i32_71 k0_t1
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v186 : Index := Scalar.indexCast v116
  let c0_130 : Index := 0#32
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  let v181 : BitVec 32 := v180
  let v187 : Index := Scalar.indexCast v181
  ![v186.toNat, 0, v187.toNat]
def k0_off66 (v114 : BitVec 32) (k0_t3 : Fin k0_t3_loop.trips) : Fin 2 → Nat :=
  let v115 : BitVec 32 := v114
  let v432 : Index := Scalar.indexCast v115
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  let v181 : BitVec 32 := v180
  let v433 : Index := Scalar.indexCast v181
  ![v432.toNat, v433.toNat]

def k0_chk3 (v114 : BitVec 32) : Prop :=
  (16 ∣ (k0_mult13 v114).toNat) ∧
  (∀ a, (k0_off33 v114) a + S256x2816.size a ≤ S896x2816.size a) ∧
  (∀ k0_t3 : Fin k0_t3_loop.trips, ∀ a, (k0_off66 v114 k0_t3) a + S256x256.size a ≤ S896x2816.size a)
theorem k0_mult13_dvd : ∀ (v114 : BitVec 32) (k0_hw3 : k0_chk3 v114), 16 ∣ (k0_mult13 v114).toNat := fun v114 k0_hw3 => k0_hw3.1
theorem k0_off33_inb : ∀ (v114 : BitVec 32) (k0_hw3 : k0_chk3 v114), ∀ a, (k0_off33 v114) a + S256x2816.size a ≤ S896x2816.size a := fun v114 k0_hw3 => k0_hw3.2.1
theorem k0_off66_inb : ∀ (v114 : BitVec 32) (k0_hw3 : k0_chk3 v114) (k0_t3 : Fin k0_t3_loop.trips), ∀ a, (k0_off66 v114 k0_t3) a + S256x256.size a ≤ S896x2816.size a := fun v114 k0_hw3 k0_t3 => k0_hw3.2.2 k0_t3

def k0_cond3 (k0_t3 : Fin k0_t3_loop.trips) : BitVec 1 :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_135 : BitVec 32 := 4#32
  let v435 : BitVec 32 := Scalar.addi v170 c4_i32_135
  let c11_i32_136 : BitVec 32 := 11#32
  let v436 : BitVec 1 := Scalar.cmpi .slt v435 c11_i32_136
  let v437 : BitVec 32 := Scalar.extui v436
  let c0_i32_137 : BitVec 32 := 0#32
  let v438 : BitVec 1 := Scalar.cmpi .ne v437 c0_i32_137
  v438

def k0_mult39 (k0_t3 : Fin k0_t3_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_138 : BitVec 32 := 4#32
  let v439 : BitVec 32 := Scalar.addi v170 c4_i32_138
  let c256_i32_139 : BitVec 32 := 256#32
  let v440 : BitVec 32 := Scalar.muli v439 c256_i32_139
  v440
def k0_off67 (k0_t3 : Fin k0_t3_loop.trips) : Fin 1 → Nat :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  ![v171.toNat]
def k0_off68 (k0_t3 : Fin k0_t3_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let c0_i32_140 : BitVec 32 := 0#32
  let c0_i32_141 : BitVec 32 := 0#32
  ![v171.toNat, 0, 0]
def k0_off69 (v112 : BitVec 32) (k0_t3 : Fin k0_t3_loop.trips) : Fin 3 → Nat :=
  let c0_i32_142 : BitVec 32 := 0#32
  let c0_i32_119 : BitVec 32 := 0#32
  let c0_i32_115 : BitVec 32 := 0#32
  let c1_i32_116 : BitVec 32 := 1#32
  let arg19 : BitVec 32 := Scf.iv c0_i32_115 c1_i32_116 k0_t3
  let c1_i32_118 : BitVec 32 := 1#32
  let v169 : BitVec 32 := Scalar.muli arg19 c1_i32_118
  let v170 : BitVec 32 := Scalar.addi c0_i32_119 v169
  let c4_i32_138 : BitVec 32 := 4#32
  let v439 : BitVec 32 := Scalar.addi v170 c4_i32_138
  let c256_i32_139 : BitVec 32 := 256#32
  let v440 : BitVec 32 := Scalar.muli v439 c256_i32_139
  let v441 : BitVec 32 := v440
  ![v112.toNat, 0, v441.toNat]

def k0_chk4 (v112 : BitVec 32) : Prop :=
  (∀ a, (k0_off20 v112) a + S1x56x2816.size a ≤ S8x56x2816.size a) ∧
  (∀ (hinb : ∀ a, (k0_off20 v112) a + S1x56x2816.size a ≤ S8x56x2816.size a), (Rect.unit (s := S8x56x2816) (k0_off20 v112) S1x56x2816.size hinb).WholeWords (EltTy.packing .bf16)) ∧
  (∀ a, (k0_off21 v112) a + S1x3584x256.size a ≤ S8x3584x2816.size a) ∧
  (∀ (hinb : ∀ a, (k0_off21 v112) a + S1x3584x256.size a ≤ S8x3584x2816.size a), (Rect.unit (s := S8x3584x2816) (k0_off21 v112) S1x3584x256.size hinb).WholeWords (EltTy.packing .i8)) ∧
  (∀ a, (k0_off22 v112) a + S1x3584x256.size a ≤ S8x3584x2816.size a) ∧
  (∀ (hinb : ∀ a, (k0_off22 v112) a + S1x3584x256.size a ≤ S8x3584x2816.size a), (Rect.unit (s := S8x3584x2816) (k0_off22 v112) S1x3584x256.size hinb).WholeWords (EltTy.packing .i8)) ∧
  (∀ a, (k0_off23 v112) a + S1x3584x256.size a ≤ S8x3584x2816.size a) ∧
  (∀ (hinb : ∀ a, (k0_off23 v112) a + S1x3584x256.size a ≤ S8x3584x2816.size a), (Rect.unit (s := S8x3584x2816) (k0_off23 v112) S1x3584x256.size hinb).WholeWords (EltTy.packing .i8)) ∧
  (∀ a, (k0_off24 v112) a + S1x3584x256.size a ≤ S8x3584x2816.size a) ∧
  (∀ (hinb : ∀ a, (k0_off24 v112) a + S1x3584x256.size a ≤ S8x3584x2816.size a), (Rect.unit (s := S8x3584x2816) (k0_off24 v112) S1x3584x256.size hinb).WholeWords (EltTy.packing .i8)) ∧
  (∀ a, (k0_off27 v112) a + S1x22x14336.size a ≤ S8x22x14336.size a) ∧
  (∀ (hinb : ∀ a, (k0_off27 v112) a + S1x22x14336.size a ≤ S8x22x14336.size a), (Rect.unit (s := S8x22x14336) (k0_off27 v112) S1x22x14336.size hinb).WholeWords (EltTy.packing .bf16)) ∧
  (∀ k0_t2 : Fin k0_t2_loop.trips, ∀ (r : Fin 2), ∀ a, (k0_off30 v112 k0_t2 (BitVec.ofNat 32 (7168 * r.val))) a + S1x1408x256.size a ≤ S8x1408x14336.size a) ∧
  (∀ k0_t2 : Fin k0_t2_loop.trips, ∀ (r : Fin 2), ∀ (hinb : ∀ a, (k0_off30 v112 k0_t2 (BitVec.ofNat 32 (7168 * r.val))) a + S1x1408x256.size a ≤ S8x1408x14336.size a), (Rect.unit (s := S8x1408x14336) (k0_off30 v112 k0_t2 (BitVec.ofNat 32 (7168 * r.val))) S1x1408x256.size hinb).WholeWords (EltTy.packing .i8)) ∧
  (∀ k0_t2 : Fin k0_t2_loop.trips, ∀ (k0_h1 : k0_cond1 k0_t2 = 1#1), ∀ (r : Fin 2), ∀ a, (k0_off39 v112 k0_t2 (BitVec.ofNat 32 (7168 * r.val))) a + S1x1408x256.size a ≤ S8x1408x14336.size a) ∧
  (∀ k0_t2 : Fin k0_t2_loop.trips, ∀ (k0_h1 : k0_cond1 k0_t2 = 1#1), ∀ (r : Fin 2), ∀ (hinb : ∀ a, (k0_off39 v112 k0_t2 (BitVec.ofNat 32 (7168 * r.val))) a + S1x1408x256.size a ≤ S8x1408x14336.size a), (Rect.unit (s := S8x1408x14336) (k0_off39 v112 k0_t2 (BitVec.ofNat 32 (7168 * r.val))) S1x1408x256.size hinb).WholeWords (EltTy.packing .i8)) ∧
  (∀ k0_t3 : Fin k0_t3_loop.trips, ∀ a, (k0_off63 v112 k0_t3) a + S1x3584x256.size a ≤ S8x3584x2816.size a) ∧
  (∀ k0_t3 : Fin k0_t3_loop.trips, ∀ (hinb : ∀ a, (k0_off63 v112 k0_t3) a + S1x3584x256.size a ≤ S8x3584x2816.size a), (Rect.unit (s := S8x3584x2816) (k0_off63 v112 k0_t3) S1x3584x256.size hinb).WholeWords (EltTy.packing .i8)) ∧
  (∀ k0_t3 : Fin k0_t3_loop.trips, ∀ (k0_h3 : k0_cond3 k0_t3 = 1#1), ∀ a, (k0_off69 v112 k0_t3) a + S1x3584x256.size a ≤ S8x3584x2816.size a) ∧
  (∀ k0_t3 : Fin k0_t3_loop.trips, ∀ (k0_h3 : k0_cond3 k0_t3 = 1#1), ∀ (hinb : ∀ a, (k0_off69 v112 k0_t3) a + S1x3584x256.size a ≤ S8x3584x2816.size a), (Rect.unit (s := S8x3584x2816) (k0_off69 v112 k0_t3) S1x3584x256.size hinb).WholeWords (EltTy.packing .i8))
theorem k0_off20_inb : ∀ (v112 : BitVec 32) (k0_hw4 : k0_chk4 v112), ∀ a, (k0_off20 v112) a + S1x56x2816.size a ≤ S8x56x2816.size a := fun v112 k0_hw4 => k0_hw4.1
theorem k0_off20_wordsbf16 : ∀ (v112 : BitVec 32) (k0_hw4 : k0_chk4 v112), (Rect.unit (s := S8x56x2816) (k0_off20 v112) S1x56x2816.size (k0_off20_inb v112 k0_hw4)).WholeWords (EltTy.packing .bf16) := fun v112 k0_hw4 => k0_hw4.2.1 (k0_off20_inb v112 k0_hw4)
theorem k0_off21_inb : ∀ (v112 : BitVec 32) (k0_hw4 : k0_chk4 v112), ∀ a, (k0_off21 v112) a + S1x3584x256.size a ≤ S8x3584x2816.size a := fun v112 k0_hw4 => k0_hw4.2.2.1
theorem k0_off21_wordsi8 : ∀ (v112 : BitVec 32) (k0_hw4 : k0_chk4 v112), (Rect.unit (s := S8x3584x2816) (k0_off21 v112) S1x3584x256.size (k0_off21_inb v112 k0_hw4)).WholeWords (EltTy.packing .i8) := fun v112 k0_hw4 => k0_hw4.2.2.2.1 (k0_off21_inb v112 k0_hw4)
theorem k0_off22_inb : ∀ (v112 : BitVec 32) (k0_hw4 : k0_chk4 v112), ∀ a, (k0_off22 v112) a + S1x3584x256.size a ≤ S8x3584x2816.size a := fun v112 k0_hw4 => k0_hw4.2.2.2.2.1
theorem k0_off22_wordsi8 : ∀ (v112 : BitVec 32) (k0_hw4 : k0_chk4 v112), (Rect.unit (s := S8x3584x2816) (k0_off22 v112) S1x3584x256.size (k0_off22_inb v112 k0_hw4)).WholeWords (EltTy.packing .i8) := fun v112 k0_hw4 => k0_hw4.2.2.2.2.2.1 (k0_off22_inb v112 k0_hw4)
theorem k0_off23_inb : ∀ (v112 : BitVec 32) (k0_hw4 : k0_chk4 v112), ∀ a, (k0_off23 v112) a + S1x3584x256.size a ≤ S8x3584x2816.size a := fun v112 k0_hw4 => k0_hw4.2.2.2.2.2.2.1
theorem k0_off23_wordsi8 : ∀ (v112 : BitVec 32) (k0_hw4 : k0_chk4 v112), (Rect.unit (s := S8x3584x2816) (k0_off23 v112) S1x3584x256.size (k0_off23_inb v112 k0_hw4)).WholeWords (EltTy.packing .i8) := fun v112 k0_hw4 => k0_hw4.2.2.2.2.2.2.2.1 (k0_off23_inb v112 k0_hw4)
theorem k0_off24_inb : ∀ (v112 : BitVec 32) (k0_hw4 : k0_chk4 v112), ∀ a, (k0_off24 v112) a + S1x3584x256.size a ≤ S8x3584x2816.size a := fun v112 k0_hw4 => k0_hw4.2.2.2.2.2.2.2.2.1
theorem k0_off24_wordsi8 : ∀ (v112 : BitVec 32) (k0_hw4 : k0_chk4 v112), (Rect.unit (s := S8x3584x2816) (k0_off24 v112) S1x3584x256.size (k0_off24_inb v112 k0_hw4)).WholeWords (EltTy.packing .i8) := fun v112 k0_hw4 => k0_hw4.2.2.2.2.2.2.2.2.2.1 (k0_off24_inb v112 k0_hw4)
theorem k0_off27_inb : ∀ (v112 : BitVec 32) (k0_hw4 : k0_chk4 v112), ∀ a, (k0_off27 v112) a + S1x22x14336.size a ≤ S8x22x14336.size a := fun v112 k0_hw4 => k0_hw4.2.2.2.2.2.2.2.2.2.2.1
theorem k0_off27_wordsbf16 : ∀ (v112 : BitVec 32) (k0_hw4 : k0_chk4 v112), (Rect.unit (s := S8x22x14336) (k0_off27 v112) S1x22x14336.size (k0_off27_inb v112 k0_hw4)).WholeWords (EltTy.packing .bf16) := fun v112 k0_hw4 => k0_hw4.2.2.2.2.2.2.2.2.2.2.2.1 (k0_off27_inb v112 k0_hw4)
theorem k0_off30_inb : ∀ (v112 : BitVec 32) (k0_hw4 : k0_chk4 v112) (k0_t2 : Fin k0_t2_loop.trips), ∀ (r : Fin 2), ∀ a, (k0_off30 v112 k0_t2 (BitVec.ofNat 32 (7168 * r.val))) a + S1x1408x256.size a ≤ S8x1408x14336.size a := fun v112 k0_hw4 k0_t2 r => k0_hw4.2.2.2.2.2.2.2.2.2.2.2.2.1 k0_t2 r
theorem k0_off30_wordsi8 : ∀ (v112 : BitVec 32) (k0_hw4 : k0_chk4 v112) (k0_t2 : Fin k0_t2_loop.trips), ∀ (r : Fin 2), (Rect.unit (s := S8x1408x14336) (k0_off30 v112 k0_t2 (BitVec.ofNat 32 (7168 * r.val))) S1x1408x256.size (k0_off30_inb v112 k0_hw4 k0_t2 r)).WholeWords (EltTy.packing .i8) := fun v112 k0_hw4 k0_t2 r => k0_hw4.2.2.2.2.2.2.2.2.2.2.2.2.2.1 k0_t2 r (k0_off30_inb v112 k0_hw4 k0_t2 r)
theorem k0_off39_inb : ∀ (v112 : BitVec 32) (k0_hw4 : k0_chk4 v112) (k0_t2 : Fin k0_t2_loop.trips), ∀ (k0_h1 : k0_cond1 k0_t2 = 1#1), ∀ (r : Fin 2), ∀ a, (k0_off39 v112 k0_t2 (BitVec.ofNat 32 (7168 * r.val))) a + S1x1408x256.size a ≤ S8x1408x14336.size a := fun v112 k0_hw4 k0_t2 k0_h1 r => k0_hw4.2.2.2.2.2.2.2.2.2.2.2.2.2.2.1 k0_t2 k0_h1 r
theorem k0_off39_wordsi8 : ∀ (v112 : BitVec 32) (k0_hw4 : k0_chk4 v112) (k0_t2 : Fin k0_t2_loop.trips), ∀ (k0_h1 : k0_cond1 k0_t2 = 1#1), ∀ (r : Fin 2), (Rect.unit (s := S8x1408x14336) (k0_off39 v112 k0_t2 (BitVec.ofNat 32 (7168 * r.val))) S1x1408x256.size (k0_off39_inb v112 k0_hw4 k0_t2 k0_h1 r)).WholeWords (EltTy.packing .i8) := fun v112 k0_hw4 k0_t2 k0_h1 r => k0_hw4.2.2.2.2.2.2.2.2.2.2.2.2.2.2.2.1 k0_t2 k0_h1 r (k0_off39_inb v112 k0_hw4 k0_t2 k0_h1 r)
theorem k0_off63_inb : ∀ (v112 : BitVec 32) (k0_hw4 : k0_chk4 v112) (k0_t3 : Fin k0_t3_loop.trips), ∀ a, (k0_off63 v112 k0_t3) a + S1x3584x256.size a ≤ S8x3584x2816.size a := fun v112 k0_hw4 k0_t3 => k0_hw4.2.2.2.2.2.2.2.2.2.2.2.2.2.2.2.2.1 k0_t3
theorem k0_off63_wordsi8 : ∀ (v112 : BitVec 32) (k0_hw4 : k0_chk4 v112) (k0_t3 : Fin k0_t3_loop.trips), (Rect.unit (s := S8x3584x2816) (k0_off63 v112 k0_t3) S1x3584x256.size (k0_off63_inb v112 k0_hw4 k0_t3)).WholeWords (EltTy.packing .i8) := fun v112 k0_hw4 k0_t3 => k0_hw4.2.2.2.2.2.2.2.2.2.2.2.2.2.2.2.2.2.1 k0_t3 (k0_off63_inb v112 k0_hw4 k0_t3)
theorem k0_off69_inb : ∀ (v112 : BitVec 32) (k0_hw4 : k0_chk4 v112) (k0_t3 : Fin k0_t3_loop.trips), ∀ (k0_h3 : k0_cond3 k0_t3 = 1#1), ∀ a, (k0_off69 v112 k0_t3) a + S1x3584x256.size a ≤ S8x3584x2816.size a := fun v112 k0_hw4 k0_t3 k0_h3 => k0_hw4.2.2.2.2.2.2.2.2.2.2.2.2.2.2.2.2.2.2.1 k0_t3 k0_h3
theorem k0_off69_wordsi8 : ∀ (v112 : BitVec 32) (k0_hw4 : k0_chk4 v112) (k0_t3 : Fin k0_t3_loop.trips), ∀ (k0_h3 : k0_cond3 k0_t3 = 1#1), (Rect.unit (s := S8x3584x2816) (k0_off69 v112 k0_t3) S1x3584x256.size (k0_off69_inb v112 k0_hw4 k0_t3 k0_h3)).WholeWords (EltTy.packing .i8) := fun v112 k0_hw4 k0_t3 k0_h3 => k0_hw4.2.2.2.2.2.2.2.2.2.2.2.2.2.2.2.2.2.2.2 k0_t3 k0_h3 (k0_off69_inb v112 k0_hw4 k0_t3 k0_h3)

@[reducible] def k0_t4_loop (v97 : BitVec 32) : Scf.Loop 32 :=
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let v105 : BitVec 32 := Scalar.addi c0_i32_69 v104
  let c1_i32_72 : BitVec 32 := 1#32
  ⟨v108, v105, c1_i32_72⟩
def k0_off70 (v97 : BitVec 32) (k0_t4 : Fin (k0_t4_loop v97).trips) : Fin 1 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let v111 : Index := Scalar.indexCast v110
  ![v111.toNat]
def k0_mult40 (v114 : BitVec 32) : BitVec 32 :=
  v114

def k0_off71 (v97 : BitVec 32) (k0_t4 : Fin (k0_t4_loop v97).trips) : Fin 1 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  ![v116.toNat]
def k0_off72 (v97 : BitVec 32) (k0_t4 : Fin (k0_t4_loop v97).trips) : Fin 3 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_74 : BitVec 32 := 0#32
  let c0_i32_75 : BitVec 32 := 0#32
  ![v116.toNat, 0, 0]
def k0_off73 (v112 : BitVec 32) : Fin 3 → Nat :=
  let c0_i32_76 : BitVec 32 := 0#32
  let c0_i32_77 : BitVec 32 := 0#32
  ![v112.toNat, 0, 0]

def k0_mult41 : BitVec 32 :=
  let c0_i32_78 : BitVec 32 := 0#32
  c0_i32_78
def k0_off74 (v112 : BitVec 32) : Fin 3 → Nat :=
  let c0_i32_83 : BitVec 32 := 0#32
  let c0_i32_78 : BitVec 32 := 0#32
  let v123 : BitVec 32 := c0_i32_78
  ![v112.toNat, 0, 0]
def k0_mult42 : BitVec 32 :=
  let c256_i32_84 : BitVec 32 := 256#32
  c256_i32_84
def k0_off75 (v112 : BitVec 32) : Fin 3 → Nat :=
  let c0_i32_89 : BitVec 32 := 0#32
  let c256_i32_84 : BitVec 32 := 256#32
  let v130 : BitVec 32 := c256_i32_84
  ![v112.toNat, 0, 256]
def k0_mult43 : BitVec 32 :=
  let c512_i32_90 : BitVec 32 := 512#32
  c512_i32_90
def k0_off76 (v112 : BitVec 32) : Fin 3 → Nat :=
  let c0_i32_95 : BitVec 32 := 0#32
  let c512_i32_90 : BitVec 32 := 512#32
  let v137 : BitVec 32 := c512_i32_90
  ![v112.toNat, 0, 512]
def k0_mult44 : BitVec 32 :=
  let c768_i32_96 : BitVec 32 := 768#32
  c768_i32_96
def k0_off77 (v112 : BitVec 32) : Fin 3 → Nat :=
  let c0_i32_101 : BitVec 32 := 0#32
  let c768_i32_96 : BitVec 32 := 768#32
  let v144 : BitVec 32 := c768_i32_96
  ![v112.toNat, 0, 768]
def k0_off78 (v97 : BitVec 32) (k0_t4 : Fin (k0_t4_loop v97).trips) : Fin 1 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  ![v116.toNat]
def k0_off79 (v97 : BitVec 32) (k0_t4 : Fin (k0_t4_loop v97).trips) : Fin 3 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_102 : BitVec 32 := 0#32
  let c0_i32_103 : BitVec 32 := 0#32
  ![v116.toNat, 0, 0]
def k0_off80 (v112 : BitVec 32) : Fin 3 → Nat :=
  let c0_i32_104 : BitVec 32 := 0#32
  let c0_i32_105 : BitVec 32 := 0#32
  ![v112.toNat, 0, 0]
@[reducible] def k0_t5_loop : Scf.Loop 32 :=
  let c0_i32_106 : BitVec 32 := 0#32
  let c28_i32 : BitVec 32 := 28#32
  let v157 : BitVec 32 := Scalar.addi c0_i32_106 c28_i32
  let c1_i32_107 : BitVec 32 := 1#32
  ⟨c0_i32_106, v157, c1_i32_107⟩
def k0_mult45 (k0_t5 : Fin k0_t5_loop.trips) : BitVec 32 :=
  let c0_i32_123 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_122 : BitVec 32 := 256#32
  let v173 : BitVec 32 := Scalar.muli v170 c256_i32_122
  let v174 : BitVec 32 := Scalar.addi c0_i32_123 v173
  v174
def k0_off81 (k0_t5 : Fin k0_t5_loop.trips) : Fin 1 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  ![v172.toNat]
def k0_off82 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  let c0_i32_124 : BitVec 32 := 0#32
  let c0_i32_125 : BitVec 32 := 0#32
  let c0_i32_126 : BitVec 32 := 0#32
  ![v172.toNat, 0, 0, 0]
def k0_off83 (v112 : BitVec 32) (k0_t5 : Fin k0_t5_loop.trips) (c0_i32_123 : BitVec 32) : Fin 3 → Nat :=
  let c0_i32_127 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_122 : BitVec 32 := 256#32
  let v173 : BitVec 32 := Scalar.muli v170 c256_i32_122
  let v174 : BitVec 32 := Scalar.addi c0_i32_123 v173
  let v175 : BitVec 32 := v174
  ![v112.toNat, 0, v175.toNat]
def k0_mult46 (k0_t5 : Fin k0_t5_loop.trips) : BitVec 32 :=
  let c7168_i32_129 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_128 : BitVec 32 := 256#32
  let v182 : BitVec 32 := Scalar.muli v170 c256_i32_128
  let v183 : BitVec 32 := Scalar.addi c7168_i32_129 v182
  v183
def k0_off84 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_121 : BitVec 32 := 6#32
  let v172 : BitVec 32 := Scalar.remsi v170 c6_i32_121
  let c1_i32_130 : BitVec 32 := 1#32
  let c0_i32_131 : BitVec 32 := 0#32
  let c0_i32_132 : BitVec 32 := 0#32
  ![v172.toNat, 1, 0, 0]
def k0_mult47 (k0_t5 : Fin k0_t5_loop.trips) : BitVec 32 :=
  let c0_i32_135 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_134 : BitVec 32 := 256#32
  let v191 : BitVec 32 := Scalar.muli v170 c256_i32_134
  let v192 : BitVec 32 := Scalar.addi c0_i32_135 v191
  v192
def k0_off85 (v97 : BitVec 32) (k0_t4 : Fin (k0_t4_loop v97).trips) (k0_t5 : Fin k0_t5_loop.trips) (c0_i32_135 : BitVec 32) : Fin 3 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v194 : Index := Scalar.indexCast v116
  let c0_136 : Index := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_134 : BitVec 32 := 256#32
  let v191 : BitVec 32 := Scalar.muli v170 c256_i32_134
  let v192 : BitVec 32 := Scalar.addi c0_i32_135 v191
  let v193 : BitVec 32 := v192
  let v195 : Index := Scalar.indexCast v193
  ![v194.toNat, 0, v195.toNat]
def k0_off86 (v114 : BitVec 32) : Fin 2 → Nat :=
  let v115 : BitVec 32 := v114
  let v198 : Index := Scalar.indexCast v115
  let c0_137 : Index := 0#32
  ![v198.toNat, 0]
def k0_off87 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_120 : BitVec 32 := 6#32
  let v171 : BitVec 32 := Scalar.remsi v170 c6_i32_120
  let v200 : Index := Scalar.indexCast v171
  let c0_138 : Index := 0#32
  let c0_139 : Index := 0#32
  let c0_140 : Index := 0#32
  ![v200.toNat, 0, 0, 0]
def k0_mult48 (k0_t5 : Fin k0_t5_loop.trips) : BitVec 32 :=
  let c7168_i32_146 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_145 : BitVec 32 := 256#32
  let v309 : BitVec 32 := Scalar.muli v170 c256_i32_145
  let v310 : BitVec 32 := Scalar.addi c7168_i32_146 v309
  v310
def k0_off88 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_120 : BitVec 32 := 6#32
  let v171 : BitVec 32 := Scalar.remsi v170 c6_i32_120
  let v318 : Index := Scalar.indexCast v171
  let c1 : Index := 1#32
  let c0_149 : Index := 0#32
  let c0_150 : Index := 0#32
  ![v318.toNat, 1, 0, 0]
def k0_mult49 (k0_t5 : Fin k0_t5_loop.trips) : BitVec 32 :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_156 : BitVec 32 := 256#32
  let v431 : BitVec 32 := Scalar.muli v170 c256_i32_156
  v431
def k0_off89 (k0_t5 : Fin k0_t5_loop.trips) : Fin 2 → Nat :=
  let c0_157 : Index := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c256_i32_156 : BitVec 32 := 256#32
  let v431 : BitVec 32 := Scalar.muli v170 c256_i32_156
  let v432 : BitVec 32 := v431
  let v433 : Index := Scalar.indexCast v432
  ![0, v433.toNat]
def k0_cond4 (k0_t5 : Fin k0_t5_loop.trips) : BitVec 1 :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_158 : BitVec 32 := 6#32
  let v437 : BitVec 32 := Scalar.addi v170 c6_i32_158
  let c28_i32_159 : BitVec 32 := 28#32
  let v438 : BitVec 1 := Scalar.cmpi .slt v437 c28_i32_159
  let v439 : BitVec 32 := Scalar.extui v438
  let c0_i32_160 : BitVec 32 := 0#32
  let v440 : BitVec 1 := Scalar.cmpi .ne v439 c0_i32_160
  v440

def k0_mult50 (k0_t5 : Fin k0_t5_loop.trips) : BitVec 32 :=
  let c0_i32_164 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_163 : BitVec 32 := 256#32
  let v443 : BitVec 32 := Scalar.muli v441 c256_i32_163
  let v444 : BitVec 32 := Scalar.addi c0_i32_164 v443
  v444
def k0_off90 (k0_t5 : Fin k0_t5_loop.trips) : Fin 1 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  ![v442.toNat]
def k0_off91 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  let c0_i32_165 : BitVec 32 := 0#32
  let c0_i32_166 : BitVec 32 := 0#32
  let c0_i32_167 : BitVec 32 := 0#32
  ![v442.toNat, 0, 0, 0]
def k0_off92 (v112 : BitVec 32) (k0_t5 : Fin k0_t5_loop.trips) (c0_i32_164 : BitVec 32) : Fin 3 → Nat :=
  let c0_i32_168 : BitVec 32 := 0#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_163 : BitVec 32 := 256#32
  let v443 : BitVec 32 := Scalar.muli v441 c256_i32_163
  let v444 : BitVec 32 := Scalar.addi c0_i32_164 v443
  let v445 : BitVec 32 := v444
  ![v112.toNat, 0, v445.toNat]
def k0_mult51 (k0_t5 : Fin k0_t5_loop.trips) : BitVec 32 :=
  let c7168_i32_170 : BitVec 32 := 7168#32
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c256_i32_169 : BitVec 32 := 256#32
  let v452 : BitVec 32 := Scalar.muli v441 c256_i32_169
  let v453 : BitVec 32 := Scalar.addi c7168_i32_170 v452
  v453
def k0_off93 (k0_t5 : Fin k0_t5_loop.trips) : Fin 4 → Nat :=
  let c0_i32_119 : BitVec 32 := 0#32
  let c0_i32_106 : BitVec 32 := 0#32
  let c1_i32_107 : BitVec 32 := 1#32
  let arg19 : BitVec 32 := Scf.iv c0_i32_106 c1_i32_107 k0_t5
  let c1_i32_118 : BitVec 32 := 1#32
  let v169 : BitVec 32 := Scalar.muli arg19 c1_i32_118
  let v170 : BitVec 32 := Scalar.addi c0_i32_119 v169
  let c6_i32_161 : BitVec 32 := 6#32
  let v441 : BitVec 32 := Scalar.addi v170 c6_i32_161
  let c6_i32_162 : BitVec 32 := 6#32
  let v442 : BitVec 32 := Scalar.remsi v441 c6_i32_162
  let c1_i32_171 : BitVec 32 := 1#32
  let c0_i32_172 : BitVec 32 := 0#32
  let c0_i32_173 : BitVec 32 := 0#32
  ![v442.toNat, 1, 0, 0]
def k0_off94 (v97 : BitVec 32) (k0_t4 : Fin (k0_t4_loop v97).trips) : Fin 3 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let c0_i32_109 : BitVec 32 := 0#32
  let c0_i32_110 : BitVec 32 := 0#32
  ![v116.toNat, 0, 0]
def k0_off95 (v97 : BitVec 32) (k0_t4 : Fin (k0_t4_loop v97).trips) : Fin 1 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c1_i32_118 : BitVec 32 := 1#32
  let v169 : BitVec 32 := Scalar.addi v110 c1_i32_118
  let v170 : Index := Scalar.indexCast v169
  ![v170.toNat]
def k0_cond5 (v97 : BitVec 32) (k0_t4 : Fin (k0_t4_loop v97).trips) : BitVec 1 :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c1_i32_113 : BitVec 32 := 1#32
  let v164 : BitVec 32 := Scalar.addi v110 c1_i32_113
  let v165 : BitVec 1 := Scalar.cmpi .slt v164 v97
  let v166 : BitVec 32 := Scalar.extui v165
  let c0_i32_114 : BitVec 32 := 0#32
  let v167 : BitVec 1 := Scalar.cmpi .ne v166 c0_i32_114
  v167

def k0_off96 (v97 : BitVec 32) (k0_t4 : Fin (k0_t4_loop v97).trips) : Fin 1 → Nat :=
  let c1_i32_119 : BitVec 32 := 1#32
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v172 : BitVec 32 := Scalar.subi c1_i32_119 v116
  ![v172.toNat]
def k0_off97 (v97 : BitVec 32) (k0_t4 : Fin (k0_t4_loop v97).trips) : Fin 3 → Nat :=
  let c1_i32_119 : BitVec 32 := 1#32
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v172 : BitVec 32 := Scalar.subi c1_i32_119 v116
  let c0_i32_120 : BitVec 32 := 0#32
  let c0_i32_121 : BitVec 32 := 0#32
  ![v172.toNat, 0, 0]
def k0_off98 (v171 : BitVec 32) : Fin 3 → Nat :=
  let c0_i32_122 : BitVec 32 := 0#32
  let c0_i32_123 : BitVec 32 := 0#32
  ![v171.toNat, 0, 0]

def k0_mult52 : BitVec 32 :=
  let c0_i32_126 : BitVec 32 := 0#32
  c0_i32_126
def k0_off99 (c0_i32_124 : BitVec 32) : Fin 1 → Nat :=
  let c6_i32_125 : BitVec 32 := 6#32
  let v179 : BitVec 32 := Scalar.remsi c0_i32_124 c6_i32_125
  ![v179.toNat]
def k0_off100 (c0_i32_124 : BitVec 32) : Fin 4 → Nat :=
  let c6_i32_125 : BitVec 32 := 6#32
  let v179 : BitVec 32 := Scalar.remsi c0_i32_124 c6_i32_125
  let c0_i32_127 : BitVec 32 := 0#32
  let c0_i32_128 : BitVec 32 := 0#32
  let c0_i32_129 : BitVec 32 := 0#32
  ![v179.toNat, 0, 0, 0]
def k0_off101 (v171 : BitVec 32) : Fin 3 → Nat :=
  let c0_i32_130 : BitVec 32 := 0#32
  let c0_i32_126 : BitVec 32 := 0#32
  let v180 : BitVec 32 := c0_i32_126
  ![v171.toNat, 0, 0]
def k0_mult53 : BitVec 32 :=
  let c7168_i32_131 : BitVec 32 := 7168#32
  c7168_i32_131
def k0_off102 (c0_i32_124 : BitVec 32) : Fin 4 → Nat :=
  let c6_i32_125 : BitVec 32 := 6#32
  let v179 : BitVec 32 := Scalar.remsi c0_i32_124 c6_i32_125
  let c1_i32_132 : BitVec 32 := 1#32
  let c0_i32_133 : BitVec 32 := 0#32
  let c0_i32_134 : BitVec 32 := 0#32
  ![v179.toNat, 1, 0, 0]
def k0_off103 (v171 : BitVec 32) : Fin 3 → Nat :=
  let c0_i32_135 : BitVec 32 := 0#32
  let c7168_i32_131 : BitVec 32 := 7168#32
  let v187 : BitVec 32 := c7168_i32_131
  ![v171.toNat, 0, 7168]
def k0_mult54 : BitVec 32 :=
  let c256_i32_138 : BitVec 32 := 256#32
  c256_i32_138
def k0_off104 (v171 : BitVec 32) : Fin 3 → Nat :=
  let c0_i32_142 : BitVec 32 := 0#32
  let c256_i32_138 : BitVec 32 := 256#32
  let v195 : BitVec 32 := c256_i32_138
  ![v171.toNat, 0, 256]
def k0_mult55 : BitVec 32 :=
  let c7424_i32_143 : BitVec 32 := 7424#32
  c7424_i32_143
def k0_off105 (v171 : BitVec 32) : Fin 3 → Nat :=
  let c0_i32_147 : BitVec 32 := 0#32
  let c7424_i32_143 : BitVec 32 := 7424#32
  let v202 : BitVec 32 := c7424_i32_143
  ![v171.toNat, 0, 7424]
def k0_mult56 : BitVec 32 :=
  let c512_i32_150 : BitVec 32 := 512#32
  c512_i32_150
def k0_off106 (v171 : BitVec 32) : Fin 3 → Nat :=
  let c0_i32_154 : BitVec 32 := 0#32
  let c512_i32_150 : BitVec 32 := 512#32
  let v210 : BitVec 32 := c512_i32_150
  ![v171.toNat, 0, 512]
def k0_mult57 : BitVec 32 :=
  let c7680_i32_155 : BitVec 32 := 7680#32
  c7680_i32_155
def k0_off107 (v171 : BitVec 32) : Fin 3 → Nat :=
  let c0_i32_159 : BitVec 32 := 0#32
  let c7680_i32_155 : BitVec 32 := 7680#32
  let v217 : BitVec 32 := c7680_i32_155
  ![v171.toNat, 0, 7680]
def k0_mult58 : BitVec 32 :=
  let c768_i32_162 : BitVec 32 := 768#32
  c768_i32_162
def k0_off108 (v171 : BitVec 32) : Fin 3 → Nat :=
  let c0_i32_166 : BitVec 32 := 0#32
  let c768_i32_162 : BitVec 32 := 768#32
  let v225 : BitVec 32 := c768_i32_162
  ![v171.toNat, 0, 768]
def k0_mult59 : BitVec 32 :=
  let c7936_i32_167 : BitVec 32 := 7936#32
  c7936_i32_167
def k0_off109 (v171 : BitVec 32) : Fin 3 → Nat :=
  let c0_i32_171 : BitVec 32 := 0#32
  let c7936_i32_167 : BitVec 32 := 7936#32
  let v232 : BitVec 32 := c7936_i32_167
  ![v171.toNat, 0, 7936]
def k0_mult60 : BitVec 32 :=
  let c1024_i32_174 : BitVec 32 := 1024#32
  c1024_i32_174
def k0_off110 (v171 : BitVec 32) : Fin 3 → Nat :=
  let c0_i32_178 : BitVec 32 := 0#32
  let c1024_i32_174 : BitVec 32 := 1024#32
  let v240 : BitVec 32 := c1024_i32_174
  ![v171.toNat, 0, 1024]
def k0_mult61 : BitVec 32 :=
  let c8192_i32_179 : BitVec 32 := 8192#32
  c8192_i32_179
def k0_off111 (v171 : BitVec 32) : Fin 3 → Nat :=
  let c0_i32_183 : BitVec 32 := 0#32
  let c8192_i32_179 : BitVec 32 := 8192#32
  let v247 : BitVec 32 := c8192_i32_179
  ![v171.toNat, 0, 8192]
def k0_mult62 : BitVec 32 :=
  let c1280_i32_186 : BitVec 32 := 1280#32
  c1280_i32_186
def k0_off112 (v171 : BitVec 32) : Fin 3 → Nat :=
  let c0_i32_190 : BitVec 32 := 0#32
  let c1280_i32_186 : BitVec 32 := 1280#32
  let v255 : BitVec 32 := c1280_i32_186
  ![v171.toNat, 0, 1280]
def k0_mult63 : BitVec 32 :=
  let c8448_i32_191 : BitVec 32 := 8448#32
  c8448_i32_191
def k0_off113 (v171 : BitVec 32) : Fin 3 → Nat :=
  let c0_i32_195 : BitVec 32 := 0#32
  let c8448_i32_191 : BitVec 32 := 8448#32
  let v262 : BitVec 32 := c8448_i32_191
  ![v171.toNat, 0, 8448]

def k0_chk8 (v97 : BitVec 32) (k0_t4 : Fin (k0_t4_loop v97).trips) (v171 : BitVec 32) : Prop :=
  (∀ (k0_h5 : k0_cond5 v97 k0_t4 = 1#1), ∀ a, (k0_off98 v171) a + S1x22x14336.size a ≤ S8x22x14336.size a) ∧
  (∀ (k0_h5 : k0_cond5 v97 k0_t4 = 1#1), ∀ (hinb : ∀ a, (k0_off98 v171) a + S1x22x14336.size a ≤ S8x22x14336.size a), (Rect.unit (s := S8x22x14336) (k0_off98 v171) S1x22x14336.size hinb).WholeWords (EltTy.packing .bf16)) ∧
  (∀ (k0_h5 : k0_cond5 v97 k0_t4 = 1#1), ∀ a, (k0_off101 v171) a + S1x1408x256.size a ≤ S8x1408x14336.size a) ∧
  (∀ (k0_h5 : k0_cond5 v97 k0_t4 = 1#1), ∀ (hinb : ∀ a, (k0_off101 v171) a + S1x1408x256.size a ≤ S8x1408x14336.size a), (Rect.unit (s := S8x1408x14336) (k0_off101 v171) S1x1408x256.size hinb).WholeWords (EltTy.packing .i8)) ∧
  (∀ (k0_h5 : k0_cond5 v97 k0_t4 = 1#1), ∀ a, (k0_off103 v171) a + S1x1408x256.size a ≤ S8x1408x14336.size a) ∧
  (∀ (k0_h5 : k0_cond5 v97 k0_t4 = 1#1), ∀ (hinb : ∀ a, (k0_off103 v171) a + S1x1408x256.size a ≤ S8x1408x14336.size a), (Rect.unit (s := S8x1408x14336) (k0_off103 v171) S1x1408x256.size hinb).WholeWords (EltTy.packing .i8)) ∧
  (∀ (k0_h5 : k0_cond5 v97 k0_t4 = 1#1), ∀ a, (k0_off104 v171) a + S1x1408x256.size a ≤ S8x1408x14336.size a) ∧
  (∀ (k0_h5 : k0_cond5 v97 k0_t4 = 1#1), ∀ (hinb : ∀ a, (k0_off104 v171) a + S1x1408x256.size a ≤ S8x1408x14336.size a), (Rect.unit (s := S8x1408x14336) (k0_off104 v171) S1x1408x256.size hinb).WholeWords (EltTy.packing .i8)) ∧
  (∀ (k0_h5 : k0_cond5 v97 k0_t4 = 1#1), ∀ a, (k0_off105 v171) a + S1x1408x256.size a ≤ S8x1408x14336.size a) ∧
  (∀ (k0_h5 : k0_cond5 v97 k0_t4 = 1#1), ∀ (hinb : ∀ a, (k0_off105 v171) a + S1x1408x256.size a ≤ S8x1408x14336.size a), (Rect.unit (s := S8x1408x14336) (k0_off105 v171) S1x1408x256.size hinb).WholeWords (EltTy.packing .i8)) ∧
  (∀ (k0_h5 : k0_cond5 v97 k0_t4 = 1#1), ∀ a, (k0_off106 v171) a + S1x1408x256.size a ≤ S8x1408x14336.size a) ∧
  (∀ (k0_h5 : k0_cond5 v97 k0_t4 = 1#1), ∀ (hinb : ∀ a, (k0_off106 v171) a + S1x1408x256.size a ≤ S8x1408x14336.size a), (Rect.unit (s := S8x1408x14336) (k0_off106 v171) S1x1408x256.size hinb).WholeWords (EltTy.packing .i8)) ∧
  (∀ (k0_h5 : k0_cond5 v97 k0_t4 = 1#1), ∀ a, (k0_off107 v171) a + S1x1408x256.size a ≤ S8x1408x14336.size a) ∧
  (∀ (k0_h5 : k0_cond5 v97 k0_t4 = 1#1), ∀ (hinb : ∀ a, (k0_off107 v171) a + S1x1408x256.size a ≤ S8x1408x14336.size a), (Rect.unit (s := S8x1408x14336) (k0_off107 v171) S1x1408x256.size hinb).WholeWords (EltTy.packing .i8)) ∧
  (∀ (k0_h5 : k0_cond5 v97 k0_t4 = 1#1), ∀ a, (k0_off108 v171) a + S1x1408x256.size a ≤ S8x1408x14336.size a) ∧
  (∀ (k0_h5 : k0_cond5 v97 k0_t4 = 1#1), ∀ (hinb : ∀ a, (k0_off108 v171) a + S1x1408x256.size a ≤ S8x1408x14336.size a), (Rect.unit (s := S8x1408x14336) (k0_off108 v171) S1x1408x256.size hinb).WholeWords (EltTy.packing .i8)) ∧
  (∀ (k0_h5 : k0_cond5 v97 k0_t4 = 1#1), ∀ a, (k0_off109 v171) a + S1x1408x256.size a ≤ S8x1408x14336.size a) ∧
  (∀ (k0_h5 : k0_cond5 v97 k0_t4 = 1#1), ∀ (hinb : ∀ a, (k0_off109 v171) a + S1x1408x256.size a ≤ S8x1408x14336.size a), (Rect.unit (s := S8x1408x14336) (k0_off109 v171) S1x1408x256.size hinb).WholeWords (EltTy.packing .i8)) ∧
  (∀ (k0_h5 : k0_cond5 v97 k0_t4 = 1#1), ∀ a, (k0_off110 v171) a + S1x1408x256.size a ≤ S8x1408x14336.size a) ∧
  (∀ (k0_h5 : k0_cond5 v97 k0_t4 = 1#1), ∀ (hinb : ∀ a, (k0_off110 v171) a + S1x1408x256.size a ≤ S8x1408x14336.size a), (Rect.unit (s := S8x1408x14336) (k0_off110 v171) S1x1408x256.size hinb).WholeWords (EltTy.packing .i8)) ∧
  (∀ (k0_h5 : k0_cond5 v97 k0_t4 = 1#1), ∀ a, (k0_off111 v171) a + S1x1408x256.size a ≤ S8x1408x14336.size a) ∧
  (∀ (k0_h5 : k0_cond5 v97 k0_t4 = 1#1), ∀ (hinb : ∀ a, (k0_off111 v171) a + S1x1408x256.size a ≤ S8x1408x14336.size a), (Rect.unit (s := S8x1408x14336) (k0_off111 v171) S1x1408x256.size hinb).WholeWords (EltTy.packing .i8)) ∧
  (∀ (k0_h5 : k0_cond5 v97 k0_t4 = 1#1), ∀ a, (k0_off112 v171) a + S1x1408x256.size a ≤ S8x1408x14336.size a) ∧
  (∀ (k0_h5 : k0_cond5 v97 k0_t4 = 1#1), ∀ (hinb : ∀ a, (k0_off112 v171) a + S1x1408x256.size a ≤ S8x1408x14336.size a), (Rect.unit (s := S8x1408x14336) (k0_off112 v171) S1x1408x256.size hinb).WholeWords (EltTy.packing .i8)) ∧
  (∀ (k0_h5 : k0_cond5 v97 k0_t4 = 1#1), ∀ a, (k0_off113 v171) a + S1x1408x256.size a ≤ S8x1408x14336.size a) ∧
  (∀ (k0_h5 : k0_cond5 v97 k0_t4 = 1#1), ∀ (hinb : ∀ a, (k0_off113 v171) a + S1x1408x256.size a ≤ S8x1408x14336.size a), (Rect.unit (s := S8x1408x14336) (k0_off113 v171) S1x1408x256.size hinb).WholeWords (EltTy.packing .i8))
theorem k0_off98_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off98 v171) a + S1x22x14336.size a ≤ S8x22x14336.size a := fun v97 k0_t4 v171 k0_hw8 k0_h5 => k0_hw8.1 k0_h5
theorem k0_off98_wordsbf16 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x22x14336) (k0_off98 v171) S1x22x14336.size (k0_off98_inb v97 k0_t4 v171 k0_hw8 k0_h5)).WholeWords (EltTy.packing .bf16) := fun v97 k0_t4 v171 k0_hw8 k0_h5 => k0_hw8.2.1 k0_h5 (k0_off98_inb v97 k0_t4 v171 k0_hw8 k0_h5)
theorem k0_off101_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off101 v171) a + S1x1408x256.size a ≤ S8x1408x14336.size a := fun v97 k0_t4 v171 k0_hw8 k0_h5 => k0_hw8.2.2.1 k0_h5
theorem k0_off101_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off101 v171) S1x1408x256.size (k0_off101_inb v97 k0_t4 v171 k0_hw8 k0_h5)).WholeWords (EltTy.packing .i8) := fun v97 k0_t4 v171 k0_hw8 k0_h5 => k0_hw8.2.2.2.1 k0_h5 (k0_off101_inb v97 k0_t4 v171 k0_hw8 k0_h5)
theorem k0_off103_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off103 v171) a + S1x1408x256.size a ≤ S8x1408x14336.size a := fun v97 k0_t4 v171 k0_hw8 k0_h5 => k0_hw8.2.2.2.2.1 k0_h5
theorem k0_off103_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off103 v171) S1x1408x256.size (k0_off103_inb v97 k0_t4 v171 k0_hw8 k0_h5)).WholeWords (EltTy.packing .i8) := fun v97 k0_t4 v171 k0_hw8 k0_h5 => k0_hw8.2.2.2.2.2.1 k0_h5 (k0_off103_inb v97 k0_t4 v171 k0_hw8 k0_h5)
theorem k0_off104_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off104 v171) a + S1x1408x256.size a ≤ S8x1408x14336.size a := fun v97 k0_t4 v171 k0_hw8 k0_h5 => k0_hw8.2.2.2.2.2.2.1 k0_h5
theorem k0_off104_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off104 v171) S1x1408x256.size (k0_off104_inb v97 k0_t4 v171 k0_hw8 k0_h5)).WholeWords (EltTy.packing .i8) := fun v97 k0_t4 v171 k0_hw8 k0_h5 => k0_hw8.2.2.2.2.2.2.2.1 k0_h5 (k0_off104_inb v97 k0_t4 v171 k0_hw8 k0_h5)
theorem k0_off105_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off105 v171) a + S1x1408x256.size a ≤ S8x1408x14336.size a := fun v97 k0_t4 v171 k0_hw8 k0_h5 => k0_hw8.2.2.2.2.2.2.2.2.1 k0_h5
theorem k0_off105_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off105 v171) S1x1408x256.size (k0_off105_inb v97 k0_t4 v171 k0_hw8 k0_h5)).WholeWords (EltTy.packing .i8) := fun v97 k0_t4 v171 k0_hw8 k0_h5 => k0_hw8.2.2.2.2.2.2.2.2.2.1 k0_h5 (k0_off105_inb v97 k0_t4 v171 k0_hw8 k0_h5)
theorem k0_off106_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off106 v171) a + S1x1408x256.size a ≤ S8x1408x14336.size a := fun v97 k0_t4 v171 k0_hw8 k0_h5 => k0_hw8.2.2.2.2.2.2.2.2.2.2.1 k0_h5
theorem k0_off106_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off106 v171) S1x1408x256.size (k0_off106_inb v97 k0_t4 v171 k0_hw8 k0_h5)).WholeWords (EltTy.packing .i8) := fun v97 k0_t4 v171 k0_hw8 k0_h5 => k0_hw8.2.2.2.2.2.2.2.2.2.2.2.1 k0_h5 (k0_off106_inb v97 k0_t4 v171 k0_hw8 k0_h5)
theorem k0_off107_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off107 v171) a + S1x1408x256.size a ≤ S8x1408x14336.size a := fun v97 k0_t4 v171 k0_hw8 k0_h5 => k0_hw8.2.2.2.2.2.2.2.2.2.2.2.2.1 k0_h5
theorem k0_off107_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off107 v171) S1x1408x256.size (k0_off107_inb v97 k0_t4 v171 k0_hw8 k0_h5)).WholeWords (EltTy.packing .i8) := fun v97 k0_t4 v171 k0_hw8 k0_h5 => k0_hw8.2.2.2.2.2.2.2.2.2.2.2.2.2.1 k0_h5 (k0_off107_inb v97 k0_t4 v171 k0_hw8 k0_h5)
theorem k0_off108_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off108 v171) a + S1x1408x256.size a ≤ S8x1408x14336.size a := fun v97 k0_t4 v171 k0_hw8 k0_h5 => k0_hw8.2.2.2.2.2.2.2.2.2.2.2.2.2.2.1 k0_h5
theorem k0_off108_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off108 v171) S1x1408x256.size (k0_off108_inb v97 k0_t4 v171 k0_hw8 k0_h5)).WholeWords (EltTy.packing .i8) := fun v97 k0_t4 v171 k0_hw8 k0_h5 => k0_hw8.2.2.2.2.2.2.2.2.2.2.2.2.2.2.2.1 k0_h5 (k0_off108_inb v97 k0_t4 v171 k0_hw8 k0_h5)
theorem k0_off109_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off109 v171) a + S1x1408x256.size a ≤ S8x1408x14336.size a := fun v97 k0_t4 v171 k0_hw8 k0_h5 => k0_hw8.2.2.2.2.2.2.2.2.2.2.2.2.2.2.2.2.1 k0_h5
theorem k0_off109_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off109 v171) S1x1408x256.size (k0_off109_inb v97 k0_t4 v171 k0_hw8 k0_h5)).WholeWords (EltTy.packing .i8) := fun v97 k0_t4 v171 k0_hw8 k0_h5 => k0_hw8.2.2.2.2.2.2.2.2.2.2.2.2.2.2.2.2.2.1 k0_h5 (k0_off109_inb v97 k0_t4 v171 k0_hw8 k0_h5)
theorem k0_off110_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off110 v171) a + S1x1408x256.size a ≤ S8x1408x14336.size a := fun v97 k0_t4 v171 k0_hw8 k0_h5 => k0_hw8.2.2.2.2.2.2.2.2.2.2.2.2.2.2.2.2.2.2.1 k0_h5
theorem k0_off110_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off110 v171) S1x1408x256.size (k0_off110_inb v97 k0_t4 v171 k0_hw8 k0_h5)).WholeWords (EltTy.packing .i8) := fun v97 k0_t4 v171 k0_hw8 k0_h5 => k0_hw8.2.2.2.2.2.2.2.2.2.2.2.2.2.2.2.2.2.2.2.1 k0_h5 (k0_off110_inb v97 k0_t4 v171 k0_hw8 k0_h5)
theorem k0_off111_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off111 v171) a + S1x1408x256.size a ≤ S8x1408x14336.size a := fun v97 k0_t4 v171 k0_hw8 k0_h5 => k0_hw8.2.2.2.2.2.2.2.2.2.2.2.2.2.2.2.2.2.2.2.2.1 k0_h5
theorem k0_off111_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off111 v171) S1x1408x256.size (k0_off111_inb v97 k0_t4 v171 k0_hw8 k0_h5)).WholeWords (EltTy.packing .i8) := fun v97 k0_t4 v171 k0_hw8 k0_h5 => k0_hw8.2.2.2.2.2.2.2.2.2.2.2.2.2.2.2.2.2.2.2.2.2.1 k0_h5 (k0_off111_inb v97 k0_t4 v171 k0_hw8 k0_h5)
theorem k0_off112_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off112 v171) a + S1x1408x256.size a ≤ S8x1408x14336.size a := fun v97 k0_t4 v171 k0_hw8 k0_h5 => k0_hw8.2.2.2.2.2.2.2.2.2.2.2.2.2.2.2.2.2.2.2.2.2.2.1 k0_h5
theorem k0_off112_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off112 v171) S1x1408x256.size (k0_off112_inb v97 k0_t4 v171 k0_hw8 k0_h5)).WholeWords (EltTy.packing .i8) := fun v97 k0_t4 v171 k0_hw8 k0_h5 => k0_hw8.2.2.2.2.2.2.2.2.2.2.2.2.2.2.2.2.2.2.2.2.2.2.2.1 k0_h5 (k0_off112_inb v97 k0_t4 v171 k0_hw8 k0_h5)
theorem k0_off113_inb : ∀ (v97 : BitVec 32) (k0_t4 : Fin (k0_t4_loop v97).trips) (v171 : BitVec 32) (k0_hw8 : k0_chk8 v97 k0_t4 v171), ∀ (k0_h5 : k0_cond5 v97 k0_t4 = 1#1), ∀ a, (k0_off113 v171) a + S1x1408x256.size a ≤ S8x1408x14336.size a := fun v97 k0_t4 v171 k0_hw8 k0_h5 => k0_hw8.2.2.2.2.2.2.2.2.2.2.2.2.2.2.2.2.2.2.2.2.2.2.2.2.1 k0_h5
theorem k0_off113_wordsi8 : ∀ (v97 : BitVec 32) (k0_t4 : Fin (k0_t4_loop v97).trips) (v171 : BitVec 32) (k0_hw8 : k0_chk8 v97 k0_t4 v171), ∀ (k0_h5 : k0_cond5 v97 k0_t4 = 1#1), (Rect.unit (s := S8x1408x14336) (k0_off113 v171) S1x1408x256.size (k0_off113_inb v97 k0_t4 v171 k0_hw8 k0_h5)).WholeWords (EltTy.packing .i8) := fun v97 k0_t4 v171 k0_hw8 k0_h5 => k0_hw8.2.2.2.2.2.2.2.2.2.2.2.2.2.2.2.2.2.2.2.2.2.2.2.2.2 k0_h5 (k0_off113_inb v97 k0_t4 v171 k0_hw8 k0_h5)

@[reducible] def k0_t6_loop : Scf.Loop 32 :=
  let c0_i32_115 : BitVec 32 := 0#32
  let c11_i32 : BitVec 32 := 11#32
  let v168 : BitVec 32 := Scalar.addi c0_i32_115 c11_i32
  let c1_i32_116 : BitVec 32 := 1#32
  ⟨c0_i32_115, v168, c1_i32_116⟩
def k0_mult64 (k0_t6 : Fin k0_t6_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c256_i32_121 : BitVec 32 := 256#32
  let v172 : BitVec 32 := Scalar.muli v170 c256_i32_121
  v172
def k0_off114 (k0_t6 : Fin k0_t6_loop.trips) : Fin 1 → Nat :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  ![v171.toNat]
def k0_off115 (k0_t6 : Fin k0_t6_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let c0_i32_122 : BitVec 32 := 0#32
  let c0_i32_123 : BitVec 32 := 0#32
  ![v171.toNat, 0, 0]
def k0_off116 (v112 : BitVec 32) (k0_t6 : Fin k0_t6_loop.trips) : Fin 3 → Nat :=
  let c0_i32_124 : BitVec 32 := 0#32
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c256_i32_121 : BitVec 32 := 256#32
  let v172 : BitVec 32 := Scalar.muli v170 c256_i32_121
  let v173 : BitVec 32 := v172
  ![v112.toNat, 0, v173.toNat]
def k0_mult65 (k0_t6 : Fin k0_t6_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  v180
def k0_off117 (k0_t6 : Fin k0_t6_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let v183 : Index := Scalar.indexCast v171
  let c0_128 : Index := 0#32
  let c0_129 : Index := 0#32
  ![v183.toNat, 0, 0]
def k0_off118 (v97 : BitVec 32) (k0_t4 : Fin (k0_t4_loop v97).trips) (k0_t6 : Fin k0_t6_loop.trips) : Fin 3 → Nat :=
  let c0_i32_68 : BitVec 32 := 0#32
  let c0_i32_69 : BitVec 32 := 0#32
  let c0_i32_63 : BitVec 32 := 0#32
  let v100 : BitVec 32 := Scalar.subi v97 c0_i32_63
  let c1_i32_64 : BitVec 32 := 1#32
  let c1_i32_65 : BitVec 32 := 1#32
  let v101 : BitVec 32 := Scalar.subi c1_i32_64 c1_i32_65
  let v102 : BitVec 32 := Scalar.addi v100 v101
  let c1_i32_66 : BitVec 32 := 1#32
  let v103 : BitVec 32 := Scalar.divsi v102 c1_i32_66
  let v104 : BitVec 32 := Scalar.subi v103 c0_i32_69
  let c1_i32_70 : BitVec 32 := 1#32
  let v106 : BitVec 32 := Scalar.divsi v104 c1_i32_70
  let v107 : BitVec 32 := Scalar.muli v106 c1_i32_70
  let v108 : BitVec 32 := Scalar.addi c0_i32_69 v107
  let c1_i32_72 : BitVec 32 := 1#32
  let arg18 : BitVec 32 := Scf.iv v108 c1_i32_72 k0_t4
  let c1_i32_67 : BitVec 32 := 1#32
  let v109 : BitVec 32 := Scalar.muli arg18 c1_i32_67
  let v110 : BitVec 32 := Scalar.addi c0_i32_68 v109
  let c2_i32_73 : BitVec 32 := 2#32
  let v116 : BitVec 32 := Scalar.remsi v110 c2_i32_73
  let v186 : Index := Scalar.indexCast v116
  let c0_130 : Index := 0#32
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  let v181 : BitVec 32 := v180
  let v187 : Index := Scalar.indexCast v181
  ![v186.toNat, 0, v187.toNat]

def k0_chk2 (v97 : BitVec 32) : Prop :=
  ((k0_t1_loop v97).OK) ∧
  (∀ k0_t1 : Fin (k0_t1_loop v97).trips, ∀ a, (k0_off17 v97 k0_t1) a + S1.size a ≤ S9.size a) ∧
  (∀ k0_t1 : Fin (k0_t1_loop v97).trips, ∀ a, (k0_off18 v97 k0_t1) a + S1.size a ≤ S2.size a) ∧
  (∀ k0_t1 : Fin (k0_t1_loop v97).trips, ∀ a, (k0_off19 v97 k0_t1) a + S1x56x2816.size a ≤ S2x56x2816.size a) ∧
  (∀ k0_t1 : Fin (k0_t1_loop v97).trips, ∀ (hinb : ∀ a, (k0_off19 v97 k0_t1) a + S1x56x2816.size a ≤ S2x56x2816.size a), (Rect.unit (s := S2x56x2816) (k0_off19 v97 k0_t1) S1x56x2816.size hinb).WholeWords (EltTy.packing .bf16)) ∧
  (∀ k0_t1 : Fin (k0_t1_loop v97).trips, ∀ a, (k0_off25 v97 k0_t1) a + S1.size a ≤ S2.size a) ∧
  (∀ k0_t1 : Fin (k0_t1_loop v97).trips, ∀ a, (k0_off26 v97 k0_t1) a + S1x22x14336.size a ≤ S2x22x14336.size a) ∧
  (∀ k0_t1 : Fin (k0_t1_loop v97).trips, ∀ (hinb : ∀ a, (k0_off26 v97 k0_t1) a + S1x22x14336.size a ≤ S2x22x14336.size a), (Rect.unit (s := S2x22x14336) (k0_off26 v97 k0_t1) S1x22x14336.size hinb).WholeWords (EltTy.packing .bf16)) ∧
  (∀ (k0_t1 : Fin (k0_t1_loop v97).trips) (k0_t2 : Fin k0_t2_loop.trips), ∀ (r : Fin 2), ∀ a, (k0_off32 v97 k0_t1 k0_t2 (BitVec.ofNat 32 (7168 * r.val))) a + S1x22x256.size a ≤ S2x22x14336.size a) ∧
  (∀ k0_t1 : Fin (k0_t1_loop v97).trips, ∀ a, (k0_off41 v97 k0_t1) a + S1x56x2816.size a ≤ S2x56x2816.size a) ∧
  (∀ k0_t1 : Fin (k0_t1_loop v97).trips, ∀ (hinb : ∀ a, (k0_off41 v97 k0_t1) a + S1x56x2816.size a ≤ S2x56x2816.size a), (Rect.unit (s := S2x56x2816) (k0_off41 v97 k0_t1) S1x56x2816.size hinb).WholeWords (EltTy.packing .bf16)) ∧
  (∀ k0_t1 : Fin (k0_t1_loop v97).trips, ∀ (k0_h2 : k0_cond2 v97 k0_t1 = 1#1), ∀ a, (k0_off42 v97 k0_t1) a + S1.size a ≤ S9.size a) ∧
  (∀ k0_t1 : Fin (k0_t1_loop v97).trips, ∀ (k0_h2 : k0_cond2 v97 k0_t1 = 1#1), ∀ a, (k0_off43 v97 k0_t1) a + S1.size a ≤ S2.size a) ∧
  (∀ k0_t1 : Fin (k0_t1_loop v97).trips, ∀ (k0_h2 : k0_cond2 v97 k0_t1 = 1#1), ∀ a, (k0_off44 v97 k0_t1) a + S1x22x14336.size a ≤ S2x22x14336.size a) ∧
  (∀ k0_t1 : Fin (k0_t1_loop v97).trips, ∀ (k0_h2 : k0_cond2 v97 k0_t1 = 1#1), ∀ (hinb : ∀ a, (k0_off44 v97 k0_t1) a + S1x22x14336.size a ≤ S2x22x14336.size a), (Rect.unit (s := S2x22x14336) (k0_off44 v97 k0_t1) S1x22x14336.size hinb).WholeWords (EltTy.packing .bf16)) ∧
  (∀ (k0_t1 : Fin (k0_t1_loop v97).trips) (k0_t3 : Fin k0_t3_loop.trips), ∀ a, (k0_off65 v97 k0_t1 k0_t3) a + S1x56x256.size a ≤ S2x56x2816.size a) ∧
  ((k0_t4_loop v97).OK) ∧
  (∀ k0_t4 : Fin (k0_t4_loop v97).trips, ∀ a, (k0_off70 v97 k0_t4) a + S1.size a ≤ S9.size a) ∧
  (∀ k0_t4 : Fin (k0_t4_loop v97).trips, ∀ a, (k0_off71 v97 k0_t4) a + S1.size a ≤ S2.size a) ∧
  (∀ k0_t4 : Fin (k0_t4_loop v97).trips, ∀ a, (k0_off72 v97 k0_t4) a + S1x56x2816.size a ≤ S2x56x2816.size a) ∧
  (∀ k0_t4 : Fin (k0_t4_loop v97).trips, ∀ (hinb : ∀ a, (k0_off72 v97 k0_t4) a + S1x56x2816.size a ≤ S2x56x2816.size a), (Rect.unit (s := S2x56x2816) (k0_off72 v97 k0_t4) S1x56x2816.size hinb).WholeWords (EltTy.packing .bf16)) ∧
  (∀ k0_t4 : Fin (k0_t4_loop v97).trips, ∀ a, (k0_off78 v97 k0_t4) a + S1.size a ≤ S2.size a) ∧
  (∀ k0_t4 : Fin (k0_t4_loop v97).trips, ∀ a, (k0_off79 v97 k0_t4) a + S1x22x14336.size a ≤ S2x22x14336.size a) ∧
  (∀ k0_t4 : Fin (k0_t4_loop v97).trips, ∀ (hinb : ∀ a, (k0_off79 v97 k0_t4) a + S1x22x14336.size a ≤ S2x22x14336.size a), (Rect.unit (s := S2x22x14336) (k0_off79 v97 k0_t4) S1x22x14336.size hinb).WholeWords (EltTy.packing .bf16)) ∧
  (∀ (k0_t4 : Fin (k0_t4_loop v97).trips) (k0_t5 : Fin k0_t5_loop.trips), ∀ (r : Fin 2), ∀ a, (k0_off85 v97 k0_t4 k0_t5 (BitVec.ofNat 32 (7168 * r.val))) a + S1x22x256.size a ≤ S2x22x14336.size a) ∧
  (∀ k0_t4 : Fin (k0_t4_loop v97).trips, ∀ a, (k0_off94 v97 k0_t4) a + S1x56x2816.size a ≤ S2x56x2816.size a) ∧
  (∀ k0_t4 : Fin (k0_t4_loop v97).trips, ∀ (hinb : ∀ a, (k0_off94 v97 k0_t4) a + S1x56x2816.size a ≤ S2x56x2816.size a), (Rect.unit (s := S2x56x2816) (k0_off94 v97 k0_t4) S1x56x2816.size hinb).WholeWords (EltTy.packing .bf16)) ∧
  (∀ k0_t4 : Fin (k0_t4_loop v97).trips, ∀ (k0_h5 : k0_cond5 v97 k0_t4 = 1#1), ∀ a, (k0_off95 v97 k0_t4) a + S1.size a ≤ S9.size a) ∧
  (∀ k0_t4 : Fin (k0_t4_loop v97).trips, ∀ (k0_h5 : k0_cond5 v97 k0_t4 = 1#1), ∀ a, (k0_off96 v97 k0_t4) a + S1.size a ≤ S2.size a) ∧
  (∀ k0_t4 : Fin (k0_t4_loop v97).trips, ∀ (k0_h5 : k0_cond5 v97 k0_t4 = 1#1), ∀ a, (k0_off97 v97 k0_t4) a + S1x22x14336.size a ≤ S2x22x14336.size a) ∧
  (∀ k0_t4 : Fin (k0_t4_loop v97).trips, ∀ (k0_h5 : k0_cond5 v97 k0_t4 = 1#1), ∀ (hinb : ∀ a, (k0_off97 v97 k0_t4) a + S1x22x14336.size a ≤ S2x22x14336.size a), (Rect.unit (s := S2x22x14336) (k0_off97 v97 k0_t4) S1x22x14336.size hinb).WholeWords (EltTy.packing .bf16)) ∧
  (∀ (k0_t4 : Fin (k0_t4_loop v97).trips) (k0_t6 : Fin k0_t6_loop.trips), ∀ a, (k0_off118 v97 k0_t4 k0_t6) a + S1x56x256.size a ≤ S2x56x2816.size a)
theorem k0_t1_ok : ∀ (v97 : BitVec 32) (k0_hw2 : k0_chk2 v97), (k0_t1_loop v97).OK := fun v97 k0_hw2 => k0_hw2.1
theorem k0_off17_inb : ∀ (v97 : BitVec 32) (k0_hw2 : k0_chk2 v97) (k0_t1 : Fin (k0_t1_loop v97).trips), ∀ a, (k0_off17 v97 k0_t1) a + S1.size a ≤ S9.size a := fun v97 k0_hw2 k0_t1 => k0_hw2.2.1 k0_t1
theorem k0_off18_inb : ∀ (v97 : BitVec 32) (k0_hw2 : k0_chk2 v97) (k0_t1 : Fin (k0_t1_loop v97).trips), ∀ a, (k0_off18 v97 k0_t1) a + S1.size a ≤ S2.size a := fun v97 k0_hw2 k0_t1 => k0_hw2.2.2.1 k0_t1
theorem k0_off19_inb : ∀ (v97 : BitVec 32) (k0_hw2 : k0_chk2 v97) (k0_t1 : Fin (k0_t1_loop v97).trips), ∀ a, (k0_off19 v97 k0_t1) a + S1x56x2816.size a ≤ S2x56x2816.size a := fun v97 k0_hw2 k0_t1 => k0_hw2.2.2.2.1 k0_t1
theorem k0_off19_wordsbf16 : ∀ (v97 : BitVec 32) (k0_hw2 : k0_chk2 v97) (k0_t1 : Fin (k0_t1_loop v97).trips), (Rect.unit (s := S2x56x2816) (k0_off19 v97 k0_t1) S1x56x2816.size (k0_off19_inb v97 k0_hw2 k0_t1)).WholeWords (EltTy.packing .bf16) := fun v97 k0_hw2 k0_t1 => k0_hw2.2.2.2.2.1 k0_t1 (k0_off19_inb v97 k0_hw2 k0_t1)
theorem k0_off25_inb : ∀ (v97 : BitVec 32) (k0_hw2 : k0_chk2 v97) (k0_t1 : Fin (k0_t1_loop v97).trips), ∀ a, (k0_off25 v97 k0_t1) a + S1.size a ≤ S2.size a := fun v97 k0_hw2 k0_t1 => k0_hw2.2.2.2.2.2.1 k0_t1
theorem k0_off26_inb : ∀ (v97 : BitVec 32) (k0_hw2 : k0_chk2 v97) (k0_t1 : Fin (k0_t1_loop v97).trips), ∀ a, (k0_off26 v97 k0_t1) a + S1x22x14336.size a ≤ S2x22x14336.size a := fun v97 k0_hw2 k0_t1 => k0_hw2.2.2.2.2.2.2.1 k0_t1
theorem k0_off26_wordsbf16 : ∀ (v97 : BitVec 32) (k0_hw2 : k0_chk2 v97) (k0_t1 : Fin (k0_t1_loop v97).trips), (Rect.unit (s := S2x22x14336) (k0_off26 v97 k0_t1) S1x22x14336.size (k0_off26_inb v97 k0_hw2 k0_t1)).WholeWords (EltTy.packing .bf16) := fun v97 k0_hw2 k0_t1 => k0_hw2.2.2.2.2.2.2.2.1 k0_t1 (k0_off26_inb v97 k0_hw2 k0_t1)
theorem k0_off32_inb : ∀ (v97 : BitVec 32) (k0_hw2 : k0_chk2 v97) (k0_t1 : Fin (k0_t1_loop v97).trips) (k0_t2 : Fin k0_t2_loop.trips), ∀ (r : Fin 2), ∀ a, (k0_off32 v97 k0_t1 k0_t2 (BitVec.ofNat 32 (7168 * r.val))) a + S1x22x256.size a ≤ S2x22x14336.size a := fun v97 k0_hw2 k0_t1 k0_t2 r => k0_hw2.2.2.2.2.2.2.2.2.1 k0_t1 k0_t2 r
theorem k0_off41_inb : ∀ (v97 : BitVec 32) (k0_hw2 : k0_chk2 v97) (k0_t1 : Fin (k0_t1_loop v97).trips), ∀ a, (k0_off41 v97 k0_t1) a + S1x56x2816.size a ≤ S2x56x2816.size a := fun v97 k0_hw2 k0_t1 => k0_hw2.2.2.2.2.2.2.2.2.2.1 k0_t1
theorem k0_off41_wordsbf16 : ∀ (v97 : BitVec 32) (k0_hw2 : k0_chk2 v97) (k0_t1 : Fin (k0_t1_loop v97).trips), (Rect.unit (s := S2x56x2816) (k0_off41 v97 k0_t1) S1x56x2816.size (k0_off41_inb v97 k0_hw2 k0_t1)).WholeWords (EltTy.packing .bf16) := fun v97 k0_hw2 k0_t1 => k0_hw2.2.2.2.2.2.2.2.2.2.2.1 k0_t1 (k0_off41_inb v97 k0_hw2 k0_t1)
theorem k0_off42_inb : ∀ (v97 : BitVec 32) (k0_hw2 : k0_chk2 v97) (k0_t1 : Fin (k0_t1_loop v97).trips), ∀ (k0_h2 : k0_cond2 v97 k0_t1 = 1#1), ∀ a, (k0_off42 v97 k0_t1) a + S1.size a ≤ S9.size a := fun v97 k0_hw2 k0_t1 k0_h2 => k0_hw2.2.2.2.2.2.2.2.2.2.2.2.1 k0_t1 k0_h2
theorem k0_off43_inb : ∀ (v97 : BitVec 32) (k0_hw2 : k0_chk2 v97) (k0_t1 : Fin (k0_t1_loop v97).trips), ∀ (k0_h2 : k0_cond2 v97 k0_t1 = 1#1), ∀ a, (k0_off43 v97 k0_t1) a + S1.size a ≤ S2.size a := fun v97 k0_hw2 k0_t1 k0_h2 => k0_hw2.2.2.2.2.2.2.2.2.2.2.2.2.1 k0_t1 k0_h2
theorem k0_off44_inb : ∀ (v97 : BitVec 32) (k0_hw2 : k0_chk2 v97) (k0_t1 : Fin (k0_t1_loop v97).trips), ∀ (k0_h2 : k0_cond2 v97 k0_t1 = 1#1), ∀ a, (k0_off44 v97 k0_t1) a + S1x22x14336.size a ≤ S2x22x14336.size a := fun v97 k0_hw2 k0_t1 k0_h2 => k0_hw2.2.2.2.2.2.2.2.2.2.2.2.2.2.1 k0_t1 k0_h2
theorem k0_off44_wordsbf16 : ∀ (v97 : BitVec 32) (k0_hw2 : k0_chk2 v97) (k0_t1 : Fin (k0_t1_loop v97).trips), ∀ (k0_h2 : k0_cond2 v97 k0_t1 = 1#1), (Rect.unit (s := S2x22x14336) (k0_off44 v97 k0_t1) S1x22x14336.size (k0_off44_inb v97 k0_hw2 k0_t1 k0_h2)).WholeWords (EltTy.packing .bf16) := fun v97 k0_hw2 k0_t1 k0_h2 => k0_hw2.2.2.2.2.2.2.2.2.2.2.2.2.2.2.1 k0_t1 k0_h2 (k0_off44_inb v97 k0_hw2 k0_t1 k0_h2)
theorem k0_off65_inb : ∀ (v97 : BitVec 32) (k0_hw2 : k0_chk2 v97) (k0_t1 : Fin (k0_t1_loop v97).trips) (k0_t3 : Fin k0_t3_loop.trips), ∀ a, (k0_off65 v97 k0_t1 k0_t3) a + S1x56x256.size a ≤ S2x56x2816.size a := fun v97 k0_hw2 k0_t1 k0_t3 => k0_hw2.2.2.2.2.2.2.2.2.2.2.2.2.2.2.2.1 k0_t1 k0_t3
theorem k0_t4_ok : ∀ (v97 : BitVec 32) (k0_hw2 : k0_chk2 v97), (k0_t4_loop v97).OK := fun v97 k0_hw2 => k0_hw2.2.2.2.2.2.2.2.2.2.2.2.2.2.2.2.2.1
theorem k0_off70_inb : ∀ (v97 : BitVec 32) (k0_hw2 : k0_chk2 v97) (k0_t4 : Fin (k0_t4_loop v97).trips), ∀ a, (k0_off70 v97 k0_t4) a + S1.size a ≤ S9.size a := fun v97 k0_hw2 k0_t4 => k0_hw2.2.2.2.2.2.2.2.2.2.2.2.2.2.2.2.2.2.1 k0_t4
theorem k0_off71_inb : ∀ (v97 : BitVec 32) (k0_hw2 : k0_chk2 v97) (k0_t4 : Fin (k0_t4_loop v97).trips), ∀ a, (k0_off71 v97 k0_t4) a + S1.size a ≤ S2.size a := fun v97 k0_hw2 k0_t4 => k0_hw2.2.2.2.2.2.2.2.2.2.2.2.2.2.2.2.2.2.2.1 k0_t4
theorem k0_off72_inb : ∀ (v97 : BitVec 32) (k0_hw2 : k0_chk2 v97) (k0_t4 : Fin (k0_t4_loop v97).trips), ∀ a, (k0_off72 v97 k0_t4) a + S1x56x2816.size a ≤ S2x56x2816.size a := fun v97 k0_hw2 k0_t4 => k0_hw2.2.2.2.2.2.2.2.2.2.2.2.2.2.2.2.2.2.2.2.1 k0_t4
theorem k0_off72_wordsbf16 : ∀ (v97 : BitVec 32) (k0_hw2 : k0_chk2 v97) (k0_t4 : Fin (k0_t4_loop v97).trips), (Rect.unit (s := S2x56x2816) (k0_off72 v97 k0_t4) S1x56x2816.size (k0_off72_inb v97 k0_hw2 k0_t4)).WholeWords (EltTy.packing .bf16) := fun v97 k0_hw2 k0_t4 => k0_hw2.2.2.2.2.2.2.2.2.2.2.2.2.2.2.2.2.2.2.2.2.1 k0_t4 (k0_off72_inb v97 k0_hw2 k0_t4)
theorem k0_off78_inb : ∀ (v97 : BitVec 32) (k0_hw2 : k0_chk2 v97) (k0_t4 : Fin (k0_t4_loop v97).trips), ∀ a, (k0_off78 v97 k0_t4) a + S1.size a ≤ S2.size a := fun v97 k0_hw2 k0_t4 => k0_hw2.2.2.2.2.2.2.2.2.2.2.2.2.2.2.2.2.2.2.2.2.2.1 k0_t4
theorem k0_off79_inb : ∀ (v97 : BitVec 32) (k0_hw2 : k0_chk2 v97) (k0_t4 : Fin (k0_t4_loop v97).trips), ∀ a, (k0_off79 v97 k0_t4) a + S1x22x14336.size a ≤ S2x22x14336.size a := fun v97 k0_hw2 k0_t4 => k0_hw2.2.2.2.2.2.2.2.2.2.2.2.2.2.2.2.2.2.2.2.2.2.2.1 k0_t4
theorem k0_off79_wordsbf16 : ∀ (v97 : BitVec 32) (k0_hw2 : k0_chk2 v97) (k0_t4 : Fin (k0_t4_loop v97).trips), (Rect.unit (s := S2x22x14336) (k0_off79 v97 k0_t4) S1x22x14336.size (k0_off79_inb v97 k0_hw2 k0_t4)).WholeWords (EltTy.packing .bf16) := fun v97 k0_hw2 k0_t4 => k0_hw2.2.2.2.2.2.2.2.2.2.2.2.2.2.2.2.2.2.2.2.2.2.2.2.1 k0_t4 (k0_off79_inb v97 k0_hw2 k0_t4)
theorem k0_off85_inb : ∀ (v97 : BitVec 32) (k0_hw2 : k0_chk2 v97) (k0_t4 : Fin (k0_t4_loop v97).trips) (k0_t5 : Fin k0_t5_loop.trips), ∀ (r : Fin 2), ∀ a, (k0_off85 v97 k0_t4 k0_t5 (BitVec.ofNat 32 (7168 * r.val))) a + S1x22x256.size a ≤ S2x22x14336.size a := fun v97 k0_hw2 k0_t4 k0_t5 r => k0_hw2.2.2.2.2.2.2.2.2.2.2.2.2.2.2.2.2.2.2.2.2.2.2.2.2.1 k0_t4 k0_t5 r
theorem k0_off94_inb : ∀ (v97 : BitVec 32) (k0_hw2 : k0_chk2 v97) (k0_t4 : Fin (k0_t4_loop v97).trips), ∀ a, (k0_off94 v97 k0_t4) a + S1x56x2816.size a ≤ S2x56x2816.size a := fun v97 k0_hw2 k0_t4 => k0_hw2.2.2.2.2.2.2.2.2.2.2.2.2.2.2.2.2.2.2.2.2.2.2.2.2.2.1 k0_t4
theorem k0_off94_wordsbf16 : ∀ (v97 : BitVec 32) (k0_hw2 : k0_chk2 v97) (k0_t4 : Fin (k0_t4_loop v97).trips), (Rect.unit (s := S2x56x2816) (k0_off94 v97 k0_t4) S1x56x2816.size (k0_off94_inb v97 k0_hw2 k0_t4)).WholeWords (EltTy.packing .bf16) := fun v97 k0_hw2 k0_t4 => k0_hw2.2.2.2.2.2.2.2.2.2.2.2.2.2.2.2.2.2.2.2.2.2.2.2.2.2.2.1 k0_t4 (k0_off94_inb v97 k0_hw2 k0_t4)
theorem k0_off95_inb : ∀ (v97 : BitVec 32) (k0_hw2 : k0_chk2 v97) (k0_t4 : Fin (k0_t4_loop v97).trips), ∀ (k0_h5 : k0_cond5 v97 k0_t4 = 1#1), ∀ a, (k0_off95 v97 k0_t4) a + S1.size a ≤ S9.size a := fun v97 k0_hw2 k0_t4 k0_h5 => k0_hw2.2.2.2.2.2.2.2.2.2.2.2.2.2.2.2.2.2.2.2.2.2.2.2.2.2.2.2.1 k0_t4 k0_h5
theorem k0_off96_inb : ∀ (v97 : BitVec 32) (k0_hw2 : k0_chk2 v97) (k0_t4 : Fin (k0_t4_loop v97).trips), ∀ (k0_h5 : k0_cond5 v97 k0_t4 = 1#1), ∀ a, (k0_off96 v97 k0_t4) a + S1.size a ≤ S2.size a := fun v97 k0_hw2 k0_t4 k0_h5 => k0_hw2.2.2.2.2.2.2.2.2.2.2.2.2.2.2.2.2.2.2.2.2.2.2.2.2.2.2.2.2.1 k0_t4 k0_h5
theorem k0_off97_inb : ∀ (v97 : BitVec 32) (k0_hw2 : k0_chk2 v97) (k0_t4 : Fin (k0_t4_loop v97).trips), ∀ (k0_h5 : k0_cond5 v97 k0_t4 = 1#1), ∀ a, (k0_off97 v97 k0_t4) a + S1x22x14336.size a ≤ S2x22x14336.size a := fun v97 k0_hw2 k0_t4 k0_h5 => k0_hw2.2.2.2.2.2.2.2.2.2.2.2.2.2.2.2.2.2.2.2.2.2.2.2.2.2.2.2.2.2.1 k0_t4 k0_h5
theorem k0_off97_wordsbf16 : ∀ (v97 : BitVec 32) (k0_hw2 : k0_chk2 v97) (k0_t4 : Fin (k0_t4_loop v97).trips), ∀ (k0_h5 : k0_cond5 v97 k0_t4 = 1#1), (Rect.unit (s := S2x22x14336) (k0_off97 v97 k0_t4) S1x22x14336.size (k0_off97_inb v97 k0_hw2 k0_t4 k0_h5)).WholeWords (EltTy.packing .bf16) := fun v97 k0_hw2 k0_t4 k0_h5 => k0_hw2.2.2.2.2.2.2.2.2.2.2.2.2.2.2.2.2.2.2.2.2.2.2.2.2.2.2.2.2.2.2.1 k0_t4 k0_h5 (k0_off97_inb v97 k0_hw2 k0_t4 k0_h5)
theorem k0_off118_inb : ∀ (v97 : BitVec 32) (k0_hw2 : k0_chk2 v97) (k0_t4 : Fin (k0_t4_loop v97).trips) (k0_t6 : Fin k0_t6_loop.trips), ∀ a, (k0_off118 v97 k0_t4 k0_t6) a + S1x56x256.size a ≤ S2x56x2816.size a := fun v97 k0_hw2 k0_t4 k0_t6 => k0_hw2.2.2.2.2.2.2.2.2.2.2.2.2.2.2.2.2.2.2.2.2.2.2.2.2.2.2.2.2.2.2.2 k0_t4 k0_t6

def k0_off119 (v114 : BitVec 32) (k0_t6 : Fin k0_t6_loop.trips) : Fin 2 → Nat :=
  let v115 : BitVec 32 := v114
  let v432 : Index := Scalar.indexCast v115
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c256_i32_125 : BitVec 32 := 256#32
  let v180 : BitVec 32 := Scalar.muli v170 c256_i32_125
  let v181 : BitVec 32 := v180
  let v433 : Index := Scalar.indexCast v181
  ![v432.toNat, v433.toNat]

def k0_chk6 (v114 : BitVec 32) : Prop :=
  (16 ∣ (k0_mult40 v114).toNat) ∧
  (∀ a, (k0_off86 v114) a + S256x2816.size a ≤ S896x2816.size a) ∧
  (∀ k0_t6 : Fin k0_t6_loop.trips, ∀ a, (k0_off119 v114 k0_t6) a + S256x256.size a ≤ S896x2816.size a)
theorem k0_mult40_dvd : ∀ (v114 : BitVec 32) (k0_hw6 : k0_chk6 v114), 16 ∣ (k0_mult40 v114).toNat := fun v114 k0_hw6 => k0_hw6.1
theorem k0_off86_inb : ∀ (v114 : BitVec 32) (k0_hw6 : k0_chk6 v114), ∀ a, (k0_off86 v114) a + S256x2816.size a ≤ S896x2816.size a := fun v114 k0_hw6 => k0_hw6.2.1
theorem k0_off119_inb : ∀ (v114 : BitVec 32) (k0_hw6 : k0_chk6 v114) (k0_t6 : Fin k0_t6_loop.trips), ∀ a, (k0_off119 v114 k0_t6) a + S256x256.size a ≤ S896x2816.size a := fun v114 k0_hw6 k0_t6 => k0_hw6.2.2 k0_t6

def k0_cond6 (k0_t6 : Fin k0_t6_loop.trips) : BitVec 1 :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_135 : BitVec 32 := 4#32
  let v435 : BitVec 32 := Scalar.addi v170 c4_i32_135
  let c11_i32_136 : BitVec 32 := 11#32
  let v436 : BitVec 1 := Scalar.cmpi .slt v435 c11_i32_136
  let v437 : BitVec 32 := Scalar.extui v436
  let c0_i32_137 : BitVec 32 := 0#32
  let v438 : BitVec 1 := Scalar.cmpi .ne v437 c0_i32_137
  v438

def k0_mult66 (k0_t6 : Fin k0_t6_loop.trips) : BitVec 32 :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_138 : BitVec 32 := 4#32
  let v439 : BitVec 32 := Scalar.addi v170 c4_i32_138
  let c256_i32_139 : BitVec 32 := 256#32
  let v440 : BitVec 32 := Scalar.muli v439 c256_i32_139
  v440
def k0_off120 (k0_t6 : Fin k0_t6_loop.trips) : Fin 1 → Nat :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  ![v171.toNat]
def k0_off121 (k0_t6 : Fin k0_t6_loop.trips) : Fin 3 → Nat :=
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_120 : BitVec 32 := 4#32
  let v171 : BitVec 32 := Scalar.remsi v170 c4_i32_120
  let c0_i32_140 : BitVec 32 := 0#32
  let c0_i32_141 : BitVec 32 := 0#32
  ![v171.toNat, 0, 0]
def k0_off122 (v112 : BitVec 32) (k0_t6 : Fin k0_t6_loop.trips) : Fin 3 → Nat :=
  let c0_i32_142 : BitVec 32 := 0#32
  let c0_i32_119 : BitVec 32 := 0#32
  let c0_i32_115 : BitVec 32 := 0#32
  let c1_i32_116 : BitVec 32 := 1#32
  let arg19 : BitVec 32 := Scf.iv c0_i32_115 c1_i32_116 k0_t6
  let c1_i32_118 : BitVec 32 := 1#32
  let v169 : BitVec 32 := Scalar.muli arg19 c1_i32_118
  let v170 : BitVec 32 := Scalar.addi c0_i32_119 v169
  let c4_i32_138 : BitVec 32 := 4#32
  let v439 : BitVec 32 := Scalar.addi v170 c4_i32_138
  let c256_i32_139 : BitVec 32 := 256#32
  let v440 : BitVec 32 := Scalar.muli v439 c256_i32_139
  let v441 : BitVec 32 := v440
  ![v112.toNat, 0, v441.toNat]

def k0_chk7 (v112 : BitVec 32) : Prop :=
  (∀ a, (k0_off73 v112) a + S1x56x2816.size a ≤ S8x56x2816.size a) ∧
  (∀ (hinb : ∀ a, (k0_off73 v112) a + S1x56x2816.size a ≤ S8x56x2816.size a), (Rect.unit (s := S8x56x2816) (k0_off73 v112) S1x56x2816.size hinb).WholeWords (EltTy.packing .bf16)) ∧
  (∀ a, (k0_off74 v112) a + S1x3584x256.size a ≤ S8x3584x2816.size a) ∧
  (∀ (hinb : ∀ a, (k0_off74 v112) a + S1x3584x256.size a ≤ S8x3584x2816.size a), (Rect.unit (s := S8x3584x2816) (k0_off74 v112) S1x3584x256.size hinb).WholeWords (EltTy.packing .i8)) ∧
  (∀ a, (k0_off75 v112) a + S1x3584x256.size a ≤ S8x3584x2816.size a) ∧
  (∀ (hinb : ∀ a, (k0_off75 v112) a + S1x3584x256.size a ≤ S8x3584x2816.size a), (Rect.unit (s := S8x3584x2816) (k0_off75 v112) S1x3584x256.size hinb).WholeWords (EltTy.packing .i8)) ∧
  (∀ a, (k0_off76 v112) a + S1x3584x256.size a ≤ S8x3584x2816.size a) ∧
  (∀ (hinb : ∀ a, (k0_off76 v112) a + S1x3584x256.size a ≤ S8x3584x2816.size a), (Rect.unit (s := S8x3584x2816) (k0_off76 v112) S1x3584x256.size hinb).WholeWords (EltTy.packing .i8)) ∧
  (∀ a, (k0_off77 v112) a + S1x3584x256.size a ≤ S8x3584x2816.size a) ∧
  (∀ (hinb : ∀ a, (k0_off77 v112) a + S1x3584x256.size a ≤ S8x3584x2816.size a), (Rect.unit (s := S8x3584x2816) (k0_off77 v112) S1x3584x256.size hinb).WholeWords (EltTy.packing .i8)) ∧
  (∀ a, (k0_off80 v112) a + S1x22x14336.size a ≤ S8x22x14336.size a) ∧
  (∀ (hinb : ∀ a, (k0_off80 v112) a + S1x22x14336.size a ≤ S8x22x14336.size a), (Rect.unit (s := S8x22x14336) (k0_off80 v112) S1x22x14336.size hinb).WholeWords (EltTy.packing .bf16)) ∧
  (∀ k0_t5 : Fin k0_t5_loop.trips, ∀ (r : Fin 2), ∀ a, (k0_off83 v112 k0_t5 (BitVec.ofNat 32 (7168 * r.val))) a + S1x1408x256.size a ≤ S8x1408x14336.size a) ∧
  (∀ k0_t5 : Fin k0_t5_loop.trips, ∀ (r : Fin 2), ∀ (hinb : ∀ a, (k0_off83 v112 k0_t5 (BitVec.ofNat 32 (7168 * r.val))) a + S1x1408x256.size a ≤ S8x1408x14336.size a), (Rect.unit (s := S8x1408x14336) (k0_off83 v112 k0_t5 (BitVec.ofNat 32 (7168 * r.val))) S1x1408x256.size hinb).WholeWords (EltTy.packing .i8)) ∧
  (∀ k0_t5 : Fin k0_t5_loop.trips, ∀ (k0_h4 : k0_cond4 k0_t5 = 1#1), ∀ (r : Fin 2), ∀ a, (k0_off92 v112 k0_t5 (BitVec.ofNat 32 (7168 * r.val))) a + S1x1408x256.size a ≤ S8x1408x14336.size a) ∧
  (∀ k0_t5 : Fin k0_t5_loop.trips, ∀ (k0_h4 : k0_cond4 k0_t5 = 1#1), ∀ (r : Fin 2), ∀ (hinb : ∀ a, (k0_off92 v112 k0_t5 (BitVec.ofNat 32 (7168 * r.val))) a + S1x1408x256.size a ≤ S8x1408x14336.size a), (Rect.unit (s := S8x1408x14336) (k0_off92 v112 k0_t5 (BitVec.ofNat 32 (7168 * r.val))) S1x1408x256.size hinb).WholeWords (EltTy.packing .i8)) ∧
  (∀ k0_t6 : Fin k0_t6_loop.trips, ∀ a, (k0_off116 v112 k0_t6) a + S1x3584x256.size a ≤ S8x3584x2816.size a) ∧
  (∀ k0_t6 : Fin k0_t6_loop.trips, ∀ (hinb : ∀ a, (k0_off116 v112 k0_t6) a + S1x3584x256.size a ≤ S8x3584x2816.size a), (Rect.unit (s := S8x3584x2816) (k0_off116 v112 k0_t6) S1x3584x256.size hinb).WholeWords (EltTy.packing .i8)) ∧
  (∀ k0_t6 : Fin k0_t6_loop.trips, ∀ (k0_h6 : k0_cond6 k0_t6 = 1#1), ∀ a, (k0_off122 v112 k0_t6) a + S1x3584x256.size a ≤ S8x3584x2816.size a) ∧
  (∀ k0_t6 : Fin k0_t6_loop.trips, ∀ (k0_h6 : k0_cond6 k0_t6 = 1#1), ∀ (hinb : ∀ a, (k0_off122 v112 k0_t6) a + S1x3584x256.size a ≤ S8x3584x2816.size a), (Rect.unit (s := S8x3584x2816) (k0_off122 v112 k0_t6) S1x3584x256.size hinb).WholeWords (EltTy.packing .i8))
theorem k0_off73_inb : ∀ (v112 : BitVec 32) (k0_hw7 : k0_chk7 v112), ∀ a, (k0_off73 v112) a + S1x56x2816.size a ≤ S8x56x2816.size a := fun v112 k0_hw7 => k0_hw7.1
theorem k0_off73_wordsbf16 : ∀ (v112 : BitVec 32) (k0_hw7 : k0_chk7 v112), (Rect.unit (s := S8x56x2816) (k0_off73 v112) S1x56x2816.size (k0_off73_inb v112 k0_hw7)).WholeWords (EltTy.packing .bf16) := fun v112 k0_hw7 => k0_hw7.2.1 (k0_off73_inb v112 k0_hw7)
theorem k0_off74_inb : ∀ (v112 : BitVec 32) (k0_hw7 : k0_chk7 v112), ∀ a, (k0_off74 v112) a + S1x3584x256.size a ≤ S8x3584x2816.size a := fun v112 k0_hw7 => k0_hw7.2.2.1
theorem k0_off74_wordsi8 : ∀ (v112 : BitVec 32) (k0_hw7 : k0_chk7 v112), (Rect.unit (s := S8x3584x2816) (k0_off74 v112) S1x3584x256.size (k0_off74_inb v112 k0_hw7)).WholeWords (EltTy.packing .i8) := fun v112 k0_hw7 => k0_hw7.2.2.2.1 (k0_off74_inb v112 k0_hw7)
theorem k0_off75_inb : ∀ (v112 : BitVec 32) (k0_hw7 : k0_chk7 v112), ∀ a, (k0_off75 v112) a + S1x3584x256.size a ≤ S8x3584x2816.size a := fun v112 k0_hw7 => k0_hw7.2.2.2.2.1
theorem k0_off75_wordsi8 : ∀ (v112 : BitVec 32) (k0_hw7 : k0_chk7 v112), (Rect.unit (s := S8x3584x2816) (k0_off75 v112) S1x3584x256.size (k0_off75_inb v112 k0_hw7)).WholeWords (EltTy.packing .i8) := fun v112 k0_hw7 => k0_hw7.2.2.2.2.2.1 (k0_off75_inb v112 k0_hw7)
theorem k0_off76_inb : ∀ (v112 : BitVec 32) (k0_hw7 : k0_chk7 v112), ∀ a, (k0_off76 v112) a + S1x3584x256.size a ≤ S8x3584x2816.size a := fun v112 k0_hw7 => k0_hw7.2.2.2.2.2.2.1
theorem k0_off76_wordsi8 : ∀ (v112 : BitVec 32) (k0_hw7 : k0_chk7 v112), (Rect.unit (s := S8x3584x2816) (k0_off76 v112) S1x3584x256.size (k0_off76_inb v112 k0_hw7)).WholeWords (EltTy.packing .i8) := fun v112 k0_hw7 => k0_hw7.2.2.2.2.2.2.2.1 (k0_off76_inb v112 k0_hw7)
theorem k0_off77_inb : ∀ (v112 : BitVec 32) (k0_hw7 : k0_chk7 v112), ∀ a, (k0_off77 v112) a + S1x3584x256.size a ≤ S8x3584x2816.size a := fun v112 k0_hw7 => k0_hw7.2.2.2.2.2.2.2.2.1
theorem k0_off77_wordsi8 : ∀ (v112 : BitVec 32) (k0_hw7 : k0_chk7 v112), (Rect.unit (s := S8x3584x2816) (k0_off77 v112) S1x3584x256.size (k0_off77_inb v112 k0_hw7)).WholeWords (EltTy.packing .i8) := fun v112 k0_hw7 => k0_hw7.2.2.2.2.2.2.2.2.2.1 (k0_off77_inb v112 k0_hw7)
theorem k0_off80_inb : ∀ (v112 : BitVec 32) (k0_hw7 : k0_chk7 v112), ∀ a, (k0_off80 v112) a + S1x22x14336.size a ≤ S8x22x14336.size a := fun v112 k0_hw7 => k0_hw7.2.2.2.2.2.2.2.2.2.2.1
theorem k0_off80_wordsbf16 : ∀ (v112 : BitVec 32) (k0_hw7 : k0_chk7 v112), (Rect.unit (s := S8x22x14336) (k0_off80 v112) S1x22x14336.size (k0_off80_inb v112 k0_hw7)).WholeWords (EltTy.packing .bf16) := fun v112 k0_hw7 => k0_hw7.2.2.2.2.2.2.2.2.2.2.2.1 (k0_off80_inb v112 k0_hw7)
theorem k0_off83_inb : ∀ (v112 : BitVec 32) (k0_hw7 : k0_chk7 v112) (k0_t5 : Fin k0_t5_loop.trips), ∀ (r : Fin 2), ∀ a, (k0_off83 v112 k0_t5 (BitVec.ofNat 32 (7168 * r.val))) a + S1x1408x256.size a ≤ S8x1408x14336.size a := fun v112 k0_hw7 k0_t5 r => k0_hw7.2.2.2.2.2.2.2.2.2.2.2.2.1 k0_t5 r
theorem k0_off83_wordsi8 : ∀ (v112 : BitVec 32) (k0_hw7 : k0_chk7 v112) (k0_t5 : Fin k0_t5_loop.trips), ∀ (r : Fin 2), (Rect.unit (s := S8x1408x14336) (k0_off83 v112 k0_t5 (BitVec.ofNat 32 (7168 * r.val))) S1x1408x256.size (k0_off83_inb v112 k0_hw7 k0_t5 r)).WholeWords (EltTy.packing .i8) := fun v112 k0_hw7 k0_t5 r => k0_hw7.2.2.2.2.2.2.2.2.2.2.2.2.2.1 k0_t5 r (k0_off83_inb v112 k0_hw7 k0_t5 r)
theorem k0_off92_inb : ∀ (v112 : BitVec 32) (k0_hw7 : k0_chk7 v112) (k0_t5 : Fin k0_t5_loop.trips), ∀ (k0_h4 : k0_cond4 k0_t5 = 1#1), ∀ (r : Fin 2), ∀ a, (k0_off92 v112 k0_t5 (BitVec.ofNat 32 (7168 * r.val))) a + S1x1408x256.size a ≤ S8x1408x14336.size a := fun v112 k0_hw7 k0_t5 k0_h4 r => k0_hw7.2.2.2.2.2.2.2.2.2.2.2.2.2.2.1 k0_t5 k0_h4 r
theorem k0_off92_wordsi8 : ∀ (v112 : BitVec 32) (k0_hw7 : k0_chk7 v112) (k0_t5 : Fin k0_t5_loop.trips), ∀ (k0_h4 : k0_cond4 k0_t5 = 1#1), ∀ (r : Fin 2), (Rect.unit (s := S8x1408x14336) (k0_off92 v112 k0_t5 (BitVec.ofNat 32 (7168 * r.val))) S1x1408x256.size (k0_off92_inb v112 k0_hw7 k0_t5 k0_h4 r)).WholeWords (EltTy.packing .i8) := fun v112 k0_hw7 k0_t5 k0_h4 r => k0_hw7.2.2.2.2.2.2.2.2.2.2.2.2.2.2.2.1 k0_t5 k0_h4 r (k0_off92_inb v112 k0_hw7 k0_t5 k0_h4 r)
theorem k0_off116_inb : ∀ (v112 : BitVec 32) (k0_hw7 : k0_chk7 v112) (k0_t6 : Fin k0_t6_loop.trips), ∀ a, (k0_off116 v112 k0_t6) a + S1x3584x256.size a ≤ S8x3584x2816.size a := fun v112 k0_hw7 k0_t6 => k0_hw7.2.2.2.2.2.2.2.2.2.2.2.2.2.2.2.2.1 k0_t6
theorem k0_off116_wordsi8 : ∀ (v112 : BitVec 32) (k0_hw7 : k0_chk7 v112) (k0_t6 : Fin k0_t6_loop.trips), (Rect.unit (s := S8x3584x2816) (k0_off116 v112 k0_t6) S1x3584x256.size (k0_off116_inb v112 k0_hw7 k0_t6)).WholeWords (EltTy.packing .i8) := fun v112 k0_hw7 k0_t6 => k0_hw7.2.2.2.2.2.2.2.2.2.2.2.2.2.2.2.2.2.1 k0_t6 (k0_off116_inb v112 k0_hw7 k0_t6)
theorem k0_off122_inb : ∀ (v112 : BitVec 32) (k0_hw7 : k0_chk7 v112) (k0_t6 : Fin k0_t6_loop.trips), ∀ (k0_h6 : k0_cond6 k0_t6 = 1#1), ∀ a, (k0_off122 v112 k0_t6) a + S1x3584x256.size a ≤ S8x3584x2816.size a := fun v112 k0_hw7 k0_t6 k0_h6 => k0_hw7.2.2.2.2.2.2.2.2.2.2.2.2.2.2.2.2.2.2.1 k0_t6 k0_h6
theorem k0_off122_wordsi8 : ∀ (v112 : BitVec 32) (k0_hw7 : k0_chk7 v112) (k0_t6 : Fin k0_t6_loop.trips), ∀ (k0_h6 : k0_cond6 k0_t6 = 1#1), (Rect.unit (s := S8x3584x2816) (k0_off122 v112 k0_t6) S1x3584x256.size (k0_off122_inb v112 k0_hw7 k0_t6 k0_h6)).WholeWords (EltTy.packing .i8) := fun v112 k0_hw7 k0_t6 k0_h6 => k0_hw7.2.2.2.2.2.2.2.2.2.2.2.2.2.2.2.2.2.2.2 k0_t6 k0_h6 (k0_off122_inb v112 k0_hw7 k0_t6 k0_h6)

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S9 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S896x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S896x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S896x2816 : Shape := ⟨2, ![896, 2816]⟩
abbrev S9 : Shape := ⟨1, ![9]⟩
abbrev S1 : Shape := ⟨1, ![1]⟩
abbrev S8x1408x14336 : Shape := ⟨3, ![8, 1408, 14336]⟩
abbrev S8x22x14336 : Shape := ⟨3, ![8, 22, 14336]⟩
abbrev S8x3584x2816 : Shape := ⟨3, ![8, 3584, 2816]⟩
abbrev S8x56x2816 : Shape := ⟨3, ![8, 56, 2816]⟩
abbrev S_ : Shape := ⟨0, ![]⟩
abbrev S256x2816 : Shape := ⟨2, ![256, 2816]⟩
abbrev S1x1408x14336 : Shape := ⟨3, ![1, 1408, 14336]⟩
abbrev S1408x14336 : Shape := ⟨2, ![1408, 14336]⟩
abbrev S1x22x14336 : Shape := ⟨3, ![1, 22, 14336]⟩
abbrev S22x14336 : Shape := ⟨2, ![22, 14336]⟩
abbrev S22x64x14336 : Shape := ⟨3, ![22, 64, 14336]⟩
abbrev S22x1x14336 : Shape := ⟨3, ![22, 1, 14336]⟩
abbrev S256x1408 : Shape := ⟨2, ![256, 1408]⟩
abbrev S256x14336 : Shape := ⟨2, ![256, 14336]⟩
abbrev S256x7168 : Shape := ⟨2, ![256, 7168]⟩
abbrev S1x3584x2816 : Shape := ⟨3, ![1, 3584, 2816]⟩
abbrev S3584x2816 : Shape := ⟨2, ![3584, 2816]⟩
abbrev S1x56x2816 : Shape := ⟨3, ![1, 56, 2816]⟩
abbrev S56x2816 : Shape := ⟨2, ![56, 2816]⟩
abbrev S56x64x2816 : Shape := ⟨3, ![56, 64, 2816]⟩
abbrev S56x1x2816 : Shape := ⟨3, ![56, 1, 2816]⟩
abbrev S256x3584 : Shape := ⟨2, ![256, 3584]⟩

abbrev nBuf : Space → Nat
  | .hbm => 122
  | .vmem => 0
  | .smem => 0
  | _ => 0

abbrev bufTy : (tb : Table) → Fin (tcTables nBuf tb) → BufTy
  | .hbm, ⟨0, _⟩ => ⟨S896x2816, .bf16⟩
  | .hbm, ⟨1, _⟩ => ⟨S9, .i32⟩
  | .hbm, ⟨2, _⟩ => ⟨S9, .i32⟩
  | .hbm, ⟨3, _⟩ => ⟨S1, .i32⟩
  | .hbm, ⟨4, _⟩ => ⟨S8x1408x14336, .i8⟩
  | .hbm, ⟨5, _⟩ => ⟨S8x22x14336, .bf16⟩
  | .hbm, ⟨6, _⟩ => ⟨S8x3584x2816, .i8⟩
  | .hbm, ⟨7, _⟩ => ⟨S8x56x2816, .bf16⟩
  | .hbm, ⟨8, _⟩ => ⟨S_, .i32⟩
  | .hbm, ⟨9, _⟩ => ⟨S_, .f32⟩
  | .hbm, ⟨10, _⟩ => ⟨S896x2816, .f32⟩
  | .hbm, ⟨11, _⟩ => ⟨S_, .i32⟩
  | .hbm, ⟨12, _⟩ => ⟨S9, .i32⟩
  | .hbm, ⟨13, _⟩ => ⟨S9, .i32⟩
  | .hbm, ⟨14, _⟩ => ⟨S896x2816, .bf16⟩
  | .hbm, ⟨15, _⟩ => ⟨S8x1408x14336, .i8⟩
  | .hbm, ⟨16, _⟩ => ⟨S8x22x14336, .bf16⟩
  | .hbm, ⟨17, _⟩ => ⟨S8x3584x2816, .i8⟩
  | .hbm, ⟨18, _⟩ => ⟨S8x56x2816, .bf16⟩
  | .hbm, ⟨19, _⟩ => ⟨S_, .i32⟩
  | .hbm, ⟨20, _⟩ => ⟨S_, .i32⟩
  | .hbm, ⟨21, _⟩ => ⟨S896x2816, .f32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S_, .i32⟩
  | .hbm, ⟨30, _⟩ => ⟨S256x2816, .bf16⟩
  | .hbm, ⟨31, _⟩ => ⟨S_, .i32⟩
  | .hbm, ⟨32, _⟩ => ⟨S_, .i32⟩
  | .hbm, ⟨33, _⟩ => ⟨S1x1408x14336, .i8⟩
  | .hbm, ⟨34, _⟩ => ⟨S1408x14336, .i8⟩
  | .hbm, ⟨35, _⟩ => ⟨S_, .i32⟩
  | .hbm, ⟨36, _⟩ => ⟨S_, .i32⟩
  | .hbm, ⟨37, _⟩ => ⟨S1x22x14336, .bf16⟩
  | .hbm, ⟨38, _⟩ => ⟨S22x14336, .bf16⟩
  | .hbm, ⟨39, _⟩ => ⟨S1408x14336, .i32⟩
  | .hbm, ⟨40, _⟩ => ⟨S_, .i32⟩
  | .hbm, ⟨41, _⟩ => ⟨S1408x14336, .i32⟩
  | .hbm, ⟨42, _⟩ => ⟨S1408x14336, .i32⟩
  | .hbm, ⟨43, _⟩ => ⟨S_, .i32⟩
  | .hbm, ⟨44, _⟩ => ⟨S1408x14336, .i32⟩
  | .hbm, ⟨45, _⟩ => ⟨S1408x14336, .i32⟩
  | .hbm, ⟨46, _⟩ => ⟨S1408x14336, .bf16⟩
  | .hbm, ⟨47, _⟩ => ⟨S_, .bf16⟩
  | .hbm, ⟨48, _⟩ => ⟨S1408x14336, .bf16⟩
  | .hbm, ⟨49, _⟩ => ⟨S1408x14336, .bf16⟩
  | .hbm, ⟨50, _⟩ => ⟨S22x64x14336, .bf16⟩
  | .hbm, ⟨51, _⟩ => ⟨S22x1x14336, .bf16⟩
  | .hbm, ⟨52, _⟩ => ⟨S22x64x14336, .bf16⟩
  | .hbm, ⟨53, _⟩ => ⟨S22x64x14336, .bf16⟩
  | .hbm, ⟨54, _⟩ => ⟨S1408x14336, .bf16⟩
  | .hbm, ⟨55, _⟩ => ⟨S1408x14336, .bf16⟩
  | .hbm, ⟨56, _⟩ => ⟨S_, .bf16⟩
  | .hbm, ⟨57, _⟩ => ⟨S1408x14336, .bf16⟩
  | .hbm, ⟨58, _⟩ => ⟨S1408x14336, .bf16⟩
  | .hbm, ⟨59, _⟩ => ⟨S22x64x14336, .bf16⟩
  | .hbm, ⟨60, _⟩ => ⟨S22x1x14336, .bf16⟩
  | .hbm, ⟨61, _⟩ => ⟨S22x64x14336, .bf16⟩
  | .hbm, ⟨62, _⟩ => ⟨S22x64x14336, .bf16⟩
  | .hbm, ⟨63, _⟩ => ⟨S1408x14336, .bf16⟩
  | .hbm, ⟨64, _⟩ => ⟨S256x1408, .bf16⟩
  | .hbm, ⟨65, _⟩ => ⟨S256x14336, .f32⟩
  | .hbm, ⟨66, _⟩ => ⟨S256x1408, .bf16⟩
  | .hbm, ⟨67, _⟩ => ⟨S256x14336, .f32⟩
  | .hbm, ⟨68, _⟩ => ⟨S256x14336, .f32⟩
  | .hbm, ⟨69, _⟩ => ⟨S256x7168, .f32⟩
  | .hbm, ⟨70, _⟩ => ⟨S256x7168, .f32⟩
  | .hbm, ⟨71, _⟩ => ⟨S256x7168, .f32⟩
  | .hbm, ⟨72, _⟩ => ⟨S256x7168, .f32⟩
  | .hbm, ⟨73, _⟩ => ⟨S_, .f32⟩
  | .hbm, ⟨74, _⟩ => ⟨S256x7168, .f32⟩
  | .hbm, ⟨75, _⟩ => ⟨S256x7168, .f32⟩
  | .hbm, ⟨76, _⟩ => ⟨S_, .f32⟩
  | .hbm, ⟨77, _⟩ => ⟨S256x7168, .f32⟩
  | .hbm, ⟨78, _⟩ => ⟨S256x7168, .f32⟩
  | .hbm, ⟨79, _⟩ => ⟨S256x7168, .f32⟩
  | .hbm, ⟨80, _⟩ => ⟨S256x7168, .f32⟩
  | .hbm, ⟨81, _⟩ => ⟨S256x7168, .bf16⟩
  | .hbm, ⟨82, _⟩ => ⟨S_, .i32⟩
  | .hbm, ⟨83, _⟩ => ⟨S_, .i32⟩
  | .hbm, ⟨84, _⟩ => ⟨S1x3584x2816, .i8⟩
  | .hbm, ⟨85, _⟩ => ⟨S3584x2816, .i8⟩
  | .hbm, ⟨86, _⟩ => ⟨S_, .i32⟩
  | .hbm, ⟨87, _⟩ => ⟨S_, .i32⟩
  | .hbm, ⟨88, _⟩ => ⟨S1x56x2816, .bf16⟩
  | .hbm, ⟨89, _⟩ => ⟨S56x2816, .bf16⟩
  | .hbm, ⟨90, _⟩ => ⟨S3584x2816, .i32⟩
  | .hbm, ⟨91, _⟩ => ⟨S_, .i32⟩
  | .hbm, ⟨92, _⟩ => ⟨S3584x2816, .i32⟩
  | .hbm, ⟨93, _⟩ => ⟨S3584x2816, .i32⟩
  | .hbm, ⟨94, _⟩ => ⟨S_, .i32⟩
  | .hbm, ⟨95, _⟩ => ⟨S3584x2816, .i32⟩
  | .hbm, ⟨96, _⟩ => ⟨S3584x2816, .i32⟩
  | .hbm, ⟨97, _⟩ => ⟨S3584x2816, .bf16⟩
  | .hbm, ⟨98, _⟩ => ⟨S_, .bf16⟩
  | .hbm, ⟨99, _⟩ => ⟨S3584x2816, .bf16⟩
  | .hbm, ⟨100, _⟩ => ⟨S3584x2816, .bf16⟩
  | .hbm, ⟨101, _⟩ => ⟨S56x64x2816, .bf16⟩
  | .hbm, ⟨102, _⟩ => ⟨S56x1x2816, .bf16⟩
  | .hbm, ⟨103, _⟩ => ⟨S56x64x2816, .bf16⟩
  | .hbm, ⟨104, _⟩ => ⟨S56x64x2816, .bf16⟩
  | .hbm, ⟨105, _⟩ => ⟨S3584x2816, .bf16⟩
  | .hbm, ⟨106, _⟩ => ⟨S3584x2816, .bf16⟩
  | .hbm, ⟨107, _⟩ => ⟨S_, .bf16⟩
  | .hbm, ⟨108, _⟩ => ⟨S3584x2816, .bf16⟩
  | .hbm, ⟨109, _⟩ => ⟨S3584x2816, .bf16⟩
  | .hbm, ⟨110, _⟩ => ⟨S56x64x2816, .bf16⟩
  | .hbm, ⟨111, _⟩ => ⟨S56x1x2816, .bf16⟩
  | .hbm, ⟨112, _⟩ => ⟨S56x64x2816, .bf16⟩
  | .hbm, ⟨113, _⟩ => ⟨S56x64x2816, .bf16⟩
  | .hbm, ⟨114, _⟩ => ⟨S3584x2816, .bf16⟩
  | .hbm, ⟨115, _⟩ => ⟨S256x3584, .bf16⟩
  | .hbm, ⟨116, _⟩ => ⟨S256x2816, .f32⟩
  | .hbm, ⟨117, _⟩ => ⟨S256x3584, .bf16⟩
  | .hbm, ⟨118, _⟩ => ⟨S256x2816, .f32⟩
  | .hbm, ⟨119, _⟩ => ⟨S256x2816, .f32⟩
  | .hbm, ⟨120, _⟩ => ⟨S_, .i32⟩
  | .hbm, ⟨121, _⟩ => ⟨S896x2816, .f32⟩
  | _, _ => ⟨S896x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_v2_8 : Ref sig .tc := ⟨.hbm, 20, rfl⟩
abbrev main_v2_9 : Ref sig .tc := ⟨.hbm, 21, rfl⟩
abbrev main_while0c_v3 : Ref sig .tc := ⟨.hbm, 22, rfl⟩
abbrev main_while0b_c_9 : Ref sig .tc := ⟨.hbm, 23, rfl⟩
abbrev main_while0b_v3 : Ref sig .tc := ⟨.hbm, 24, rfl⟩
abbrev main_while0b_v4 : Ref sig .tc := ⟨.hbm, 25, rfl⟩
abbrev main_while0b_v5 : Ref sig .tc := ⟨.hbm, 26, rfl⟩
abbrev main_while0b_v6 : Ref sig .tc := ⟨.hbm, 27, rfl⟩
abbrev main_while0b_v7 : Ref sig .tc := ⟨.hbm, 28, rfl⟩
abbrev main_while0b_c_10 : Ref sig .tc := ⟨.hbm, 29, rfl⟩
abbrev main_while0b_v8 : Ref sig .tc := ⟨.hbm, 30, rfl⟩
abbrev main_while0b_c_11 : Ref sig .tc := ⟨.hbm, 31, rfl⟩
abbrev main_while0b_c_12 : Ref sig .tc := ⟨.hbm, 32, rfl⟩
abbrev main_while0b_v9 : Ref sig .tc := ⟨.hbm, 33, rfl⟩
abbrev main_while0b_v10 : Ref sig .tc := ⟨.hbm, 34, rfl⟩
abbrev main_while0b_c_13 : Ref sig .tc := ⟨.hbm, 35, rfl⟩
abbrev main_while0b_c_14 : Ref sig .tc := ⟨.hbm, 36, rfl⟩
abbrev main_while0b_v11 : Ref sig .tc := ⟨.hbm, 37, rfl⟩
abbrev main_while0b_v12 : Ref sig .tc := ⟨.hbm, 38, rfl⟩
abbrev main_while0b_v13 : Ref sig .tc := ⟨.hbm, 39, rfl⟩
abbrev main_while0b_c_15 : Ref sig .tc := ⟨.hbm, 40, rfl⟩
abbrev main_while0b_v14 : Ref sig .tc := ⟨.hbm, 41, rfl⟩
abbrev main_while0b_v15 : Ref sig .tc := ⟨.hbm, 42, rfl⟩
abbrev main_while0b_c_16 : Ref sig .tc := ⟨.hbm, 43, rfl⟩
abbrev main_while0b_v16 : Ref sig .tc := ⟨.hbm, 44, rfl⟩
abbrev main_while0b_v17 : Ref sig .tc := ⟨.hbm, 45, rfl⟩
abbrev main_while0b_v18 : Ref sig .tc := ⟨.hbm, 46, rfl⟩
abbrev main_while0b_cst_17 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_cst_18 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_v30 : Ref sig .tc := ⟨.hbm, 60, rfl⟩
abbrev main_while0b_v31 : Ref sig .tc := ⟨.hbm, 61, rfl⟩
abbrev main_while0b_v32 : Ref sig .tc := ⟨.hbm, 62, rfl⟩
abbrev main_while0b_v33 : Ref sig .tc := ⟨.hbm, 63, rfl⟩
abbrev main_while0b_v34 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_v40 : Ref sig .tc := ⟨.hbm, 70, rfl⟩
abbrev main_while0b_call0_v0 : Ref sig .tc := ⟨.hbm, 71, rfl⟩
abbrev main_while0b_call0_v1 : Ref sig .tc := ⟨.hbm, 72, rfl⟩
abbrev main_while0b_call0_cst : Ref sig .tc := ⟨.hbm, 73, rfl⟩
abbrev main_while0b_call0_v2 : Ref sig .tc := ⟨.hbm, 74, rfl⟩
abbrev main_while0b_call0_v3 : Ref sig .tc := ⟨.hbm, 75, rfl⟩
abbrev main_while0b_call0_cst_0 : Ref sig .tc := ⟨.hbm, 76, rfl⟩
abbrev main_while0b_call0_v4 : Ref sig .tc := ⟨.hbm, 77, rfl⟩
abbrev main_while0b_call0_v5 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_c_19 : Ref sig .tc := ⟨.hbm, 82, rfl⟩
abbrev main_while0b_c_20 : Ref sig .tc := ⟨.hbm, 83, rfl⟩
abbrev main_while0b_v44 : Ref sig .tc := ⟨.hbm, 84, rfl⟩
abbrev main_while0b_v45 : Ref sig .tc := ⟨.hbm, 85, rfl⟩
abbrev main_while0b_c_21 : Ref sig .tc := ⟨.hbm, 86, rfl⟩
abbrev main_while0b_c_22 : Ref sig .tc := ⟨.hbm, 87, rfl⟩
abbrev main_while0b_v46 : Ref sig .tc := ⟨.hbm, 88, rfl⟩
abbrev main_while0b_v47 : Ref sig .tc := ⟨.hbm, 89, rfl⟩
abbrev main_while0b_v48 : Ref sig .tc := ⟨.hbm, 90, rfl⟩
abbrev main_while0b_c_23 : Ref sig .tc := ⟨.hbm, 91, rfl⟩
abbrev main_while0b_v49 : Ref sig .tc := ⟨.hbm, 92, rfl⟩
abbrev main_while0b_v50 : Ref sig .tc := ⟨.hbm, 93, rfl⟩
abbrev main_while0b_c_24 : Ref sig .tc := ⟨.hbm, 94, rfl⟩
abbrev main_while0b_v51 : Ref sig .tc := ⟨.hbm, 95, rfl⟩
abbrev main_while0b_v52 : Ref sig .tc := ⟨.hbm, 96, rfl⟩
abbrev main_while0b_v53 : Ref sig .tc := ⟨.hbm, 97, rfl⟩
abbrev main_while0b_cst_25 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_v58 : Ref sig .tc := ⟨.hbm, 103, rfl⟩
abbrev main_while0b_v59 : Ref sig .tc := ⟨.hbm, 104, rfl⟩
abbrev main_while0b_v60 : Ref sig .tc := ⟨.hbm, 105, rfl⟩
abbrev main_while0b_v61 : Ref sig .tc := ⟨.hbm, 106, rfl⟩
abbrev main_while0b_cst_26 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_c_27 : Ref sig .tc := ⟨.hbm, 120, rfl⟩
abbrev main_while0b_v74 : Ref sig .tc := ⟨.hbm, 121, rfl⟩

abbrev nD : Nat := 1
abbrev τ : Topo := Topo.v7x

variable {F : FTy → Type} [FloatOps F]
-- ==== Proof.Pre.lean ====
/-
  What the precondition says: the table of experts holds numbers 0 … 7, the table of first rows holds multiples of 16 up to 640, and
  the number of experts is 1 … 9.
-/
module

public import proofs.«01_k».proof.Pre_named
public import proofs.«01_k».proof.Proof.Gen.Pre_named
public import Idealize.ShloMosaic.Lib.ReduceAll

@[expose] public section

namespace Cert.Named

open Cert.Pre_named Cert.Pre_named.Gen
open Idealize.ShloMosaic

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem and_split (p q : BitVec 1) (h : IntOp.andi p q = 1#1) : p = 1#1 ∧ q = 1#1 := by revert p q; decide

theorem word_eq (w : BitVec 32) : BitVec.ofNat 32 w.toNat = w := by
  apply BitVec.eq_of_toNat_eq; rw [BitVec.toNat_ofNat, Nat.mod_eq_of_lt w.isLt]

/-- A one-word range test. -/
theorem range_of (w : BitVec 32) (b : ℕ) (hb : b < 2 ^ 31) (h1 : IntOp.cmpi .sge w 0#32 = 1#1) (h2 : IntOp.cmpi .sle w (BitVec.ofNat 32 b) = 1#1) : w.toNat ≤ b := by
  simp only [IntOp.cmpi, ofBool_eq_one, BitVec.sle, decide_eq_true_eq, BitVec.toInt, BitVec.toNat_ofNat] at h1 h2
  rw [Nat.mod_eq_of_lt (by omega)] at h2
  omega

/-- The remainder of a word by 16, as it is printed. -/
def rem16 (w : BitVec 32) : BitVec 32 :=
  Scalar.select (IntOp.andi (IntOp.cmpi .ne (IntOp.cmpi .slt (IntOp.remsi .host w (Scalar.select (IntOp.cmpi .eq 16#32 0#32) 1#32 16#32)) 0#32) (IntOp.cmpi .slt (Scalar.select (IntOp.cmpi .eq 16#32 0#32) 1#32 16#32) 0#32))
      (IntOp.cmpi .ne (IntOp.remsi .host w (Scalar.select (IntOp.cmpi .eq 16#32 0#32) 1#32 16#32)) 0#32))
    (IntOp.addi (IntOp.remsi .host w (Scalar.select (IntOp.cmpi .eq 16#32 0#32) 1#32 16#32)) (Scalar.select (IntOp.cmpi .eq 16#32 0#32) 1#32 16#32))
    (IntOp.remsi .host w (Scalar.select (IntOp.cmpi .eq 16#32 0#32) 1#32 16#32))

theorem rem_eq {F : FTy → Type} [FloatOps F] (a : S9.Idx → BitVec 32) (i : S9.Idx) : fn_remainder (F := F) a (constantI S_ 32 16#32) i = rem16 (a i) := rfl

theorem rem16_small : ∀ k : Fin 641, IntOp.cmpi .eq (rem16 (BitVec.ofNat 32 k.val)) 0#32 = 1#1 → k.val % 16 = 0 := by
  decide +kernel

/-- Where the precondition holds. -/
theorem tables {F : FTy → Type} [FloatOps F] (a0 : S896x2816.Idx → Elt F .bf16) (a1 a2 : S9.Idx → BitVec 32) (a3 : S1.Idx → BitVec 32)
    (a4 : S8x1408x14336.Idx → BitVec 8) (a5 : S8x22x14336.Idx → Elt F .bf16) (a6 : S8x3584x2816.Idx → BitVec 8) (a7 : S8x56x2816.Idx → Elt F .bf16)
    (h : Cert.Pre_named.fn (F := F) a0 a1 a2 a3 a4 a5 a6 a7 = fun _ => 1#1) :
    ∃ (eo : ℕ → Fin 8) (ro : ℕ → Fin 641) (nn : Fin 10), (1 ≤ nn.val) ∧ (∀ i, ∃ b : Fin 41, (ro i).val = 16 * b.val)
      ∧ (∀ i : S9.Idx, a1 i = BitVec.ofNat 32 (eo ((i 0 : Fin 9) : ℕ)).val) ∧ (∀ i : S9.Idx, a2 i = BitVec.ofNat 32 (ro ((i 0 : Fin 9) : ℕ)).val)
      ∧ (∀ i : S1.Idx, a3 i = BitVec.ofNat 32 nn.val) := by
  have hs : Subsingleton S_.Idx := ⟨fun i j => by funext a; exact a.elim0⟩
  let y : S_.Idx := fun a => a.elim0
  have e := congrFun h y
  dsimp only [Pre_named.fn, fn_part1, andi] at e
  obtain ⟨e12, e3⟩ := and_split _ _ e
  obtain ⟨e1, e2⟩ := and_split _ _ e12
  have p1 := fun i => and_split _ _ (Host.reduce_andi_all _ _ _ _ y e1 i)
  have p2 := fun i => and_split _ _ (Host.reduce_andi_all _ _ _ _ y e2 i)
  have p3 := fun i => and_split _ _ (Host.reduce_andi_all _ _ _ _ y e3 i)
  have q1 : ∀ i : S9.Idx, (a1 i).toNat < 8 := fun i => by
    have h1 : IntOp.cmpi .sge (a1 i) 0#32 = 1#1 := (p1 i).1
    have h2 : IntOp.cmpi .slt (a1 i) 8#32 = 1#1 := (p1 i).2
    simp only [IntOp.cmpi, ofBool_eq_one, BitVec.sle, BitVec.slt, decide_eq_true_eq, BitVec.toInt, BitVec.toNat_ofNat] at h1 h2
    omega
  have q2 : ∀ i : S9.Idx, (a2 i).toNat ≤ 640 := fun i =>
    range_of (a2 i) 640 (by omega) (and_split _ _ (p2 i).1).1 (and_split _ _ (p2 i).1).2
  have w2 : ∀ i : S9.Idx, a2 i = BitVec.ofNat 32 (a2 i).toNat := fun i => (word_eq (a2 i)).symm
  have q2' : ∀ i : S9.Idx, (a2 i).toNat % 16 = 0 := fun i => by
    have h1 : IntOp.cmpi .eq (rem16 (a2 i)) 0#32 = 1#1 := (p2 i).2
    rw [w2 i] at h1
    exact rem16_small ⟨(a2 i).toNat, by have := q2 i; omega⟩ h1
  have q3 : ∀ i : S1.Idx, (a3 i).toNat ≤ 9 ∧ 1 ≤ (a3 i).toNat := fun i => by
    have h1 : IntOp.cmpi .sge (a3 i) 1#32 = 1#1 := (p3 i).1
    have h2 : IntOp.cmpi .sle (a3 i) 9#32 = 1#1 := (p3 i).2
    simp only [IntOp.cmpi, ofBool_eq_one, BitVec.sle, decide_eq_true_eq, BitVec.toInt, BitVec.toNat_ofNat] at h1 h2
    omega
  let at9 : ℕ → S9.Idx := fun k a => match a with
    | ⟨0, _⟩ => (⟨k % 9, Nat.mod_lt _ (by omega)⟩ : Fin 9)
  have hat : ∀ i : S9.Idx, at9 ((i 0 : Fin 9) : ℕ) = i := fun i => by
    funext a
    match a with
    | ⟨0, _⟩ => exact Fin.ext (Nat.mod_eq_of_lt (i 0 : Fin 9).isLt)
  have h1s : ∀ i j : S1.Idx, i = j := fun i j => by
    funext a
    match a with
    | ⟨0, _⟩ => exact Subsingleton.elim (α := Fin 1) _ _
  let z : S1.Idx := fun a => match a with
    | ⟨0, _⟩ => (0 : Fin 1)
  refine ⟨fun k => ⟨(a1 (at9 k)).toNat, q1 _⟩, fun k => ⟨(a2 (at9 k)).toNat, by have := q2 (at9 k); omega⟩, ⟨(a3 z).toNat, by have := q3 z; omega⟩, (q3 z).2,
    fun k => ⟨⟨(a2 (at9 k)).toNat / 16, by have := q2 (at9 k); omega⟩, by have := q2' (at9 k); show (a2 (at9 k)).toNat = 16 * ((a2 (at9 k)).toNat / 16); omega⟩, fun i => ?_, fun i => ?_, fun i => ?_⟩
  · show a1 i = BitVec.ofNat 32 (a1 (at9 ((i 0 : Fin 9) : ℕ))).toNat
    rw [hat i]; exact (word_eq (a1 i)).symm
  · show a2 i = BitVec.ofNat 32 (a2 (at9 ((i 0 : Fin 9) : ℕ))).toNat
    rw [hat i]; exact w2 i
  · show a3 i = BitVec.ofNat 32 (a3 z).toNat
    rw [h1s i z]; exact (word_eq (a3 z)).symm

end Cert.Named
-- ==== Proof.Slots.lean ====
/-
  Copies into scratch slots.  A slot is a memref owned whole; a copy in flight on it is a batch of one
  or two transfers on the slot's semaphore, together with what is left of the lent read share of the
  source.  Starting a copy consumes the slot and a read share of the source; the wait gives both back,
  the slot now holding what the source reads.
-/
module

public import Idealize.ShloMosaic.Lib.Batch
public import Idealize.ShloMosaic.Lib.Memref
public import Idealize.ShloMosaic.Lib.Tactic
public import Idealize.ShloMosaic.Lib.Pipeline.Kit
public import Idealize.ShloMosaic.Lib.Pipeline.Value
public import Idealize.ShloMosaic.Lib.Pipeline.ValueKit.Geometry

@[expose] public section

noncomputable section

namespace Cert.Slots

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch)

variable {nD : Nat} {τ : Topo} {sig : RefSig} {Val : EltTy → Type} {U : Type} [URA U] [CountersIn U]

local notation "𝕄" => MT nD τ sig Unit Val ℕ U ℕ

variable {Λ : Labels} {defs : Defs nD τ sig Val Λ} (𝒱 : Variants) (c : Thread nD τ) (bd : Option 𝒱.V)
variable {α : Type} {Q : α → sProp (MT nD τ sig Unit Val ℕ U ℕ)} {sp sp' : Space} {s : Shape} {e : EltTy}

/-- A memref owned whole at some contents. -/
def any (m : Memref sig c.2.kind sp s e) : sProp 𝕄 := iprop(∃ X, owns c m fullShare X)

/-- The core owes nothing, whatever it has waited for. -/
def owe0 : sProp 𝕄 := iprop(∃ w, owes c 0 w)

/-- What a copy from `src` to `dst` delivers: the destination owned at what the source reads, and the lent piece of the source. -/
def dlv (src : Memref sig c.2.kind sp s e) (dst : Memref sig c.2.kind sp' s e) (q : PosShare TreeShare)
    (W : Buf Val (src.view.loc c)) : sProp 𝕄 :=
  iprop(owns c dst fullShare (src.view.read Val W) ∗ (src.view.loc c ↦[src.view.set]{q} W))

instance dlv_storable (src : Memref sig c.2.kind sp s e) (dst : Memref sig c.2.kind sp' s e) (q : PosShare TreeShare)
    (W : Buf Val (src.view.loc c)) : Storable (upEmb : UEmb _ 𝕄) (dlv c src dst q W) := by
  unfold dlv; infer_instance

/-- What stays of a whole read share of the source while a copy out of `src` is in flight. -/
def loan (src : Memref sig c.2.kind sp s e) (q : PosShare TreeShare) (W : Buf Val (src.view.loc c)) : sProp 𝕄 :=
  iprop(src.view.loc c ↦[Finset.univ \ src.view.set]{q} W)

theorem lend (src : Memref sig c.2.kind sp s e) (q : PosShare TreeShare) (W : Buf Val (src.view.loc c)) :
    (src.view.loc c ↦{q} W : sProp 𝕄) ⊢ iprop((src.view.loc c ↦[src.view.set]{q} W) ∗ loan c src q W) :=
  (pointsTo_split_subset (Finset.subset_univ _)).1

theorem unlend (src : Memref sig c.2.kind sp s e) (q : PosShare TreeShare) (W : Buf Val (src.view.loc c)) :
    iprop((src.view.loc c ↦[src.view.set]{q} W) ∗ loan c src q W) ⊢ (src.view.loc c ↦{q} W : sProp 𝕄) :=
  (pointsTo_split_subset (Finset.subset_univ _)).2

/-- One copy in flight on the semaphore `sm`. -/
def fly1 (sm : SemLoc sig) (N : ℕ) (src : Memref sig c.2.kind sp s e) (dst : Memref sig c.2.kind sp' s e)
    (q : PosShare TreeShare) (W : Buf Val (src.view.loc c)) : sProp 𝕄 :=
  iprop(Batch countersEmb c sm () N (fun _ : Fin 1 => dlv c src dst q W) 1 0 ∗ loan c src q W)

/-- A copy started. -/
theorem start1 {src src' : Memref sig c.2.kind sp s e} {dst dst' : Memref sig c.2.kind sp' s e} {sm sm' : SemLoc sig}
    (hs : src = src') (hd : dst = dst') (hm : sm = sm')
    {hsrc : src.view.WordExact} {hdst : dst.view.WordExact} {hsem : DmaTarget.Typed (nD := nD) sp sm (.here dst)}
    {k : PUnit → Prog (TpuEff nD τ sig Val Λ c.2) α} {q : PosShare TreeShare} {W : Buf Val (src'.view.loc c)}
    (N : ℕ) (hN : dst'.view.amount sm' = N) :
    (iprop(semVal (c, sm') 0 ∗ any c dst' ∗ (src'.view.loc c ↦{q} W)) : sProp 𝕄)
      ⊢ iprop((fly1 c sm' N src' dst' q W -∗ wp frame (wpE defs 𝒱 c bd) Set.univ (k ⟨⟩) Q)
          -∗ wp frame (wpE defs 𝒱 c bd) Set.univ (.op (.enqueueDma src (.here dst) sm hsrc hdst hsem) k) Q) := by
  subst hs hd hm
  unfold any
  iintro ⟨Hv, ⟨%X, Ho⟩, Hw⟩ Hk
  ihave Ho' := (show owns c dst fullShare X ⊢ iprop(∃ f, ⌜dst.view.read Val f = X⌝ ∗ (dst.view.loc c ↦[dst.view.set]{fullShare} f)) from .rfl) $$ Ho
  icases Ho' with ⟨%f, -, Hd⟩
  ihave Hw' := (lend c src q W) $$ Hw
  icases Hw' with ⟨Hw, Hl⟩
  imod (Transfers.batch_alloc' (Lvl := ℕ) countersEmb c () N (fun _ : Fin 1 => dlv c src dst q W) (sm := sm) (E := Set.univ)) $$ Hv with HB
  iapply (Transfers.wp_dmaBatch countersEmb 𝒱 c bd (src := src) (dst := dst) (q := q) (fs := W) (fd := f) () N hN subset_rfl
    (D := fun _ : Fin 1 => dlv c src dst q W) (j := 0) (u := 0) (by decide) (Nat.zero_le _) (by
      unfold dlv
      iintro ⟨H1, H2⟩
      isplitl [H1]
      · unfold owns
        iexists _; isplitr; swap; · iexact H1
        ipureintro; apply View.read_write_univ
      · iexact H2)) $$ [Hw Hd HB]
  · isplitl [Hw]; · iexact Hw
    isplitl [Hd]; · iexact Hd
    iexact HB
  iintro HB
  iapply Hk
  unfold fly1
  isplitl [HB]; · iexact HB
  iexact Hl

/-- The wait for one copy. -/
theorem wait1 {src : Memref sig c.2.kind sp s e} {dst : Memref sig c.2.kind sp' s e} {sm : DmaSem sig}
    {s' : Shape} {e' : EltTy} {κ' : Kind} {sq sq' : Space} {s'' : Shape} {e'' : EltTy} {sem : DmaSem sig} (hm : sem = sm)
    {srcw : Memref sig c.2.kind sq' s' e'} {dstw : Memref sig κ' sq s'' e''} {hsrc : srcw.view.WordExact} {hdst : dstw.view.WordExact}
    {k : PUnit → Prog (TpuEff nD τ sig Val Λ c.2) α} {q : PosShare TreeShare} {W : Buf Val (src.view.loc c)}
    {N : ℕ} (hN : dstw.view.dmaCredit = N) (hN0 : 0 < N) :
    (iprop(fly1 c (.dma sm) N src dst q W ∗ owe0 c) : sProp 𝕄)
      ⊢ iprop((iprop(owns c dst fullShare (src.view.read Val W) ∗ (src.view.loc c ↦{q} W) ∗ semVal (c, .dma sm) 0 ∗ owe0 c)
            -∗ wp frame (wpE defs 𝒱 c bd) Set.univ (k ⟨⟩) Q)
          -∗ wp frame (wpE defs 𝒱 c bd) Set.univ (.op (.waitDma2 sem srcw dstw hsrc hdst) k) Q) := by
  subst hm
  unfold owe0
  unfold fly1
  iintro ⟨⟨HB, Hl⟩, ⟨%w, HO⟩⟩ Hk
  iapply (Transfers.wp_waitBatchLast countersEmb 𝒱 c bd () hN hN0 (D := fun _ : Fin 1 => dlv c src dst q W) (u := 0) (by omega)) $$ [HB HO]
  · isplitl [HB] <;> iassumption
  iintro ⟨HD, Hv, HO⟩
  iapply Hk
  ihave HD' := (show bigSep Finset.univ (fun _ : Fin 1 => (dlv c src dst q W : sProp 𝕄)) ⊢ dlv c src dst q W by
    rw [Idealize.SL.BI.bigSep_univ_eq_bigSepL [0] (by decide) (by decide) _]; exact .rfl) $$ HD
  ihave HD'' := (show dlv c src dst q W ⊢ iprop(owns c dst fullShare (src.view.read Val W) ∗ (src.view.loc c ↦[src.view.set]{q} W)) from .rfl) $$ HD'
  icases HD'' with ⟨Ho, Hs⟩
  isplitl [Ho]; · iexact Ho
  isplitl [Hs Hl]
  · iapply (unlend c src q W); isplitl [Hs] <;> iassumption
  isplitl [Hv]; · iexact Hv
  iexists _; iexact HO

variable {src0 src1 : Memref sig c.2.kind sp s e} {dst0 dst1 : Memref sig c.2.kind sp' s e}

/-- The deliveries of two copies on one semaphore. -/
def dlv2 (src0 src1 : Memref sig c.2.kind sp s e) (dst0 dst1 : Memref sig c.2.kind sp' s e) (q0 q1 : PosShare TreeShare)
    (W0 : Buf Val (src0.view.loc c)) (W1 : Buf Val (src1.view.loc c)) : Fin 2 → sProp 𝕄
  | 0 => dlv c src0 dst0 q0 W0
  | 1 => dlv c src1 dst1 q1 W1

instance dlv2_storable (src0 src1 : Memref sig c.2.kind sp s e) (dst0 dst1 : Memref sig c.2.kind sp' s e) (q0 q1 : PosShare TreeShare)
    (W0 : Buf Val (src0.view.loc c)) (W1 : Buf Val (src1.view.loc c)) (t : Fin 2) :
    Storable (upEmb : UEmb _ 𝕄) (dlv2 c src0 src1 dst0 dst1 q0 q1 W0 W1 t) := by
  fin_cases t <;> simp only [dlv2] <;> infer_instance

/-- Two copies on one semaphore, `j` of them started. -/
def fly2 (j u : ℕ) (sm : SemLoc sig) (N : ℕ) (src0 src1 : Memref sig c.2.kind sp s e) (dst0 dst1 : Memref sig c.2.kind sp' s e)
    (q0 q1 : PosShare TreeShare) (W0 : Buf Val (src0.view.loc c)) (W1 : Buf Val (src1.view.loc c)) : sProp 𝕄 :=
  Batch countersEmb c sm () N (dlv2 c src0 src1 dst0 dst1 q0 q1 W0 W1) j u

/-- The first of two copies started. -/
theorem start2a {src : Memref sig c.2.kind sp s e} {dst : Memref sig c.2.kind sp' s e} {sm sm' : SemLoc sig}
    (hs : src = src0) (hd : dst = dst0) (hm : sm = sm')
    {hsrc : src.view.WordExact} {hdst : dst.view.WordExact} {hsem : DmaTarget.Typed (nD := nD) sp sm (.here dst)}
    {k : PUnit → Prog (TpuEff nD τ sig Val Λ c.2) α} {q0 q1 : PosShare TreeShare} {W0 : Buf Val (src0.view.loc c)}
    (src1 : Memref sig c.2.kind sp s e) (dst1 : Memref sig c.2.kind sp' s e) (W1 : Buf Val (src1.view.loc c))
    (N : ℕ) (hN : dst0.view.amount sm' = N) :
    (iprop(semVal (c, sm') 0 ∗ any c dst0 ∗ (src0.view.loc c ↦{q0} W0)) : sProp 𝕄)
      ⊢ iprop((iprop(fly2 c 1 0 sm' N src0 src1 dst0 dst1 q0 q1 W0 W1 ∗ loan c src0 q0 W0) -∗ wp frame (wpE defs 𝒱 c bd) Set.univ (k ⟨⟩) Q)
          -∗ wp frame (wpE defs 𝒱 c bd) Set.univ (.op (.enqueueDma src (.here dst) sm hsrc hdst hsem) k) Q) := by
  subst hs hd hm
  unfold any
  iintro ⟨Hv, ⟨%X, Ho⟩, Hw⟩ Hk
  ihave Ho' := (show owns c dst fullShare X ⊢ iprop(∃ f, ⌜dst.view.read Val f = X⌝ ∗ (dst.view.loc c ↦[dst.view.set]{fullShare} f)) from .rfl) $$ Ho
  icases Ho' with ⟨%f, -, Hd⟩
  ihave Hw' := (lend c src q0 W0) $$ Hw
  icases Hw' with ⟨Hw, Hl⟩
  imod (Transfers.batch_alloc' (Lvl := ℕ) countersEmb c () N (dlv2 c src src1 dst dst1 q0 q1 W0 W1) (sm := sm) (E := Set.univ)) $$ Hv with HB
  iapply (Transfers.wp_dmaBatch countersEmb 𝒱 c bd (src := src) (dst := dst) (q := q0) (fs := W0) (fd := f) () N hN subset_rfl
    (D := dlv2 c src src1 dst dst1 q0 q1 W0 W1) (j := 0) (u := 0) (by decide) (Nat.zero_le _) (by
      show _ ⊢ dlv c src dst q0 W0
      unfold dlv
      iintro ⟨H1, H2⟩
      isplitl [H1]
      · unfold owns
        iexists _; isplitr; swap; · iexact H1
        ipureintro; apply View.read_write_univ
      · iexact H2)) $$ [Hw Hd HB]
  · isplitl [Hw]; · iexact Hw
    isplitl [Hd]; · iexact Hd
    iexact HB
  iintro HB
  iapply Hk
  unfold fly2
  isplitl [HB]; · iexact HB
  iexact Hl

/-- The second of two copies started. -/
theorem start2b {src : Memref sig c.2.kind sp s e} {dst : Memref sig c.2.kind sp' s e} {sm sm' : SemLoc sig}
    (hs : src = src1) (hd : dst = dst1) (hm : sm = sm')
    {hsrc : src.view.WordExact} {hdst : dst.view.WordExact} {hsem : DmaTarget.Typed (nD := nD) sp sm (.here dst)}
    {k : PUnit → Prog (TpuEff nD τ sig Val Λ c.2) α} {q0 q1 : PosShare TreeShare} {W0 : Buf Val (src0.view.loc c)} {W1 : Buf Val (src1.view.loc c)}
    {N : ℕ} (hN : dst1.view.amount sm' = N) :
    (iprop(fly2 c 1 0 sm' N src0 src1 dst0 dst1 q0 q1 W0 W1 ∗ any c dst1 ∗ (src1.view.loc c ↦{q1} W1)) : sProp 𝕄)
      ⊢ iprop((iprop(fly2 c 2 0 sm' N src0 src1 dst0 dst1 q0 q1 W0 W1 ∗ loan c src1 q1 W1) -∗ wp frame (wpE defs 𝒱 c bd) Set.univ (k ⟨⟩) Q)
          -∗ wp frame (wpE defs 𝒱 c bd) Set.univ (.op (.enqueueDma src (.here dst) sm hsrc hdst hsem) k) Q) := by
  subst hs hd hm
  unfold any
  unfold fly2
  iintro ⟨HB, ⟨%X, Ho⟩, Hw⟩ Hk
  ihave Ho' := (show owns c dst fullShare X ⊢ iprop(∃ f, ⌜dst.view.read Val f = X⌝ ∗ (dst.view.loc c ↦[dst.view.set]{fullShare} f)) from .rfl) $$ Ho
  icases Ho' with ⟨%f, -, Hd⟩
  ihave Hw' := (lend c src q1 W1) $$ Hw
  icases Hw' with ⟨Hw, Hl⟩
  iapply (Transfers.wp_dmaBatch countersEmb 𝒱 c bd (src := src) (dst := dst) (q := q1) (fs := W1) (fd := f) () N hN subset_rfl
    (D := dlv2 c src0 src dst0 dst q0 q1 W0 W1) (j := 1) (u := 0) (by decide) (Nat.zero_le _) (by
      show _ ⊢ dlv c src dst q1 W1
      unfold dlv
      iintro ⟨H1, H2⟩
      isplitl [H1]
      · unfold owns
        iexists _; isplitr; swap; · iexact H1
        ipureintro; apply View.read_write_univ
      · iexact H2)) $$ [Hw Hd HB]
  · isplitl [Hw]; · iexact Hw
    isplitl [Hd]; · iexact Hd
    iexact HB
  iintro HB
  iapply Hk
  isplitl [HB]; · iexact HB
  iexact Hl

/-- The first of the two waits returns nothing. -/
theorem wait2a {sm : DmaSem sig}
    {s' : Shape} {e' : EltTy} {κ' : Kind} {sq sq' : Space} {s'' : Shape} {e'' : EltTy} {sem : DmaSem sig} (hm : sem = sm)
    {srcw : Memref sig c.2.kind sq' s' e'} {dstw : Memref sig κ' sq s'' e''} {hsrc : srcw.view.WordExact} {hdst : dstw.view.WordExact}
    {k : PUnit → Prog (TpuEff nD τ sig Val Λ c.2) α} {q0 q1 : PosShare TreeShare} {W0 : Buf Val (src0.view.loc c)} {W1 : Buf Val (src1.view.loc c)}
    {N : ℕ} (hN : dstw.view.dmaCredit = N) (hN0 : 0 < N) :
    (iprop(fly2 c 2 0 (.dma sm) N src0 src1 dst0 dst1 q0 q1 W0 W1 ∗ owe0 c) : sProp 𝕄)
      ⊢ iprop((iprop(fly2 c 2 N (.dma sm) N src0 src1 dst0 dst1 q0 q1 W0 W1 ∗ owe0 c)
            -∗ wp frame (wpE defs 𝒱 c bd) Set.univ (k ⟨⟩) Q)
          -∗ wp frame (wpE defs 𝒱 c bd) Set.univ (.op (.waitDma2 sem srcw dstw hsrc hdst) k) Q) := by
  subst hm
  unfold owe0
  unfold fly2
  iintro ⟨HB, ⟨%w, HO⟩⟩ Hk
  iapply (Transfers.wp_waitBatch countersEmb 𝒱 c bd () hN (D := dlv2 c src0 src1 dst0 dst1 q0 q1 W0 W1) (u := 0) (by omega)) $$ [HB HO]
  · isplitl [HB] <;> iassumption
  rw [Nat.zero_add]
  iintro ⟨HB, HO⟩
  iapply Hk
  isplitl [HB]; · iexact HB
  iexists _; iexact HO

/-- The second returns both destinations, both sources and the semaphore. -/
theorem wait2b {sm : DmaSem sig}
    {s' : Shape} {e' : EltTy} {κ' : Kind} {sq sq' : Space} {s'' : Shape} {e'' : EltTy} {sem : DmaSem sig} (hm : sem = sm)
    {srcw : Memref sig c.2.kind sq' s' e'} {dstw : Memref sig κ' sq s'' e''} {hsrc : srcw.view.WordExact} {hdst : dstw.view.WordExact}
    {k : PUnit → Prog (TpuEff nD τ sig Val Λ c.2) α} {q0 q1 : PosShare TreeShare} {W0 : Buf Val (src0.view.loc c)} {W1 : Buf Val (src1.view.loc c)}
    {N : ℕ} (hN : dstw.view.dmaCredit = N) (hN0 : 0 < N) :
    (iprop(fly2 c 2 N (.dma sm) N src0 src1 dst0 dst1 q0 q1 W0 W1 ∗ loan c src0 q0 W0 ∗ loan c src1 q1 W1 ∗ owe0 c) : sProp 𝕄)
      ⊢ iprop((iprop(owns c dst0 fullShare (src0.view.read Val W0) ∗ owns c dst1 fullShare (src1.view.read Val W1)
              ∗ (src0.view.loc c ↦{q0} W0) ∗ (src1.view.loc c ↦{q1} W1) ∗ semVal (c, .dma sm) 0 ∗ owe0 c)
            -∗ wp frame (wpE defs 𝒱 c bd) Set.univ (k ⟨⟩) Q)
          -∗ wp frame (wpE defs 𝒱 c bd) Set.univ (.op (.waitDma2 sem srcw dstw hsrc hdst) k) Q) := by
  subst hm
  unfold owe0
  unfold fly2
  iintro ⟨HB, Hl0, Hl1, ⟨%w, HO⟩⟩ Hk
  iapply (Transfers.wp_waitBatchLast countersEmb 𝒱 c bd () hN hN0 (D := dlv2 c src0 src1 dst0 dst1 q0 q1 W0 W1) (u := N) (by omega)) $$ [HB HO]
  · isplitl [HB] <;> iassumption
  iintro ⟨HD, Hv, HO⟩
  iapply Hk
  ihave HD' := (show bigSep Finset.univ (dlv2 c src0 src1 dst0 dst1 q0 q1 W0 W1 : Fin 2 → sProp 𝕄)
      ⊢ iprop(iprop(owns c dst0 fullShare (src0.view.read Val W0) ∗ (src0.view.loc c ↦[src0.view.set]{q0} W0))
        ∗ iprop(owns c dst1 fullShare (src1.view.read Val W1) ∗ (src1.view.loc c ↦[src1.view.set]{q1} W1))) by
    rw [Idealize.SL.BI.bigSep_univ_eq_bigSepL [0, 1] (by decide) (by decide) _]; exact .rfl) $$ HD
  icases HD' with ⟨⟨Ho, Hs⟩, Ho1, Hs1⟩
  isplitl [Ho]; · iexact Ho
  isplitl [Ho1]; · iexact Ho1
  isplitl [Hs Hl0]
  · iapply (unlend c src0 q0 W0); isplitl [Hs] <;> iassumption
  isplitl [Hs1 Hl1]
  · iapply (unlend c src1 q1 W1); isplitl [Hs1] <;> iassumption
  isplitl [Hv]; · iexact Hv
  iexists _; iexact HO

/-- A load through a rectangle `R1` inside an owned slot, the squeeze of the slice of `M` at `off`: it reads the slot's contents at
    the index `sub` names. -/
theorem loadSlot {cs : CoreSpace} {sM sq : Shape} {eM : EltTy} {M : Memref sig c.2.kind cs sM eM} {off size : Fin sM.rank → ℕ}
    {inb : ∀ a, off a + size a ≤ sM.size a} {hs : ∀ a, (Rect.unit off size inb).stride a = 1}
    {hq : (Rect.unit off size inb).shape.Squeezes sq} {X : sq.Idx → Val eM} (hc : sq.ShapeCasts (Rect.unit off size inb).shape)
    (hc' : (Rect.unit off size inb).shape.ShapeCasts sq)
    {off1 size1 : Fin sM.rank → ℕ} {inb1 : ∀ a, off1 a + size1 a ≤ sM.size a}
    (sub : (Rect.unit off1 size1 inb1).shape.Idx → (Rect.unit off size inb).shape.Idx)
    (hsub : ∀ i a, off1 a + (i a : ℕ) = off a + (sub i a : ℕ))
    {hl : M.view.LoadsAt (Rect.unit off1 size1 inb1).toLoadRect}
    {k : ((Rect.unit off1 size1 inb1).shape.Idx → Val eM) → Prog (TpuEff nD τ sig Val Λ c.2) α} :
    (owns c ((M.slice (Rect.unit off size inb) hs).squeeze sq hq) fullShare X : sProp 𝕄)
      ⊢ iprop((owns c ((M.slice (Rect.unit off size inb) hs).squeeze sq hq) fullShare X
            -∗ wp frame (wpE defs 𝒱 c bd) Set.univ (k (fun i => shapeCast (Rect.unit off size inb).shape X hc (sub i))) Q)
          -∗ wp frame (wpE defs 𝒱 c bd) Set.univ (.op (.load M (Rect.unit off1 size1 inb1).toLoadRect hl) k) Q) := by
  have hemb : ∀ i, (Rect.unit off1 size1 inb1).emb i = (Rect.unit off size inb).emb (sub i) := fun i => by
    funext a
    apply Fin.ext
    rw [ValueKit.rect_emb_unit_val, ValueKit.rect_emb_unit_val]
    exact hsub i a
  unfold owns
  iintro ⟨%f, %hf, Hf⟩ Hk
  iapply (wp_load_rect 𝒱 c bd Set.univ (m := M) (r := Rect.unit off1 size1 inb1) (q := fullShare) (f := f)
    (S := ((M.slice (Rect.unit off size inb) hs).squeeze sq hq).view.set) (by
      have h3 : ((M.slice (Rect.unit off size inb) hs).squeeze sq hq).view.set = (M.slice (Rect.unit off size inb) hs).view.set :=
        View.set_reshape _ _
      intro x hx
      obtain ⟨i, -, rfl⟩ := Finset.mem_map.1 hx
      have : (M.access (Rect.unit off1 size1 inb1)).emb i = (M.slice (Rect.unit off size inb) hs).view.emb (sub i) := by
        show M.view.emb ((Rect.unit off1 size1 inb1).emb i) = M.view.emb ((Rect.unit off size inb).emb (sub i))
        rw [hemb]
      rw [this]
      show _ ∈ ((M.slice (Rect.unit off size inb) hs).squeeze sq hq).view.set
      rw [h3]
      exact View.emb_mem_set _ _)) $$ Hf
  iintro Hf
  have hv : (M.access (Rect.unit off1 size1 inb1)).read Val f
      = fun i => shapeCast (Rect.unit off size inb).shape X hc (sub i) := by
    have hX : X = shapeCast sq ((M.slice (Rect.unit off size inb) hs).view.read Val f) hc' := hf.symm
    rw [hX]
    funext i
    rw [shapeCast_shapeCast]
    show cast _ (f (M.view.emb ((Rect.unit off1 size1 inb1).emb i))) = cast _ (f (M.view.emb ((Rect.unit off size inb).emb (sub i))))
    rw [hemb]
  rw [hv]
  iapply Hk
  iexists f; isplitr
  · ipureintro; exact hf
  iexact Hf

end Cert.Slots
-- ==== Proof.KRes.lean ====
/-
  The pieces of memory the kernel copies into and out of, by name: the ring slots of the two weight arrays, the slots of the two
  scale arrays, the blocks of the four arrays in HBM, and the states of a slot (a copy in flight, or idle).
-/
module

public import proofs.«01_k».proof.Proof.Gen.Kernel
public import proofs.«01_k».proof.Proof.Gen.Kernel.Skeleton
public import proofs.«01_k».proof.Proof.Slots
public import Idealize.ShloMosaic.Lib.Pipeline.Frame
public import Idealize.ShloMosaic.Lib.Tactic
public import Idealize.ShloMosaic.Lib.Transfers

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Blocks of the arrays in HBM -/

/-- The half `h` (0 the gate, 1 the up projection) of column chunk `j` of expert `e`'s first weights. -/
abbrev w1src (e : Fin 8) (h : Fin 2) (j : Fin 28) : Memref sig .tc .hbm S1408x256 .i8 :=
  ((Memref.whole main_arg4).slice (Rect.unit (s := S8x1408x14336) ![e.val, 0, h.val * 7168 + 256 * j.val] S1x1408x256.size
    (by intro a; fin_cases a <;> simp [S8x1408x14336, S1x1408x256] <;> omega)) (fun _ => rfl)).squeeze S1408x256 squeezes_S1x1408x256_S1408x256

/-- Expert `e`'s first scales. -/
abbrev s1src (e : Fin 8) : Memref sig .tc .hbm S22x14336 .bf16 :=
  ((Memref.whole main_arg5).slice (Rect.unit (s := S8x22x14336) ![e.val, 0, 0] S1x22x14336.size
    (by intro a; fin_cases a <;> simp [S8x22x14336, S1x22x14336] <;> omega)) (fun _ => rfl)).squeeze S22x14336 squeezes_S1x22x14336_S22x14336

/-- Column chunk `j` of expert `e`'s second weights. -/
abbrev w2src (e : Fin 8) (j : Fin 11) : Memref sig .tc .hbm S3584x256 .i8 :=
  ((Memref.whole main_arg6).slice (Rect.unit (s := S8x3584x2816) ![e.val, 0, 256 * j.val] S1x3584x256.size
    (by intro a; fin_cases a <;> simp [S8x3584x2816, S1x3584x256] <;> omega)) (fun _ => rfl)).squeeze S3584x256 squeezes_S1x3584x256_S3584x256

/-- Expert `e`'s second scales. -/
abbrev s2src (e : Fin 8) : Memref sig .tc .hbm S56x2816 .bf16 :=
  ((Memref.whole main_arg7).slice (Rect.unit (s := S8x56x2816) ![e.val, 0, 0] S1x56x2816.size
    (by intro a; fin_cases a <;> simp [S8x56x2816, S1x56x2816] <;> omega)) (fun _ => rfl)).squeeze S56x2816 squeezes_S1x56x2816_S56x2816

/-! ## Slots of the scratch buffers -/

abbrev w1dst (s : Fin 6) (h : Fin 2) : Memref sig .tc .vmem S1408x256 .i8 :=
  ((Memref.whole cc0_scratch1).slice (Rect.unit (s := S6x2x1408x256) ![s.val, h.val, 0, 0] S1x1x1408x256.size
    (by intro a; fin_cases a <;> simp [S6x2x1408x256, S1x1x1408x256] <;> omega)) (fun _ => rfl)).squeeze S1408x256 squeezes_S1x1x1408x256_S1408x256

abbrev s1dst (p : Fin 2) : Memref sig .tc .vmem S22x14336 .bf16 :=
  ((Memref.whole cc0_scratch2).slice (Rect.unit (s := S2x22x14336) ![p.val, 0, 0] S1x22x14336.size
    (by intro a; fin_cases a <;> simp [S2x22x14336, S1x22x14336] <;> omega)) (fun _ => rfl)).squeeze S22x14336 squeezes_S1x22x14336_S22x14336

abbrev w2dst (s : Fin 4) : Memref sig .tc .vmem S3584x256 .i8 :=
  ((Memref.whole cc0_scratch3).slice (Rect.unit (s := S4x3584x256) ![s.val, 0, 0] S1x3584x256.size
    (by intro a; fin_cases a <;> simp [S4x3584x256, S1x3584x256] <;> omega)) (fun _ => rfl)).squeeze S3584x256 squeezes_S1x3584x256_S3584x256

abbrev s2dst (p : Fin 2) : Memref sig .tc .vmem S56x2816 .bf16 :=
  ((Memref.whole cc0_scratch4).slice (Rect.unit (s := S2x56x2816) ![p.val, 0, 0] S1x56x2816.size
    (by intro a; fin_cases a <;> simp [S2x56x2816, S1x56x2816] <;> omega)) (fun _ => rfl)).squeeze S56x2816 squeezes_S1x56x2816_S56x2816

abbrev w1sem (s : Fin 6) : DmaSem sig :=
  ((cc0_scratch5.slice (Rect.unit (s := S6) ![s.val] S1.size (by intro a; fin_cases a; simp [S6, S1]; omega))).squeeze S_ squeezes_S1_S_).sem
abbrev w2sem (s : Fin 4) : DmaSem sig :=
  ((cc0_scratch6.slice (Rect.unit (s := S4) ![s.val] S1.size (by intro a; fin_cases a; simp [S4, S1]; omega))).squeeze S_ squeezes_S1_S_).sem
abbrev s1sem (p : Fin 2) : DmaSem sig :=
  ((cc0_scratch7.slice (Rect.unit (s := S2) ![p.val] S1.size (by intro a; fin_cases a; simp [S2, S1]; omega))).squeeze S_ squeezes_S1_S_).sem
abbrev s2sem (p : Fin 2) : DmaSem sig :=
  ((cc0_scratch8.slice (Rect.unit (s := S2) ![p.val] S1.size (by intro a; fin_cases a; simp [S2, S1]; omega))).squeeze S_ squeezes_S1_S_).sem

/-! ## Credits -/

abbrev N1 : ℕ := (w1dst 0 0).view.dmaCredit
abbrev NS1 : ℕ := (s1dst 0).view.dmaCredit
abbrev N2 : ℕ := (w2dst 0).view.dmaCredit
abbrev NS2 : ℕ := (s2dst 0).view.dmaCredit

theorem N1_pos : 0 < N1 := by decide +kernel
theorem NS1_pos : 0 < NS1 := by decide +kernel
theorem N2_pos : 0 < N2 := by decide +kernel
theorem NS2_pos : 0 < NS2 := by decide +kernel

/-! ## Read shares of the arrays in HBM -/

def tk1 (s : Fin 6) (h : Fin 2) : PosShare TreeShare := Transfers.shareTok fullShare 12 ⟨2 * s.val + h.val, by omega⟩
def tk2 (s : Fin 4) : PosShare TreeShare := Transfers.shareTok fullShare 4 s
def tks (p : Fin 2) : PosShare TreeShare := Transfers.shareTok fullShare 2 p

variable (c : Dev nD)
variable (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

/-! ## The states of a slot -/

def w1busy (e : Fin 8) (s : Fin 6) (j : Fin 28) : sProp 𝕄 :=
  iprop(fly2 (c : Thread nD τ) 2 0 (.dma (w1sem s)) N1 (w1src e 0 j) (w1src e 1 j) (w1dst s 0) (w1dst s 1) (tk1 s 0) (tk1 s 1) W1 W1
    ∗ loan (c : Thread nD τ) (w1src e 0 j) (tk1 s 0) W1 ∗ loan (c : Thread nD τ) (w1src e 1 j) (tk1 s 1) W1)

def w1idle (s : Fin 6) : sProp 𝕄 :=
  iprop(semVal ((c : Thread nD τ), .dma (w1sem s)) 0 ∗ any (c : Thread nD τ) (w1dst s 0) ∗ any (c : Thread nD τ) (w1dst s 1)
    ∗ ((Memref.whole main_arg4).view.loc (c : Thread nD τ) ↦{tk1 s 0} W1) ∗ ((Memref.whole main_arg4).view.loc (c : Thread nD τ) ↦{tk1 s 1} W1))

def s1busy (e : Fin 8) (p : Fin 2) : sProp 𝕄 :=
  fly1 (c : Thread nD τ) (.dma (s1sem p)) NS1 (s1src e) (s1dst p) (tks p) SC1

def s1idle (p : Fin 2) : sProp 𝕄 :=
  iprop(semVal ((c : Thread nD τ), .dma (s1sem p)) 0 ∗ any (c : Thread nD τ) (s1dst p)
    ∗ ((Memref.whole main_arg5).view.loc (c : Thread nD τ) ↦{tks p} SC1))

def w2busy (e : Fin 8) (s : Fin 4) (j : Fin 11) : sProp 𝕄 :=
  fly1 (c : Thread nD τ) (.dma (w2sem s)) N2 (w2src e j) (w2dst s) (tk2 s) W2

def w2idle (s : Fin 4) : sProp 𝕄 :=
  iprop(semVal ((c : Thread nD τ), .dma (w2sem s)) 0 ∗ any (c : Thread nD τ) (w2dst s)
    ∗ ((Memref.whole main_arg6).view.loc (c : Thread nD τ) ↦{tk2 s} W2))

def s2busy (e : Fin 8) (p : Fin 2) : sProp 𝕄 :=
  fly1 (c : Thread nD τ) (.dma (s2sem p)) NS2 (s2src e) (s2dst p) (tks p) SC2

def s2idle (p : Fin 2) : sProp 𝕄 :=
  iprop(semVal ((c : Thread nD τ), .dma (s2sem p)) 0 ∗ any (c : Thread nD τ) (s2dst p)
    ∗ ((Memref.whole main_arg7).view.loc (c : Thread nD τ) ↦{tks p} SC2))

/-- Before trip `k`, slot `s` of a ring of depth 6 over 28 chunks is filled by the first chunk from `k` on that is `s` modulo 6. -/
def nx6 (k : ℕ) (s : Fin 6) : ℕ := k + (s.val + 6 - k % 6) % 6
def nx4 (k : ℕ) (s : Fin 4) : ℕ := k + (s.val + 4 - k % 4) % 4

def w1st (e : Fin 8) (k : ℕ) (s : Fin 6) : sProp 𝕄 :=
  if h : nx6 k s < 28 then w1busy c W1 e s ⟨nx6 k s, h⟩ else w1idle c W1 s
def w2st (e : Fin 8) (k : ℕ) (s : Fin 4) : sProp 𝕄 :=
  if h : nx4 k s < 11 then w2busy c W2 e s ⟨nx4 k s, h⟩ else w2idle c W2 s

/-- The ring before trip `k`: the slot about to be waited for, and the others, which trip `k` leaves alone. -/
theorem w1ring_step (e : Fin 8) (k : ℕ) (hk : k < 28) (s : Fin 6) (hs : s.val = k % 6) :
    bigSep Finset.univ (w1st c W1 e k) ⊢ iprop(w1busy c W1 e s ⟨k, hk⟩
      ∗ ((if h : k + 6 < 28 then w1busy c W1 e s ⟨k + 6, h⟩ else w1idle c W1 s) -∗ bigSep Finset.univ (w1st c W1 e (k + 1)))) := by
  have h0 : nx6 k s = k := by unfold nx6; omega
  have h1 : nx6 (k + 1) s = k + 6 := by unfold nx6; omega
  have h2 : ∀ s' ∈ Finset.univ.erase s, w1st c W1 e k s' = w1st c W1 e (k + 1) s' := fun s' hs' => by
    have hne : s' ≠ s := Finset.ne_of_mem_erase hs'
    have : nx6 k s' = nx6 (k + 1) s' := by
      have : s'.val ≠ s.val := fun h => hne (Fin.ext h)
      unfold nx6; omega
    unfold w1st; simp only [this]
  rw [bigSep_erase (Finset.mem_univ s), bigSep_erase (Finset.mem_univ s) (Φ := w1st c W1 e (k + 1)), bigSep_congr h2]
  have e0 : w1st c W1 e k s = w1busy c W1 e s ⟨k, hk⟩ := by
    unfold w1st; simp only [h0, hk, dite_true]
  have e1 : w1st c W1 e (k + 1) s = (if h : k + 6 < 28 then w1busy c W1 e s ⟨k + 6, h⟩ else w1idle c W1 s) := by
    unfold w1st; simp only [h1]
  rw [e0, e1]
  show iprop(_ ∗ _) ⊢ iprop(_ ∗ (_ -∗ iprop(_ ∗ _)))
  iintro ⟨H, HR⟩
  isplitl [H]; · iexact H
  iintro H
  isplitl [H]; · iexact H
  iexact HR

theorem w2ring_step (e : Fin 8) (k : ℕ) (hk : k < 11) (s : Fin 4) (hs : s.val = k % 4) :
    bigSep Finset.univ (w2st c W2 e k) ⊢ iprop(w2busy c W2 e s ⟨k, hk⟩
      ∗ ((if h : k + 4 < 11 then w2busy c W2 e s ⟨k + 4, h⟩ else w2idle c W2 s) -∗ bigSep Finset.univ (w2st c W2 e (k + 1)))) := by
  have h0 : nx4 k s = k := by unfold nx4; omega
  have h1 : nx4 (k + 1) s = k + 4 := by unfold nx4; omega
  have h2 : ∀ s' ∈ Finset.univ.erase s, w2st c W2 e k s' = w2st c W2 e (k + 1) s' := fun s' hs' => by
    have hne : s' ≠ s := Finset.ne_of_mem_erase hs'
    have : nx4 k s' = nx4 (k + 1) s' := by
      have : s'.val ≠ s.val := fun h => hne (Fin.ext h)
      unfold nx4; omega
    unfold w2st; simp only [this]
  rw [bigSep_erase (Finset.mem_univ s), bigSep_erase (Finset.mem_univ s) (Φ := w2st c W2 e (k + 1)), bigSep_congr h2]
  have e0 : w2st c W2 e k s = w2busy c W2 e s ⟨k, hk⟩ := by
    unfold w2st; simp only [h0, hk, dite_true]
  have e1 : w2st c W2 e (k + 1) s = (if h : k + 4 < 11 then w2busy c W2 e s ⟨k + 4, h⟩ else w2idle c W2 s) := by
    unfold w2st; simp only [h1]
  rw [e0, e1]
  show iprop(_ ∗ _) ⊢ iprop(_ ∗ (_ -∗ iprop(_ ∗ _)))
  iintro ⟨H, HR⟩
  isplitl [H]; · iexact H
  iintro H
  isplitl [H]; · iexact H
  iexact HR

end Cert.Kernel.Hand
-- ==== Proof.KBase.lean ====
/-
  Small facts the walk through the kernel uses: offsets in closed form, and a buffer's contents after a store through a rectangle.
-/
module

public import proofs.«01_k».proof.Proof.KRes

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem vec1 {a a' : ℕ} (h : a = a') : ![a] = ![a'] := by rw [h]
theorem vec2 {a a' b b' : ℕ} (h : a = a') (hb : b = b') : ![a, b] = ![a', b'] := by rw [h, hb]
theorem vec3 {a a' b b' d d' : ℕ} (h : a = a') (hb : b = b') (hd : d = d') : ![a, b, d] = ![a', b', d'] := by rw [h, hb, hd]

theorem parity : ∀ n < 9, (Scalar.remsi (Scalar.addi 0#32 (Scalar.muli (Scf.iv 0#32 1#32 n) 1#32)) 2#32).toNat = n % 2 := by decide +kernel
theorem index : ∀ n < 9, (Scalar.indexCast (Scalar.addi 0#32 (Scalar.muli (Scf.iv 0#32 1#32 n) 1#32))).toNat = n := by decide +kernel
theorem chunk : ∀ n < 28,
    (Scalar.addi 0#32 (Scalar.muli (Scalar.addi 0#32 (Scalar.muli (Scf.iv 0#32 1#32 n) 1#32)) 256#32)).toNat = 0 * 7168 + 256 * n
    ∧ (Scalar.addi 7168#32 (Scalar.muli (Scalar.addi 0#32 (Scalar.muli (Scf.iv 0#32 1#32 n) 1#32)) 256#32)).toNat = 1 * 7168 + 256 * n := by decide +kernel

/-- A store through a rectangle of a whole buffer, element by element: what is stored inside it, the old contents outside. -/
theorem store_prop {κ : Kind} (Val : EltTy → Type) (b : Ref sig κ) {off size : Fin b.ty.shape.rank → ℕ} (inb : ∀ a, off a + size a ≤ b.ty.shape.size a)
    (f : b.ty.Contents Val) (w : (Rect.unit off size inb).shape.Idx → Val b.ty.elt) (P : b.ty.shape.Idx → Val b.ty.elt → Prop)
    (h1 : ∀ x, P ((Rect.unit off size inb).emb x) (w x))
    (h2 : ∀ i : b.ty.shape.Idx, (∃ a, (i a : ℕ) < off a ∨ off a + size a ≤ (i a : ℕ)) → P i (f i)) (i : b.ty.shape.Idx) :
    P i (((Memref.whole b).access (Rect.unit off size inb)).write Val f w Finset.univ i) := by
  by_cases hi : i ∈ ((Memref.whole b).access (Rect.unit off size inb)).set
  · obtain ⟨x, -, rfl⟩ := Finset.mem_map.1 hi
    rw [View.write_emb_of_mem _ _ (Finset.mem_univ x)]
    exact h1 x
  · rw [View.write_of_not_mem _ _ _ (by rwa [View.setOn_univ])]
    refine h2 i ?_
    by_contra hn
    push Not at hn
    refine hi (Finset.mem_map.2 ⟨fun a => ⟨(i a : ℕ) - off a, ?_⟩, Finset.mem_univ _, ?_⟩)
    · show _ < size a
      have := hn a; omega
    · funext a
      apply Fin.ext
      have := ValueKit.view_emb_slice_whole_unit_val b off size inb (fun a => ⟨(i a : ℕ) - off a, by have := hn a; show _ < size a; omega⟩) a
      refine this.trans ?_
      have := hn a
      show off a + ((i a : ℕ) - off a) = _
      omega

variable {F : FTy → Type} [FloatOps F]

local notation "𝕄" => MT nD τ sig Unit (Elt F) ℕ (Pipeline.UD sig nD τ) ℕ

variable {defs : Defs nD τ sig (Elt F) Λ₀} (c : Dev nD)
  {α : Type} {Q : α → sProp (MT nD τ sig Unit (Elt F) ℕ (Pipeline.UD sig nD τ) ℕ)}

/-- The index a part of a scale array has in the array. -/
def s1ix (h : Fin 2) (j : Fin 28) (i : S1x22x256.Idx) : S1x22x14336.Idx := fun (a : Fin 3) => match a with
  | 0 => (⟨0, by decide⟩ : Fin 1)
  | 1 => (⟨(i 1 : ℕ), (i 1).isLt⟩ : Fin 22)
  | 2 => (⟨h.val * 7168 + 256 * j.val + (i 2 : ℕ), by have : (i 2 : ℕ) < 256 := (i 2).isLt; omega⟩ : Fin 14336)

/-- The index a part of a scale array has in the array. -/
def s2ix (j : Fin 11) (i : S1x56x256.Idx) : S1x56x2816.Idx := fun (a : Fin 3) => match a with
  | 0 => (⟨0, by decide⟩ : Fin 1)
  | 1 => (⟨(i 1 : ℕ), (i 1).isLt⟩ : Fin 56)
  | 2 => (⟨256 * j.val + (i 2 : ℕ), by have : (i 2 : ℕ) < 256 := (i 2).isLt; omega⟩ : Fin 2816)

/-! ## What a load of a slot reads -/

/-- The part of the scales of expert `e` the gate (`h = 0`) or up (`h = 1`) chunk `j` uses. -/
def s1v (SC1 : Buf (Elt F) ((Memref.whole main_arg5).view.loc (c : Thread nD τ))) (e : Fin 8) (h : Fin 2) (j : Fin 28) : Vec F S1x22x256 .bf16 :=
  fun i => shapeCast S1x22x14336 ((s1src e).view.read (Elt F) SC1) (by decide)
    (s1ix h j i)

def w1v (W1 : Buf (Elt F) ((Memref.whole main_arg4).view.loc (c : Thread nD τ))) (e : Fin 8) (h : Fin 2) (j : Fin 28) : Vec F S1x1x1408x256 .i8 :=
  fun i => shapeCast S1x1x1408x256 ((w1src e h j).view.read (Elt F) W1) (by decide) i

def w2v (W2 : Buf (Elt F) ((Memref.whole main_arg6).view.loc (c : Thread nD τ))) (e : Fin 8) (j : Fin 11) : Vec F S1x3584x256 .i8 :=
  fun i => shapeCast S1x3584x256 ((w2src e j).view.read (Elt F) W2) (by decide) i

def s2v (SC2 : Buf (Elt F) ((Memref.whole main_arg7).view.loc (c : Thread nD τ))) (e : Fin 8) (j : Fin 11) : Vec F S1x56x256 .bf16 :=
  fun i => shapeCast S1x56x2816 ((s2src e).view.read (Elt F) SC2) (by decide)
    (s2ix j i)

theorem s1sub (p : Fin 2) (h : Fin 2) (j : Fin 28) (i : S1x22x256.Idx) (a : Fin 3) : (![p.val, 0, h.val * 7168 + 256 * j.val] : Fin 3 → ℕ) a + (i a : ℕ) = (![p.val, 0, 0] : Fin 3 → ℕ) a + (s1ix h j i a : ℕ) := by
  have h0 : (i 0 : ℕ) < 1 := (i 0).isLt
  fin_cases a
  · show p.val + (i 0 : ℕ) = p.val + 0; omega
  · rfl
  · show h.val * 7168 + 256 * j.val + (i 2 : ℕ) = 0 + (h.val * 7168 + 256 * j.val + (i 2 : ℕ)); omega

theorem load_s1 (e : Fin 8) (p : Fin 2) (h : Fin 2) (j : Fin 28) (SC1 : Buf (Elt F) ((Memref.whole main_arg5).view.loc (c : Thread nD τ)))
    {off : Fin 3 → ℕ} (ho : off = ![p.val, 0, h.val * 7168 + 256 * j.val]) {inb} {hl} {k : (S1x22x256.Idx → Elt F .bf16) → Prog (TpuEff nD τ sig (Elt F) Λ₀ .tc) α} :
    (owns (c : Thread nD τ) (s1dst p) fullShare ((s1src e).view.read (Elt F) SC1) : sProp 𝕄)
      ⊢ iprop((owns (c : Thread nD τ) (s1dst p) fullShare ((s1src e).view.read (Elt F) SC1)
            -∗ wp frame (wpE defs Variants.none (c : Thread nD τ) none) Set.univ (k (s1v c SC1 e h j)) Q)
          -∗ wp frame (wpE defs Variants.none (c : Thread nD τ) none) Set.univ
              (.op (.load (Memref.whole cc0_scratch2) (Rect.unit (s := S2x22x14336) off S1x22x256.size inb).toLoadRect hl) k) Q) := by
  subst ho
  have hh := loadSlot (Q := Q) (defs := defs) (k := k) (hl := hl) (X := (s1src e).view.read (Elt F) SC1) (M := Memref.whole cc0_scratch2) (off := ![p.val, 0, 0]) (size := S1x22x14336.size)
    (inb := by intro a; fin_cases a <;> simp [S2x22x14336, S1x22x14336] <;> omega) (hs := fun _ => rfl) (hq := squeezes_S1x22x14336_S22x14336) (size1 := S1x22x256.size) Variants.none (c : Thread nD τ) none (sq := S22x14336) (squeezes_S1x22x14336_S22x14336.numel_eq.symm) (squeezes_S1x22x14336_S22x14336.numel_eq) (sub := fun i => s1ix h j i) (s1sub p h j)
  unfold s1v
  exact hh

theorem s2sub (p : Fin 2) (j : Fin 11) (i : S1x56x256.Idx) (a : Fin 3) : (![p.val, 0, 256 * j.val] : Fin 3 → ℕ) a + (i a : ℕ) = (![p.val, 0, 0] : Fin 3 → ℕ) a + (s2ix j i a : ℕ) := by
  have h0 : (i 0 : ℕ) < 1 := (i 0).isLt
  fin_cases a
  · show p.val + (i 0 : ℕ) = p.val + 0; omega
  · rfl
  · show 256 * j.val + (i 2 : ℕ) = 0 + (256 * j.val + (i 2 : ℕ)); omega

theorem load_s2 (e : Fin 8) (p : Fin 2) (j : Fin 11) (SC2 : Buf (Elt F) ((Memref.whole main_arg7).view.loc (c : Thread nD τ)))
    {off : Fin 3 → ℕ} (ho : off = ![p.val, 0, 256 * j.val]) {inb} {hl} {k : (S1x56x256.Idx → Elt F .bf16) → Prog (TpuEff nD τ sig (Elt F) Λ₀ .tc) α} :
    (owns (c : Thread nD τ) (s2dst p) fullShare ((s2src e).view.read (Elt F) SC2) : sProp 𝕄)
      ⊢ iprop((owns (c : Thread nD τ) (s2dst p) fullShare ((s2src e).view.read (Elt F) SC2)
            -∗ wp frame (wpE defs Variants.none (c : Thread nD τ) none) Set.univ (k (s2v c SC2 e j)) Q)
          -∗ wp frame (wpE defs Variants.none (c : Thread nD τ) none) Set.univ
              (.op (.load (Memref.whole cc0_scratch4) (Rect.unit (s := S2x56x2816) off S1x56x256.size inb).toLoadRect hl) k) Q) := by
  subst ho
  have hh := loadSlot (Q := Q) (defs := defs) (k := k) (hl := hl) (X := (s2src e).view.read (Elt F) SC2) (M := Memref.whole cc0_scratch4) (off := ![p.val, 0, 0]) (size := S1x56x2816.size)
    (inb := by intro a; fin_cases a <;> simp [S2x56x2816, S1x56x2816] <;> omega) (hs := fun _ => rfl) (hq := squeezes_S1x56x2816_S56x2816) (size1 := S1x56x256.size) Variants.none (c : Thread nD τ) none (sq := S56x2816) (squeezes_S1x56x2816_S56x2816.numel_eq.symm) (squeezes_S1x56x2816_S56x2816.numel_eq) (sub := fun i => s2ix j i) (s2sub p j)
  unfold s2v
  exact hh

theorem load_w1 (e : Fin 8) (s : Fin 6) (h : Fin 2) (j : Fin 28) (W1 : Buf (Elt F) ((Memref.whole main_arg4).view.loc (c : Thread nD τ)))
    {off : Fin 4 → ℕ} (ho : off = ![s.val, h.val, 0, 0]) {inb} {hl} {k : (S1x1x1408x256.Idx → Elt F .i8) → Prog (TpuEff nD τ sig (Elt F) Λ₀ .tc) α} :
    (owns (c : Thread nD τ) (w1dst s h) fullShare ((w1src e h j).view.read (Elt F) W1) : sProp 𝕄)
      ⊢ iprop((owns (c : Thread nD τ) (w1dst s h) fullShare ((w1src e h j).view.read (Elt F) W1)
            -∗ wp frame (wpE defs Variants.none (c : Thread nD τ) none) Set.univ (k (w1v c W1 e h j)) Q)
          -∗ wp frame (wpE defs Variants.none (c : Thread nD τ) none) Set.univ
              (.op (.load (Memref.whole cc0_scratch1) (Rect.unit (s := S6x2x1408x256) off S1x1x1408x256.size inb).toLoadRect hl) k) Q) := by
  subst ho
  exact loadSlot Variants.none (c : Thread nD τ) none (sq := S1408x256) (squeezes_S1x1x1408x256_S1408x256.numel_eq.symm) (squeezes_S1x1x1408x256_S1408x256.numel_eq) (sub := fun i => i) (fun i a => rfl)

theorem load_w2 (e : Fin 8) (s : Fin 4) (j : Fin 11) (W2 : Buf (Elt F) ((Memref.whole main_arg6).view.loc (c : Thread nD τ)))
    {off : Fin 3 → ℕ} (ho : off = ![s.val, 0, 0]) {inb} {hl} {k : (S1x3584x256.Idx → Elt F .i8) → Prog (TpuEff nD τ sig (Elt F) Λ₀ .tc) α} :
    (owns (c : Thread nD τ) (w2dst s) fullShare ((w2src e j).view.read (Elt F) W2) : sProp 𝕄)
      ⊢ iprop((owns (c : Thread nD τ) (w2dst s) fullShare ((w2src e j).view.read (Elt F) W2)
            -∗ wp frame (wpE defs Variants.none (c : Thread nD τ) none) Set.univ (k (w2v c W2 e j)) Q)
          -∗ wp frame (wpE defs Variants.none (c : Thread nD τ) none) Set.univ
              (.op (.load (Memref.whole cc0_scratch3) (Rect.unit (s := S4x3584x256) off S1x3584x256.size inb).toLoadRect hl) k) Q) := by
  subst ho
  exact loadSlot Variants.none (c : Thread nD τ) none (sq := S3584x256) (squeezes_S1x3584x256_S3584x256.numel_eq.symm) (squeezes_S1x3584x256_S3584x256.numel_eq) (sub := fun i => i) (fun i a => rfl)

end Cert.Kernel.Hand
-- ==== Proof.KLoops.lean ====
/-
  The values the kernel computes, tile by tile, and its two loops: over the 28 column chunks of the first product and over the 11 of the second.
-/
module

public import proofs.«01_k».proof.Proof.KBase

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values of a tile -/

/-- The dequantised weights of one half of an up-projection chunk, times the rows: what the kernel accumulates for the gate. -/
def gateF (v171 : Vec F S1x22x256 .bf16) (v173 : Vec F S256x2816 .bf16) (v175 : Vec F S1x1x1408x256 .i8) : FVec F S256x256 .f32 :=
  let v172 := k0_pay2 v171
  let v176 := k0_pay3 (F := F) v175
  k0_pay15 v172 v173 (k0_pay4 (F := F) v176) (k0_pay5 v172 v176) (k0_pay6 v172 v176) (k0_pay7 v172 v176) (k0_pay8 v172 v176) (k0_pay9 v172 v176) (k0_pay10 v172 v176) (k0_pay11 v172 v176) (k0_pay12 v172 v176) (k0_pay13 v172 v176) (k0_pay14 v172 v176)

/-- The dequantised weights of the up half. -/
def upW (v287 : Vec F S1x22x256 .bf16) (v291 : Vec F S1x1x1408x256 .i8) : FVec F S2816x256 .bf16 :=
  k0_pay27 (k0_pay16 v287) (k0_pay17 v291) (k0_pay18 v287 v291) (k0_pay19 v287 v291) (k0_pay20 v287 v291) (k0_pay21 v287 v291) (k0_pay22 v287 v291) (k0_pay23 v287 v291) (k0_pay24 v287 v291) (k0_pay25 v291) (k0_pay26 v287)

/-- What the kernel stores for a gate tile and an up tile: `silu(x·g) * (x·u)`. -/
def upF (v171 : Vec F S1x22x256 .bf16) (v173 : Vec F S256x2816 .bf16) (v175 : Vec F S1x1x1408x256 .i8)
    (v287 : Vec F S1x22x256 .bf16) (v289 : Vec F S256x2816 .bf16) (v291 : Vec F S1x1x1408x256 .i8) : FVec F S256x256 .bf16 :=
  k0_pay76 (gateF v171 v173 v175) v289 (upW v287 v291) (constant S256x256 .f32 0x00000000#32)

/-- The dequantised weights of a chunk of the second product. -/
def dnW (v160 : Vec F S1x3584x256 .i8) (v163 : Vec F S1x56x256 .bf16) : FVec F S7168x256 .bf16 :=
  let v164 := k0_pay28 v163
  let v180 := k0_pay29 (F := F) v160
  concatenate S7168x256 0 (⟨S128x256, k0_pay30 v160 v163⟩ :: ⟨S128x256, k0_pay31 v164 v180⟩ :: ⟨S128x256, k0_pay32 v164 v180⟩ :: ⟨S128x256, k0_pay33 v164 v180⟩ :: ⟨S128x256, k0_pay34 v164 v180⟩ :: ⟨S128x256, k0_pay35 v164 v180⟩ :: ⟨S128x256, k0_pay36 v164 v180⟩ :: ⟨S128x256, k0_pay37 v164 v180⟩ :: ⟨S128x256, k0_pay38 v164 v180⟩ :: ⟨S128x256, k0_pay39 v164 v180⟩ :: ⟨S128x256, k0_pay40 v164 v180⟩ :: ⟨S128x256, k0_pay41 v164 v180⟩ :: ⟨S128x256, k0_pay42 v164 v180⟩ :: ⟨S128x256, k0_pay43 v164 v180⟩ :: ⟨S128x256, k0_pay44 v164 v180⟩ :: ⟨S128x256, k0_pay45 v164 v180⟩ :: ⟨S128x256, k0_pay46 v164 v180⟩ :: ⟨S128x256, k0_pay47 v164 v180⟩ :: ⟨S128x256, k0_pay48 v164 v180⟩ :: ⟨S128x256, k0_pay49 v164 v180⟩ :: ⟨S128x256, k0_pay50 v164 v180⟩ :: ⟨S128x256, k0_pay51 v164 v180⟩ :: ⟨S128x256, k0_pay52 v164 v180⟩ :: ⟨S128x256, k0_pay53 v164 v180⟩ :: ⟨S128x256, k0_pay54 v164 v180⟩ :: ⟨S128x256, k0_pay55 v164 v180⟩ :: ⟨S128x256, k0_pay56 v164 v180⟩ :: ⟨S128x256, k0_pay57 v164 v180⟩ :: ⟨S128x256, k0_pay58 v164 v180⟩ :: ⟨S128x256, k0_pay59 v164 v180⟩ :: ⟨S128x256, k0_pay60 v164 v180⟩ :: ⟨S128x256, k0_pay61 v164 v180⟩ :: ⟨S128x256, k0_pay62 v164 v180⟩ :: ⟨S128x256, k0_pay63 v164 v180⟩ :: ⟨S128x256, k0_pay64 v164 v180⟩ :: ⟨S128x256, k0_pay65 v164 v180⟩ :: ⟨S128x256, k0_pay66 v164 v180⟩ :: ⟨S128x256, k0_pay67 v164 v180⟩ :: ⟨S128x256, k0_pay68 v164 v180⟩ :: ⟨S128x256, k0_pay69 v164 v180⟩ :: ⟨S128x256, k0_pay70 v164 v180⟩ :: ⟨S128x256, k0_pay71 v164 v180⟩ :: ⟨S128x256, k0_pay72 v164 v180⟩ :: ⟨S128x256, k0_pay73 v164 v180⟩ :: ⟨S128x256, k0_pay74 v164 v180⟩ :: ⟨S128x256, k0_pay75 v164 v180⟩ :: ⟨S128x256, k0_pay77 v164 v180⟩ :: ⟨S128x256, k0_pay78 v164 v180⟩ :: ⟨S128x256, k0_pay79 v164 v180⟩ :: ⟨S128x256, k0_pay80 v164 v180⟩ :: ⟨S128x256, k0_pay81 v164 v180⟩ :: ⟨S128x256, k0_pay82 v164 v180⟩ :: ⟨S128x256, k0_pay83 v164 v180⟩ :: ⟨S128x256, k0_pay84 v164 v180⟩ :: ⟨S128x256, k0_pay85 v164 v180⟩ :: ⟨S128x256, k0_pay86 v164 v180⟩ :: []) concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S7168x256_d0

/-! ## Offsets -/

theorem off30 (v : BitVec 32) (t : Fin k0_t2_loop.trips) :
    k0_off30 v t 0#32 = ![v.toNat, 0, 0 * 7168 + 256 * t.val] ∧ k0_off30 v t 7168#32 = ![v.toNat, 0, 1 * 7168 + 256 * t.val] := by
  have h : ∀ t : Fin k0_t2_loop.trips, k0_off30 0#32 t 0#32 2 = 0 * 7168 + 256 * t.val ∧ k0_off30 0#32 t 7168#32 2 = 1 * 7168 + 256 * t.val := by decide +kernel
  exact ⟨vec3 rfl rfl (h t).1, vec3 rfl rfl (h t).2⟩
theorem off39 (v : BitVec 32) (t : Fin k0_t2_loop.trips) (hc : k0_cond1 t = 1#1) :
    k0_off39 v t 0#32 = ![v.toNat, 0, 0 * 7168 + 256 * (t.val + 6)] ∧ k0_off39 v t 7168#32 = ![v.toNat, 0, 1 * 7168 + 256 * (t.val + 6)] := by
  have h : ∀ t : Fin k0_t2_loop.trips, k0_cond1 t = 1#1 → k0_off39 0#32 t 0#32 2 = 0 * 7168 + 256 * (t.val + 6) ∧ k0_off39 0#32 t 7168#32 2 = 1 * 7168 + 256 * (t.val + 6) := by decide +kernel
  exact ⟨vec3 rfl rfl (h t hc).1, vec3 rfl rfl (h t hc).2⟩
theorem off63 (v : BitVec 32) (t : Fin k0_t3_loop.trips) : k0_off63 v t = ![v.toNat, 0, 256 * t.val] := by
  have h : ∀ t : Fin k0_t3_loop.trips, k0_off63 0#32 t 2 = 256 * t.val := by decide +kernel
  exact vec3 rfl rfl (h t)
theorem off69 (v : BitVec 32) (t : Fin k0_t3_loop.trips) (hc : k0_cond3 t = 1#1) : k0_off69 v t = ![v.toNat, 0, 256 * (t.val + 4)] := by
  have h : ∀ t : Fin k0_t3_loop.trips, k0_cond3 t = 1#1 → k0_off69 0#32 t 2 = 256 * (t.val + 4) := by decide +kernel
  exact vec3 rfl rfl (h t hc)
theorem off32 (v : BitVec 32) (t1 : Fin (k0_t1_loop v).trips) (h : t1.val < 9) (p : Fin 2) (hp : p.val = t1.val % 2) (t : Fin k0_t2_loop.trips) :
    k0_off32 v t1 t 0#32 = ![p.val, 0, (0 : Fin 2).val * 7168 + 256 * t.val] ∧ k0_off32 v t1 t 7168#32 = ![p.val, 0, (1 : Fin 2).val * 7168 + 256 * t.val] := by
  have h1 := (parity t1.val h).trans hp.symm
  have h2 := chunk t.val t.isLt
  exact ⟨vec3 h1 rfl h2.1, vec3 h1 rfl h2.2⟩
theorem off65 (v : BitVec 32) (t1 : Fin (k0_t1_loop v).trips) (h : t1.val < 9) (p : Fin 2) (hp : p.val = t1.val % 2) (t : Fin k0_t3_loop.trips) :
    k0_off65 v t1 t = ![p.val, 0, 256 * t.val] := by
  have h1 := (parity t1.val h).trans hp.symm
  have h : ∀ t : Fin k0_t3_loop.trips, k0_off66 0#32 t 1 = 256 * t.val := by decide +kernel
  exact vec3 h1 rfl (h t)
theorem off66 (v : BitVec 32) (t : Fin k0_t3_loop.trips) : k0_off66 v t = ![v.toNat, 256 * t.val] := by
  have h : ∀ t : Fin k0_t3_loop.trips, k0_off66 0#32 t 1 = 256 * t.val := by decide +kernel
  exact vec2 rfl (h t)
theorem off33 (v : BitVec 32) : k0_off33 v = ![v.toNat, 0] := rfl
theorem cond1_iff : ∀ t : Fin k0_t2_loop.trips, k0_cond1 t = 1#1 ↔ t.val + 6 < 28 := by decide +kernel
theorem cond2_iff : ∀ t : Fin k0_t3_loop.trips, k0_cond3 t = 1#1 ↔ t.val + 4 < 11 := by decide +kernel

/-! ## What the kernel leaves in its two result buffers -/

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem xinb (r : Fin 641) : ∀ a, (![r.val, 0] : Fin 2 → ℕ) a + S256x2816.size a ≤ S896x2816.size a := by
  intro a; fin_cases a <;> simp [S256x2816, S896x2816]; omega

/-- The 256 rows from row `r` on, as the loops load them. -/
def xall (r : Fin 641) : Vec F S256x2816 .bf16 :=
  ((Memref.whole cc0_stg3_0).access (Rect.unit (s := S896x2816) ![r.val, 0] S256x2816.size (xinb r))).read (Elt F) XB

theorem xall_eq (r : Fin 641) {off : Fin 2 → ℕ} (ho : off = ![r.val, 0]) {inb} :
    ((Memref.whole cc0_stg3_0).access (Rect.unit (s := S896x2816) off S256x2816.size inb)).read (Elt F) XB = xall c XB r := by
  subst ho; rfl

/-- What the up-projection chunk `j` of expert `e` stores. -/
def upv (r : Fin 641) (e : Fin 8) (j : Fin 28) : FVec F S256x256 .bf16 :=
  upF (s1v c SC1 e 0 j) (xall c XB r) (w1v c W1 e 0 j) (s1v c SC1 e 1 j) (xall c XB r) (w1v c W1 e 1 j)

/-- An index of a tile, from a row and a column counted anywhere. -/
def sq2 (a b : ℕ) : S256x256.Idx := fun (k : Fin 2) => match k with
  | 0 => (⟨a % 256, Nat.mod_lt _ (by decide)⟩ : Fin 256)
  | 1 => (⟨b % 256, Nat.mod_lt _ (by decide)⟩ : Fin 256)

/-- The intermediate rows: `silu(x·gate) * (x·up)`, chunk by chunk. -/
def hbuf (r : Fin 641) (e : Fin 8) : Buf (Elt F) ((Memref.whole cc0_scratch0).view.loc (c : Thread nD τ)) :=
  fun (i : S256x7168.Idx) => upv c XB W1 SC1 r e ⟨(i 1 : ℕ) / 256, by have : (i 1 : ℕ) < 7168 := (i 1).isLt; omega⟩ (sq2 (i 0 : ℕ) (i 1 : ℕ))

def hall (r : Fin 641) (e : Fin 8) : Vec F S256x7168 .bf16 :=
  ((Memref.whole cc0_scratch0).access (Rect.unit (s := S256x7168) ![0, 0] S256x7168.size inb_S256x7168_S256x7168_0_0)).read (Elt F) (hbuf c XB W1 SC1 r e)

/-- What the second product's chunk `j` stores. -/
def dnv (r : Fin 641) (e : Fin 8) (j : Fin 11) : FVec F S256x256 .f32 :=
  k0_pay87 (hall c XB W1 SC1 r e) (dnW (w2v c W2 e j) (s2v c SC2 e j))

/-- The result after `k` column chunks of expert `e` on the rows from `r` on, over the contents `Y0`. -/
def ystep (r : Fin 641) (e : Fin 8) (Y0 : Buf (Elt F) ((Memref.whole cc0_stg4_0).view.loc (c : Thread nD τ))) (k : ℕ) : Buf (Elt F) ((Memref.whole cc0_stg4_0).view.loc (c : Thread nD τ)) :=
  fun (i : S896x2816.Idx) => if r.val ≤ (i 0 : ℕ) ∧ (i 0 : ℕ) < r.val + 256 ∧ (i 1 : ℕ) < 256 * k
    then dnv c XB W1 SC1 W2 SC2 r e ⟨(i 1 : ℕ) / 256, by have : (i 1 : ℕ) < 2816 := (i 1).isLt; omega⟩ (sq2 ((i 0 : ℕ) - r.val) (i 1 : ℕ)) else Y0 i

theorem ystep_zero (r : Fin 641) (e : Fin 8) (Y0) : ystep c XB W1 SC1 W2 SC2 r e Y0 0 = Y0 := by
  funext i
  exact if_neg (fun h => absurd h.2.2 (by omega))

/-- The intermediate rows are as they should be in the first `k` column chunks. -/
def hok (r : Fin 641) (e : Fin 8) (k : ℕ) (H : Buf (Elt F) ((Memref.whole cc0_scratch0).view.loc (c : Thread nD τ))) : Prop :=
  ∀ i : S256x7168.Idx, (i 1 : ℕ) < 256 * k → H i = hbuf c XB W1 SC1 r e i

theorem hok_all (r : Fin 641) (e : Fin 8) {H} (h : hok c XB W1 SC1 r e 28 H) : H = hbuf c XB W1 SC1 r e := by
  funext i
  exact h i (by have : ((show S256x7168.Idx from i) 1 : ℕ) < 7168 := ((show S256x7168.Idx from i) 1).isLt; omega)
/-- One more chunk stored. -/
theorem hok_step (r : Fin 641) (e : Fin 8) (k : Fin 28) {H} (h : hok c XB W1 SC1 r e k.val H) {off : Fin 2 → ℕ} (ho : off = ![0, 256 * k.val]) {inb}
    (w : S256x256.Idx → Elt F .bf16) (hw : w = upv c XB W1 SC1 r e k) :
    hok c XB W1 SC1 r e (k.val + 1) (((Memref.whole cc0_scratch0).access (Rect.unit (s := S256x7168) off S256x256.size inb)).write (Elt F) H w Finset.univ) := by
  subst ho hw
  refine store_prop (Elt F) cc0_scratch0 inb H _ (fun i v => ((show S256x7168.Idx from i) 1 : ℕ) < 256 * (k.val + 1) → v = hbuf c XB W1 SC1 r e i) ?_ ?_
  · intro x _
    have hx1 : ((show S256x256.Idx from x) 1 : ℕ) < 256 := ((show S256x256.Idx from x) 1).isLt
    have hx0 : ((show S256x256.Idx from x) 0 : ℕ) < 256 := ((show S256x256.Idx from x) 0).isLt
    have e1 : (((Rect.unit (s := S256x7168) ![0, 256 * k.val] S256x256.size inb).emb x) 1 : ℕ) = 256 * k.val + ((show S256x256.Idx from x) 1 : ℕ) :=
      ValueKit.rect_emb_unit_val _ _ _ x 1
    have e0 : (((Rect.unit (s := S256x7168) ![0, 256 * k.val] S256x256.size inb).emb x) 0 : ℕ) = 0 + ((show S256x256.Idx from x) 0 : ℕ) :=
      ValueKit.rect_emb_unit_val _ _ _ x 0
    unfold hbuf
    congr 1
    · congr 1
      apply Fin.ext
      show k.val = (((Rect.unit (s := S256x7168) ![0, 256 * k.val] S256x256.size inb).emb x) 1 : ℕ) / 256
      rw [e1]; omega
    · funext a
      apply Fin.ext
      fin_cases a
      · show ((show S256x256.Idx from x) 0 : ℕ) = (((Rect.unit (s := S256x7168) ![0, 256 * k.val] S256x256.size inb).emb x) 0 : ℕ) % 256
        rw [e0]; omega
      · show ((show S256x256.Idx from x) 1 : ℕ) = (((Rect.unit (s := S256x7168) ![0, 256 * k.val] S256x256.size inb).emb x) 1 : ℕ) % 256
        rw [e1]; omega
  · intro i hi hlt
    refine h i ?_
    obtain ⟨a, ha⟩ := hi
    have hi0 : ((show S256x7168.Idx from i) 0 : ℕ) < 256 := ((show S256x7168.Idx from i) 0).isLt
    have ha' : ∀ a : Fin 2, (((show S256x7168.Idx from i) a : ℕ) < (![0, 256 * k.val] : Fin 2 → ℕ) a ∨ (![0, 256 * k.val] : Fin 2 → ℕ) a + S256x256.size a ≤ ((show S256x7168.Idx from i) a : ℕ)) → ((show S256x7168.Idx from i) 1 : ℕ) < 256 * k.val := by
      intro a ha
      fin_cases a
      · have : (((show S256x7168.Idx from i) 0 : ℕ) < 0 ∨ 0 + 256 ≤ ((show S256x7168.Idx from i) 0 : ℕ)) := ha
        omega
      · have : (((show S256x7168.Idx from i) 1 : ℕ) < 256 * k.val ∨ 256 * k.val + 256 ≤ ((show S256x7168.Idx from i) 1 : ℕ)) := ha
        omega
    exact ha' a ha

/-- One more chunk stored. -/
theorem ystep_step (r : Fin 641) (e : Fin 8) (k : Fin 11) (Y0) {off : Fin 2 → ℕ} (ho : off = ![r.val, 256 * k.val]) {inb}
    (w : S256x256.Idx → Elt F .f32) (hw : w = dnv c XB W1 SC1 W2 SC2 r e k) :
    ((Memref.whole cc0_stg4_0).access (Rect.unit (s := S896x2816) off S256x256.size inb)).write (Elt F) (ystep c XB W1 SC1 W2 SC2 r e Y0 k.val) w Finset.univ
      = ystep c XB W1 SC1 W2 SC2 r e Y0 (k.val + 1) := by
  subst ho hw
  funext i
  refine store_prop (Elt F) cc0_stg4_0 inb _ _ (fun i v => v = ystep c XB W1 SC1 W2 SC2 r e Y0 (k.val + 1) i) ?_ ?_ i
  · intro x
    have hx1 : ((show S256x256.Idx from x) 1 : ℕ) < 256 := ((show S256x256.Idx from x) 1).isLt
    have hx0 : ((show S256x256.Idx from x) 0 : ℕ) < 256 := ((show S256x256.Idx from x) 0).isLt
    have e1 : (((Rect.unit (s := S896x2816) ![r.val, 256 * k.val] S256x256.size inb).emb x) 1 : ℕ) = 256 * k.val + ((show S256x256.Idx from x) 1 : ℕ) :=
      ValueKit.rect_emb_unit_val _ _ _ x 1
    have e0 : (((Rect.unit (s := S896x2816) ![r.val, 256 * k.val] S256x256.size inb).emb x) 0 : ℕ) = r.val + ((show S256x256.Idx from x) 0 : ℕ) :=
      ValueKit.rect_emb_unit_val _ _ _ x 0
    unfold ystep
    rw [if_pos ⟨by rw [e0]; omega, by rw [e0]; omega, by rw [e1]; omega⟩]
    congr 1
    · congr 1
      apply Fin.ext
      show k.val = (((Rect.unit (s := S896x2816) ![r.val, 256 * k.val] S256x256.size inb).emb x) 1 : ℕ) / 256
      rw [e1]; omega
    · funext a
      apply Fin.ext
      fin_cases a
      · show ((show S256x256.Idx from x) 0 : ℕ) = ((((Rect.unit (s := S896x2816) ![r.val, 256 * k.val] S256x256.size inb).emb x) 0 : ℕ) - r.val) % 256
        rw [e0]; omega
      · show ((show S256x256.Idx from x) 1 : ℕ) = (((Rect.unit (s := S896x2816) ![r.val, 256 * k.val] S256x256.size inb).emb x) 1 : ℕ) % 256
        rw [e1]; omega
  · intro i hi
    obtain ⟨a, ha⟩ := hi
    have ha' : ∀ a : Fin 2, (((show S896x2816.Idx from i) a : ℕ) < (![r.val, 256 * k.val] : Fin 2 → ℕ) a ∨ (![r.val, 256 * k.val] : Fin 2 → ℕ) a + S256x256.size a ≤ ((show S896x2816.Idx from i) a : ℕ)) →
        (((show S896x2816.Idx from i) 0 : ℕ) < r.val ∨ r.val + 256 ≤ ((show S896x2816.Idx from i) 0 : ℕ)) ∨ (((show S896x2816.Idx from i) 1 : ℕ) < 256 * k.val ∨ 256 * k.val + 256 ≤ ((show S896x2816.Idx from i) 1 : ℕ)) := by
      intro a ha
      fin_cases a
      · exact .inl ha
      · exact .inr ha
    have h3 := ha' a ha
    unfold ystep
    refine if_congr ⟨fun h => ⟨h.1, h.2.1, ?_⟩, fun h => ⟨h.1, h.2.1, ?_⟩⟩ rfl rfl
    · have := h.2.2; omega
    · have key : ∀ a b : ℕ, ((a < r.val ∨ r.val + 256 ≤ a) ∨ (b < 256 * k.val ∨ 256 * k.val + 256 ≤ b)) → r.val ≤ a → a < r.val + 256 →
          b < 256 * (k.val + 1) → b < 256 * k.val := by intros; omega
      exact key _ _ h3 h.1 h.2.1 h.2.2

/-! ## One column chunk of the first product -/

/-- The state of the loop over the chunks of the first product before chunk `k`. -/
def inv1 (r : Fin 641) (p : Fin 2) (e : Fin 8) (k : ℕ) : sProp 𝕄 :=
  iprop(bigSep Finset.univ (w1st c W1 e k)
    ∗ owns (c : Thread nD τ) (s1dst p) fullShare ((s1src e).view.read (Elt F) SC1)
    ∗ ((Memref.whole cc0_stg3_0).view.loc (c : Thread nD τ) ↦{fullShare} XB)
    ∗ (∃ H, ⌜hok c XB W1 SC1 r e k H⌝ ∗ ((Memref.whole cc0_scratch0).view.loc (c : Thread nD τ) ↦{fullShare} H))
    ∗ owe0 (c : Thread nD τ))

theorem amt1 (s : Fin 6) (h : Fin 2) (x : DmaSem sig) : (w1dst s h).view.amount (.dma x) = N1 := rfl
theorem amt2 (s : Fin 4) (x : DmaSem sig) : (w2dst s).view.amount (.dma x) = N2 := rfl

theorem trip1 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (v97 : Elt F .i32) (k0_hw2 : k0_chk2 v97) (k0_t1 : Fin (k0_t1_loop v97).trips) (ht1 : k0_t1.val < 9) (p : Fin 2) (hp : p.val = k0_t1.val % 2)
    (v110 : BitVec 32) (v112 : Elt F .i32) (k0_hw4 : k0_chk4 v112) (v114 : Elt F .i32) (k0_hw3 : k0_chk3 v114) (v115 v116 : BitVec 32)
    (e : Fin 8) (he : BitVec.toNat v112 = e.val) (r : Fin 641) (hr : BitVec.toNat v114 = r.val) (k0_t2 : Fin k0_t2_loop.trips) :
    inv1 c XB W1 SC1 r p e k0_t2.val
      ⊢ wp frame (wpE defs Variants.none (c : Thread nD τ) none) Set.univ
          (k0_t2_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 v110 v112 k0_hw4 v114 k0_hw3 v115 v116 k0_t2 ⟨⟩)
          (fun _ => inv1 c XB W1 SC1 r p e (k0_t2.val + 1)) := by
  have hk : k0_t2.val < 28 := k0_t2.isLt
  have hs6 : k0_t2.val % 6 < 6 := Nat.mod_lt _ (by decide)
  unfold inv1
  iintro ⟨Hring, Hs, Hx, ⟨%H, %hH, Hh⟩, HO⟩
  ihave Hr := (w1ring_step c W1 e k0_t2.val hk ⟨k0_t2.val % 6, hs6⟩ rfl) $$ Hring
  icases Hr with ⟨Hb, Hback⟩
  unfold w1busy
  icases Hb with ⟨Hb, Hl0, Hl1⟩
  simp only [k0_t2_body, k0_part1_eq_skeleton, k0_part1_skel, k0_part2_eq_skeleton, k0_part2_skel, k0_part3_eq_skeleton, k0_part3_skel,
    k0_part4_eq_skeleton, k0_part4_skel, k0_part5_eq_skeleton, k0_part5_skel, Prog.lift, Prog.bind_op, Prog.bind_ret, Prog.bind_assoc, Prog.pure_eq_ret]
  have hd : ∀ h : Fin 2, ∀ off, off = ![k0_t2.val % 6, h.val, 0, 0] → ∀ inb, ((Memref.whole cc0_scratch1).slice (Rect.unit (s := S6x2x1408x256) off S1x1x1408x256.size inb) (fun _ => rfl)).squeeze S1408x256 squeezes_S1x1x1408x256_S1408x256
      = w1dst ⟨k0_t2.val % 6, hs6⟩ h := by
    intro h off ho inb; subst ho; rfl
  have hm : ∀ off, off = ![k0_t2.val % 6] → ∀ inb, ((cc0_scratch5.slice (Rect.unit (s := S6) off S1.size inb)).squeeze S_ squeezes_S1_S_).sem = w1sem ⟨k0_t2.val % 6, hs6⟩ := by
    intro off ho inb; subst ho; rfl
  iapply (wait2a (dstw := ((Memref.whole cc0_scratch1).slice (Rect.unit (s := S6x2x1408x256) (k0_off29 k0_t2) S1x1x1408x256.size (k0_off29_inb k0_t2)) (fun _ => rfl)).squeeze S1408x256 squeezes_S1x1x1408x256_S1408x256) Variants.none (c : Thread nD τ) none (hm _ (k0_off28_eq k0_t2) _) rfl N1_pos) $$ [Hb HO]
  · isplitl [Hb] <;> iassumption
  iintro ⟨Hb, HO⟩
  iapply (wait2b (dstw := ((Memref.whole cc0_scratch1).slice (Rect.unit (s := S6x2x1408x256) (k0_off31 k0_t2) S1x1x1408x256.size (k0_off31_inb k0_t2)) (fun _ => rfl)).squeeze S1408x256 squeezes_S1x1x1408x256_S1408x256) Variants.none (c : Thread nD τ) none (hm _ (k0_off28_eq k0_t2) _) rfl N1_pos) $$ [Hb Hl0 Hl1 HO]
  · isplitl [Hb]; · iexact Hb
    isplitl [Hl0]; · iexact Hl0
    isplitl [Hl1] <;> iassumption
  iintro ⟨Hd0, Hd1, Ht0, Ht1, Hv, HO⟩
  iapply (load_s1 (defs := defs) c e p 0 ⟨k0_t2.val, hk⟩ SC1 (off32 v97 k0_t1 ht1 p hp k0_t2).1) $$ Hs
  iintro Hs
  iapply (wp_load_rect Variants.none (c : Thread nD τ) none Set.univ (m := Memref.whole cc0_stg3_0) (r := Rect.unit (s := S896x2816) (k0_off33 v114) S256x2816.size (k0_off33_inb v114 k0_hw3)) (q := fullShare) (f := XB) (S := Finset.univ) (Finset.subset_univ _)) $$ Hx
  iintro Hx
  iapply (load_w1 (defs := defs) c e ⟨k0_t2.val % 6, hs6⟩ 0 ⟨k0_t2.val, hk⟩ W1 (k0_off34_eq k0_t2)) $$ Hd0
  iintro Hd0
  iapply (load_s1 (defs := defs) c e p 1 ⟨k0_t2.val, hk⟩ SC1 (off32 v97 k0_t1 ht1 p hp k0_t2).2) $$ Hs
  iintro Hs
  iapply (wp_load_rect Variants.none (c : Thread nD τ) none Set.univ (m := Memref.whole cc0_stg3_0) (r := Rect.unit (s := S896x2816) (k0_off33 v114) S256x2816.size (k0_off33_inb v114 k0_hw3)) (q := fullShare) (f := XB) (S := Finset.univ) (Finset.subset_univ _)) $$ Hx
  iintro Hx
  iapply (load_w1 (defs := defs) c e ⟨k0_t2.val % 6, hs6⟩ 1 ⟨k0_t2.val, hk⟩ W1 (k0_off35_eq k0_t2)) $$ Hd1
  iintro Hd1
  iapply (wp_load_rect Variants.none (c : Thread nD τ) none Set.univ (m := Memref.whole cc0_scratch0) (r := Rect.unit (s := S256x7168) (k0_off36 k0_t2) S256x256.size (k0_off36_inb k0_t2)) (q := fullShare) (f := H) (S := Finset.univ) (Finset.subset_univ _)) $$ Hh
  iintro Hh
  iapply (wp_store Variants.none (c : Thread nD τ) none Set.univ (m := Memref.whole cc0_scratch0) (r := Rect.unit (s := S256x7168) (k0_off36 k0_t2) S256x256.size (k0_off36_inb k0_t2)) (f := H) (S := Finset.univ) (Finset.subset_univ _)) $$ Hh
  iintro Hh
  have hH' := hok_step c XB W1 SC1 r e ⟨k0_t2.val, hk⟩ hH (k0_off36_eq k0_t2) (inb := k0_off36_inb k0_t2) _ (show _ = upv c XB W1 SC1 r e ⟨k0_t2.val, hk⟩ by unfold upv; rw [← xall_eq c XB r ((off33 v114).trans (by rw [hr])) (inb := k0_off33_inb v114 k0_hw3)])
  by_cases hc : k0_cond1 k0_t2 = 1#1
  · have hc6 : k0_t2.val + 6 < 28 := (cond1_iff k0_t2).1 hc
    have hs : ∀ h : Fin 2, ∀ off, off = ![v112.toNat, 0, h.val * 7168 + 256 * (k0_t2.val + 6)] → ∀ inb, ((Memref.whole main_arg4).slice (Rect.unit (s := S8x1408x14336) off S1x1408x256.size inb) (fun _ => rfl)).squeeze S1408x256 squeezes_S1x1408x256_S1408x256
        = w1src e h ⟨k0_t2.val + 6, hc6⟩ := by
      intro h off ho inb; rw [he] at ho; subst ho; rfl
    have h6 : (k0_t2.val + 6) % 6 = k0_t2.val % 6 := by omega
    rw [dif_pos hc, dif_pos hc6]
    simp only [Prog.lift, Prog.bind_op, Prog.bind_ret, Prog.bind_assoc, Prog.pure_eq_ret]
    iapply (start2a Variants.none (c : Thread nD τ) none (hs 0 _ (off39 v112 k0_t2 hc).1 _) (hd 0 _ ((k0_off38_eq k0_t2).trans (by rw [h6]; rfl)) _) (congrArg SemLoc.dma (hm _ ((k0_off37_eq k0_t2).trans (by rw [h6])) _))
      (w1src e 1 ⟨k0_t2.val + 6, hc6⟩) (w1dst ⟨k0_t2.val % 6, hs6⟩ 1) W1 (q1 := tk1 ⟨k0_t2.val % 6, hs6⟩ 1) N1 (amt1 _ _ _)) $$ [Hv Hd0 Ht0]
    · isplitl [Hv]; · iexact Hv
      isplitl [Hd0]; · unfold any; iexists _; iexact Hd0
      iexact Ht0
    iintro ⟨Hb, Hl0⟩
    iapply (start2b Variants.none (c : Thread nD τ) none (hs 1 _ (off39 v112 k0_t2 hc).2 _) (hd 1 _ ((k0_off40_eq k0_t2).trans (by rw [h6]; rfl)) _) (congrArg SemLoc.dma (hm _ ((k0_off37_eq k0_t2).trans (by rw [h6])) _)) (amt1 _ _ _)) $$ [Hb Hd1 Ht1]
    · isplitl [Hb]; · iexact Hb
      isplitl [Hd1]; · unfold any; iexists _; iexact Hd1
      iexact Ht1
    iintro ⟨Hb, Hl1⟩
    rw [wp_ret]; imodintro
    isplitl [Hback Hb Hl0 Hl1]
    · iapply Hback
      isplitl [Hb]; · iexact Hb
      isplitl [Hl0] <;> iassumption
    isplitl [Hs]; · iexact Hs
    isplitl [Hx]; · iexact Hx
    isplitl [Hh]
    · iexists _; isplitr; swap; · iexact Hh
      ipureintro; exact hH'
    iexact HO
  · have hc6 : ¬ k0_t2.val + 6 < 28 := fun h => hc ((cond1_iff k0_t2).2 h)
    rw [dif_neg hc, dif_neg hc6]
    simp only [Prog.lift, Prog.bind_op, Prog.bind_ret, Prog.bind_assoc, Prog.pure_eq_ret]
    rw [wp_ret]; imodintro
    isplitl [Hback Hv Hd0 Hd1 Ht0 Ht1]
    · iapply Hback
      unfold w1idle any
      isplitl [Hv]; · iexact Hv
      isplitl [Hd0]; · iexists _; iexact Hd0
      isplitl [Hd1]; · iexists _; iexact Hd1
      isplitl [Ht0] <;> iassumption
    isplitl [Hs]; · iexact Hs
    isplitl [Hx]; · iexact Hx
    isplitl [Hh]
    · iexists _; isplitr; swap; · iexact Hh
      ipureintro; exact hH'
    iexact HO

/-! ## One column chunk of the second product -/

/-- The state of the loop over the chunks of the second product before chunk `k`. -/
def inv2 (r : Fin 641) (p : Fin 2) (e : Fin 8) (Y0 : Buf (Elt F) ((Memref.whole cc0_stg4_0).view.loc (c : Thread nD τ))) (k : ℕ) : sProp 𝕄 :=
  iprop(bigSep Finset.univ (w2st c W2 e k)
    ∗ owns (c : Thread nD τ) (s2dst p) fullShare ((s2src e).view.read (Elt F) SC2)
    ∗ ((Memref.whole cc0_scratch0).view.loc (c : Thread nD τ) ↦{fullShare} hbuf c XB W1 SC1 r e)
    ∗ ((Memref.whole cc0_stg4_0).view.loc (c : Thread nD τ) ↦{fullShare} ystep c XB W1 SC1 W2 SC2 r e Y0 k)
    ∗ owe0 (c : Thread nD τ))

theorem trip2 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (v97 : Elt F .i32) (k0_hw2 : k0_chk2 v97) (k0_t1 : Fin (k0_t1_loop v97).trips) (ht1 : k0_t1.val < 9) (p : Fin 2) (hp : p.val = k0_t1.val % 2)
    (v110 : BitVec 32) (v112 : Elt F .i32) (k0_hw4 : k0_chk4 v112) (v114 : Elt F .i32) (k0_hw3 : k0_chk3 v114) (v115 v116 : BitVec 32)
    (e : Fin 8) (he : BitVec.toNat v112 = e.val) (r : Fin 641) (hr : BitVec.toNat v114 = r.val) (Y0) (k0_t3 : Fin k0_t3_loop.trips) :
    inv2 c XB W1 SC1 W2 SC2 r p e Y0 k0_t3.val
      ⊢ wp frame (wpE defs Variants.none (c : Thread nD τ) none) Set.univ
          (k0_t3_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 v110 v112 k0_hw4 v114 k0_hw3 v115 v116 k0_t3 ⟨⟩)
          (fun _ => inv2 c XB W1 SC1 W2 SC2 r p e Y0 (k0_t3.val + 1)) := by
  have hk : k0_t3.val < 11 := k0_t3.isLt
  have hs4 : k0_t3.val % 4 < 4 := Nat.mod_lt _ (by decide)
  unfold inv2
  iintro ⟨Hring, Hs, Hh, Hy, HO⟩
  ihave Hr := (w2ring_step c W2 e k0_t3.val hk ⟨k0_t3.val % 4, hs4⟩ rfl) $$ Hring
  icases Hr with ⟨Hb, Hback⟩
  unfold w2busy
  simp only [k0_t3_body, k0_part9_eq_skeleton, k0_part9_skel, k0_part10_eq_skeleton, k0_part10_skel, k0_part11_eq_skeleton, k0_part11_skel,
    k0_part12_eq_skeleton, k0_part12_skel, Prog.lift, Prog.bind_op, Prog.bind_ret, Prog.bind_assoc, Prog.pure_eq_ret]
  have hd : ∀ off, off = ![k0_t3.val % 4, 0, 0] → ∀ inb, ((Memref.whole cc0_scratch3).slice (Rect.unit (s := S4x3584x256) off S1x3584x256.size inb) (fun _ => rfl)).squeeze S3584x256 squeezes_S1x3584x256_S3584x256
      = w2dst ⟨k0_t3.val % 4, hs4⟩ := by
    intro off ho inb; subst ho; rfl
  have hm : ∀ off, off = ![k0_t3.val % 4] → ∀ inb, ((cc0_scratch6.slice (Rect.unit (s := S4) off S1.size inb)).squeeze S_ squeezes_S1_S_).sem = w2sem ⟨k0_t3.val % 4, hs4⟩ := by
    intro off ho inb; subst ho; rfl
  iapply (wait1 (dstw := ((Memref.whole cc0_scratch3).slice (Rect.unit (s := S4x3584x256) (k0_off62 k0_t3) S1x3584x256.size (k0_off62_inb k0_t3)) (fun _ => rfl)).squeeze S3584x256 squeezes_S1x3584x256_S3584x256) Variants.none (c : Thread nD τ) none (hm _ (k0_off61_eq k0_t3) _) rfl N2_pos) $$ [Hb HO]
  · isplitl [Hb] <;> iassumption
  iintro ⟨Hd, Ht, Hv, HO⟩
  iapply (wp_load_rect Variants.none (c : Thread nD τ) none Set.univ (m := Memref.whole cc0_scratch0) (r := Rect.unit (s := S256x7168) ![0, 0] S256x7168.size inb_S256x7168_S256x7168_0_0) (q := fullShare) (f := hbuf c XB W1 SC1 r e) (S := Finset.univ) (Finset.subset_univ _)) $$ Hh
  iintro Hh
  iapply (load_w2 (defs := defs) c e ⟨k0_t3.val % 4, hs4⟩ ⟨k0_t3.val, hk⟩ W2 (k0_off64_eq k0_t3)) $$ Hd
  iintro Hd
  iapply (load_s2 (defs := defs) c e p ⟨k0_t3.val, hk⟩ SC2 (off65 v97 k0_t1 ht1 p hp k0_t3)) $$ Hs
  iintro Hs
  iapply (wp_load_rect Variants.none (c : Thread nD τ) none Set.univ (m := Memref.whole cc0_stg4_0) (r := Rect.unit (s := S896x2816) (k0_off66 v114 k0_t3) S256x256.size (k0_off66_inb v114 k0_hw3 k0_t3)) (q := fullShare) (f := ystep c XB W1 SC1 W2 SC2 r e Y0 k0_t3.val) (S := Finset.univ) (Finset.subset_univ _)) $$ Hy
  iintro Hy
  iapply (wp_store Variants.none (c : Thread nD τ) none Set.univ (m := Memref.whole cc0_stg4_0) (r := Rect.unit (s := S896x2816) (k0_off66 v114 k0_t3) S256x256.size (k0_off66_inb v114 k0_hw3 k0_t3)) (f := ystep c XB W1 SC1 W2 SC2 r e Y0 k0_t3.val) (S := Finset.univ) (Finset.subset_univ _)) $$ Hy
  iintro Hy
  have hY' := (ystep_step c XB W1 SC1 W2 SC2 r e ⟨k0_t3.val, hk⟩ Y0 ((off66 v114 k0_t3).trans (by rw [hr])) (inb := k0_off66_inb v114 k0_hw3 k0_t3) (dnv c XB W1 SC1 W2 SC2 r e ⟨k0_t3.val, hk⟩) rfl).symm
  by_cases hc : k0_cond3 k0_t3 = 1#1
  · have hc4 : k0_t3.val + 4 < 11 := (cond2_iff k0_t3).1 hc
    have hs : ∀ off, off = ![v112.toNat, 0, 256 * (k0_t3.val + 4)] → ∀ inb, ((Memref.whole main_arg6).slice (Rect.unit (s := S8x3584x2816) off S1x3584x256.size inb) (fun _ => rfl)).squeeze S3584x256 squeezes_S1x3584x256_S3584x256
        = w2src e ⟨k0_t3.val + 4, hc4⟩ := by
      intro off ho inb; rw [he] at ho; subst ho; rfl
    rw [dif_pos hc, dif_pos hc4]
    simp only [Prog.lift, Prog.bind_op, Prog.bind_ret, Prog.bind_assoc, Prog.pure_eq_ret]
    iapply (start1 Variants.none (c : Thread nD τ) none (hs _ (off69 v112 k0_t3 hc) _) (hd _ (k0_off68_eq k0_t3) _) (congrArg SemLoc.dma (hm _ (k0_off67_eq k0_t3) _)) N2 (amt2 _ _)) $$ [Hv Hd Ht]
    · isplitl [Hv]; · iexact Hv
      isplitl [Hd]; · unfold any; iexists _; iexact Hd
      iexact Ht
    iintro Hb
    rw [wp_ret]; imodintro
    isplitl [Hback Hb]
    · iapply Hback; iexact Hb
    isplitl [Hs]; · iexact Hs
    isplitl [Hh]; · iexact Hh
    isplitl [Hy]
    · rw [show ystep c XB W1 SC1 W2 SC2 r e Y0 (k0_t3.val + 1) = _ from hY']; iexact Hy
    iexact HO
  · have hc4 : ¬ k0_t3.val + 4 < 11 := fun h => hc ((cond2_iff k0_t3).2 h)
    rw [dif_neg hc, dif_neg hc4]
    simp only [Prog.lift, Prog.bind_op, Prog.bind_ret, Prog.bind_assoc, Prog.pure_eq_ret]
    rw [wp_ret]; imodintro
    isplitl [Hback Hv Hd Ht]
    · iapply Hback
      unfold w2idle any
      isplitl [Hv]; · iexact Hv
      isplitl [Hd]; · iexists _; iexact Hd
      iexact Ht
    isplitl [Hs]; · iexact Hs
    isplitl [Hh]; · iexact Hh
    isplitl [Hy]
    · rw [show ystep c XB W1 SC1 W2 SC2 r e Y0 (k0_t3.val + 1) = _ from hY']; iexact Hy
    iexact HO

end Cert.Kernel.Hand
-- ==== Proof.KPro.lean ====
/-
  The scratch buffers cut into their slots and put together again, the arrays in HBM shared out among the copies, and the
  copies the kernel starts before its loops.
-/
module

public import proofs.«01_k».proof.Proof.KLoops

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer in pieces -/

theorem entails_of_eq {P Q : sProp 𝕄} (e : P = Q) : P ⊢ Q := e ▸ .rfl

section
variable {ℓ : Loc nD τ sig} {T : Type} [Fintype T] [DecidableEq T] (I : T → Finset (Idx ℓ)) (hd : ∀ s t, s ≠ t → Disjoint (I s) (I t))
include hd

theorem pieces_split :
    (iprop(∃ f, ℓ ↦{fullShare} f) : sProp 𝕄)
      ⊢ iprop((bigSep Finset.univ fun t => iprop(∃ g, ℓ ↦[I t]{fullShare} g)) ∗ ∃ f, ℓ ↦[Finset.univ \ Finset.univ.biUnion I]{fullShare} f) := by
  iintro ⟨%f, H⟩
  ihave H' := (pointsTo_split_subset (q := fullShare) (f := f) (Finset.subset_univ (Finset.univ.biUnion I))).1 $$ H
  icases H' with ⟨Hs, HSp⟩
  ihave H3 := ((entails_of_eq (pointsTo_biUnion (q := fullShare) (f := f) Finset.univ I (fun s _ s' _ h => hd s s' h))).trans
    (bigSep_mono (Ψ := fun t => iprop(∃ g, ℓ ↦[I t]{fullShare} g)) fun t _ => exists_intro (Φ := fun g => iprop(ℓ ↦[I t]{fullShare} g)) f)) $$ Hs
  isplitl [H3]; · iexact H3
  iexists f; iexact HSp

theorem pieces_join :
    (iprop((bigSep Finset.univ fun t => iprop(∃ g, ℓ ↦[I t]{fullShare} g)) ∗ ∃ f, ℓ ↦[Finset.univ \ Finset.univ.biUnion I]{fullShare} f) : sProp 𝕄)
      ⊢ iprop(∃ f, ℓ ↦{fullShare} f) := by
  iintro ⟨HB, ⟨%fs, HSp⟩⟩
  have : Nonempty (Buf (Elt F) ℓ) := ⟨fs⟩
  ihave HB' := (Idealize.SL.BI.bigSep_exists_pi Finset.univ (fun (s : T) (f : Buf (Elt F) ℓ) => (ℓ ↦[I s]{fullShare} f : sProp 𝕄))) $$ HB
  icases HB' with ⟨%gs, HB⟩
  ihave HJ := (pointsTo_biUnion_join (q := fullShare) Finset.univ I gs fs (fun s _ s' _ h => hd s s' h)) $$ HB
  icases HJ with ⟨%g, -, Hs⟩
  iexists _
  iapply (pointsTo_join_subset (Finset.subset_univ (Finset.univ.biUnion I)))
  isplitl [Hs]; · iexact Hs
  iexact HSp
end

theorem any_pts (c : Dev nD) {sp : Space} {s : Shape} {e : EltTy} (m : Memref sig .tc sp s e) :
    (any (c : Thread nD τ) m : sProp 𝕄) = iprop(∃ g, m.view.loc (c : Thread nD τ) ↦[m.view.set]{fullShare} g) := by
  have h1 : (any (c : Thread nD τ) m : sProp 𝕄) ⊢ iprop(∃ g, m.view.loc (c : Thread nD τ) ↦[m.view.set]{fullShare} g) := by
    unfold any owns
    iintro ⟨%X, ⟨%f, -, H⟩⟩
    iexists f; iexact H
  have h2 : (iprop(∃ g, m.view.loc (c : Thread nD τ) ↦[m.view.set]{fullShare} g) : sProp 𝕄) ⊢ any (c : Thread nD τ) m := by
    unfold any owns
    iintro ⟨%f, H⟩
    iexists _, f
    isplitr; swap; · iexact H
    ipureintro; rfl
  exact BI.equiv_iff.mp ⟨h1, h2⟩

def slot6 (t : Fin 12) : Fin 6 := ⟨t.val / 2, by omega⟩
def half2 (t : Fin 12) : Fin 2 := ⟨t.val % 2, by omega⟩

/-! ## ring1 -/

theorem ring1_set (s : Fin 6) (h : Fin 2) : (w1dst s h).view.set = (Rect.unit (s := S6x2x1408x256) ![s.val, h.val, 0, 0] S1x1x1408x256.size (by intro a; fin_cases a <;> simp [S6x2x1408x256, S1x1x1408x256] <;> omega)).set := (View.set_reshape _ _).trans (View.set_slice_whole _ _)

def I_ring1 (c : Dev nD) (t : Fin 12) : Finset (Idx ((Memref.whole cc0_scratch1).view.loc (c : Thread nD τ))) := (w1dst (slot6 t) (half2 t)).view.set

theorem I_ring1_disj (c : Dev nD) : ∀ s t, s ≠ t → Disjoint (I_ring1 c s) (I_ring1 c t) := by
  intro s t hst
  have hne : s.val ≠ t.val := fun h => hst (Fin.ext h)
  unfold I_ring1
  rw [ring1_set, ring1_set]
  by_cases h : s.val / 2 = t.val / 2
  · refine Rect.unit_disjoint 1 ?_
    show s.val % 2 + 1 ≤ t.val % 2 ∨ t.val % 2 + 1 ≤ s.val % 2
    omega
  · refine Rect.unit_disjoint 0 ?_
    show s.val / 2 + 1 ≤ t.val / 2 ∨ t.val / 2 + 1 ≤ s.val / 2
    omega

theorem ring1_anys (c : Dev nD) :
    (bigSep Finset.univ (fun t : Fin 12 => iprop(∃ g, (Memref.whole cc0_scratch1).view.loc (c : Thread nD τ) ↦[I_ring1 c t]{fullShare} g)) : sProp 𝕄)
      = iprop(any (c : Thread nD τ) (w1dst 0 0)
        ∗ any (c : Thread nD τ) (w1dst 0 1)
        ∗ any (c : Thread nD τ) (w1dst 1 0)
        ∗ any (c : Thread nD τ) (w1dst 1 1)
        ∗ any (c : Thread nD τ) (w1dst 2 0)
        ∗ any (c : Thread nD τ) (w1dst 2 1)
        ∗ any (c : Thread nD τ) (w1dst 3 0)
        ∗ any (c : Thread nD τ) (w1dst 3 1)
        ∗ any (c : Thread nD τ) (w1dst 4 0)
        ∗ any (c : Thread nD τ) (w1dst 4 1)
        ∗ any (c : Thread nD τ) (w1dst 5 0)
        ∗ any (c : Thread nD τ) (w1dst 5 1)) := by
  refine (BI.bigSep_congr (Ψ := fun t : Fin 12 => any (c : Thread nD τ) (w1dst (slot6 t) (half2 t))) (fun t _ => (any_pts c (w1dst (slot6 t) (half2 t))).symm)).trans ?_
  rw [BI.bigSep_eq_bigSepL_of_eq ([0, 1, 2, 3, 4, 5, 6, 7, 8, 9, 10, 11] : List (Fin 12)) (by decide) (by decide)]
  rfl

theorem ring1_toks (c : Dev nD) (W1 : Buf (Elt F) ((Memref.whole main_arg4).view.loc (c : Thread nD τ))) :
    (bigSep Finset.univ (fun t : Fin 12 => (Memref.whole main_arg4).view.loc (c : Thread nD τ) ↦{Transfers.shareTok fullShare 12 t} W1) : sProp 𝕄)
      = iprop(((Memref.whole main_arg4).view.loc (c : Thread nD τ) ↦{tk1 0 0} W1)
        ∗ ((Memref.whole main_arg4).view.loc (c : Thread nD τ) ↦{tk1 0 1} W1)
        ∗ ((Memref.whole main_arg4).view.loc (c : Thread nD τ) ↦{tk1 1 0} W1)
        ∗ ((Memref.whole main_arg4).view.loc (c : Thread nD τ) ↦{tk1 1 1} W1)
        ∗ ((Memref.whole main_arg4).view.loc (c : Thread nD τ) ↦{tk1 2 0} W1)
        ∗ ((Memref.whole main_arg4).view.loc (c : Thread nD τ) ↦{tk1 2 1} W1)
        ∗ ((Memref.whole main_arg4).view.loc (c : Thread nD τ) ↦{tk1 3 0} W1)
        ∗ ((Memref.whole main_arg4).view.loc (c : Thread nD τ) ↦{tk1 3 1} W1)
        ∗ ((Memref.whole main_arg4).view.loc (c : Thread nD τ) ↦{tk1 4 0} W1)
        ∗ ((Memref.whole main_arg4).view.loc (c : Thread nD τ) ↦{tk1 4 1} W1)
        ∗ ((Memref.whole main_arg4).view.loc (c : Thread nD τ) ↦{tk1 5 0} W1)
        ∗ ((Memref.whole main_arg4).view.loc (c : Thread nD τ) ↦{tk1 5 1} W1)) := by
  rw [BI.bigSep_eq_bigSepL_of_eq ([0, 1, 2, 3, 4, 5, 6, 7, 8, 9, 10, 11] : List (Fin 12)) (by decide) (by decide)]
  rfl

/-- What of the scratch buffer and of the array in HBM no slot uses. -/
def rem_ring1 (c : Dev nD) (W1 : Buf (Elt F) ((Memref.whole main_arg4).view.loc (c : Thread nD τ))) : sProp 𝕄 :=
  iprop((∃ f, (Memref.whole cc0_scratch1).view.loc (c : Thread nD τ) ↦[Finset.univ \ Finset.univ.biUnion (I_ring1 c)]{fullShare} f)
    ∗ ((Memref.whole main_arg4).view.loc (c : Thread nD τ) ↦{Transfers.shareDrop fullShare 12} W1))

theorem ring1_open (c : Dev nD) (W1 : Buf (Elt F) ((Memref.whole main_arg4).view.loc (c : Thread nD τ))) :
    (iprop((∃ f, (Memref.whole cc0_scratch1).view.loc (c : Thread nD τ) ↦{fullShare} f) ∗ ((Memref.whole main_arg4).view.loc (c : Thread nD τ) ↦{fullShare} W1)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0) : sProp 𝕄)
      ⊢ iprop((w1idle c W1 0 ∗ w1idle c W1 1 ∗ w1idle c W1 2 ∗ w1idle c W1 3 ∗ w1idle c W1 4 ∗ w1idle c W1 5) ∗ rem_ring1 c W1) := by
  iintro ⟨HB, HW, S0, S1, S2, S3, S4, S5⟩
  ihave HB' := (pieces_split (I_ring1 c) (I_ring1_disj c)) $$ HB
  icases HB' with ⟨HA, HS⟩
  ihave HA' := (entails_of_eq (ring1_anys c)) $$ HA
  icases HA' with ⟨A0, A1, A2, A3, A4, A5, A6, A7, A8, A9, A10, A11⟩
  ihave HW' := (Transfers.pointsTo_toks_split fullShare 12) $$ HW
  icases HW' with ⟨HD, HT⟩
  ihave HT' := (entails_of_eq (ring1_toks c W1)) $$ HT
  icases HT' with ⟨T0, T1, T2, T3, T4, T5, T6, T7, T8, T9, T10, T11⟩
  unfold rem_ring1 w1idle
  isplitr [HS HD]; swap
  · isplitl [HS]; · iexact HS
    iexact HD
  isplitl [S0 A0 A1 T0 T1]
  · isplitl [S0]; · iexact S0
    isplitl [A0]; · iexact A0
    isplitl [A1]; · iexact A1
    isplitl [T0]; · iexact T0
    iexact T1
  isplitl [S1 A2 A3 T2 T3]
  · isplitl [S1]; · iexact S1
    isplitl [A2]; · iexact A2
    isplitl [A3]; · iexact A3
    isplitl [T2]; · iexact T2
    iexact T3
  isplitl [S2 A4 A5 T4 T5]
  · isplitl [S2]; · iexact S2
    isplitl [A4]; · iexact A4
    isplitl [A5]; · iexact A5
    isplitl [T4]; · iexact T4
    iexact T5
  isplitl [S3 A6 A7 T6 T7]
  · isplitl [S3]; · iexact S3
    isplitl [A6]; · iexact A6
    isplitl [A7]; · iexact A7
    isplitl [T6]; · iexact T6
    iexact T7
  isplitl [S4 A8 A9 T8 T9]
  · isplitl [S4]; · iexact S4
    isplitl [A8]; · iexact A8
    isplitl [A9]; · iexact A9
    isplitl [T8]; · iexact T8
    iexact T9
  isplitl [S5]; · iexact S5
  isplitl [A10]; · iexact A10
  isplitl [A11]; · iexact A11
  isplitl [T10]; · iexact T10
  iexact T11

theorem ring1_close (c : Dev nD) (W1 : Buf (Elt F) ((Memref.whole main_arg4).view.loc (c : Thread nD τ))) :
    (iprop((w1idle c W1 0 ∗ w1idle c W1 1 ∗ w1idle c W1 2 ∗ w1idle c W1 3 ∗ w1idle c W1 4 ∗ w1idle c W1 5) ∗ rem_ring1 c W1) : sProp 𝕄)
      ⊢ iprop((∃ f, (Memref.whole cc0_scratch1).view.loc (c : Thread nD τ) ↦{fullShare} f) ∗ ((Memref.whole main_arg4).view.loc (c : Thread nD τ) ↦{fullShare} W1)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0) := by
  unfold rem_ring1 w1idle
  iintro ⟨⟨⟨S0, A0, A1, T0, T1⟩, ⟨S1, A2, A3, T2, T3⟩, ⟨S2, A4, A5, T4, T5⟩, ⟨S3, A6, A7, T6, T7⟩, ⟨S4, A8, A9, T8, T9⟩, ⟨S5, A10, A11, T10, T11⟩⟩, HS, HD⟩
  isplitr [T0 T1 T2 T3 T4 T5 T6 T7 T8 T9 T10 T11 HD S0 S1 S2 S3 S4 S5]
  · iapply (pieces_join (I_ring1 c) (I_ring1_disj c))
    isplitr [HS]; swap; · iexact HS
    iapply (entails_of_eq (ring1_anys c).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [T0 T1 T2 T3 T4 T5 T6 T7 T8 T9 T10 T11 HD]
  · iapply (Transfers.pointsTo_toks_join fullShare 12)
    isplitl [HD]; · iexact HD
    iapply (entails_of_eq (ring1_toks c W1).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    iexact T11
  isplitl [S0]; · iexact S0
  isplitl [S1]; · iexact S1
  isplitl [S2]; · iexact S2
  isplitl [S3]; · iexact S3
  isplitl [S4]; · iexact S4
  iexact S5

/-! ## ring2 -/

theorem ring2_set (s : Fin 4) : (w2dst s).view.set = (Rect.unit (s := S4x3584x256) ![s.val, 0, 0] S1x3584x256.size (by intro a; fin_cases a <;> simp [S4x3584x256, S1x3584x256] <;> omega)).set := (View.set_reshape _ _).trans (View.set_slice_whole _ _)

def I_ring2 (c : Dev nD) (t : Fin 4) : Finset (Idx ((Memref.whole cc0_scratch3).view.loc (c : Thread nD τ))) := (w2dst t).view.set

theorem I_ring2_disj (c : Dev nD) : ∀ s t, s ≠ t → Disjoint (I_ring2 c s) (I_ring2 c t) := by
  intro s t hst
  have hne : s.val ≠ t.val := fun h => hst (Fin.ext h)
  unfold I_ring2
  rw [ring2_set, ring2_set]
  refine Rect.unit_disjoint 0 ?_
  show s.val + 1 ≤ t.val ∨ t.val + 1 ≤ s.val
  omega

theorem ring2_anys (c : Dev nD) :
    (bigSep Finset.univ (fun t : Fin 4 => iprop(∃ g, (Memref.whole cc0_scratch3).view.loc (c : Thread nD τ) ↦[I_ring2 c t]{fullShare} g)) : sProp 𝕄)
      = iprop(any (c : Thread nD τ) (w2dst 0)
        ∗ any (c : Thread nD τ) (w2dst 1)
        ∗ any (c : Thread nD τ) (w2dst 2)
        ∗ any (c : Thread nD τ) (w2dst 3)) := by
  refine (BI.bigSep_congr (Ψ := fun t : Fin 4 => any (c : Thread nD τ) (w2dst t)) (fun t _ => (any_pts c (w2dst t)).symm)).trans ?_
  rw [BI.bigSep_eq_bigSepL_of_eq ([0, 1, 2, 3] : List (Fin 4)) (by decide) (by decide)]
  rfl

theorem ring2_toks (c : Dev nD) (W2 : Buf (Elt F) ((Memref.whole main_arg6).view.loc (c : Thread nD τ))) :
    (bigSep Finset.univ (fun t : Fin 4 => (Memref.whole main_arg6).view.loc (c : Thread nD τ) ↦{Transfers.shareTok fullShare 4 t} W2) : sProp 𝕄)
      = iprop(((Memref.whole main_arg6).view.loc (c : Thread nD τ) ↦{tk2 0} W2)
        ∗ ((Memref.whole main_arg6).view.loc (c : Thread nD τ) ↦{tk2 1} W2)
        ∗ ((Memref.whole main_arg6).view.loc (c : Thread nD τ) ↦{tk2 2} W2)
        ∗ ((Memref.whole main_arg6).view.loc (c : Thread nD τ) ↦{tk2 3} W2)) := by
  rw [BI.bigSep_eq_bigSepL_of_eq ([0, 1, 2, 3] : List (Fin 4)) (by decide) (by decide)]
  rfl

/-- What of the scratch buffer and of the array in HBM no slot uses. -/
def rem_ring2 (c : Dev nD) (W2 : Buf (Elt F) ((Memref.whole main_arg6).view.loc (c : Thread nD τ))) : sProp 𝕄 :=
  iprop((∃ f, (Memref.whole cc0_scratch3).view.loc (c : Thread nD τ) ↦[Finset.univ \ Finset.univ.biUnion (I_ring2 c)]{fullShare} f)
    ∗ ((Memref.whole main_arg6).view.loc (c : Thread nD τ) ↦{Transfers.shareDrop fullShare 4} W2))

theorem ring2_open (c : Dev nD) (W2 : Buf (Elt F) ((Memref.whole main_arg6).view.loc (c : Thread nD τ))) :
    (iprop((∃ f, (Memref.whole cc0_scratch3).view.loc (c : Thread nD τ) ↦{fullShare} f) ∗ ((Memref.whole main_arg6).view.loc (c : Thread nD τ) ↦{fullShare} W2)
        ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0) : sProp 𝕄)
      ⊢ iprop((w2idle c W2 0 ∗ w2idle c W2 1 ∗ w2idle c W2 2 ∗ w2idle c W2 3) ∗ rem_ring2 c W2) := by
  iintro ⟨HB, HW, S0, S1, S2, S3⟩
  ihave HB' := (pieces_split (I_ring2 c) (I_ring2_disj c)) $$ HB
  icases HB' with ⟨HA, HS⟩
  ihave HA' := (entails_of_eq (ring2_anys c)) $$ HA
  icases HA' with ⟨A0, A1, A2, A3⟩
  ihave HW' := (Transfers.pointsTo_toks_split fullShare 4) $$ HW
  icases HW' with ⟨HD, HT⟩
  ihave HT' := (entails_of_eq (ring2_toks c W2)) $$ HT
  icases HT' with ⟨T0, T1, T2, T3⟩
  unfold rem_ring2 w2idle
  isplitr [HS HD]; swap
  · isplitl [HS]; · iexact HS
    iexact HD
  isplitl [S0 A0 T0]
  · isplitl [S0]; · iexact S0
    isplitl [A0]; · iexact A0
    iexact T0
  isplitl [S1 A1 T1]
  · isplitl [S1]; · iexact S1
    isplitl [A1]; · iexact A1
    iexact T1
  isplitl [S2 A2 T2]
  · isplitl [S2]; · iexact S2
    isplitl [A2]; · iexact A2
    iexact T2
  isplitl [S3]; · iexact S3
  isplitl [A3]; · iexact A3
  iexact T3

theorem ring2_close (c : Dev nD) (W2 : Buf (Elt F) ((Memref.whole main_arg6).view.loc (c : Thread nD τ))) :
    (iprop((w2idle c W2 0 ∗ w2idle c W2 1 ∗ w2idle c W2 2 ∗ w2idle c W2 3) ∗ rem_ring2 c W2) : sProp 𝕄)
      ⊢ iprop((∃ f, (Memref.whole cc0_scratch3).view.loc (c : Thread nD τ) ↦{fullShare} f) ∗ ((Memref.whole main_arg6).view.loc (c : Thread nD τ) ↦{fullShare} W2)
        ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0) := by
  unfold rem_ring2 w2idle
  iintro ⟨⟨⟨S0, A0, T0⟩, ⟨S1, A1, T1⟩, ⟨S2, A2, T2⟩, ⟨S3, A3, T3⟩⟩, HS, HD⟩
  isplitr [T0 T1 T2 T3 HD S0 S1 S2 S3]
  · iapply (pieces_join (I_ring2 c) (I_ring2_disj c))
    isplitr [HS]; swap; · iexact HS
    iapply (entails_of_eq (ring2_anys c).symm)
    isplitl [A0]; · iexact A0
    isplitl [A1]; · iexact A1
    isplitl [A2]; · iexact A2
    iexact A3
  isplitl [T0 T1 T2 T3 HD]
  · iapply (Transfers.pointsTo_toks_join fullShare 4)
    isplitl [HD]; · iexact HD
    iapply (entails_of_eq (ring2_toks c W2).symm)
    isplitl [T0]; · iexact T0
    isplitl [T1]; · iexact T1
    isplitl [T2]; · iexact T2
    iexact T3
  isplitl [S0]; · iexact S0
  isplitl [S1]; · iexact S1
  isplitl [S2]; · iexact S2
  iexact S3

/-! ## sc1 -/

theorem sc1_set (s : Fin 2) : (s1dst s).view.set = (Rect.unit (s := S2x22x14336) ![s.val, 0, 0] S1x22x14336.size (by intro a; fin_cases a <;> simp [S2x22x14336, S1x22x14336] <;> omega)).set := (View.set_reshape _ _).trans (View.set_slice_whole _ _)

def I_sc1 (c : Dev nD) (t : Fin 2) : Finset (Idx ((Memref.whole cc0_scratch2).view.loc (c : Thread nD τ))) := (s1dst t).view.set

theorem I_sc1_disj (c : Dev nD) : ∀ s t, s ≠ t → Disjoint (I_sc1 c s) (I_sc1 c t) := by
  intro s t hst
  have hne : s.val ≠ t.val := fun h => hst (Fin.ext h)
  unfold I_sc1
  rw [sc1_set, sc1_set]
  refine Rect.unit_disjoint 0 ?_
  show s.val + 1 ≤ t.val ∨ t.val + 1 ≤ s.val
  omega

theorem sc1_anys (c : Dev nD) :
    (bigSep Finset.univ (fun t : Fin 2 => iprop(∃ g, (Memref.whole cc0_scratch2).view.loc (c : Thread nD τ) ↦[I_sc1 c t]{fullShare} g)) : sProp 𝕄)
      = iprop(any (c : Thread nD τ) (s1dst 0)
        ∗ any (c : Thread nD τ) (s1dst 1)) := by
  refine (BI.bigSep_congr (Ψ := fun t : Fin 2 => any (c : Thread nD τ) (s1dst t)) (fun t _ => (any_pts c (s1dst t)).symm)).trans ?_
  rw [BI.bigSep_eq_bigSepL_of_eq ([0, 1] : List (Fin 2)) (by decide) (by decide)]
  rfl

theorem sc1_toks (c : Dev nD) (SC1 : Buf (Elt F) ((Memref.whole main_arg5).view.loc (c : Thread nD τ))) :
    (bigSep Finset.univ (fun t : Fin 2 => (Memref.whole main_arg5).view.loc (c : Thread nD τ) ↦{Transfers.shareTok fullShare 2 t} SC1) : sProp 𝕄)
      = iprop(((Memref.whole main_arg5).view.loc (c : Thread nD τ) ↦{tks 0} SC1)
        ∗ ((Memref.whole main_arg5).view.loc (c : Thread nD τ) ↦{tks 1} SC1)) := by
  rw [BI.bigSep_eq_bigSepL_of_eq ([0, 1] : List (Fin 2)) (by decide) (by decide)]
  rfl

/-- What of the scratch buffer and of the array in HBM no slot uses. -/
def rem_sc1 (c : Dev nD) (SC1 : Buf (Elt F) ((Memref.whole main_arg5).view.loc (c : Thread nD τ))) : sProp 𝕄 :=
  iprop((∃ f, (Memref.whole cc0_scratch2).view.loc (c : Thread nD τ) ↦[Finset.univ \ Finset.univ.biUnion (I_sc1 c)]{fullShare} f)
    ∗ ((Memref.whole main_arg5).view.loc (c : Thread nD τ) ↦{Transfers.shareDrop fullShare 2} SC1))

theorem sc1_open (c : Dev nD) (SC1 : Buf (Elt F) ((Memref.whole main_arg5).view.loc (c : Thread nD τ))) :
    (iprop((∃ f, (Memref.whole cc0_scratch2).view.loc (c : Thread nD τ) ↦{fullShare} f) ∗ ((Memref.whole main_arg5).view.loc (c : Thread nD τ) ↦{fullShare} SC1)
        ∗ semVal ((c : Thread nD τ), .dma (s1sem 0)) 0 ∗ semVal ((c : Thread nD τ), .dma (s1sem 1)) 0) : sProp 𝕄)
      ⊢ iprop((s1idle c SC1 0 ∗ s1idle c SC1 1) ∗ rem_sc1 c SC1) := by
  iintro ⟨HB, HW, S0, S1⟩
  ihave HB' := (pieces_split (I_sc1 c) (I_sc1_disj c)) $$ HB
  icases HB' with ⟨HA, HS⟩
  ihave HA' := (entails_of_eq (sc1_anys c)) $$ HA
  icases HA' with ⟨A0, A1⟩
  ihave HW' := (Transfers.pointsTo_toks_split fullShare 2) $$ HW
  icases HW' with ⟨HD, HT⟩
  ihave HT' := (entails_of_eq (sc1_toks c SC1)) $$ HT
  icases HT' with ⟨T0, T1⟩
  unfold rem_sc1 s1idle
  isplitr [HS HD]; swap
  · isplitl [HS]; · iexact HS
    iexact HD
  isplitl [S0 A0 T0]
  · isplitl [S0]; · iexact S0
    isplitl [A0]; · iexact A0
    iexact T0
  isplitl [S1]; · iexact S1
  isplitl [A1]; · iexact A1
  iexact T1

theorem sc1_close (c : Dev nD) (SC1 : Buf (Elt F) ((Memref.whole main_arg5).view.loc (c : Thread nD τ))) :
    (iprop((s1idle c SC1 0 ∗ s1idle c SC1 1) ∗ rem_sc1 c SC1) : sProp 𝕄)
      ⊢ iprop((∃ f, (Memref.whole cc0_scratch2).view.loc (c : Thread nD τ) ↦{fullShare} f) ∗ ((Memref.whole main_arg5).view.loc (c : Thread nD τ) ↦{fullShare} SC1)
        ∗ semVal ((c : Thread nD τ), .dma (s1sem 0)) 0 ∗ semVal ((c : Thread nD τ), .dma (s1sem 1)) 0) := by
  unfold rem_sc1 s1idle
  iintro ⟨⟨⟨S0, A0, T0⟩, ⟨S1, A1, T1⟩⟩, HS, HD⟩
  isplitr [T0 T1 HD S0 S1]
  · iapply (pieces_join (I_sc1 c) (I_sc1_disj c))
    isplitr [HS]; swap; · iexact HS
    iapply (entails_of_eq (sc1_anys c).symm)
    isplitl [A0]; · iexact A0
    iexact A1
  isplitl [T0 T1 HD]
  · iapply (Transfers.pointsTo_toks_join fullShare 2)
    isplitl [HD]; · iexact HD
    iapply (entails_of_eq (sc1_toks c SC1).symm)
    isplitl [T0]; · iexact T0
    iexact T1
  isplitl [S0]; · iexact S0
  iexact S1

/-! ## sc2 -/

theorem sc2_set (s : Fin 2) : (s2dst s).view.set = (Rect.unit (s := S2x56x2816) ![s.val, 0, 0] S1x56x2816.size (by intro a; fin_cases a <;> simp [S2x56x2816, S1x56x2816] <;> omega)).set := (View.set_reshape _ _).trans (View.set_slice_whole _ _)

def I_sc2 (c : Dev nD) (t : Fin 2) : Finset (Idx ((Memref.whole cc0_scratch4).view.loc (c : Thread nD τ))) := (s2dst t).view.set

theorem I_sc2_disj (c : Dev nD) : ∀ s t, s ≠ t → Disjoint (I_sc2 c s) (I_sc2 c t) := by
  intro s t hst
  have hne : s.val ≠ t.val := fun h => hst (Fin.ext h)
  unfold I_sc2
  rw [sc2_set, sc2_set]
  refine Rect.unit_disjoint 0 ?_
  show s.val + 1 ≤ t.val ∨ t.val + 1 ≤ s.val
  omega

theorem sc2_anys (c : Dev nD) :
    (bigSep Finset.univ (fun t : Fin 2 => iprop(∃ g, (Memref.whole cc0_scratch4).view.loc (c : Thread nD τ) ↦[I_sc2 c t]{fullShare} g)) : sProp 𝕄)
      = iprop(any (c : Thread nD τ) (s2dst 0)
        ∗ any (c : Thread nD τ) (s2dst 1)) := by
  refine (BI.bigSep_congr (Ψ := fun t : Fin 2 => any (c : Thread nD τ) (s2dst t)) (fun t _ => (any_pts c (s2dst t)).symm)).trans ?_
  rw [BI.bigSep_eq_bigSepL_of_eq ([0, 1] : List (Fin 2)) (by decide) (by decide)]
  rfl

theorem sc2_toks (c : Dev nD) (SC2 : Buf (Elt F) ((Memref.whole main_arg7).view.loc (c : Thread nD τ))) :
    (bigSep Finset.univ (fun t : Fin 2 => (Memref.whole main_arg7).view.loc (c : Thread nD τ) ↦{Transfers.shareTok fullShare 2 t} SC2) : sProp 𝕄)
      = iprop(((Memref.whole main_arg7).view.loc (c : Thread nD τ) ↦{tks 0} SC2)
        ∗ ((Memref.whole main_arg7).view.loc (c : Thread nD τ) ↦{tks 1} SC2)) := by
  rw [BI.bigSep_eq_bigSepL_of_eq ([0, 1] : List (Fin 2)) (by decide) (by decide)]
  rfl

/-- What of the scratch buffer and of the array in HBM no slot uses. -/
def rem_sc2 (c : Dev nD) (SC2 : Buf (Elt F) ((Memref.whole main_arg7).view.loc (c : Thread nD τ))) : sProp 𝕄 :=
  iprop((∃ f, (Memref.whole cc0_scratch4).view.loc (c : Thread nD τ) ↦[Finset.univ \ Finset.univ.biUnion (I_sc2 c)]{fullShare} f)
    ∗ ((Memref.whole main_arg7).view.loc (c : Thread nD τ) ↦{Transfers.shareDrop fullShare 2} SC2))

theorem sc2_open (c : Dev nD) (SC2 : Buf (Elt F) ((Memref.whole main_arg7).view.loc (c : Thread nD τ))) :
    (iprop((∃ f, (Memref.whole cc0_scratch4).view.loc (c : Thread nD τ) ↦{fullShare} f) ∗ ((Memref.whole main_arg7).view.loc (c : Thread nD τ) ↦{fullShare} SC2)
        ∗ semVal ((c : Thread nD τ), .dma (s2sem 0)) 0 ∗ semVal ((c : Thread nD τ), .dma (s2sem 1)) 0) : sProp 𝕄)
      ⊢ iprop((s2idle c SC2 0 ∗ s2idle c SC2 1) ∗ rem_sc2 c SC2) := by
  iintro ⟨HB, HW, S0, S1⟩
  ihave HB' := (pieces_split (I_sc2 c) (I_sc2_disj c)) $$ HB
  icases HB' with ⟨HA, HS⟩
  ihave HA' := (entails_of_eq (sc2_anys c)) $$ HA
  icases HA' with ⟨A0, A1⟩
  ihave HW' := (Transfers.pointsTo_toks_split fullShare 2) $$ HW
  icases HW' with ⟨HD, HT⟩
  ihave HT' := (entails_of_eq (sc2_toks c SC2)) $$ HT
  icases HT' with ⟨T0, T1⟩
  unfold rem_sc2 s2idle
  isplitr [HS HD]; swap
  · isplitl [HS]; · iexact HS
    iexact HD
  isplitl [S0 A0 T0]
  · isplitl [S0]; · iexact S0
    isplitl [A0]; · iexact A0
    iexact T0
  isplitl [S1]; · iexact S1
  isplitl [A1]; · iexact A1
  iexact T1

theorem sc2_close (c : Dev nD) (SC2 : Buf (Elt F) ((Memref.whole main_arg7).view.loc (c : Thread nD τ))) :
    (iprop((s2idle c SC2 0 ∗ s2idle c SC2 1) ∗ rem_sc2 c SC2) : sProp 𝕄)
      ⊢ iprop((∃ f, (Memref.whole cc0_scratch4).view.loc (c : Thread nD τ) ↦{fullShare} f) ∗ ((Memref.whole main_arg7).view.loc (c : Thread nD τ) ↦{fullShare} SC2)
        ∗ semVal ((c : Thread nD τ), .dma (s2sem 0)) 0 ∗ semVal ((c : Thread nD τ), .dma (s2sem 1)) 0) := by
  unfold rem_sc2 s2idle
  iintro ⟨⟨⟨S0, A0, T0⟩, ⟨S1, A1, T1⟩⟩, HS, HD⟩
  isplitr [T0 T1 HD S0 S1]
  · iapply (pieces_join (I_sc2 c) (I_sc2_disj c))
    isplitr [HS]; swap; · iexact HS
    iapply (entails_of_eq (sc2_anys c).symm)
    isplitl [A0]; · iexact A0
    iexact A1
  isplitl [T0 T1 HD]
  · iapply (Transfers.pointsTo_toks_join fullShare 2)
    isplitl [HD]; · iexact HD
    iapply (entails_of_eq (sc2_toks c SC2).symm)
    isplitl [T0]; · iexact T0
    iexact T1
  isplitl [S0]; · iexact S0
  iexact S1

/-! ## The copies started before the loops -/

section
variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

variable {Q : PUnit → sProp (MT nD τ sig Unit (Elt F) ℕ (Pipeline.UD sig nD τ) ℕ)}

theorem amtS1 (p : Fin 2) (x : DmaSem sig) : (s1dst p).view.amount (.dma x) = NS1 := rfl
theorem amtS2 (p : Fin 2) (x : DmaSem sig) : (s2dst p).view.amount (.dma x) = NS2 := rfl

/-- Both halves of chunk `s` of the first weights, into slot `s`. -/
theorem begin1 (e : Fin 8) (s : Fin 6) (j : Fin 28) {src0 src1 : Memref sig .tc .hbm S1408x256 .i8} {dst0 dst1 : Memref sig .tc .vmem S1408x256 .i8} {sm0 sm1 : SemLoc sig}
    (hs0 : src0 = w1src e 0 j) (hd0 : dst0 = w1dst s 0) (hm0 : sm0 = .dma (w1sem s))
    (hs1 : src1 = w1src e 1 j) (hd1 : dst1 = w1dst s 1) (hm1 : sm1 = .dma (w1sem s))
    {a0 : src0.view.WordExact} {b0 : dst0.view.WordExact} {t0 : (DmaTarget.here dst0 : DmaTarget nD τ sig .tc .vmem _ _).Typed .hbm sm0}
    {a1 : src1.view.WordExact} {b1 : dst1.view.WordExact} {t1 : (DmaTarget.here dst1 : DmaTarget nD τ sig .tc .vmem _ _).Typed .hbm sm1}
    {k : PUnit → Prog (TpuEff nD τ sig (Elt F) Λ₀ .tc) PUnit} :
    (w1idle c W1 s : sProp 𝕄)
      ⊢ iprop((w1busy c W1 e s j -∗ wp frame (wpE defs Variants.none (c : Thread nD τ) none) Set.univ (k ⟨⟩) Q)
          -∗ wp frame (wpE defs Variants.none (c : Thread nD τ) none) Set.univ
              (.op (.enqueueDma src0 (.here dst0) sm0 a0 b0 t0) fun _ => .op (.enqueueDma src1 (.here dst1) sm1 a1 b1 t1) k) Q) := by
  unfold w1idle
  iintro ⟨Hv, Hd0, Hd1, Ht0, Ht1⟩ Hk
  iapply (start2a Variants.none (c : Thread nD τ) none hs0 hd0 hm0 (w1src e 1 j) (w1dst s 1) W1 (q1 := tk1 s 1) N1 (amt1 _ _ _)) $$ [Hv Hd0 Ht0]
  · isplitl [Hv]; · iexact Hv
    isplitl [Hd0]; · iexact Hd0
    iexact Ht0
  iintro ⟨Hb, Hl0⟩
  iapply (start2b Variants.none (c : Thread nD τ) none hs1 hd1 hm1 (amt1 _ _ _)) $$ [Hb Hd1 Ht1]
  · isplitl [Hb]; · iexact Hb
    isplitl [Hd1]; · iexact Hd1
    iexact Ht1
  iintro ⟨Hb, Hl1⟩
  iapply Hk
  unfold w1busy
  isplitl [Hb]; · iexact Hb
  isplitl [Hl0] <;> iassumption

theorem begin2 (e : Fin 8) (s : Fin 4) (j : Fin 11) {src0 : Memref sig .tc .hbm S3584x256 .i8} {dst0 : Memref sig .tc .vmem S3584x256 .i8} {sm0 : SemLoc sig}
    (hs0 : src0 = w2src e j) (hd0 : dst0 = w2dst s) (hm0 : sm0 = .dma (w2sem s))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (w2idle c W2 s : sProp 𝕄)
      ⊢ iprop((w2busy c W2 e s j -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold w2idle
  iintro ⟨Hv, Hd, Ht⟩ Hk
  iapply (start1 Variants.none (c : Thread nD τ) none hs0 hd0 hm0 N2 (amt2 _ _)) $$ [Hv Hd Ht]
  · isplitl [Hv]; · iexact Hv
    isplitl [Hd]; · iexact Hd
    iexact Ht
  iintro Hb
  iapply Hk
  unfold w2busy
  iexact Hb

theorem beginS1 (e : Fin 8) (p : Fin 2) {src0 : Memref sig .tc .hbm S22x14336 .bf16} {dst0 : Memref sig .tc .vmem S22x14336 .bf16} {sm0 : SemLoc sig}
    (hs0 : src0 = s1src e) (hd0 : dst0 = s1dst p) (hm0 : sm0 = .dma (s1sem p))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (s1idle c SC1 p : sProp 𝕄)
      ⊢ iprop((s1busy c SC1 e p -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold s1idle
  iintro ⟨Hv, Hd, Ht⟩ Hk
  iapply (start1 Variants.none (c : Thread nD τ) none hs0 hd0 hm0 NS1 (amtS1 _ _)) $$ [Hv Hd Ht]
  · isplitl [Hv]; · iexact Hv
    isplitl [Hd]; · iexact Hd
    iexact Ht
  iintro Hb
  iapply Hk
  unfold s1busy
  iexact Hb

theorem beginS2 (e : Fin 8) (p : Fin 2) {src0 : Memref sig .tc .hbm S56x2816 .bf16} {dst0 : Memref sig .tc .vmem S56x2816 .bf16} {sm0 : SemLoc sig}
    (hs0 : src0 = s2src e) (hd0 : dst0 = s2dst p) (hm0 : sm0 = .dma (s2sem p))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (s2idle c SC2 p : sProp 𝕄)
      ⊢ iprop((s2busy c SC2 e p -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold s2idle
  iintro ⟨Hv, Hd, Ht⟩ Hk
  iapply (start1 Variants.none (c : Thread nD τ) none hs0 hd0 hm0 NS2 (amtS2 _ _)) $$ [Hv Hd Ht]
  · isplitl [Hv]; · iexact Hv
    isplitl [Hd]; · iexact Hd
    iexact Ht
  iintro Hb
  iapply Hk
  unfold s2busy
  iexact Hb

end
end Cert.Kernel.Hand
-- ==== Proof.KTrip.lean ====
/-
  One trip of the loop over the experts: the scales of the second product and its first four blocks of weights set out, the two inner
  loops run, the next expert's scales and first blocks set out between them, and its rows of the result written.
-/
module

public import proofs.«01_k».proof.Proof.KPro
public import Idealize.ShloMosaic.Lib.Exec.Context

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk1_ok : ∀ n : Fin 8, k0_chk1 (BitVec.ofNat 32 n.val) := by decide +kernel
theorem chk4_ok : ∀ n : Fin 8, k0_chk4 (BitVec.ofNat 32 n.val) := by decide +kernel
theorem chk3_ok : ∀ b : Fin 41, k0_chk3 (BitVec.ofNat 32 (16 * b.val)) := by decide +kernel
theorem chk5_ok (v97 : BitVec 32) (t1 : Fin (k0_t1_loop v97).trips) (n : Fin 8) : k0_chk5 v97 t1 (BitVec.ofNat 32 n.val) := by
  unfold k0_chk5
  repeat' apply And.intro
  all_goals (intro _; revert n; decide +kernel)
theorem after : ∀ n < 9, (Scalar.indexCast (Scalar.addi (Scalar.addi 0#32 (Scalar.muli (Scf.iv 0#32 1#32 n) 1#32)) 1#32)).toNat = n + 1 := by decide +kernel
theorem other : ∀ n < 9, (Scalar.subi 1#32 (Scalar.remsi (Scalar.addi 0#32 (Scalar.muli (Scf.iv 0#32 1#32 n) 1#32)) 2#32)).toNat = (n + 1) % 2 := by decide +kernel

/-- Which of its two slots an expert's scales take, by its place in the list. -/
def par (i : ℕ) : Fin 2 := ⟨i % 2, by omega⟩
theorem par_two (i : ℕ) : par (i + 1 + 1) = par i := by unfold par; apply Fin.ext; show (i + 1 + 1) % 2 = i % 2; omega

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem w1st_0 (e : Fin 8) (s : Fin 6) (h : s.val < 28) : w1st c W1 e 0 s = w1busy c W1 e s ⟨s.val, h⟩ := by
  have : nx6 0 s = s.val := by unfold nx6; omega
  unfold w1st; simp only [this, h, dite_true]
theorem w2st_0 (e : Fin 8) (s : Fin 4) (h : s.val < 11) : w2st c W2 e 0 s = w2busy c W2 e s ⟨s.val, h⟩ := by
  have : nx4 0 s = s.val := by unfold nx4; omega
  unfold w2st; simp only [this, h, dite_true]
theorem w1st_28 (e : Fin 8) (s : Fin 6) : w1st c W1 e 28 s = w1idle c W1 s := by
  have : ¬ nx6 28 s < 28 := by unfold nx6; omega
  unfold w1st; simp only [this, dite_false]
theorem w2st_11 (e : Fin 8) (s : Fin 4) : w2st c W2 e 11 s = w2idle c W2 s := by
  have : ¬ nx4 11 s < 11 := by unfold nx4; omega
  unfold w2st; simp only [this, dite_false]

theorem ring1_start (e : Fin 8) : (iprop(w1busy c W1 e 0 ⟨0, by decide⟩ ∗ w1busy c W1 e 1 ⟨1, by decide⟩ ∗ w1busy c W1 e 2 ⟨2, by decide⟩ ∗ w1busy c W1 e 3 ⟨3, by decide⟩ ∗ w1busy c W1 e 4 ⟨4, by decide⟩ ∗ w1busy c W1 e 5 ⟨5, by decide⟩) : sProp 𝕄) ⊢ bigSep Finset.univ (w1st c W1 e 0) := by
  rw [BI.bigSep_eq_bigSepL_of_eq ([0, 1, 2, 3, 4, 5] : List (Fin 6)) (by decide) (by decide)]
  show _ ⊢ iprop(w1st c W1 e 0 0 ∗ w1st c W1 e 0 1 ∗ w1st c W1 e 0 2 ∗ w1st c W1 e 0 3 ∗ w1st c W1 e 0 4 ∗ w1st c W1 e 0 5)
  rw [w1st_0 c W1 e 0 (by decide), w1st_0 c W1 e 1 (by decide), w1st_0 c W1 e 2 (by decide), w1st_0 c W1 e 3 (by decide), w1st_0 c W1 e 4 (by decide), w1st_0 c W1 e 5 (by decide)]
  exact .rfl
theorem ring2_start (e : Fin 8) : (iprop(w2busy c W2 e 0 ⟨0, by decide⟩ ∗ w2busy c W2 e 1 ⟨1, by decide⟩ ∗ w2busy c W2 e 2 ⟨2, by decide⟩ ∗ w2busy c W2 e 3 ⟨3, by decide⟩) : sProp 𝕄) ⊢ bigSep Finset.univ (w2st c W2 e 0) := by
  rw [BI.bigSep_eq_bigSepL_of_eq ([0, 1, 2, 3] : List (Fin 4)) (by decide) (by decide)]
  show _ ⊢ iprop(w2st c W2 e 0 0 ∗ w2st c W2 e 0 1 ∗ w2st c W2 e 0 2 ∗ w2st c W2 e 0 3)
  rw [w2st_0 c W2 e 0 (by decide), w2st_0 c W2 e 1 (by decide), w2st_0 c W2 e 2 (by decide), w2st_0 c W2 e 3 (by decide)]
  exact .rfl
theorem ring1_end (e : Fin 8) : (bigSep Finset.univ (w1st c W1 e 28) : sProp 𝕄) ⊢ iprop(w1idle c W1 0 ∗ w1idle c W1 1 ∗ w1idle c W1 2 ∗ w1idle c W1 3 ∗ w1idle c W1 4 ∗ w1idle c W1 5) := by
  rw [BI.bigSep_eq_bigSepL_of_eq ([0, 1, 2, 3, 4, 5] : List (Fin 6)) (by decide) (by decide)]
  show iprop(w1st c W1 e 28 0 ∗ w1st c W1 e 28 1 ∗ w1st c W1 e 28 2 ∗ w1st c W1 e 28 3 ∗ w1st c W1 e 28 4 ∗ w1st c W1 e 28 5) ⊢ _
  rw [w1st_28 c W1 e 0, w1st_28 c W1 e 1, w1st_28 c W1 e 2, w1st_28 c W1 e 3, w1st_28 c W1 e 4, w1st_28 c W1 e 5]
theorem ring2_end (e : Fin 8) : (bigSep Finset.univ (w2st c W2 e 11) : sProp 𝕄) ⊢ iprop(w2idle c W2 0 ∗ w2idle c W2 1 ∗ w2idle c W2 2 ∗ w2idle c W2 3) := by
  rw [BI.bigSep_eq_bigSepL_of_eq ([0, 1, 2, 3] : List (Fin 4)) (by decide) (by decide)]
  show iprop(w2st c W2 e 11 0 ∗ w2st c W2 e 11 1 ∗ w2st c W2 e 11 2 ∗ w2st c W2 e 11 3) ⊢ _
  rw [w2st_11 c W2 e 0, w2st_11 c W2 e 1, w2st_11 c W2 e 2, w2st_11 c W2 e 3]

/-- One word of the first table. -/
theorem readO (IB : Buf (Elt F) ((Memref.whole cc0_stg0_0).view.loc (c : Thread nD τ))) (g : ℕ → BitVec 32) (h : ∀ i : S9.Idx, (IB i : Elt F .i32) = g ((i 0 : Fin 9) : ℕ))
    {off : Fin 1 → ℕ} {inb : ∀ a, off a + S1.size a ≤ S9.size a} {x : (Rect.unit (s := S9) off S1.size inb).shape.Idx} (k : ℕ) (ho : off = ![k]) :
    (((Memref.whole cc0_stg0_0).access (Rect.unit (s := S9) off S1.size inb)).read (Elt F) IB x : Elt F .i32) = g k := by
  subst ho
  refine (h ((Rect.unit (s := S9) ![k] S1.size inb).emb x)).trans (congrArg g ?_)
  have e0 : (((Rect.unit (s := S9) ![k] S1.size inb).emb x) 0 : ℕ) = k + ((show S1.Idx from x) 0 : ℕ) := ValueKit.rect_emb_unit_val _ _ _ x 0
  have hx : ((show S1.Idx from x) 0 : ℕ) < 1 := ((show S1.Idx from x) 0).isLt
  exact e0.trans (by omega)

/-- One word of the second table. -/
theorem readB (IB : Buf (Elt F) ((Memref.whole cc0_stg1_0).view.loc (c : Thread nD τ))) (g : ℕ → BitVec 32) (h : ∀ i : S9.Idx, (IB i : Elt F .i32) = g ((i 0 : Fin 9) : ℕ))
    {off : Fin 1 → ℕ} {inb : ∀ a, off a + S1.size a ≤ S9.size a} {x : (Rect.unit (s := S9) off S1.size inb).shape.Idx} (k : ℕ) (ho : off = ![k]) :
    (((Memref.whole cc0_stg1_0).access (Rect.unit (s := S9) off S1.size inb)).read (Elt F) IB x : Elt F .i32) = g k := by
  subst ho
  refine (h ((Rect.unit (s := S9) ![k] S1.size inb).emb x)).trans (congrArg g ?_)
  have e0 : (((Rect.unit (s := S9) ![k] S1.size inb).emb x) 0 : ℕ) = k + ((show S1.Idx from x) 0 : ℕ) := ValueKit.rect_emb_unit_val _ _ _ x 0
  have hx : ((show S1.Idx from x) 0 : ℕ) < 1 := ((show S1.Idx from x) 0).isLt
  exact e0.trans (by omega)

/-- The result buffer at zero. -/
def yzero : Buf (Elt F) ((Memref.whole cc0_stg4_0).view.loc (c : Thread nD τ)) := fun i => k0_pay1 (F := F) (show S896x2816.Idx from i)

theorem yzero_store {inb} (f : Buf (Elt F) ((Memref.whole cc0_stg4_0).view.loc (c : Thread nD τ))) :
    ((Memref.whole cc0_stg4_0).access (Rect.unit (s := S896x2816) ![0, 0] S896x2816.size inb)).write (Elt F) f (k0_pay1 (F := F)) Finset.univ = yzero c := by
  funext i
  refine store_prop (Elt F) cc0_stg4_0 inb _ _ (fun i v => v = yzero c i) ?_ ?_ i
  · intro x
    unfold yzero
    congr 1
    funext a
    apply Fin.ext
    exact ((ValueKit.rect_emb_unit_val _ _ _ x a).trans (by fin_cases a <;> exact Nat.zero_add _)).symm
  · intro i hi
    obtain ⟨a, ha⟩ := hi
    exfalso
    have hlt : ((show S896x2816.Idx from i) a : ℕ) < S896x2816.size a := ((show S896x2816.Idx from i) a).isLt
    have h0 : (![0, 0] : Fin 2 → ℕ) a = 0 := by fin_cases a <;> rfl
    have ha' : ((show S896x2816.Idx from i) a : ℕ) < (![0, 0] : Fin 2 → ℕ) a ∨ (![0, 0] : Fin 2 → ℕ) a + S896x2816.size a ≤ ((show S896x2816.Idx from i) a : ℕ) := ha
    rw [h0] at ha'
    omega

/-- The result buffer after `i` experts. -/
def yspec (eo : ℕ → Fin 8) (ro : ℕ → Fin 641) : ℕ → Buf (Elt F) ((Memref.whole cc0_stg4_0).view.loc (c : Thread nD τ))
  | 0 => yzero c
  | i + 1 => ystep c XB W1 SC1 W2 SC2 (ro i) (eo i) (yspec eo ro i) 11

/-- Before expert `i` of `n`: its scales and its first six blocks of weights are on their way (after the last one nothing is), every
    other slot is free, and the result buffer holds the experts before. -/
def inv0 (IB : Buf (Elt F) ((Memref.whole cc0_stg0_0).view.loc (c : Thread nD τ))) (BB : Buf (Elt F) ((Memref.whole cc0_stg1_0).view.loc (c : Thread nD τ)))
    (eo : ℕ → Fin 8) (ro : ℕ → Fin 641) (n i : ℕ) : sProp 𝕄 :=
  iprop((if i < n then iprop(bigSep Finset.univ (w1st c W1 (eo i) 0) ∗ s1busy c SC1 (eo i) (par i)) else iprop(bigSep Finset.univ (w1st c W1 (eo i) 28) ∗ s1idle c SC1 (par i)))
    ∗ s1idle c SC1 (par (i + 1))
    ∗ (w2idle c W2 0 ∗ w2idle c W2 1 ∗ w2idle c W2 2 ∗ w2idle c W2 3)
    ∗ s2idle c SC2 (par i) ∗ s2idle c SC2 (par (i + 1))
    ∗ ((Memref.whole cc0_stg0_0).view.loc (c : Thread nD τ) ↦{fullShare} IB)
    ∗ ((Memref.whole cc0_stg1_0).view.loc (c : Thread nD τ) ↦{fullShare} BB)
    ∗ ((Memref.whole cc0_stg3_0).view.loc (c : Thread nD τ) ↦{fullShare} XB)
    ∗ (∃ H, (Memref.whole cc0_scratch0).view.loc (c : Thread nD τ) ↦{fullShare} H)
    ∗ ((Memref.whole cc0_stg4_0).view.loc (c : Thread nD τ) ↦{fullShare} yspec c XB W1 SC1 W2 SC2 eo ro i)
    ∗ owe0 (c : Thread nD τ))

theorem ring1_any (e e' : Fin 8) : (bigSep Finset.univ (w1st c W1 e 28) : sProp 𝕄) = bigSep Finset.univ (w1st c W1 e' 28) := by
  congr 1; funext s; rw [w1st_28, w1st_28]

set_option maxHeartbeats 1200000 in
/-- One expert. -/
theorem trip0 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (IB : Buf (Elt F) ((Memref.whole cc0_stg0_0).view.loc (c : Thread nD τ))) (BB : Buf (Elt F) ((Memref.whole cc0_stg1_0).view.loc (c : Thread nD τ)))
    (eo : ℕ → Fin 8) (ro : ℕ → Fin 641) (hro : ∀ i, ∃ b : Fin 41, (ro i).val = 16 * b.val)
    (hIB : ∀ i : S9.Idx, (IB i : Elt F .i32) = BitVec.ofNat 32 (eo ((i 0 : Fin 9) : ℕ)).val) (hBB : ∀ i : S9.Idx, (BB i : Elt F .i32) = BitVec.ofNat 32 (ro ((i 0 : Fin 9) : ℕ)).val)
    (v97 : Elt F .i32) (k0_hw2 : k0_chk2 v97) (n : ℕ) (hn : (k0_t1_loop v97).trips = n) (hn9 : n ≤ 9) (hcond : ∀ t, k0_cond2 v97 t = 1#1 ↔ t.val + 1 < n)
    (k0_t1 : Fin (k0_t1_loop v97).trips) :
    inv0 c XB W1 SC1 W2 SC2 IB BB eo ro n k0_t1.val
      ⊢ wp frame (wpE defs Variants.none (c : Thread nD τ) none) Set.univ
          (k0_t1_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 ⟨⟩)
          (fun _ => inv0 c XB W1 SC1 W2 SC2 IB BB eo ro n (k0_t1.val + 1)) := by
  have hlt : k0_t1.val < n := lt_of_lt_of_eq k0_t1.isLt hn
  have ht1 : k0_t1.val < 9 := lt_of_lt_of_le hlt hn9
  have o17 : k0_off17 v97 k0_t1 = ![k0_t1.val] := vec1 (index _ ht1)
  have o42 : k0_off42 v97 k0_t1 = ![k0_t1.val + 1] := vec1 (after _ ht1)
  have o18 : k0_off18 v97 k0_t1 = ![(par k0_t1.val).val] := vec1 (parity _ ht1)
  have o25 : k0_off25 v97 k0_t1 = ![(par k0_t1.val).val] := vec1 (parity _ ht1)
  have o43 : k0_off43 v97 k0_t1 = ![(par (k0_t1.val + 1)).val] := vec1 (other _ ht1)
  have o44 : k0_off44 v97 k0_t1 = ![(par (k0_t1.val + 1)).val, 0, 0] := vec3 (other _ ht1) rfl rfl
  have o19 : k0_off19 v97 k0_t1 = ![(par k0_t1.val).val, 0, 0] := vec3 (parity _ ht1) rfl rfl
  unfold inv0
  rw [if_pos hlt]
  simp only [k0_t1_body, k0_part13_eq_skeleton, k0_part13_skel, k0_part14_eq_skeleton, k0_part14_skel, k0_part6_eq_skeleton, k0_part6_skel, k0_part7_eq_skeleton, k0_part7_skel,
    k0_part8_eq_skeleton, k0_part8_skel, smemLoad, smemLoadElt_bind, Prog.lift, Prog.bind_op, Prog.bind_ret, Prog.bind_assoc, Prog.pure_eq_ret]
  iintro ⟨⟨Hr, K0⟩, K1, ⟨J0, J1, J2, J3⟩, L0, L1, Hi, Hb, Hx, ⟨%H0, Hh⟩, Hy, HO⟩
  iapply (wp_smemLoadElt_named (Val := Elt F) (defs := defs) Variants.none (c : Thread nD τ) none Set.univ (m := Memref.whole cc0_stg0_0) (r := Rect.unit (s := S9) (k0_off17 v97 k0_t1) S1.size (k0_off17_inb v97 k0_hw2 k0_t1)) (hw := View.loads_smem_one rfl numel1_S1) (f := IB) (q := fullShare) (S := Finset.univ) (Finset.subset_univ _)) $$ Hi
  iintro Hi %v112 %v1120
  have hv : v112 = BitVec.ofNat 32 (eo k0_t1.val).val := v1120.trans (readO c IB (fun k => BitVec.ofNat 32 (eo k).val) hIB k0_t1.val o17)
  have he : BitVec.toNat v112 = (eo k0_t1.val).val := by rw [hv]; simp; omega
  have k0_hw4 : k0_chk4 v112 := by rw [hv]; exact chk4_ok _
  iapply (wp_assume Variants.none (c : Thread nD τ) none Set.univ k0_hw4)
  iapply (wp_smemLoadElt_named (Val := Elt F) (defs := defs) Variants.none (c : Thread nD τ) none Set.univ (m := Memref.whole cc0_stg1_0) (r := Rect.unit (s := S9) (k0_off17 v97 k0_t1) S1.size (k0_off17_inb v97 k0_hw2 k0_t1)) (hw := View.loads_smem_one rfl numel1_S1) (f := BB) (q := fullShare) (S := Finset.univ) (Finset.subset_univ _)) $$ Hb
  iintro Hb %v114 %v1140
  have hvb : v114 = BitVec.ofNat 32 (ro k0_t1.val).val := v1140.trans (readB c BB (fun k => BitVec.ofNat 32 (ro k).val) hBB k0_t1.val o17)
  have hr : BitVec.toNat v114 = (ro k0_t1.val).val := by rw [hvb]; simp; omega
  have k0_hw3 : k0_chk3 v114 := by
    obtain ⟨b, hb⟩ := hro k0_t1.val
    rw [hvb, hb]; exact chk3_ok b
  iapply (wp_assume Variants.none (c : Thread nD τ) none Set.univ k0_hw3)
  have s2 : ∀ j : Fin 11, ∀ off, off = ![v112.toNat, 0, 256 * j.val] → ∀ inb, ((Memref.whole main_arg6).slice (Rect.unit (s := S8x3584x2816) off S1x3584x256.size inb) (fun _ => rfl)).squeeze S3584x256 squeezes_S1x3584x256_S3584x256
        = w2src (eo k0_t1.val) j := by
    intro j off ho inb; rw [he] at ho; subst ho; rfl
  have s4 : ∀ off, off = ![v112.toNat, 0, 0] → ∀ inb, ((Memref.whole main_arg7).slice (Rect.unit (s := S8x56x2816) off S1x56x2816.size inb) (fun _ => rfl)).squeeze S56x2816 squeezes_S1x56x2816_S56x2816
        = s2src (eo k0_t1.val) := by
    intro off ho inb; rw [he] at ho; subst ho; rfl
  have d1 : ∀ s : Fin 6, ∀ h : Fin 2, ∀ off, off = ![s.val, h.val, 0, 0] → ∀ inb, ((Memref.whole cc0_scratch1).slice (Rect.unit (s := S6x2x1408x256) off S1x1x1408x256.size inb) (fun _ => rfl)).squeeze S1408x256 squeezes_S1x1x1408x256_S1408x256
      = w1dst s h := by
    intro s h off ho inb; subst ho; rfl
  have m1 : ∀ s : Fin 6, ∀ off, off = ![s.val] → ∀ inb, SemLoc.dma ((cc0_scratch5.slice (Rect.unit (s := S6) off S1.size inb)).squeeze S_ squeezes_S1_S_).sem = SemLoc.dma (w1sem s) := by
    intro s off ho inb; subst ho; rfl
  have q1 : ∀ p : Fin 2, ∀ off, off = ![p.val] → ∀ inb, ((cc0_scratch7.slice (Rect.unit (s := S2) off S1.size inb)).squeeze S_ squeezes_S1_S_).sem = s1sem p := by
    intro p off ho inb; subst ho; rfl
  have q2 : ∀ p : Fin 2, ∀ off, off = ![p.val] → ∀ inb, ((cc0_scratch8.slice (Rect.unit (s := S2) off S1.size inb)).squeeze S_ squeezes_S1_S_).sem = s2sem p := by
    intro p off ho inb; subst ho; rfl
  have g1 : ∀ p : Fin 2, ∀ off, off = ![p.val, 0, 0] → ∀ inb, ((Memref.whole cc0_scratch2).slice (Rect.unit (s := S2x22x14336) off S1x22x14336.size inb) (fun _ => rfl)).squeeze S22x14336 squeezes_S1x22x14336_S22x14336
      = s1dst p := by
    intro p off ho inb; subst ho; rfl
  have g2 : ∀ p : Fin 2, ∀ off, off = ![p.val, 0, 0] → ∀ inb, ((Memref.whole cc0_scratch4).slice (Rect.unit (s := S2x56x2816) off S1x56x2816.size inb) (fun _ => rfl)).squeeze S56x2816 squeezes_S1x56x2816_S56x2816
      = s2dst p := by
    intro p off ho inb; subst ho; rfl
  iapply (beginS2 (defs := defs) c SC2 (eo k0_t1.val) (par k0_t1.val) (s4 _ rfl _) (g2 _ _ o19 _) (congrArg SemLoc.dma (q2 _ _ o18 _))) $$ L0
  iintro L0
  iapply (begin2 (defs := defs) c W2 (eo k0_t1.val) 0 ⟨0, by decide⟩ (s2 ⟨0, by decide⟩ _ rfl _) rfl rfl) $$ J0
  iintro J0
  iapply (begin2 (defs := defs) c W2 (eo k0_t1.val) 1 ⟨1, by decide⟩ (s2 ⟨1, by decide⟩ _ rfl _) rfl rfl) $$ J1
  iintro J1
  iapply (begin2 (defs := defs) c W2 (eo k0_t1.val) 2 ⟨2, by decide⟩ (s2 ⟨2, by decide⟩ _ rfl _) rfl rfl) $$ J2
  iintro J2
  iapply (begin2 (defs := defs) c W2 (eo k0_t1.val) 3 ⟨3, by decide⟩ (s2 ⟨3, by decide⟩ _ rfl _) rfl rfl) $$ J3
  iintro J3
  unfold s1busy
  iapply (wait1 (dstw := ((Memref.whole cc0_scratch2).slice (Rect.unit (s := S2x22x14336) (k0_off26 v97 k0_t1) S1x22x14336.size (k0_off26_inb v97 k0_hw2 k0_t1)) (fun _ => rfl)).squeeze S22x14336 squeezes_S1x22x14336_S22x14336) Variants.none (c : Thread nD τ) none (q1 _ _ o25 _) rfl NS1_pos) $$ [K0 HO]
  · isplitl [K0]; · iexact K0
    iexact HO
  iintro ⟨Hs, Kt, Kv, HO⟩
  have htr2 : Scf.trips k0_t2_loop.lb k0_t2_loop.ub k0_t2_loop.st = 28 := by decide +kernel
  sl_for (fun k _ => inv1 c XB W1 SC1 (ro k0_t1.val) (par k0_t1.val) (eo k0_t1.val) k) $$ [Hr Hs Hx Hh HO]
  · intro k acc
    exact trip1 c XB W1 SC1 hA0 hA1 hA2 hA3 hA8 v97 k0_hw2 k0_t1 ht1 (par k0_t1.val) rfl _ v112 k0_hw4 v114 k0_hw3 _ _ (eo k0_t1.val) he (ro k0_t1.val) hr k
  · unfold inv1
    isplitl [Hr]; · iexact Hr
    isplitl [Hs]; · iexact Hs
    isplitl [Hx]; · iexact Hx
    isplitl [Hh]
    · iexists H0; isplitr; swap; · iexact Hh
      ipureintro; intro i hi; exact absurd hi (by omega)
    iexact HO
  iintro %acc HI
  rw [htr2]; unfold inv1
  icases HI with ⟨Hr, Hs, Hx, ⟨%H, %hH, Hh⟩, HO⟩
  rw [hok_all c XB W1 SC1 (ro k0_t1.val) (eo k0_t1.val) hH]
  unfold s2busy
  iapply (wait1 (dstw := ((Memref.whole cc0_scratch4).slice (Rect.unit (s := S2x56x2816) (k0_off41 v97 k0_t1) S1x56x2816.size (k0_off41_inb v97 k0_hw2 k0_t1)) (fun _ => rfl)).squeeze S56x2816 squeezes_S1x56x2816_S56x2816) Variants.none (c : Thread nD τ) none (q2 _ _ o25 _) rfl NS2_pos) $$ [L0 HO]
  · isplitl [L0]; · iexact L0
    iexact HO
  iintro ⟨Hs2, Lt, Lv, HO⟩
  ihave Hr2 := (ring2_start c W2 (eo k0_t1.val)) $$ [J0 J1 J2 J3]
  · isplitl [J0]; · iexact J0
    isplitl [J1]; · iexact J1
    isplitl [J2]; · iexact J2
    iexact J3
  by_cases hc : k0_cond2 v97 k0_t1 = 1#1
  · have hc2 : k0_t1.val + 1 < n := (hcond k0_t1).1 hc
    simp only [dif_pos hc, smemLoadElt_bind, Prog.lift, Prog.bind_op, Prog.bind_ret, Prog.bind_assoc, Prog.pure_eq_ret]
    ihave Hr1 := (ring1_end c W1 (eo k0_t1.val)) $$ Hr
    icases Hr1 with ⟨I0, I1, I2, I3, I4, I5⟩
    iapply (wp_smemLoadElt_named (Val := Elt F) (defs := defs) Variants.none (c : Thread nD τ) none Set.univ (m := Memref.whole cc0_stg0_0) (r := Rect.unit (s := S9) (k0_off42 v97 k0_t1) S1.size (k0_off42_inb v97 k0_hw2 k0_t1 hc)) (hw := View.loads_smem_one rfl numel1_S1) (f := IB) (q := fullShare) (S := Finset.univ) (Finset.subset_univ _)) $$ Hi
    iintro Hi %v171 %v1710
    have hv' : v171 = BitVec.ofNat 32 (eo (k0_t1.val + 1)).val := v1710.trans (readO c IB (fun k => BitVec.ofNat 32 (eo k).val) hIB (k0_t1.val + 1) o42)
    have he' : BitVec.toNat v171 = (eo (k0_t1.val + 1)).val := by rw [hv']; simp; omega
    have k0_hw5 : k0_chk5 v97 k0_t1 v171 := by rw [hv']; exact chk5_ok _ _ _
    iapply (wp_assume Variants.none (c : Thread nD τ) none Set.univ k0_hw5)
    have s1' : ∀ h : Fin 2, ∀ j : Fin 28, ∀ off, off = ![v171.toNat, 0, h.val * 7168 + 256 * j.val] → ∀ inb, ((Memref.whole main_arg4).slice (Rect.unit (s := S8x1408x14336) off S1x1408x256.size inb) (fun _ => rfl)).squeeze S1408x256 squeezes_S1x1408x256_S1408x256
          = w1src (eo (k0_t1.val + 1)) h j := by
      intro h j off ho inb; rw [he'] at ho; subst ho; rfl
    have s3' : ∀ off, off = ![v171.toNat, 0, 0] → ∀ inb, ((Memref.whole main_arg5).slice (Rect.unit (s := S8x22x14336) off S1x22x14336.size inb) (fun _ => rfl)).squeeze S22x14336 squeezes_S1x22x14336_S22x14336
          = s1src (eo (k0_t1.val + 1)) := by
      intro off ho inb; rw [he'] at ho; subst ho; rfl
    iapply (beginS1 (defs := defs) c SC1 (eo (k0_t1.val + 1)) (par (k0_t1.val + 1)) (s3' _ rfl _) (g1 _ _ o44 _) (congrArg SemLoc.dma (q1 _ _ o43 _))) $$ K1
    iintro A2
    iapply (begin1 (defs := defs) c W1 (eo (k0_t1.val + 1)) 0 ⟨0, by decide⟩ (s1' 0 ⟨0, by decide⟩ _ rfl _) (d1 0 0 _ (k0_off47_eq 0) _) (m1 0 _ (k0_off46_eq 0) _) (s1' 1 ⟨0, by decide⟩ _ rfl _) (d1 0 1 _ (k0_off49_eq 0) _) (m1 0 _ (k0_off46_eq 0) _)) $$ I0
    iintro I0
    iapply (begin1 (defs := defs) c W1 (eo (k0_t1.val + 1)) 1 ⟨1, by decide⟩ (s1' 0 ⟨1, by decide⟩ _ rfl _) (d1 1 0 _ (k0_off47_eq 1) _) (m1 1 _ (k0_off46_eq 1) _) (s1' 1 ⟨1, by decide⟩ _ rfl _) (d1 1 1 _ (k0_off49_eq 1) _) (m1 1 _ (k0_off46_eq 1) _)) $$ I1
    iintro I1
    iapply (begin1 (defs := defs) c W1 (eo (k0_t1.val + 1)) 2 ⟨2, by decide⟩ (s1' 0 ⟨2, by decide⟩ _ rfl _) (d1 2 0 _ (k0_off47_eq 2) _) (m1 2 _ (k0_off46_eq 2) _) (s1' 1 ⟨2, by decide⟩ _ rfl _) (d1 2 1 _ (k0_off49_eq 2) _) (m1 2 _ (k0_off46_eq 2) _)) $$ I2
    iintro I2
    iapply (begin1 (defs := defs) c W1 (eo (k0_t1.val + 1)) 3 ⟨3, by decide⟩ (s1' 0 ⟨3, by decide⟩ _ rfl _) (d1 3 0 _ (k0_off47_eq 3) _) (m1 3 _ (k0_off46_eq 3) _) (s1' 1 ⟨3, by decide⟩ _ rfl _) (d1 3 1 _ (k0_off49_eq 3) _) (m1 3 _ (k0_off46_eq 3) _)) $$ I3
    iintro I3
    iapply (begin1 (defs := defs) c W1 (eo (k0_t1.val + 1)) 4 ⟨4, by decide⟩ (s1' 0 ⟨4, by decide⟩ _ rfl _) (d1 4 0 _ (k0_off47_eq 4) _) (m1 4 _ (k0_off46_eq 4) _) (s1' 1 ⟨4, by decide⟩ _ rfl _) (d1 4 1 _ (k0_off49_eq 4) _) (m1 4 _ (k0_off46_eq 4) _)) $$ I4
    iintro I4
    iapply (begin1 (defs := defs) c W1 (eo (k0_t1.val + 1)) 5 ⟨5, by decide⟩ (s1' 0 ⟨5, by decide⟩ _ rfl _) (d1 5 0 _ (k0_off47_eq 5) _) (m1 5 _ (k0_off46_eq 5) _) (s1' 1 ⟨5, by decide⟩ _ rfl _) (d1 5 1 _ (k0_off49_eq 5) _) (m1 5 _ (k0_off46_eq 5) _)) $$ I5
    iintro I5
    ihave A1 := (ring1_start c W1 (eo (k0_t1.val + 1))) $$ [I0 I1 I2 I3 I4 I5]
    · isplitl [I0]; · iexact I0
      isplitl [I1]; · iexact I1
      isplitl [I2]; · iexact I2
      isplitl [I3]; · iexact I3
      isplitl [I4]; · iexact I4
      iexact I5
    have htr3 : Scf.trips k0_t3_loop.lb k0_t3_loop.ub k0_t3_loop.st = 11 := by decide +kernel
    sl_for (fun k _ => inv2 c XB W1 SC1 W2 SC2 (ro k0_t1.val) (par k0_t1.val) (eo k0_t1.val) (yspec c XB W1 SC1 W2 SC2 eo ro k0_t1.val) k) $$ [Hr2 Hs2 Hh Hy HO]
    · intro k acc
      exact trip2 c XB W1 SC1 W2 SC2 hA0 hA1 hA2 hA3 hA8 v97 k0_hw2 k0_t1 ht1 (par k0_t1.val) rfl _ v112 k0_hw4 v114 k0_hw3 _ _ (eo k0_t1.val) he (ro k0_t1.val) hr _ k
    · unfold inv2
      isplitl [Hr2]; · iexact Hr2
      isplitl [Hs2]; · iexact Hs2
      isplitl [Hh]; · iexact Hh
      isplitl [Hy]
      · rw [ystep_zero]; iexact Hy
      iexact HO
    iintro %acc2 HI
    rw [htr3]; unfold inv2
    icases HI with ⟨Hr2, Hs2, Hh, Hy, HO⟩
    ihave Hr3 := (ring2_end c W2 (eo k0_t1.val)) $$ Hr2
    first | unfold trip0.sl.prog.cont_2 | unfold trip0.sl.prog.cont_1
    rw [wp_ret]; imodintro
    isplitl [A1 A2]
    · rw [if_pos hc2]
      isplitl [A1]; · iexact A1
      unfold s1busy; iexact A2
    isplitl [Kv Hs Kt]
    · rw [par_two]
      unfold s1idle any
      isplitl [Kv]; · iexact Kv
      isplitl [Hs]; · iexists _; iexact Hs
      iexact Kt
    isplitl [Hr3]; · iexact Hr3
    isplitl [L1]; · iexact L1
    isplitl [Lv Hs2 Lt]
    · rw [par_two]
      unfold s2idle any
      isplitl [Lv]; · iexact Lv
      isplitl [Hs2]; · iexists _; iexact Hs2
      iexact Lt
    isplitl [Hi]; · iexact Hi
    isplitl [Hb]; · iexact Hb
    isplitl [Hx]; · iexact Hx
    isplitl [Hh]; · iexists _; iexact Hh
    isplitl [Hy]; · iexact Hy
    iexact HO
  · have hc2 : ¬ k0_t1.val + 1 < n := fun h => hc ((hcond k0_t1).2 h)
    simp only [dif_neg hc, Prog.lift, Prog.bind_op, Prog.bind_ret, Prog.bind_assoc, Prog.pure_eq_ret]
    ihave A1 := (entails_of_eq (ring1_any c W1 (eo k0_t1.val) (eo (k0_t1.val + 1)))) $$ Hr

    have htr3 : Scf.trips k0_t3_loop.lb k0_t3_loop.ub k0_t3_loop.st = 11 := by decide +kernel
    sl_for (fun k _ => inv2 c XB W1 SC1 W2 SC2 (ro k0_t1.val) (par k0_t1.val) (eo k0_t1.val) (yspec c XB W1 SC1 W2 SC2 eo ro k0_t1.val) k) $$ [Hr2 Hs2 Hh Hy HO]
    · intro k acc
      exact trip2 c XB W1 SC1 W2 SC2 hA0 hA1 hA2 hA3 hA8 v97 k0_hw2 k0_t1 ht1 (par k0_t1.val) rfl _ v112 k0_hw4 v114 k0_hw3 _ _ (eo k0_t1.val) he (ro k0_t1.val) hr _ k
    · unfold inv2
      isplitl [Hr2]; · iexact Hr2
      isplitl [Hs2]; · iexact Hs2
      isplitl [Hh]; · iexact Hh
      isplitl [Hy]
      · rw [ystep_zero]; iexact Hy
      iexact HO
    iintro %acc2 HI
    rw [htr3]; unfold inv2
    icases HI with ⟨Hr2, Hs2, Hh, Hy, HO⟩
    ihave Hr3 := (ring2_end c W2 (eo k0_t1.val)) $$ Hr2
    unfold trip0.sl.prog.cont_3
    rw [wp_ret]; imodintro
    isplitl [A1 K1]
    · rw [if_neg hc2]
      isplitl [A1]; · iexact A1
      iexact K1
    isplitl [Kv Hs Kt]
    · rw [par_two]
      unfold s1idle any
      isplitl [Kv]; · iexact Kv
      isplitl [Hs]; · iexists _; iexact Hs
      iexact Kt
    isplitl [Hr3]; · iexact Hr3
    isplitl [L1]; · iexact L1
    isplitl [Lv Hs2 Lt]
    · rw [par_two]
      unfold s2idle any
      isplitl [Lv]; · iexact Lv
      isplitl [Hs2]; · iexists _; iexact Hs2
      iexact Lt
    isplitl [Hi]; · iexact Hi
    isplitl [Hb]; · iexact Hb
    isplitl [Hx]; · iexact Hx
    isplitl [Hh]; · iexists _; iexact Hh
    isplitl [Hy]; · iexact Hy
    iexact HO

end Cert.Kernel.Hand
-- ==== Proof.KRun.lean ====
/-
  The whole kernel: from its buffers at anything, its semaphores at zero and the arrays in HBM as they are, to the result in the
  result buffer and everything else given back.
-/
module

public import proofs.«01_k».proof.Proof.KTrip
public import Idealize.ShloMosaic.Lib.Exec.Context

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk2_ok : ∀ n : Fin 10, k0_chk2 (BitVec.ofNat 32 n.val) := by decide +kernel
theorem trips1 : ∀ n : Fin 10, (k0_t1_loop (BitVec.ofNat 32 n.val)).trips = n.val := by decide +kernel
theorem trips4 : ∀ n : Fin 10, (k0_t4_loop (BitVec.ofNat 32 n.val)).trips = 0 := by decide +kernel
theorem cond_n : ∀ n : Fin 10, ∀ t, k0_cond2 (BitVec.ofNat 32 n.val) t = 1#1 ↔ t.val + 1 < n.val := by decide +kernel

theorem par_cases (n : ℕ) : (par n = 0 ∧ par (n + 1) = 1) ∨ (par n = 1 ∧ par (n + 1) = 0) := by
  unfold par
  rcases Nat.mod_two_eq_zero_or_one n with h | h
  · exact .inl ⟨Fin.ext h, Fin.ext (show (n + 1) % 2 = 1 by omega)⟩
  · exact .inr ⟨Fin.ext h, Fin.ext (show (n + 1) % 2 = 0 by omega)⟩

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem s1pair (n : ℕ) : (iprop(s1idle c SC1 (par n) ∗ s1idle c SC1 (par (n + 1))) : sProp 𝕄) ⊢ iprop(s1idle c SC1 0 ∗ s1idle c SC1 1) := by
  rcases par_cases n with ⟨h, h'⟩ | ⟨h, h'⟩
  · rw [h, h']
  · rw [h, h']
    iintro ⟨A, B⟩
    isplitl [B]; · iexact B
    iexact A
theorem s2pair (n : ℕ) : (iprop(s2idle c SC2 (par n) ∗ s2idle c SC2 (par (n + 1))) : sProp 𝕄) ⊢ iprop(s2idle c SC2 0 ∗ s2idle c SC2 1) := by
  rcases par_cases n with ⟨h, h'⟩ | ⟨h, h'⟩
  · rw [h, h']
  · rw [h, h']
    iintro ⟨A, B⟩
    isplitl [B]; · iexact B
    iexact A

set_option maxHeartbeats 4000000 in
/-- The kernel's run, for `n` experts with their numbers and first rows in the tables. -/
theorem kernelRun (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (IB : Buf (Elt F) ((Memref.whole cc0_stg0_0).view.loc (c : Thread nD τ))) (BB : Buf (Elt F) ((Memref.whole cc0_stg1_0).view.loc (c : Thread nD τ))) (NB : Buf (Elt F) ((Memref.whole cc0_stg2_0).view.loc (c : Thread nD τ)))
    (eo : ℕ → Fin 8) (ro : ℕ → Fin 641) (n : Fin 10) (hn1 : 1 ≤ n.val) (hro : ∀ i, ∃ b : Fin 41, (ro i).val = 16 * b.val)
    (hIB : ∀ i : S9.Idx, (IB i : Elt F .i32) = BitVec.ofNat 32 (eo ((i 0 : Fin 9) : ℕ)).val) (hBB : ∀ i : S9.Idx, (BB i : Elt F .i32) = BitVec.ofNat 32 (ro ((i 0 : Fin 9) : ℕ)).val)
    (hNB : ∀ i : S1.Idx, (NB i : Elt F .i32) = BitVec.ofNat 32 n.val)
    (K : PUnit → sProp (MT nD τ sig Unit (Elt F) ℕ (Pipeline.UD sig nD τ) ℕ)) :
    (iprop(((Memref.whole cc0_stg0_0).view.loc (c : Thread nD τ) ↦{fullShare} IB)
        ∗ ((Memref.whole cc0_stg1_0).view.loc (c : Thread nD τ) ↦{fullShare} BB)
        ∗ ((Memref.whole cc0_stg2_0).view.loc (c : Thread nD τ) ↦{fullShare} NB)
        ∗ ((Memref.whole cc0_stg3_0).view.loc (c : Thread nD τ) ↦{fullShare} XB)
        ∗ (∃ f, (Memref.whole cc0_stg4_0).view.loc (c : Thread nD τ) ↦{fullShare} f)
        ∗ (∃ f, (Memref.whole cc0_scratch0).view.loc (c : Thread nD τ) ↦{fullShare} f)
        ∗ (∃ f, (Memref.whole cc0_scratch1).view.loc (c : Thread nD τ) ↦{fullShare} f)
        ∗ (∃ f, (Memref.whole cc0_scratch2).view.loc (c : Thread nD τ) ↦{fullShare} f)
        ∗ (∃ f, (Memref.whole cc0_scratch3).view.loc (c : Thread nD τ) ↦{fullShare} f)
        ∗ (∃ f, (Memref.whole cc0_scratch4).view.loc (c : Thread nD τ) ↦{fullShare} f)
        ∗ ((Memref.whole main_arg4).view.loc (c : Thread nD τ) ↦{fullShare} W1)
        ∗ ((Memref.whole main_arg5).view.loc (c : Thread nD τ) ↦{fullShare} SC1)
        ∗ ((Memref.whole main_arg6).view.loc (c : Thread nD τ) ↦{fullShare} W2)
        ∗ ((Memref.whole main_arg7).view.loc (c : Thread nD τ) ↦{fullShare} SC2)
        ∗ owe0 (c : Thread nD τ)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0 ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0 ∗ semVal ((c : Thread nD τ), .dma (s1sem 0)) 0 ∗ semVal ((c : Thread nD τ), .dma (s1sem 1)) 0 ∗ semVal ((c : Thread nD τ), .dma (s2sem 0)) 0 ∗ semVal ((c : Thread nD τ), .dma (s2sem 1)) 0
        ∗ (iprop(((Memref.whole cc0_stg0_0).view.loc (c : Thread nD τ) ↦{fullShare} IB)
        ∗ ((Memref.whole cc0_stg1_0).view.loc (c : Thread nD τ) ↦{fullShare} BB)
        ∗ ((Memref.whole cc0_stg2_0).view.loc (c : Thread nD τ) ↦{fullShare} NB)
        ∗ ((Memref.whole cc0_stg3_0).view.loc (c : Thread nD τ) ↦{fullShare} XB)
        ∗ ((Memref.whole cc0_stg4_0).view.loc (c : Thread nD τ) ↦{fullShare} yspec c XB W1 SC1 W2 SC2 eo ro n.val)
        ∗ (∃ f, (Memref.whole cc0_scratch0).view.loc (c : Thread nD τ) ↦{fullShare} f)
        ∗ (∃ f, (Memref.whole cc0_scratch1).view.loc (c : Thread nD τ) ↦{fullShare} f)
        ∗ (∃ f, (Memref.whole cc0_scratch2).view.loc (c : Thread nD τ) ↦{fullShare} f)
        ∗ (∃ f, (Memref.whole cc0_scratch3).view.loc (c : Thread nD τ) ↦{fullShare} f)
        ∗ (∃ f, (Memref.whole cc0_scratch4).view.loc (c : Thread nD τ) ↦{fullShare} f)
        ∗ ((Memref.whole main_arg4).view.loc (c : Thread nD τ) ↦{fullShare} W1)
        ∗ ((Memref.whole main_arg5).view.loc (c : Thread nD τ) ↦{fullShare} SC1)
        ∗ ((Memref.whole main_arg6).view.loc (c : Thread nD τ) ↦{fullShare} W2)
        ∗ ((Memref.whole main_arg7).view.loc (c : Thread nD τ) ↦{fullShare} SC2)
        ∗ owe0 (c : Thread nD τ)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0 ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0 ∗ semVal ((c : Thread nD τ), .dma (s1sem 0)) 0 ∗ semVal ((c : Thread nD τ), .dma (s1sem 1)) 0 ∗ semVal ((c : Thread nD τ), .dma (s2sem 0)) 0 ∗ semVal ((c : Thread nD τ), .dma (s2sem 1)) 0) -∗ K ⟨⟩)) : sProp 𝕄)
      ⊢ wp frame (wpE defs Variants.none (c : Thread nD τ) none) Set.univ (cc0_moe_int4 (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K := by
  simp only [cc0_moe_int4_eq_skeleton, cc0_moe_int4_skel, k0_part29_eq_skeleton, k0_part29_skel, k0_part30_eq_skeleton, k0_part30_skel, k0_part31_eq_skeleton, k0_part31_skel,
    smemLoad, smemLoadElt_bind, Prog.lift, Prog.bind_op, Prog.bind_ret, Prog.bind_assoc, Prog.pure_eq_ret]
  iintro ⟨Hi, Hb, Hn, Hx, ⟨%Y0, Hy⟩, Hh, B1, B2, B3, B4, A2, A3, A4, A5, HO, P0, P1, P2, P3, P4, P5, P6, P7, P8, P9, P10, P11, P12, P13, HK⟩
  ihave R1 := (ring1_open c W1) $$ [B1 A2 P0 P1 P2 P3 P4 P5]
  · isplitl [B1]; · iexact B1
    isplitl [A2]; · iexact A2
    isplitl [P0]; · iexact P0
    isplitl [P1]; · iexact P1
    isplitl [P2]; · iexact P2
    isplitl [P3]; · iexact P3
    isplitl [P4]; · iexact P4
    iexact P5
  icases R1 with ⟨⟨I0, I1, I2, I3, I4, I5⟩, M1⟩
  ihave R2 := (ring2_open c W2) $$ [B3 A4 P6 P7 P8 P9]
  · isplitl [B3]; · iexact B3
    isplitl [A4]; · iexact A4
    isplitl [P6]; · iexact P6
    isplitl [P7]; · iexact P7
    isplitl [P8]; · iexact P8
    iexact P9
  icases R2 with ⟨⟨J0, J1, J2, J3⟩, M2⟩
  ihave R3 := (sc1_open c SC1) $$ [B2 A3 P10 P11]
  · isplitl [B2]; · iexact B2
    isplitl [A3]; · iexact A3
    isplitl [P10]; · iexact P10
    iexact P11
  icases R3 with ⟨⟨K0, K1⟩, M3⟩
  ihave R4 := (sc2_open c SC2) $$ [B4 A5 P12 P13]
  · isplitl [B4]; · iexact B4
    isplitl [A5]; · iexact A5
    isplitl [P12]; · iexact P12
    iexact P13
  icases R4 with ⟨⟨L0, L1⟩, M4⟩
  iapply (wp_smemLoadElt_named (Val := Elt F) (defs := defs) Variants.none (c : Thread nD τ) none Set.univ (m := Memref.whole cc0_stg0_0) (r := Rect.unit (s := S9) ![0] S1.size inb_S9_S1_0) (hw := View.loads_smem_one rfl numel1_S1) (f := IB) (q := fullShare) (S := Finset.univ) (Finset.subset_univ _)) $$ Hi
  iintro Hi %v0 %hv0
  have hv : v0 = BitVec.ofNat 32 (eo 0).val := hv0.trans (readO c IB (fun k => BitVec.ofNat 32 (eo k).val) hIB 0 rfl)
  have he : BitVec.toNat v0 = (eo 0).val := by rw [hv]; simp; omega
  have k0_hw1 : k0_chk1 v0 := by rw [hv]; exact chk1_ok _
  iapply (wp_assume Variants.none (c : Thread nD τ) none Set.univ k0_hw1)
  have s1 : ∀ h : Fin 2, ∀ j : Fin 28, ∀ off, off = ![v0.toNat, 0, h.val * 7168 + 256 * j.val] → ∀ inb, ((Memref.whole main_arg4).slice (Rect.unit (s := S8x1408x14336) off S1x1408x256.size inb) (fun _ => rfl)).squeeze S1408x256 squeezes_S1x1408x256_S1408x256
        = w1src (eo 0) h j := by
    intro h j off ho inb; rw [he] at ho; subst ho; rfl
  have s3 : ∀ off, off = ![v0.toNat, 0, 0] → ∀ inb, ((Memref.whole main_arg5).slice (Rect.unit (s := S8x22x14336) off S1x22x14336.size inb) (fun _ => rfl)).squeeze S22x14336 squeezes_S1x22x14336_S22x14336
        = s1src (eo 0) := by
    intro off ho inb; rw [he] at ho; subst ho; rfl
  have d1 : ∀ s : Fin 6, ∀ h : Fin 2, ∀ off, off = ![s.val, h.val, 0, 0] → ∀ inb, ((Memref.whole cc0_scratch1).slice (Rect.unit (s := S6x2x1408x256) off S1x1x1408x256.size inb) (fun _ => rfl)).squeeze S1408x256 squeezes_S1x1x1408x256_S1408x256
      = w1dst s h := by
    intro s h off ho inb; subst ho; rfl
  have m1 : ∀ s : Fin 6, ∀ off, off = ![s.val] → ∀ inb, SemLoc.dma ((cc0_scratch5.slice (Rect.unit (s := S6) off S1.size inb)).squeeze S_ squeezes_S1_S_).sem = SemLoc.dma (w1sem s) := by
    intro s off ho inb; subst ho; rfl
  iapply (beginS1 (defs := defs) c SC1 (eo 0) 0 (s3 _ rfl _) rfl rfl) $$ K0
  iintro K0
  iapply (begin1 (defs := defs) c W1 (eo 0) 0 ⟨0, by decide⟩ (s1 0 ⟨0, by decide⟩ _ rfl _) (d1 0 0 _ (k0_off3_eq 0) _) (m1 0 _ (k0_off2_eq 0) _) (s1 1 ⟨0, by decide⟩ _ rfl _) (d1 0 1 _ (k0_off5_eq 0) _) (m1 0 _ (k0_off2_eq 0) _)) $$ I0
  iintro I0
  iapply (begin1 (defs := defs) c W1 (eo 0) 1 ⟨1, by decide⟩ (s1 0 ⟨1, by decide⟩ _ rfl _) (d1 1 0 _ (k0_off3_eq 1) _) (m1 1 _ (k0_off2_eq 1) _) (s1 1 ⟨1, by decide⟩ _ rfl _) (d1 1 1 _ (k0_off5_eq 1) _) (m1 1 _ (k0_off2_eq 1) _)) $$ I1
  iintro I1
  iapply (begin1 (defs := defs) c W1 (eo 0) 2 ⟨2, by decide⟩ (s1 0 ⟨2, by decide⟩ _ rfl _) (d1 2 0 _ (k0_off3_eq 2) _) (m1 2 _ (k0_off2_eq 2) _) (s1 1 ⟨2, by decide⟩ _ rfl _) (d1 2 1 _ (k0_off5_eq 2) _) (m1 2 _ (k0_off2_eq 2) _)) $$ I2
  iintro I2
  iapply (begin1 (defs := defs) c W1 (eo 0) 3 ⟨3, by decide⟩ (s1 0 ⟨3, by decide⟩ _ rfl _) (d1 3 0 _ (k0_off3_eq 3) _) (m1 3 _ (k0_off2_eq 3) _) (s1 1 ⟨3, by decide⟩ _ rfl _) (d1 3 1 _ (k0_off5_eq 3) _) (m1 3 _ (k0_off2_eq 3) _)) $$ I3
  iintro I3
  iapply (begin1 (defs := defs) c W1 (eo 0) 4 ⟨4, by decide⟩ (s1 0 ⟨4, by decide⟩ _ rfl _) (d1 4 0 _ (k0_off3_eq 4) _) (m1 4 _ (k0_off2_eq 4) _) (s1 1 ⟨4, by decide⟩ _ rfl _) (d1 4 1 _ (k0_off5_eq 4) _) (m1 4 _ (k0_off2_eq 4) _)) $$ I4
  iintro I4
  iapply (begin1 (defs := defs) c W1 (eo 0) 5 ⟨5, by decide⟩ (s1 0 ⟨5, by decide⟩ _ rfl _) (d1 5 0 _ (k0_off3_eq 5) _) (m1 5 _ (k0_off2_eq 5) _) (s1 1 ⟨5, by decide⟩ _ rfl _) (d1 5 1 _ (k0_off5_eq 5) _) (m1 5 _ (k0_off2_eq 5) _)) $$ I5
  iintro I5
  ihave Hr := (ring1_start c W1 (eo 0)) $$ [I0 I1 I2 I3 I4 I5]
  · isplitl [I0]; · iexact I0
    isplitl [I1]; · iexact I1
    isplitl [I2]; · iexact I2
    isplitl [I3]; · iexact I3
    isplitl [I4]; · iexact I4
    iexact I5
  iapply (wp_smemLoadElt_named (Val := Elt F) (defs := defs) Variants.none (c : Thread nD τ) none Set.univ (m := Memref.whole cc0_stg2_0) (r := Rect.unit (s := S1) ![0] S1.size inb_S1_S1_0) (hw := View.loads_smem_one rfl numel1_S1) (f := NB) (q := fullShare) (S := Finset.univ) (Finset.subset_univ _)) $$ Hn
  iintro Hn %v97 %hv97
  have hvn : v97 = BitVec.ofNat 32 n.val := hv97.trans (hNB _)
  have k0_hw2 : k0_chk2 v97 := by rw [hvn]; exact chk2_ok n
  iapply (wp_assume Variants.none (c : Thread nD τ) none Set.univ k0_hw2)
  have hn : (k0_t1_loop v97).trips = n.val := by rw [hvn]; exact trips1 n
  have hn4 : (k0_t4_loop v97).trips = 0 := by rw [hvn]; exact trips4 n
  have hcond : ∀ t, k0_cond2 v97 t = 1#1 ↔ t.val + 1 < n.val := by rw [hvn]; exact cond_n n
  iapply (wp_load_rect Variants.none (c : Thread nD τ) none Set.univ (m := Memref.whole cc0_stg4_0) (r := Rect.unit (s := S896x2816) ![0, 0] S896x2816.size inb_S896x2816_S896x2816_0_0) (q := fullShare) (f := Y0) (S := Finset.univ) (Finset.subset_univ _)) $$ Hy
  iintro Hy
  iapply (wp_store Variants.none (c : Thread nD τ) none Set.univ (m := Memref.whole cc0_stg4_0) (r := Rect.unit (s := S896x2816) ![0, 0] S896x2816.size inb_S896x2816_S896x2816_0_0) (f := Y0) (S := Finset.univ) (Finset.subset_univ _)) $$ Hy
  iintro Hy
  rw [yzero_store c]
  icases Hh with ⟨%H0, Hh⟩
  sl_for (fun i _ => inv0 c XB W1 SC1 W2 SC2 IB BB eo ro n.val i) $$ [Hr K0 K1 J0 J1 J2 J3 L0 L1 Hi Hb Hx Hh Hy HO]
  · intro k acc
    exact trip0 c XB W1 SC1 W2 SC2 hA0 hA1 hA2 hA3 hA8 IB BB eo ro hro hIB hBB v97 k0_hw2 n.val hn (by omega) hcond k
  · unfold inv0
    rw [if_pos (show 0 < n.val by omega)]
    isplitl [Hr K0]
    · isplitl [Hr]; · iexact Hr
      iexact K0
    isplitl [K1]; · iexact K1
    isplitl [J0 J1 J2 J3]
    · isplitl [J0]; · iexact J0
      isplitl [J1]; · iexact J1
      isplitl [J2]; · iexact J2
      iexact J3
    isplitl [L0]; · iexact L0
    isplitl [L1]; · iexact L1
    isplitl [Hi]; · iexact Hi
    isplitl [Hb]; · iexact Hb
    isplitl [Hx]; · iexact Hx
    isplitl [Hh]; · iexists H0; iexact Hh
    isplitl [Hy]; · iexact Hy
    iexact HO
  iintro %acc HI
  rw [show Scf.trips (k0_t1_loop v97).lb (k0_t1_loop v97).ub (k0_t1_loop v97).st = n.val from hn]; unfold inv0
  rw [if_neg (lt_irrefl n.val)]
  icases HI with ⟨⟨Hr, K0⟩, K1, HJ, L0, L1, Hi, Hb, Hx, ⟨%H1, Hh⟩, Hy, HO⟩
  ihave Hr1 := (ring1_end c W1 (eo n.val)) $$ Hr
  ihave HKK := (s1pair c SC1 n.val) $$ [K0 K1]
  · isplitl [K0] <;> iassumption
  ihave HLL := (s2pair c SC2 n.val) $$ [L0 L1]
  · isplitl [L0] <;> iassumption
  sl_for0 hn4
  unfold kernelRun.sl.prog.cont_2
  rw [wp_ret]; imodintro
  ihave C1 := (ring1_close c W1) $$ [Hr1 M1]
  · isplitl [Hr1] <;> iassumption
  icases C1 with ⟨B1, A2, P0, P1, P2, P3, P4, P5⟩
  ihave C2 := (ring2_close c W2) $$ [HJ M2]
  · isplitl [HJ] <;> iassumption
  icases C2 with ⟨B3, A4, P6, P7, P8, P9⟩
  ihave C3 := (sc1_close c SC1) $$ [HKK M3]
  · isplitl [HKK] <;> iassumption
  icases C3 with ⟨B2, A3, P10, P11⟩
  ihave C4 := (sc2_close c SC2) $$ [HLL M4]
  · isplitl [HLL] <;> iassumption
  icases C4 with ⟨B4, A5, P12, P13⟩
  iapply HK
  isplitl [Hi]; · iexact Hi
  isplitl [Hb]; · iexact Hb
  isplitl [Hn]; · iexact Hn
  isplitl [Hx]; · iexact Hx
  isplitl [Hy]; · iexact Hy
  isplitl [Hh]; · iexists _; iexact Hh
  isplitl [B1]; · iexact B1
  isplitl [B2]; · iexact B2
  isplitl [B3]; · iexact B3
  isplitl [B4]; · iexact B4
  isplitl [A2]; · iexact A2
  isplitl [A3]; · iexact A3
  isplitl [A4]; · iexact A4
  isplitl [A5]; · iexact A5
  isplitl [HO]; · iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  iexact P13

end Cert.Kernel.Hand
-- ==== Proof.KLaunch.lean ====
/-
  The launch: the kernel's run inside its pipeline, and what every final state of the program holds.
-/
module

public import proofs.«01_k».proof.Proof.KRun
public import proofs.«01_k».proof.Proof.Gen.Kernel.Frame
public import Idealize.ShloMosaic.Lib.Pipeline.Frame

@[expose] public section

noncomputable section

namespace Cert.Kernel.Hand

open Cert.Kernel Cert.Kernel.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable [∀ e, Nonempty (Elt F e)]
variable (m : (ℓ : Loc nD τ sig) → Buf (Elt F) ℓ) (ρ : Dev nD → PrngReg) (eo : Dev nD → ℕ → Fin 8) (ro : Dev nD → ℕ → Fin 641) (nn : Dev nD → Fin 10)

/-! ## The kernel's own semaphores and the operands left in HBM -/

abbrev osem0 : Fin 14 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13] (by decide) (by decide)]; rfl
def H0 : Finset (Ref sig .tc) := {main_arg4, main_arg5, main_arg6, main_arg7}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg4 ↦{fullShare} V m c main_arg4) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7)) := by
  rw [BI.bigSep_eq_bigSepL_of_eq [main_arg4, main_arg5, main_arg6, main_arg7] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(((c : Thread nD τ).loc main_arg4 ↦{fullShare} V m c main_arg4) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7))) := by
  rw [Pipeline.ΦD_eq, scopedRest0_eq, ownSems00_eq, hbmPts0_eq]

/-! ## What the windows hold -/

/-- The expert numbers, as their staging buffer holds them. -/
def ib (c : Dev nD) : Buf (Elt F) ((Memref.whole cc0_stg0_0).view.loc (c : Thread nD τ)) := iblk m c 0 t0_0
/-- The first rows, as their staging buffer holds them. -/
def bb (c : Dev nD) : Buf (Elt F) ((Memref.whole cc0_stg1_0).view.loc (c : Thread nD τ)) := iblk m c 1 t0_0
/-- The number of experts, as its staging buffer holds it. -/
def nb (c : Dev nD) : Buf (Elt F) ((Memref.whole cc0_stg2_0).view.loc (c : Thread nD τ)) := iblk m c 2 t0_0
/-- The rows, as their staging buffer holds them. -/
def xb (c : Dev nD) : Buf (Elt F) ((Memref.whole cc0_stg3_0).view.loc (c : Thread nD τ)) := iblk m c 3 t0_0
/-- The result the kernel leaves. -/
def yb (c : Dev nD) : Buf (Elt F) ((Memref.whole cc0_stg4_0).view.loc (c : Thread nD τ)) :=
  yspec c (xb m c) (V m c main_arg4) (V m c main_arg5) (V m c main_arg6) (V m c main_arg7) (eo c) (ro c) (nn c).val

/-- The proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yb m eo ro nn c
    | ⟨_ + 5, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m eo ro nn 0 c).A w = V m c (Pipeline.arrRef spec0 w) := by dsimp only [dats]

theorem before0 (c : Dev nD) (t : Fin cfg0.N) (d) : (dats m eo ro nn 0 c).before 0 t d = iblk m c 0 t :=
  ((dats m eo ro nn 0 c).before_in_eq_fetched 0 rfl (fun _ => rfl) (fun _ _ _ => rfl) (fun t => by unfold Dat.blockOf; rw [A_eq]; try rfl) t d).trans
    (by unfold Dat.fetched Dat.blockOf iblk; rw [A_eq]; try rfl)
theorem before1 (c : Dev nD) (t : Fin cfg0.N) (d) : (dats m eo ro nn 0 c).before 1 t d = iblk m c 1 t :=
  ((dats m eo ro nn 0 c).before_in_eq_fetched 1 rfl (fun _ => rfl) (fun _ _ _ => rfl) (fun t => by unfold Dat.blockOf; rw [A_eq]; try rfl) t d).trans
    (by unfold Dat.fetched Dat.blockOf iblk; rw [A_eq]; try rfl)
theorem before2 (c : Dev nD) (t : Fin cfg0.N) (d) : (dats m eo ro nn 0 c).before 2 t d = iblk m c 2 t :=
  ((dats m eo ro nn 0 c).before_in_eq_fetched 2 rfl (fun _ => rfl) (fun _ _ _ => rfl) (fun t => by unfold Dat.blockOf; rw [A_eq]; try rfl) t d).trans
    (by unfold Dat.fetched Dat.blockOf iblk; rw [A_eq]; try rfl)
theorem before3 (c : Dev nD) (t : Fin cfg0.N) (d) : (dats m eo ro nn 0 c).before 3 t d = iblk m c 3 t :=
  ((dats m eo ro nn 0 c).before_in_eq_fetched 3 rfl (fun _ => rfl) (fun _ _ _ => rfl) (fun t => by unfold Dat.blockOf; rw [A_eq]; try rfl) t d).trans
    (by unfold Dat.fetched Dat.blockOf iblk; rw [A_eq]; try rfl)

def bodyPre (c : Dev nD) (t : Fin cfg0.N) : sProp 𝕄 :=
  iprop((dats m eo ro nn 0 c).Φ t.castSucc ∗ (dats m eo ro nn 0 c).owesAt () t.castSucc
    ∗ (∃ d, owns (c : Thread nD τ) (st0_0 t) fullShare ((dats m eo ro nn 0 c).before 0 t d))
    ∗ (∃ d, owns (c : Thread nD τ) (st0_1 t) fullShare ((dats m eo ro nn 0 c).before 1 t d))
    ∗ (∃ d, owns (c : Thread nD τ) (st0_2 t) fullShare ((dats m eo ro nn 0 c).before 2 t d))
    ∗ (∃ d, owns (c : Thread nD τ) (st0_3 t) fullShare ((dats m eo ro nn 0 c).before 3 t d))
    ∗ (∃ d, owns (c : Thread nD τ) (st0_4 t) fullShare ((dats m eo ro nn 0 c).before 4 t d)))
def bodyPost (c : Dev nD) (t : Fin cfg0.N) : sProp 𝕄 :=
  iprop((dats m eo ro nn 0 c).Φ t.succ ∗ (dats m eo ro nn 0 c).owesAt () t.succ
    ∗ owns (c : Thread nD τ) (st0_0 t) fullShare ((dats m eo ro nn 0 c).after 0 t)
    ∗ owns (c : Thread nD τ) (st0_1 t) fullShare ((dats m eo ro nn 0 c).after 1 t)
    ∗ owns (c : Thread nD τ) (st0_2 t) fullShare ((dats m eo ro nn 0 c).after 2 t)
    ∗ owns (c : Thread nD τ) (st0_3 t) fullShare ((dats m eo ro nn 0 c).after 3 t)
    ∗ owns (c : Thread nD τ) (st0_4 t) fullShare ((dats m eo ro nn 0 c).after 4 t))

theorem own0 (c : Dev nD) (f : Buf (Elt F) ((Memref.whole cc0_stg0_0).view.loc (c : Thread nD τ))) :
    (owns (c : Thread nD τ) (st0_0 t0_0) fullShare f : sProp 𝕄) = ((Memref.whole cc0_stg0_0).view.loc (c : Thread nD τ) ↦{fullShare} f) := owns_whole (c : Thread nD τ) cc0_stg0_0 fullShare f
theorem own1 (c : Dev nD) (f : Buf (Elt F) ((Memref.whole cc0_stg1_0).view.loc (c : Thread nD τ))) :
    (owns (c : Thread nD τ) (st0_1 t0_0) fullShare f : sProp 𝕄) = ((Memref.whole cc0_stg1_0).view.loc (c : Thread nD τ) ↦{fullShare} f) := owns_whole (c : Thread nD τ) cc0_stg1_0 fullShare f
theorem own2 (c : Dev nD) (f : Buf (Elt F) ((Memref.whole cc0_stg2_0).view.loc (c : Thread nD τ))) :
    (owns (c : Thread nD τ) (st0_2 t0_0) fullShare f : sProp 𝕄) = ((Memref.whole cc0_stg2_0).view.loc (c : Thread nD τ) ↦{fullShare} f) := owns_whole (c : Thread nD τ) cc0_stg2_0 fullShare f
theorem own3 (c : Dev nD) (f : Buf (Elt F) ((Memref.whole cc0_stg3_0).view.loc (c : Thread nD τ))) :
    (owns (c : Thread nD τ) (st0_3 t0_0) fullShare f : sProp 𝕄) = ((Memref.whole cc0_stg3_0).view.loc (c : Thread nD τ) ↦{fullShare} f) := owns_whole (c : Thread nD τ) cc0_stg3_0 fullShare f
theorem own4 (c : Dev nD) (f : Buf (Elt F) ((Memref.whole cc0_stg4_0).view.loc (c : Thread nD τ))) :
    (owns (c : Thread nD τ) (st0_4 t0_0) fullShare f : sProp 𝕄) = ((Memref.whole cc0_stg4_0).view.loc (c : Thread nD τ) ↦{fullShare} f) := owns_whole (c : Thread nD τ) cc0_stg4_0 fullShare f

theorem sound_body (c : Dev nD) (hn1 : 1 ≤ (nn c).val) (hro : ∀ i, ∃ b : Fin 41, (ro c i).val = 16 * b.val)
    (hib : ∀ i : S9.Idx, (ib m c i : Elt F .i32) = BitVec.ofNat 32 (eo c ((i 0 : Fin 9) : ℕ)).val) (hbb : ∀ i : S9.Idx, (bb m c i : Elt F .i32) = BitVec.ofNat 32 (ro c ((i 0 : Fin 9) : ℕ)).val)
    (hnb : ∀ i : S1.Idx, (nb m c i : Elt F .i32) = BitVec.ofNat 32 (nn c).val) (t : Fin cfg0.N) :
    bodyPre m eo ro nn c t ⊢ wp frame (wpE (defs₀ (F := F)) Variants.none c none) Set.univ (bodyAt0 t) (fun _ => bodyPost m eo ro nn c t) := by
  obtain rfl := fin_N0 t
  unfold bodyPre bodyPost bodyAt0
  rw [show (dats m eo ro nn 0 c).Φ t0_0.succ = (dats m eo ro nn 0 c).Φ t0_0.castSucc from rfl,
    show (dats m eo ro nn 0 c).owesAt () t0_0.succ = (dats m eo ro nn 0 c).owesAt () t0_0.castSucc from rfl,
    show (dats m eo ro nn 0 c).Φ t0_0.castSucc = Pipeline.ΦD osem0 spec0 H0 (V m) c from rfl, PhiD0_eq]
  simp only [before0, before1, before2, before3]
  unfold Dat.owesAt Pipeline.owesWithin
  rw [show (dats m eo ro nn 0 c).owed t0_0.castSucc = 0 from rfl]
  iintro ⟨⟨⟨Hh, B1, B2, B3, B4⟩, Hg, ⟨P0, P1, P2, P3, P4, P5, P6, P7, P8, P9, P10, P11, P12, P13⟩, ⟨A2, A3, A4, A5⟩⟩, ⟨%W, %hW, HO⟩, ⟨%d0, Hi⟩, ⟨%d1, Hb⟩, ⟨%d2, Hn⟩, ⟨%d3, Hx⟩, ⟨%d4, Hy⟩⟩
  ihave Hi := (show owns (c : Thread nD τ) (st0_0 t0_0) fullShare (iblk m c 0 t0_0) ⊢ _ from entails_of_eq (own0 c (ib m c))) $$ Hi
  ihave Hb := (show owns (c : Thread nD τ) (st0_1 t0_0) fullShare (iblk m c 1 t0_0) ⊢ _ from entails_of_eq (own1 c (bb m c))) $$ Hb
  ihave Hn := (show owns (c : Thread nD τ) (st0_2 t0_0) fullShare (iblk m c 2 t0_0) ⊢ _ from entails_of_eq (own2 c (nb m c))) $$ Hn
  ihave Hx := (show owns (c : Thread nD τ) (st0_3 t0_0) fullShare (iblk m c 3 t0_0) ⊢ _ from entails_of_eq (own3 c (xb m c))) $$ Hx
  ihave Hy := (entails_of_eq (own4 c ((dats m eo ro nn 0 c).before 4 t0_0 d4))) $$ Hy
  iapply (kernelRun (defs := defs₀ (F := F)) c (xb m c) (V m c main_arg4) (V m c main_arg5) (V m c main_arg6) (V m c main_arg7) (hstage0_0 0) (hstage0_1 0) (hstage0_2 0) (hstage0_3 0) (hstage0_4 0) (ib m c) (bb m c) (nb m c) (eo c) (ro c) (nn c) hn1 hro hib hbb hnb _)
  isplitl [Hi]; · iexact Hi
  isplitl [Hb]; · iexact Hb
  isplitl [Hn]; · iexact Hn
  isplitl [Hx]; · iexact Hx
  isplitl [Hy]; · iexists _; iexact Hy
  isplitl [Hh]; · iexact Hh
  isplitl [B1]; · iexact B1
  isplitl [B2]; · iexact B2
  isplitl [B3]; · iexact B3
  isplitl [B4]; · iexact B4
  isplitl [A2]; · iexact A2
  isplitl [A3]; · iexact A3
  isplitl [A4]; · iexact A4
  isplitl [A5]; · iexact A5
  isplitl [HO]; · unfold owe0; iexists W; iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  iintro ⟨Hi, Hb, Hn, Hx, Hy, Hh, B1, B2, B3, B4, A2, A3, A4, A5, HO, P0, P1, P2, P3, P4, P5, P6, P7, P8, P9, P10, P11, P12, P13⟩
  isplitl [Hh B1 B2 B3 B4 Hg A2 A3 A4 A5 P0 P1 P2 P3 P4 P5 P6 P7 P8 P9 P10 P11 P12 P13]
  · isplitl [Hh B1 B2 B3 B4]
    · isplitl [Hh]; · iexact Hh
      isplitl [B1]; · iexact B1
      isplitl [B2]; · iexact B2
      isplitl [B3]; · iexact B3
      iexact B4
    isplitl [Hg]; · iexact Hg
    isplitl [P0 P1 P2 P3 P4 P5 P6 P7 P8 P9 P10 P11 P12 P13]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12]; · iexact P12
      iexact P13
    isplitl [A2]; · iexact A2
    isplitl [A3]; · iexact A3
    isplitl [A4]; · iexact A4
    iexact A5
  isplitl [HO]
  · unfold owe0
    icases HO with ⟨%W', HO⟩
    iexists W'; isplitr; · ipureintro; exact fun _ _ => Or.inl trivial
    iexact HO
  isplitl [Hi]; · iapply (entails_of_eq (own0 c (ib m c)).symm) $$ Hi
  isplitl [Hb]; · iapply (entails_of_eq (own1 c (bb m c)).symm) $$ Hb
  isplitl [Hn]; · iapply (entails_of_eq (own2 c (nb m c)).symm) $$ Hn
  isplitl [Hx]; · iapply (entails_of_eq (own3 c (xb m c)).symm) $$ Hx
  iapply (show ((Memref.whole cc0_stg4_0).view.loc (c : Thread nD τ) ↦{fullShare} yspec c (xb m c) (V m c main_arg4) (V m c main_arg5) (V m c main_arg6) (V m c main_arg7) (eo c) (ro c) (nn c).val) ⊢ _ from
    entails_of_eq (own4 c (yb m eo ro nn c)).symm) $$ Hy

theorem defs₀_row (t : Fin cfg0.N) : defs₀ (F := F) .tc cfg0.body (cfg0.bodyArgs t (cfg0.slots t)) = bodyAt0 t := by
  unfold defs₀; rw [Defs.onTc_tc]

theorem body_obligation (c : Dev nD) (hn1 : 1 ≤ (nn c).val) (hro : ∀ i, ∃ b : Fin 41, (ro c i).val = 16 * b.val)
    (hib : ∀ i : S9.Idx, (ib m c i : Elt F .i32) = BitVec.ofNat 32 (eo c ((i 0 : Fin 9) : ℕ)).val) (hbb : ∀ i : S9.Idx, (bb m c i : Elt F .i32) = BitVec.ofNat 32 (ro c ((i 0 : Fin 9) : ℕ)).val)
    (hnb : ∀ i : S1.Idx, (nb m c i : Elt F .i32) = BitVec.ofNat 32 (nn c).val) :
    BodyObligation (dats (F := F) m eo ro nn 0 c) (defs₀ (F := F)) Variants.none () Set.univ := fun t => by
  rw [bigSep_W0, bigSep_W0, defs₀_row]
  exact triple_restated (sound_body m eo ro nn c hn1 hro hib hbb hnb t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

-- the launch theorem's implicit arguments are found by unifying its conclusion with this statement, which unifies only
-- when unification may unfold plain definitions in a metavariable's type
set_option backward.isDefEq.respectTransparency.types false in
/-- From any memory whose tables are in range, every weakly fair execution ends, and the final state is as the proof data say. -/
theorem run_main (hn1 : ∀ c, 1 ≤ (nn c).val) (hro : ∀ c i, ∃ b : Fin 41, (ro c i).val = 16 * b.val)
    (hib : ∀ c, ∀ i : S9.Idx, (ib m c i : Elt F .i32) = BitVec.ofNat 32 (eo c ((i 0 : Fin 9) : ℕ)).val) (hbb : ∀ c, ∀ i : S9.Idx, (bb m c i : Elt F .i32) = BitVec.ofNat 32 (ro c ((i 0 : Fin 9) : ℕ)).val)
    (hnb : ∀ c, ∀ i : S1.Idx, (nb m c i : Elt F .i32) = BitVec.ofNat 32 (nn c).val) :
    θ_run defs (onTc (τ := τ) (main (F := F))) (s₀ m ρ) (fun r => Pipeline.FramePost cfgs (dats m eo ro nn) 0 (V m) r ∧ r.2.sem = fun _ => 0) :=
  Pipeline.θ_run_frame_dma (Q' := _) cfgs (dats m eo ro nn) (0 : Fin 1) launch0 osem0 defs₀ Variants.none ownSemFacts0 H0 H0_sub m ρ main
    (hbody := fun c => (body_obligation m eo ro nn c (hn1 c) (hro c) (hib c) (hbb c) (hnb c)).loose) (hshare := fun c => (dats m eo ro nn 0 c).share_full fun _ => rfl)
    (howed := fun _ _ => rfl) (V := V m) (hmain := hmainD m Variants.none) (hA := A_eq m eo ro nn)
    (hin := fun _ => .rfl) (hout := fun _ => .rfl)

/-- The arguments are unchanged. -/
theorem args_of (r : PUnit × MemSt nD τ sig (Elt F)) (h : Pipeline.FramePost cfgs (dats m eo ro nn) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 3).trans (((dats m eo ro nn 0 c).arrAt_in 3 rfl _).trans ((A_eq m eo ro nn c 3).trans (V_main_arg0 m c))),
    ((h c).1 0).trans (((dats m eo ro nn 0 c).arrAt_in 0 rfl _).trans ((A_eq m eo ro nn c 0).trans (V_main_arg1 m c))),
    ((h c).1 1).trans (((dats m eo ro nn 0 c).arrAt_in 1 rfl _).trans ((A_eq m eo ro nn c 1).trans (V_main_arg2 m c))),
    ((h c).1 2).trans (((dats m eo ro nn 0 c).arrAt_in 2 rfl _).trans ((A_eq m eo ro nn c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

theorem ib_eq (c : Dev nD) (i : S9.Idx) : (ib m c i : Elt F .i32) = (m ((c.tc : Thread nD τ).loc main_arg1) : S9.Idx → Elt F .i32) i := by
  refine congrArg (m ((c.tc : Thread nD τ).loc main_arg1) : S9.Idx → Elt F .i32) ?_
  funext a; apply Fin.ext; match a with
  | ⟨0, _⟩ => show 0 * 9 + 1 * (i 0).val = (i 0).val; omega
theorem bb_eq (c : Dev nD) (i : S9.Idx) : (bb m c i : Elt F .i32) = (m ((c.tc : Thread nD τ).loc main_arg2) : S9.Idx → Elt F .i32) i := by
  refine congrArg (m ((c.tc : Thread nD τ).loc main_arg2) : S9.Idx → Elt F .i32) ?_
  funext a; apply Fin.ext; match a with
  | ⟨0, _⟩ => show 0 * 9 + 1 * (i 0).val = (i 0).val; omega
theorem nb_eq (c : Dev nD) (i : S1.Idx) : (nb m c i : Elt F .i32) = (m ((c.tc : Thread nD τ).loc main_arg3) : S1.Idx → Elt F .i32) i := by
  have hi : ∀ i j : S1.Idx, i = j := fun i j => by funext a; match a with
    | ⟨0, _⟩ => exact Subsingleton.elim (α := Fin 1) _ _
  exact congrArg (m ((c.tc : Thread nD τ).loc main_arg3) : S1.Idx → Elt F .i32) (hi _ _)

end Cert.Kernel.Hand
-- ==== Proof.KIRes.lean ====
/-
  The pieces of memory the kernel copies into and out of, by name: the ring slots of the two weight arrays, the slots of the two
  scale arrays, the blocks of the four arrays in HBM, and the states of a slot (a copy in flight, or idle).
-/
module

public import proofs.«01_k».proof.Proof.Gen.KernelIdeal
public import proofs.«01_k».proof.Proof.Gen.KernelIdeal.Skeleton
public import proofs.«01_k».proof.Proof.Slots
public import Idealize.ShloMosaic.Lib.Pipeline.Frame
public import Idealize.ShloMosaic.Lib.Tactic
public import Idealize.ShloMosaic.Lib.Transfers

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Blocks of the arrays in HBM -/

/-- The half `h` (0 the gate, 1 the up projection) of column chunk `j` of expert `e`'s first weights. -/
abbrev w1src (e : Fin 8) (h : Fin 2) (j : Fin 28) : Memref sig .tc .hbm S1408x256 .i8 :=
  ((Memref.whole main_arg4).slice (Rect.unit (s := S8x1408x14336) ![e.val, 0, h.val * 7168 + 256 * j.val] S1x1408x256.size
    (by intro a; fin_cases a <;> simp [S8x1408x14336, S1x1408x256] <;> omega)) (fun _ => rfl)).squeeze S1408x256 squeezes_S1x1408x256_S1408x256

/-- Expert `e`'s first scales. -/
abbrev s1src (e : Fin 8) : Memref sig .tc .hbm S22x14336 .bf16 :=
  ((Memref.whole main_arg5).slice (Rect.unit (s := S8x22x14336) ![e.val, 0, 0] S1x22x14336.size
    (by intro a; fin_cases a <;> simp [S8x22x14336, S1x22x14336] <;> omega)) (fun _ => rfl)).squeeze S22x14336 squeezes_S1x22x14336_S22x14336

/-- Column chunk `j` of expert `e`'s second weights. -/
abbrev w2src (e : Fin 8) (j : Fin 11) : Memref sig .tc .hbm S3584x256 .i8 :=
  ((Memref.whole main_arg6).slice (Rect.unit (s := S8x3584x2816) ![e.val, 0, 256 * j.val] S1x3584x256.size
    (by intro a; fin_cases a <;> simp [S8x3584x2816, S1x3584x256] <;> omega)) (fun _ => rfl)).squeeze S3584x256 squeezes_S1x3584x256_S3584x256

/-- Expert `e`'s second scales. -/
abbrev s2src (e : Fin 8) : Memref sig .tc .hbm S56x2816 .bf16 :=
  ((Memref.whole main_arg7).slice (Rect.unit (s := S8x56x2816) ![e.val, 0, 0] S1x56x2816.size
    (by intro a; fin_cases a <;> simp [S8x56x2816, S1x56x2816] <;> omega)) (fun _ => rfl)).squeeze S56x2816 squeezes_S1x56x2816_S56x2816

/-! ## Slots of the scratch buffers -/

abbrev w1dst (s : Fin 6) (h : Fin 2) : Memref sig .tc .vmem S1408x256 .i8 :=
  ((Memref.whole cc0_scratch1).slice (Rect.unit (s := S6x2x1408x256) ![s.val, h.val, 0, 0] S1x1x1408x256.size
    (by intro a; fin_cases a <;> simp [S6x2x1408x256, S1x1x1408x256] <;> omega)) (fun _ => rfl)).squeeze S1408x256 squeezes_S1x1x1408x256_S1408x256

abbrev s1dst (p : Fin 2) : Memref sig .tc .vmem S22x14336 .bf16 :=
  ((Memref.whole cc0_scratch2).slice (Rect.unit (s := S2x22x14336) ![p.val, 0, 0] S1x22x14336.size
    (by intro a; fin_cases a <;> simp [S2x22x14336, S1x22x14336] <;> omega)) (fun _ => rfl)).squeeze S22x14336 squeezes_S1x22x14336_S22x14336

abbrev w2dst (s : Fin 4) : Memref sig .tc .vmem S3584x256 .i8 :=
  ((Memref.whole cc0_scratch3).slice (Rect.unit (s := S4x3584x256) ![s.val, 0, 0] S1x3584x256.size
    (by intro a; fin_cases a <;> simp [S4x3584x256, S1x3584x256] <;> omega)) (fun _ => rfl)).squeeze S3584x256 squeezes_S1x3584x256_S3584x256

abbrev s2dst (p : Fin 2) : Memref sig .tc .vmem S56x2816 .bf16 :=
  ((Memref.whole cc0_scratch4).slice (Rect.unit (s := S2x56x2816) ![p.val, 0, 0] S1x56x2816.size
    (by intro a; fin_cases a <;> simp [S2x56x2816, S1x56x2816] <;> omega)) (fun _ => rfl)).squeeze S56x2816 squeezes_S1x56x2816_S56x2816

abbrev w1sem (s : Fin 6) : DmaSem sig :=
  ((cc0_scratch5.slice (Rect.unit (s := S6) ![s.val] S1.size (by intro a; fin_cases a; simp [S6, S1]; omega))).squeeze S_ squeezes_S1_S_).sem
abbrev w2sem (s : Fin 4) : DmaSem sig :=
  ((cc0_scratch6.slice (Rect.unit (s := S4) ![s.val] S1.size (by intro a; fin_cases a; simp [S4, S1]; omega))).squeeze S_ squeezes_S1_S_).sem
abbrev s1sem (p : Fin 2) : DmaSem sig :=
  ((cc0_scratch7.slice (Rect.unit (s := S2) ![p.val] S1.size (by intro a; fin_cases a; simp [S2, S1]; omega))).squeeze S_ squeezes_S1_S_).sem
abbrev s2sem (p : Fin 2) : DmaSem sig :=
  ((cc0_scratch8.slice (Rect.unit (s := S2) ![p.val] S1.size (by intro a; fin_cases a; simp [S2, S1]; omega))).squeeze S_ squeezes_S1_S_).sem

/-! ## Credits -/

abbrev N1 : ℕ := (w1dst 0 0).view.dmaCredit
abbrev NS1 : ℕ := (s1dst 0).view.dmaCredit
abbrev N2 : ℕ := (w2dst 0).view.dmaCredit
abbrev NS2 : ℕ := (s2dst 0).view.dmaCredit

theorem N1_pos : 0 < N1 := by decide +kernel
theorem NS1_pos : 0 < NS1 := by decide +kernel
theorem N2_pos : 0 < N2 := by decide +kernel
theorem NS2_pos : 0 < NS2 := by decide +kernel

/-! ## Read shares of the arrays in HBM -/

def tk1 (s : Fin 6) (h : Fin 2) : PosShare TreeShare := Transfers.shareTok fullShare 12 ⟨2 * s.val + h.val, by omega⟩
def tk2 (s : Fin 4) : PosShare TreeShare := Transfers.shareTok fullShare 4 s
def tks (p : Fin 2) : PosShare TreeShare := Transfers.shareTok fullShare 2 p

variable (c : Dev nD)
variable (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

/-! ## The states of a slot -/

def w1busy (e : Fin 8) (s : Fin 6) (j : Fin 28) : sProp 𝕄 :=
  iprop(fly2 (c : Thread nD τ) 2 0 (.dma (w1sem s)) N1 (w1src e 0 j) (w1src e 1 j) (w1dst s 0) (w1dst s 1) (tk1 s 0) (tk1 s 1) W1 W1
    ∗ loan (c : Thread nD τ) (w1src e 0 j) (tk1 s 0) W1 ∗ loan (c : Thread nD τ) (w1src e 1 j) (tk1 s 1) W1)

def w1idle (s : Fin 6) : sProp 𝕄 :=
  iprop(semVal ((c : Thread nD τ), .dma (w1sem s)) 0 ∗ any (c : Thread nD τ) (w1dst s 0) ∗ any (c : Thread nD τ) (w1dst s 1)
    ∗ ((Memref.whole main_arg4).view.loc (c : Thread nD τ) ↦{tk1 s 0} W1) ∗ ((Memref.whole main_arg4).view.loc (c : Thread nD τ) ↦{tk1 s 1} W1))

def s1busy (e : Fin 8) (p : Fin 2) : sProp 𝕄 :=
  fly1 (c : Thread nD τ) (.dma (s1sem p)) NS1 (s1src e) (s1dst p) (tks p) SC1

def s1idle (p : Fin 2) : sProp 𝕄 :=
  iprop(semVal ((c : Thread nD τ), .dma (s1sem p)) 0 ∗ any (c : Thread nD τ) (s1dst p)
    ∗ ((Memref.whole main_arg5).view.loc (c : Thread nD τ) ↦{tks p} SC1))

def w2busy (e : Fin 8) (s : Fin 4) (j : Fin 11) : sProp 𝕄 :=
  fly1 (c : Thread nD τ) (.dma (w2sem s)) N2 (w2src e j) (w2dst s) (tk2 s) W2

def w2idle (s : Fin 4) : sProp 𝕄 :=
  iprop(semVal ((c : Thread nD τ), .dma (w2sem s)) 0 ∗ any (c : Thread nD τ) (w2dst s)
    ∗ ((Memref.whole main_arg6).view.loc (c : Thread nD τ) ↦{tk2 s} W2))

def s2busy (e : Fin 8) (p : Fin 2) : sProp 𝕄 :=
  fly1 (c : Thread nD τ) (.dma (s2sem p)) NS2 (s2src e) (s2dst p) (tks p) SC2

def s2idle (p : Fin 2) : sProp 𝕄 :=
  iprop(semVal ((c : Thread nD τ), .dma (s2sem p)) 0 ∗ any (c : Thread nD τ) (s2dst p)
    ∗ ((Memref.whole main_arg7).view.loc (c : Thread nD τ) ↦{tks p} SC2))

/-- Before trip `k`, slot `s` of a ring of depth 6 over 28 chunks is filled by the first chunk from `k` on that is `s` modulo 6. -/
def nx6 (k : ℕ) (s : Fin 6) : ℕ := k + (s.val + 6 - k % 6) % 6
def nx4 (k : ℕ) (s : Fin 4) : ℕ := k + (s.val + 4 - k % 4) % 4

def w1st (e : Fin 8) (k : ℕ) (s : Fin 6) : sProp 𝕄 :=
  if h : nx6 k s < 28 then w1busy c W1 e s ⟨nx6 k s, h⟩ else w1idle c W1 s
def w2st (e : Fin 8) (k : ℕ) (s : Fin 4) : sProp 𝕄 :=
  if h : nx4 k s < 11 then w2busy c W2 e s ⟨nx4 k s, h⟩ else w2idle c W2 s

/-- The ring before trip `k`: the slot about to be waited for, and the others, which trip `k` leaves alone. -/
theorem w1ring_step (e : Fin 8) (k : ℕ) (hk : k < 28) (s : Fin 6) (hs : s.val = k % 6) :
    bigSep Finset.univ (w1st c W1 e k) ⊢ iprop(w1busy c W1 e s ⟨k, hk⟩
      ∗ ((if h : k + 6 < 28 then w1busy c W1 e s ⟨k + 6, h⟩ else w1idle c W1 s) -∗ bigSep Finset.univ (w1st c W1 e (k + 1)))) := by
  have h0 : nx6 k s = k := by unfold nx6; omega
  have h1 : nx6 (k + 1) s = k + 6 := by unfold nx6; omega
  have h2 : ∀ s' ∈ Finset.univ.erase s, w1st c W1 e k s' = w1st c W1 e (k + 1) s' := fun s' hs' => by
    have hne : s' ≠ s := Finset.ne_of_mem_erase hs'
    have : nx6 k s' = nx6 (k + 1) s' := by
      have : s'.val ≠ s.val := fun h => hne (Fin.ext h)
      unfold nx6; omega
    unfold w1st; simp only [this]
  rw [bigSep_erase (Finset.mem_univ s), bigSep_erase (Finset.mem_univ s) (Φ := w1st c W1 e (k + 1)), bigSep_congr h2]
  have e0 : w1st c W1 e k s = w1busy c W1 e s ⟨k, hk⟩ := by
    unfold w1st; simp only [h0, hk, dite_true]
  have e1 : w1st c W1 e (k + 1) s = (if h : k + 6 < 28 then w1busy c W1 e s ⟨k + 6, h⟩ else w1idle c W1 s) := by
    unfold w1st; simp only [h1]
  rw [e0, e1]
  show iprop(_ ∗ _) ⊢ iprop(_ ∗ (_ -∗ iprop(_ ∗ _)))
  iintro ⟨H, HR⟩
  isplitl [H]; · iexact H
  iintro H
  isplitl [H]; · iexact H
  iexact HR

theorem w2ring_step (e : Fin 8) (k : ℕ) (hk : k < 11) (s : Fin 4) (hs : s.val = k % 4) :
    bigSep Finset.univ (w2st c W2 e k) ⊢ iprop(w2busy c W2 e s ⟨k, hk⟩
      ∗ ((if h : k + 4 < 11 then w2busy c W2 e s ⟨k + 4, h⟩ else w2idle c W2 s) -∗ bigSep Finset.univ (w2st c W2 e (k + 1)))) := by
  have h0 : nx4 k s = k := by unfold nx4; omega
  have h1 : nx4 (k + 1) s = k + 4 := by unfold nx4; omega
  have h2 : ∀ s' ∈ Finset.univ.erase s, w2st c W2 e k s' = w2st c W2 e (k + 1) s' := fun s' hs' => by
    have hne : s' ≠ s := Finset.ne_of_mem_erase hs'
    have : nx4 k s' = nx4 (k + 1) s' := by
      have : s'.val ≠ s.val := fun h => hne (Fin.ext h)
      unfold nx4; omega
    unfold w2st; simp only [this]
  rw [bigSep_erase (Finset.mem_univ s), bigSep_erase (Finset.mem_univ s) (Φ := w2st c W2 e (k + 1)), bigSep_congr h2]
  have e0 : w2st c W2 e k s = w2busy c W2 e s ⟨k, hk⟩ := by
    unfold w2st; simp only [h0, hk, dite_true]
  have e1 : w2st c W2 e (k + 1) s = (if h : k + 4 < 11 then w2busy c W2 e s ⟨k + 4, h⟩ else w2idle c W2 s) := by
    unfold w2st; simp only [h1]
  rw [e0, e1]
  show iprop(_ ∗ _) ⊢ iprop(_ ∗ (_ -∗ iprop(_ ∗ _)))
  iintro ⟨H, HR⟩
  isplitl [H]; · iexact H
  iintro H
  isplitl [H]; · iexact H
  iexact HR

end Cert.KernelIdeal.Hand
-- ==== Proof.KIBase.lean ====
/-
  Small facts the walk through the kernel uses: offsets in closed form, and a buffer's contents after a store through a rectangle.
-/
module

public import proofs.«01_k».proof.Proof.KIRes

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem vec1 {a a' : ℕ} (h : a = a') : ![a] = ![a'] := by rw [h]
theorem vec2 {a a' b b' : ℕ} (h : a = a') (hb : b = b') : ![a, b] = ![a', b'] := by rw [h, hb]
theorem vec3 {a a' b b' d d' : ℕ} (h : a = a') (hb : b = b') (hd : d = d') : ![a, b, d] = ![a', b', d'] := by rw [h, hb, hd]

theorem parity : ∀ n < 9, (Scalar.remsi (Scalar.addi 0#32 (Scalar.muli (Scf.iv 0#32 1#32 n) 1#32)) 2#32).toNat = n % 2 := by decide +kernel
theorem index : ∀ n < 9, (Scalar.indexCast (Scalar.addi 0#32 (Scalar.muli (Scf.iv 0#32 1#32 n) 1#32))).toNat = n := by decide +kernel
theorem chunk : ∀ n < 28,
    (Scalar.addi 0#32 (Scalar.muli (Scalar.addi 0#32 (Scalar.muli (Scf.iv 0#32 1#32 n) 1#32)) 256#32)).toNat = 0 * 7168 + 256 * n
    ∧ (Scalar.addi 7168#32 (Scalar.muli (Scalar.addi 0#32 (Scalar.muli (Scf.iv 0#32 1#32 n) 1#32)) 256#32)).toNat = 1 * 7168 + 256 * n := by decide +kernel

/-- A store through a rectangle of a whole buffer, element by element: what is stored inside it, the old contents outside. -/
theorem store_prop {κ : Kind} (Val : EltTy → Type) (b : Ref sig κ) {off size : Fin b.ty.shape.rank → ℕ} (inb : ∀ a, off a + size a ≤ b.ty.shape.size a)
    (f : b.ty.Contents Val) (w : (Rect.unit off size inb).shape.Idx → Val b.ty.elt) (P : b.ty.shape.Idx → Val b.ty.elt → Prop)
    (h1 : ∀ x, P ((Rect.unit off size inb).emb x) (w x))
    (h2 : ∀ i : b.ty.shape.Idx, (∃ a, (i a : ℕ) < off a ∨ off a + size a ≤ (i a : ℕ)) → P i (f i)) (i : b.ty.shape.Idx) :
    P i (((Memref.whole b).access (Rect.unit off size inb)).write Val f w Finset.univ i) := by
  by_cases hi : i ∈ ((Memref.whole b).access (Rect.unit off size inb)).set
  · obtain ⟨x, -, rfl⟩ := Finset.mem_map.1 hi
    rw [View.write_emb_of_mem _ _ (Finset.mem_univ x)]
    exact h1 x
  · rw [View.write_of_not_mem _ _ _ (by rwa [View.setOn_univ])]
    refine h2 i ?_
    by_contra hn
    push Not at hn
    refine hi (Finset.mem_map.2 ⟨fun a => ⟨(i a : ℕ) - off a, ?_⟩, Finset.mem_univ _, ?_⟩)
    · show _ < size a
      have := hn a; omega
    · funext a
      apply Fin.ext
      have := ValueKit.view_emb_slice_whole_unit_val b off size inb (fun a => ⟨(i a : ℕ) - off a, by have := hn a; show _ < size a; omega⟩) a
      refine this.trans ?_
      have := hn a
      show off a + ((i a : ℕ) - off a) = _
      omega

variable {F : FTy → Type} [FloatOps F]

local notation "𝕄" => MT nD τ sig Unit (Elt F) ℕ (Pipeline.UD sig nD τ) ℕ

variable {defs : Defs nD τ sig (Elt F) Λ₀} (c : Dev nD)
  {α : Type} {Q : α → sProp (MT nD τ sig Unit (Elt F) ℕ (Pipeline.UD sig nD τ) ℕ)}

/-- The index a part of a scale array has in the array. -/
def s1ix (h : Fin 2) (j : Fin 28) (i : S1x22x256.Idx) : S1x22x14336.Idx := fun (a : Fin 3) => match a with
  | 0 => (⟨0, by decide⟩ : Fin 1)
  | 1 => (⟨(i 1 : ℕ), (i 1).isLt⟩ : Fin 22)
  | 2 => (⟨h.val * 7168 + 256 * j.val + (i 2 : ℕ), by have : (i 2 : ℕ) < 256 := (i 2).isLt; omega⟩ : Fin 14336)

/-- The index a part of a scale array has in the array. -/
def s2ix (j : Fin 11) (i : S1x56x256.Idx) : S1x56x2816.Idx := fun (a : Fin 3) => match a with
  | 0 => (⟨0, by decide⟩ : Fin 1)
  | 1 => (⟨(i 1 : ℕ), (i 1).isLt⟩ : Fin 56)
  | 2 => (⟨256 * j.val + (i 2 : ℕ), by have : (i 2 : ℕ) < 256 := (i 2).isLt; omega⟩ : Fin 2816)

/-! ## What a load of a slot reads -/

/-- The part of the scales of expert `e` the gate (`h = 0`) or up (`h = 1`) chunk `j` uses. -/
def s1v (SC1 : Buf (Elt F) ((Memref.whole main_arg5).view.loc (c : Thread nD τ))) (e : Fin 8) (h : Fin 2) (j : Fin 28) : Vec F S1x22x256 .bf16 :=
  fun i => shapeCast S1x22x14336 ((s1src e).view.read (Elt F) SC1) (by decide)
    (s1ix h j i)

def w1v (W1 : Buf (Elt F) ((Memref.whole main_arg4).view.loc (c : Thread nD τ))) (e : Fin 8) (h : Fin 2) (j : Fin 28) : Vec F S1x1x1408x256 .i8 :=
  fun i => shapeCast S1x1x1408x256 ((w1src e h j).view.read (Elt F) W1) (by decide) i

def w2v (W2 : Buf (Elt F) ((Memref.whole main_arg6).view.loc (c : Thread nD τ))) (e : Fin 8) (j : Fin 11) : Vec F S1x3584x256 .i8 :=
  fun i => shapeCast S1x3584x256 ((w2src e j).view.read (Elt F) W2) (by decide) i

def s2v (SC2 : Buf (Elt F) ((Memref.whole main_arg7).view.loc (c : Thread nD τ))) (e : Fin 8) (j : Fin 11) : Vec F S1x56x256 .bf16 :=
  fun i => shapeCast S1x56x2816 ((s2src e).view.read (Elt F) SC2) (by decide)
    (s2ix j i)

theorem s1sub (p : Fin 2) (h : Fin 2) (j : Fin 28) (i : S1x22x256.Idx) (a : Fin 3) : (![p.val, 0, h.val * 7168 + 256 * j.val] : Fin 3 → ℕ) a + (i a : ℕ) = (![p.val, 0, 0] : Fin 3 → ℕ) a + (s1ix h j i a : ℕ) := by
  have h0 : (i 0 : ℕ) < 1 := (i 0).isLt
  fin_cases a
  · show p.val + (i 0 : ℕ) = p.val + 0; omega
  · rfl
  · show h.val * 7168 + 256 * j.val + (i 2 : ℕ) = 0 + (h.val * 7168 + 256 * j.val + (i 2 : ℕ)); omega

theorem load_s1 (e : Fin 8) (p : Fin 2) (h : Fin 2) (j : Fin 28) (SC1 : Buf (Elt F) ((Memref.whole main_arg5).view.loc (c : Thread nD τ)))
    {off : Fin 3 → ℕ} (ho : off = ![p.val, 0, h.val * 7168 + 256 * j.val]) {inb} {hl} {k : (S1x22x256.Idx → Elt F .bf16) → Prog (TpuEff nD τ sig (Elt F) Λ₀ .tc) α} :
    (owns (c : Thread nD τ) (s1dst p) fullShare ((s1src e).view.read (Elt F) SC1) : sProp 𝕄)
      ⊢ iprop((owns (c : Thread nD τ) (s1dst p) fullShare ((s1src e).view.read (Elt F) SC1)
            -∗ wp frame (wpE defs Variants.none (c : Thread nD τ) none) Set.univ (k (s1v c SC1 e h j)) Q)
          -∗ wp frame (wpE defs Variants.none (c : Thread nD τ) none) Set.univ
              (.op (.load (Memref.whole cc0_scratch2) (Rect.unit (s := S2x22x14336) off S1x22x256.size inb).toLoadRect hl) k) Q) := by
  subst ho
  have hh := loadSlot (Q := Q) (defs := defs) (k := k) (hl := hl) (X := (s1src e).view.read (Elt F) SC1) (M := Memref.whole cc0_scratch2) (off := ![p.val, 0, 0]) (size := S1x22x14336.size)
    (inb := by intro a; fin_cases a <;> simp [S2x22x14336, S1x22x14336] <;> omega) (hs := fun _ => rfl) (hq := squeezes_S1x22x14336_S22x14336) (size1 := S1x22x256.size) Variants.none (c : Thread nD τ) none (sq := S22x14336) (squeezes_S1x22x14336_S22x14336.numel_eq.symm) (squeezes_S1x22x14336_S22x14336.numel_eq) (sub := fun i => s1ix h j i) (s1sub p h j)
  unfold s1v
  exact hh

theorem s2sub (p : Fin 2) (j : Fin 11) (i : S1x56x256.Idx) (a : Fin 3) : (![p.val, 0, 256 * j.val] : Fin 3 → ℕ) a + (i a : ℕ) = (![p.val, 0, 0] : Fin 3 → ℕ) a + (s2ix j i a : ℕ) := by
  have h0 : (i 0 : ℕ) < 1 := (i 0).isLt
  fin_cases a
  · show p.val + (i 0 : ℕ) = p.val + 0; omega
  · rfl
  · show 256 * j.val + (i 2 : ℕ) = 0 + (256 * j.val + (i 2 : ℕ)); omega

theorem load_s2 (e : Fin 8) (p : Fin 2) (j : Fin 11) (SC2 : Buf (Elt F) ((Memref.whole main_arg7).view.loc (c : Thread nD τ)))
    {off : Fin 3 → ℕ} (ho : off = ![p.val, 0, 256 * j.val]) {inb} {hl} {k : (S1x56x256.Idx → Elt F .bf16) → Prog (TpuEff nD τ sig (Elt F) Λ₀ .tc) α} :
    (owns (c : Thread nD τ) (s2dst p) fullShare ((s2src e).view.read (Elt F) SC2) : sProp 𝕄)
      ⊢ iprop((owns (c : Thread nD τ) (s2dst p) fullShare ((s2src e).view.read (Elt F) SC2)
            -∗ wp frame (wpE defs Variants.none (c : Thread nD τ) none) Set.univ (k (s2v c SC2 e j)) Q)
          -∗ wp frame (wpE defs Variants.none (c : Thread nD τ) none) Set.univ
              (.op (.load (Memref.whole cc0_scratch4) (Rect.unit (s := S2x56x2816) off S1x56x256.size inb).toLoadRect hl) k) Q) := by
  subst ho
  have hh := loadSlot (Q := Q) (defs := defs) (k := k) (hl := hl) (X := (s2src e).view.read (Elt F) SC2) (M := Memref.whole cc0_scratch4) (off := ![p.val, 0, 0]) (size := S1x56x2816.size)
    (inb := by intro a; fin_cases a <;> simp [S2x56x2816, S1x56x2816] <;> omega) (hs := fun _ => rfl) (hq := squeezes_S1x56x2816_S56x2816) (size1 := S1x56x256.size) Variants.none (c : Thread nD τ) none (sq := S56x2816) (squeezes_S1x56x2816_S56x2816.numel_eq.symm) (squeezes_S1x56x2816_S56x2816.numel_eq) (sub := fun i => s2ix j i) (s2sub p j)
  unfold s2v
  exact hh

theorem load_w1 (e : Fin 8) (s : Fin 6) (h : Fin 2) (j : Fin 28) (W1 : Buf (Elt F) ((Memref.whole main_arg4).view.loc (c : Thread nD τ)))
    {off : Fin 4 → ℕ} (ho : off = ![s.val, h.val, 0, 0]) {inb} {hl} {k : (S1x1x1408x256.Idx → Elt F .i8) → Prog (TpuEff nD τ sig (Elt F) Λ₀ .tc) α} :
    (owns (c : Thread nD τ) (w1dst s h) fullShare ((w1src e h j).view.read (Elt F) W1) : sProp 𝕄)
      ⊢ iprop((owns (c : Thread nD τ) (w1dst s h) fullShare ((w1src e h j).view.read (Elt F) W1)
            -∗ wp frame (wpE defs Variants.none (c : Thread nD τ) none) Set.univ (k (w1v c W1 e h j)) Q)
          -∗ wp frame (wpE defs Variants.none (c : Thread nD τ) none) Set.univ
              (.op (.load (Memref.whole cc0_scratch1) (Rect.unit (s := S6x2x1408x256) off S1x1x1408x256.size inb).toLoadRect hl) k) Q) := by
  subst ho
  exact loadSlot Variants.none (c : Thread nD τ) none (sq := S1408x256) (squeezes_S1x1x1408x256_S1408x256.numel_eq.symm) (squeezes_S1x1x1408x256_S1408x256.numel_eq) (sub := fun i => i) (fun i a => rfl)

theorem load_w2 (e : Fin 8) (s : Fin 4) (j : Fin 11) (W2 : Buf (Elt F) ((Memref.whole main_arg6).view.loc (c : Thread nD τ)))
    {off : Fin 3 → ℕ} (ho : off = ![s.val, 0, 0]) {inb} {hl} {k : (S1x3584x256.Idx → Elt F .i8) → Prog (TpuEff nD τ sig (Elt F) Λ₀ .tc) α} :
    (owns (c : Thread nD τ) (w2dst s) fullShare ((w2src e j).view.read (Elt F) W2) : sProp 𝕄)
      ⊢ iprop((owns (c : Thread nD τ) (w2dst s) fullShare ((w2src e j).view.read (Elt F) W2)
            -∗ wp frame (wpE defs Variants.none (c : Thread nD τ) none) Set.univ (k (w2v c W2 e j)) Q)
          -∗ wp frame (wpE defs Variants.none (c : Thread nD τ) none) Set.univ
              (.op (.load (Memref.whole cc0_scratch3) (Rect.unit (s := S4x3584x256) off S1x3584x256.size inb).toLoadRect hl) k) Q) := by
  subst ho
  exact loadSlot Variants.none (c : Thread nD τ) none (sq := S3584x256) (squeezes_S1x3584x256_S3584x256.numel_eq.symm) (squeezes_S1x3584x256_S3584x256.numel_eq) (sub := fun i => i) (fun i a => rfl)

end Cert.KernelIdeal.Hand
-- ==== Proof.KILoops.lean ====
/-
  The values the kernel computes, tile by tile, and its two loops: over the 28 column chunks of the first product and over the 11 of the second.
-/
module

public import proofs.«01_k».proof.Proof.KIBase

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values of a tile -/

/-- The dequantised weights of one half of an up-projection chunk, times the rows: what the kernel accumulates for the gate. -/
def gateF (v171 : Vec F S1x22x256 .bf16) (v173 : Vec F S256x2816 .bf16) (v175 : Vec F S1x1x1408x256 .i8) : FVec F S256x256 .f32 :=
  let v172 := k0_pay2 v171
  let v176 := k0_pay3 (F := F) v175
  k0_pay15 v172 v173 (k0_pay4 (F := F) v176) (k0_pay5 v172 v176) (k0_pay6 v172 v176) (k0_pay7 v172 v176) (k0_pay8 v172 v176) (k0_pay9 v172 v176) (k0_pay10 v172 v176) (k0_pay11 v172 v176) (k0_pay12 v172 v176) (k0_pay13 v172 v176) (k0_pay14 v172 v176)

/-- The dequantised weights of the up half. -/
def upW (v287 : Vec F S1x22x256 .bf16) (v291 : Vec F S1x1x1408x256 .i8) : FVec F S2816x256 .bf16 :=
  k0_pay27 (k0_pay16 v287) (k0_pay17 v291) (k0_pay18 v287 v291) (k0_pay19 v287 v291) (k0_pay20 v287 v291) (k0_pay21 v287 v291) (k0_pay22 v287 v291) (k0_pay23 v287 v291) (k0_pay24 v287 v291) (k0_pay25 v291) (k0_pay26 v287)

/-- What the kernel stores for a gate tile and an up tile: `silu(x·g) * (x·u)`. -/
def upF (v171 : Vec F S1x22x256 .bf16) (v173 : Vec F S256x2816 .bf16) (v175 : Vec F S1x1x1408x256 .i8)
    (v287 : Vec F S1x22x256 .bf16) (v289 : Vec F S256x2816 .bf16) (v291 : Vec F S1x1x1408x256 .i8) : FVec F S256x256 .bf16 :=
  k0_pay76 (gateF v171 v173 v175) v289 (upW v287 v291) (constant S256x256 .f32 0x00000000#32)

/-- The dequantised weights of a chunk of the second product. -/
def dnW (v160 : Vec F S1x3584x256 .i8) (v163 : Vec F S1x56x256 .bf16) : FVec F S7168x256 .bf16 :=
  let v164 := k0_pay28 v163
  let v180 := k0_pay29 (F := F) v160
  concatenate S7168x256 0 (⟨S128x256, k0_pay30 v160 v163⟩ :: ⟨S128x256, k0_pay31 v164 v180⟩ :: ⟨S128x256, k0_pay32 v164 v180⟩ :: ⟨S128x256, k0_pay33 v164 v180⟩ :: ⟨S128x256, k0_pay34 v164 v180⟩ :: ⟨S128x256, k0_pay35 v164 v180⟩ :: ⟨S128x256, k0_pay36 v164 v180⟩ :: ⟨S128x256, k0_pay37 v164 v180⟩ :: ⟨S128x256, k0_pay38 v164 v180⟩ :: ⟨S128x256, k0_pay39 v164 v180⟩ :: ⟨S128x256, k0_pay40 v164 v180⟩ :: ⟨S128x256, k0_pay41 v164 v180⟩ :: ⟨S128x256, k0_pay42 v164 v180⟩ :: ⟨S128x256, k0_pay43 v164 v180⟩ :: ⟨S128x256, k0_pay44 v164 v180⟩ :: ⟨S128x256, k0_pay45 v164 v180⟩ :: ⟨S128x256, k0_pay46 v164 v180⟩ :: ⟨S128x256, k0_pay47 v164 v180⟩ :: ⟨S128x256, k0_pay48 v164 v180⟩ :: ⟨S128x256, k0_pay49 v164 v180⟩ :: ⟨S128x256, k0_pay50 v164 v180⟩ :: ⟨S128x256, k0_pay51 v164 v180⟩ :: ⟨S128x256, k0_pay52 v164 v180⟩ :: ⟨S128x256, k0_pay53 v164 v180⟩ :: ⟨S128x256, k0_pay54 v164 v180⟩ :: ⟨S128x256, k0_pay55 v164 v180⟩ :: ⟨S128x256, k0_pay56 v164 v180⟩ :: ⟨S128x256, k0_pay57 v164 v180⟩ :: ⟨S128x256, k0_pay58 v164 v180⟩ :: ⟨S128x256, k0_pay59 v164 v180⟩ :: ⟨S128x256, k0_pay60 v164 v180⟩ :: ⟨S128x256, k0_pay61 v164 v180⟩ :: ⟨S128x256, k0_pay62 v164 v180⟩ :: ⟨S128x256, k0_pay63 v164 v180⟩ :: ⟨S128x256, k0_pay64 v164 v180⟩ :: ⟨S128x256, k0_pay65 v164 v180⟩ :: ⟨S128x256, k0_pay66 v164 v180⟩ :: ⟨S128x256, k0_pay67 v164 v180⟩ :: ⟨S128x256, k0_pay68 v164 v180⟩ :: ⟨S128x256, k0_pay69 v164 v180⟩ :: ⟨S128x256, k0_pay70 v164 v180⟩ :: ⟨S128x256, k0_pay71 v164 v180⟩ :: ⟨S128x256, k0_pay72 v164 v180⟩ :: ⟨S128x256, k0_pay73 v164 v180⟩ :: ⟨S128x256, k0_pay74 v164 v180⟩ :: ⟨S128x256, k0_pay75 v164 v180⟩ :: ⟨S128x256, k0_pay77 v164 v180⟩ :: ⟨S128x256, k0_pay78 v164 v180⟩ :: ⟨S128x256, k0_pay79 v164 v180⟩ :: ⟨S128x256, k0_pay80 v164 v180⟩ :: ⟨S128x256, k0_pay81 v164 v180⟩ :: ⟨S128x256, k0_pay82 v164 v180⟩ :: ⟨S128x256, k0_pay83 v164 v180⟩ :: ⟨S128x256, k0_pay84 v164 v180⟩ :: ⟨S128x256, k0_pay85 v164 v180⟩ :: ⟨S128x256, k0_pay86 v164 v180⟩ :: []) concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S7168x256_d0

/-! ## Offsets -/

theorem off30 (v : BitVec 32) (t : Fin k0_t2_loop.trips) :
    k0_off30 v t 0#32 = ![v.toNat, 0, 0 * 7168 + 256 * t.val] ∧ k0_off30 v t 7168#32 = ![v.toNat, 0, 1 * 7168 + 256 * t.val] := by
  have h : ∀ t : Fin k0_t2_loop.trips, k0_off30 0#32 t 0#32 2 = 0 * 7168 + 256 * t.val ∧ k0_off30 0#32 t 7168#32 2 = 1 * 7168 + 256 * t.val := by decide +kernel
  exact ⟨vec3 rfl rfl (h t).1, vec3 rfl rfl (h t).2⟩
theorem off39 (v : BitVec 32) (t : Fin k0_t2_loop.trips) (hc : k0_cond1 t = 1#1) :
    k0_off39 v t 0#32 = ![v.toNat, 0, 0 * 7168 + 256 * (t.val + 6)] ∧ k0_off39 v t 7168#32 = ![v.toNat, 0, 1 * 7168 + 256 * (t.val + 6)] := by
  have h : ∀ t : Fin k0_t2_loop.trips, k0_cond1 t = 1#1 → k0_off39 0#32 t 0#32 2 = 0 * 7168 + 256 * (t.val + 6) ∧ k0_off39 0#32 t 7168#32 2 = 1 * 7168 + 256 * (t.val + 6) := by decide +kernel
  exact ⟨vec3 rfl rfl (h t hc).1, vec3 rfl rfl (h t hc).2⟩
theorem off63 (v : BitVec 32) (t : Fin k0_t3_loop.trips) : k0_off63 v t = ![v.toNat, 0, 256 * t.val] := by
  have h : ∀ t : Fin k0_t3_loop.trips, k0_off63 0#32 t 2 = 256 * t.val := by decide +kernel
  exact vec3 rfl rfl (h t)
theorem off69 (v : BitVec 32) (t : Fin k0_t3_loop.trips) (hc : k0_cond3 t = 1#1) : k0_off69 v t = ![v.toNat, 0, 256 * (t.val + 4)] := by
  have h : ∀ t : Fin k0_t3_loop.trips, k0_cond3 t = 1#1 → k0_off69 0#32 t 2 = 256 * (t.val + 4) := by decide +kernel
  exact vec3 rfl rfl (h t hc)
theorem off32 (v : BitVec 32) (t1 : Fin (k0_t1_loop v).trips) (h : t1.val < 9) (p : Fin 2) (hp : p.val = t1.val % 2) (t : Fin k0_t2_loop.trips) :
    k0_off32 v t1 t 0#32 = ![p.val, 0, (0 : Fin 2).val * 7168 + 256 * t.val] ∧ k0_off32 v t1 t 7168#32 = ![p.val, 0, (1 : Fin 2).val * 7168 + 256 * t.val] := by
  have h1 := (parity t1.val h).trans hp.symm
  have h2 := chunk t.val t.isLt
  exact ⟨vec3 h1 rfl h2.1, vec3 h1 rfl h2.2⟩
theorem off65 (v : BitVec 32) (t1 : Fin (k0_t1_loop v).trips) (h : t1.val < 9) (p : Fin 2) (hp : p.val = t1.val % 2) (t : Fin k0_t3_loop.trips) :
    k0_off65 v t1 t = ![p.val, 0, 256 * t.val] := by
  have h1 := (parity t1.val h).trans hp.symm
  have h : ∀ t : Fin k0_t3_loop.trips, k0_off66 0#32 t 1 = 256 * t.val := by decide +kernel
  exact vec3 h1 rfl (h t)
theorem off66 (v : BitVec 32) (t : Fin k0_t3_loop.trips) : k0_off66 v t = ![v.toNat, 256 * t.val] := by
  have h : ∀ t : Fin k0_t3_loop.trips, k0_off66 0#32 t 1 = 256 * t.val := by decide +kernel
  exact vec2 rfl (h t)
theorem off33 (v : BitVec 32) : k0_off33 v = ![v.toNat, 0] := rfl
theorem cond1_iff : ∀ t : Fin k0_t2_loop.trips, k0_cond1 t = 1#1 ↔ t.val + 6 < 28 := by decide +kernel
theorem cond2_iff : ∀ t : Fin k0_t3_loop.trips, k0_cond3 t = 1#1 ↔ t.val + 4 < 11 := by decide +kernel

/-! ## What the kernel leaves in its two result buffers -/

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem xinb (r : Fin 641) : ∀ a, (![r.val, 0] : Fin 2 → ℕ) a + S256x2816.size a ≤ S896x2816.size a := by
  intro a; fin_cases a <;> simp [S256x2816, S896x2816]; omega

/-- The 256 rows from row `r` on, as the loops load them. -/
def xall (r : Fin 641) : Vec F S256x2816 .bf16 :=
  ((Memref.whole cc0_stg3_0).access (Rect.unit (s := S896x2816) ![r.val, 0] S256x2816.size (xinb r))).read (Elt F) XB

theorem xall_eq (r : Fin 641) {off : Fin 2 → ℕ} (ho : off = ![r.val, 0]) {inb} :
    ((Memref.whole cc0_stg3_0).access (Rect.unit (s := S896x2816) off S256x2816.size inb)).read (Elt F) XB = xall c XB r := by
  subst ho; rfl

/-- What the up-projection chunk `j` of expert `e` stores. -/
def upv (r : Fin 641) (e : Fin 8) (j : Fin 28) : FVec F S256x256 .bf16 :=
  upF (s1v c SC1 e 0 j) (xall c XB r) (w1v c W1 e 0 j) (s1v c SC1 e 1 j) (xall c XB r) (w1v c W1 e 1 j)

/-- An index of a tile, from a row and a column counted anywhere. -/
def sq2 (a b : ℕ) : S256x256.Idx := fun (k : Fin 2) => match k with
  | 0 => (⟨a % 256, Nat.mod_lt _ (by decide)⟩ : Fin 256)
  | 1 => (⟨b % 256, Nat.mod_lt _ (by decide)⟩ : Fin 256)

/-- The intermediate rows: `silu(x·gate) * (x·up)`, chunk by chunk. -/
def hbuf (r : Fin 641) (e : Fin 8) : Buf (Elt F) ((Memref.whole cc0_scratch0).view.loc (c : Thread nD τ)) :=
  fun (i : S256x7168.Idx) => upv c XB W1 SC1 r e ⟨(i 1 : ℕ) / 256, by have : (i 1 : ℕ) < 7168 := (i 1).isLt; omega⟩ (sq2 (i 0 : ℕ) (i 1 : ℕ))

def hall (r : Fin 641) (e : Fin 8) : Vec F S256x7168 .bf16 :=
  ((Memref.whole cc0_scratch0).access (Rect.unit (s := S256x7168) ![0, 0] S256x7168.size inb_S256x7168_S256x7168_0_0)).read (Elt F) (hbuf c XB W1 SC1 r e)

/-- What the second product's chunk `j` stores. -/
def dnv (r : Fin 641) (e : Fin 8) (j : Fin 11) : FVec F S256x256 .f32 :=
  k0_pay87 (hall c XB W1 SC1 r e) (dnW (w2v c W2 e j) (s2v c SC2 e j))

/-- The result after `k` column chunks of expert `e` on the rows from `r` on, over the contents `Y0`. -/
def ystep (r : Fin 641) (e : Fin 8) (Y0 : Buf (Elt F) ((Memref.whole cc0_stg4_0).view.loc (c : Thread nD τ))) (k : ℕ) : Buf (Elt F) ((Memref.whole cc0_stg4_0).view.loc (c : Thread nD τ)) :=
  fun (i : S896x2816.Idx) => if r.val ≤ (i 0 : ℕ) ∧ (i 0 : ℕ) < r.val + 256 ∧ (i 1 : ℕ) < 256 * k
    then dnv c XB W1 SC1 W2 SC2 r e ⟨(i 1 : ℕ) / 256, by have : (i 1 : ℕ) < 2816 := (i 1).isLt; omega⟩ (sq2 ((i 0 : ℕ) - r.val) (i 1 : ℕ)) else Y0 i

theorem ystep_zero (r : Fin 641) (e : Fin 8) (Y0) : ystep c XB W1 SC1 W2 SC2 r e Y0 0 = Y0 := by
  funext i
  exact if_neg (fun h => absurd h.2.2 (by omega))

/-- The intermediate rows are as they should be in the first `k` column chunks. -/
def hok (r : Fin 641) (e : Fin 8) (k : ℕ) (H : Buf (Elt F) ((Memref.whole cc0_scratch0).view.loc (c : Thread nD τ))) : Prop :=
  ∀ i : S256x7168.Idx, (i 1 : ℕ) < 256 * k → H i = hbuf c XB W1 SC1 r e i

theorem hok_all (r : Fin 641) (e : Fin 8) {H} (h : hok c XB W1 SC1 r e 28 H) : H = hbuf c XB W1 SC1 r e := by
  funext i
  exact h i (by have : ((show S256x7168.Idx from i) 1 : ℕ) < 7168 := ((show S256x7168.Idx from i) 1).isLt; omega)
/-- One more chunk stored. -/
theorem hok_step (r : Fin 641) (e : Fin 8) (k : Fin 28) {H} (h : hok c XB W1 SC1 r e k.val H) {off : Fin 2 → ℕ} (ho : off = ![0, 256 * k.val]) {inb}
    (w : S256x256.Idx → Elt F .bf16) (hw : w = upv c XB W1 SC1 r e k) :
    hok c XB W1 SC1 r e (k.val + 1) (((Memref.whole cc0_scratch0).access (Rect.unit (s := S256x7168) off S256x256.size inb)).write (Elt F) H w Finset.univ) := by
  subst ho hw
  refine store_prop (Elt F) cc0_scratch0 inb H _ (fun i v => ((show S256x7168.Idx from i) 1 : ℕ) < 256 * (k.val + 1) → v = hbuf c XB W1 SC1 r e i) ?_ ?_
  · intro x _
    have hx1 : ((show S256x256.Idx from x) 1 : ℕ) < 256 := ((show S256x256.Idx from x) 1).isLt
    have hx0 : ((show S256x256.Idx from x) 0 : ℕ) < 256 := ((show S256x256.Idx from x) 0).isLt
    have e1 : (((Rect.unit (s := S256x7168) ![0, 256 * k.val] S256x256.size inb).emb x) 1 : ℕ) = 256 * k.val + ((show S256x256.Idx from x) 1 : ℕ) :=
      ValueKit.rect_emb_unit_val _ _ _ x 1
    have e0 : (((Rect.unit (s := S256x7168) ![0, 256 * k.val] S256x256.size inb).emb x) 0 : ℕ) = 0 + ((show S256x256.Idx from x) 0 : ℕ) :=
      ValueKit.rect_emb_unit_val _ _ _ x 0
    unfold hbuf
    congr 1
    · congr 1
      apply Fin.ext
      show k.val = (((Rect.unit (s := S256x7168) ![0, 256 * k.val] S256x256.size inb).emb x) 1 : ℕ) / 256
      rw [e1]; omega
    · funext a
      apply Fin.ext
      fin_cases a
      · show ((show S256x256.Idx from x) 0 : ℕ) = (((Rect.unit (s := S256x7168) ![0, 256 * k.val] S256x256.size inb).emb x) 0 : ℕ) % 256
        rw [e0]; omega
      · show ((show S256x256.Idx from x) 1 : ℕ) = (((Rect.unit (s := S256x7168) ![0, 256 * k.val] S256x256.size inb).emb x) 1 : ℕ) % 256
        rw [e1]; omega
  · intro i hi hlt
    refine h i ?_
    obtain ⟨a, ha⟩ := hi
    have hi0 : ((show S256x7168.Idx from i) 0 : ℕ) < 256 := ((show S256x7168.Idx from i) 0).isLt
    have ha' : ∀ a : Fin 2, (((show S256x7168.Idx from i) a : ℕ) < (![0, 256 * k.val] : Fin 2 → ℕ) a ∨ (![0, 256 * k.val] : Fin 2 → ℕ) a + S256x256.size a ≤ ((show S256x7168.Idx from i) a : ℕ)) → ((show S256x7168.Idx from i) 1 : ℕ) < 256 * k.val := by
      intro a ha
      fin_cases a
      · have : (((show S256x7168.Idx from i) 0 : ℕ) < 0 ∨ 0 + 256 ≤ ((show S256x7168.Idx from i) 0 : ℕ)) := ha
        omega
      · have : (((show S256x7168.Idx from i) 1 : ℕ) < 256 * k.val ∨ 256 * k.val + 256 ≤ ((show S256x7168.Idx from i) 1 : ℕ)) := ha
        omega
    exact ha' a ha

/-- One more chunk stored. -/
theorem ystep_step (r : Fin 641) (e : Fin 8) (k : Fin 11) (Y0) {off : Fin 2 → ℕ} (ho : off = ![r.val, 256 * k.val]) {inb}
    (w : S256x256.Idx → Elt F .f32) (hw : w = dnv c XB W1 SC1 W2 SC2 r e k) :
    ((Memref.whole cc0_stg4_0).access (Rect.unit (s := S896x2816) off S256x256.size inb)).write (Elt F) (ystep c XB W1 SC1 W2 SC2 r e Y0 k.val) w Finset.univ
      = ystep c XB W1 SC1 W2 SC2 r e Y0 (k.val + 1) := by
  subst ho hw
  funext i
  refine store_prop (Elt F) cc0_stg4_0 inb _ _ (fun i v => v = ystep c XB W1 SC1 W2 SC2 r e Y0 (k.val + 1) i) ?_ ?_ i
  · intro x
    have hx1 : ((show S256x256.Idx from x) 1 : ℕ) < 256 := ((show S256x256.Idx from x) 1).isLt
    have hx0 : ((show S256x256.Idx from x) 0 : ℕ) < 256 := ((show S256x256.Idx from x) 0).isLt
    have e1 : (((Rect.unit (s := S896x2816) ![r.val, 256 * k.val] S256x256.size inb).emb x) 1 : ℕ) = 256 * k.val + ((show S256x256.Idx from x) 1 : ℕ) :=
      ValueKit.rect_emb_unit_val _ _ _ x 1
    have e0 : (((Rect.unit (s := S896x2816) ![r.val, 256 * k.val] S256x256.size inb).emb x) 0 : ℕ) = r.val + ((show S256x256.Idx from x) 0 : ℕ) :=
      ValueKit.rect_emb_unit_val _ _ _ x 0
    unfold ystep
    rw [if_pos ⟨by rw [e0]; omega, by rw [e0]; omega, by rw [e1]; omega⟩]
    congr 1
    · congr 1
      apply Fin.ext
      show k.val = (((Rect.unit (s := S896x2816) ![r.val, 256 * k.val] S256x256.size inb).emb x) 1 : ℕ) / 256
      rw [e1]; omega
    · funext a
      apply Fin.ext
      fin_cases a
      · show ((show S256x256.Idx from x) 0 : ℕ) = ((((Rect.unit (s := S896x2816) ![r.val, 256 * k.val] S256x256.size inb).emb x) 0 : ℕ) - r.val) % 256
        rw [e0]; omega
      · show ((show S256x256.Idx from x) 1 : ℕ) = (((Rect.unit (s := S896x2816) ![r.val, 256 * k.val] S256x256.size inb).emb x) 1 : ℕ) % 256
        rw [e1]; omega
  · intro i hi
    obtain ⟨a, ha⟩ := hi
    have ha' : ∀ a : Fin 2, (((show S896x2816.Idx from i) a : ℕ) < (![r.val, 256 * k.val] : Fin 2 → ℕ) a ∨ (![r.val, 256 * k.val] : Fin 2 → ℕ) a + S256x256.size a ≤ ((show S896x2816.Idx from i) a : ℕ)) →
        (((show S896x2816.Idx from i) 0 : ℕ) < r.val ∨ r.val + 256 ≤ ((show S896x2816.Idx from i) 0 : ℕ)) ∨ (((show S896x2816.Idx from i) 1 : ℕ) < 256 * k.val ∨ 256 * k.val + 256 ≤ ((show S896x2816.Idx from i) 1 : ℕ)) := by
      intro a ha
      fin_cases a
      · exact .inl ha
      · exact .inr ha
    have h3 := ha' a ha
    unfold ystep
    refine if_congr ⟨fun h => ⟨h.1, h.2.1, ?_⟩, fun h => ⟨h.1, h.2.1, ?_⟩⟩ rfl rfl
    · have := h.2.2; omega
    · have key : ∀ a b : ℕ, ((a < r.val ∨ r.val + 256 ≤ a) ∨ (b < 256 * k.val ∨ 256 * k.val + 256 ≤ b)) → r.val ≤ a → a < r.val + 256 →
          b < 256 * (k.val + 1) → b < 256 * k.val := by intros; omega
      exact key _ _ h3 h.1 h.2.1 h.2.2

/-! ## One column chunk of the first product -/

/-- The state of the loop over the chunks of the first product before chunk `k`. -/
def inv1 (r : Fin 641) (p : Fin 2) (e : Fin 8) (k : ℕ) : sProp 𝕄 :=
  iprop(bigSep Finset.univ (w1st c W1 e k)
    ∗ owns (c : Thread nD τ) (s1dst p) fullShare ((s1src e).view.read (Elt F) SC1)
    ∗ ((Memref.whole cc0_stg3_0).view.loc (c : Thread nD τ) ↦{fullShare} XB)
    ∗ (∃ H, ⌜hok c XB W1 SC1 r e k H⌝ ∗ ((Memref.whole cc0_scratch0).view.loc (c : Thread nD τ) ↦{fullShare} H))
    ∗ owe0 (c : Thread nD τ))

theorem amt1 (s : Fin 6) (h : Fin 2) (x : DmaSem sig) : (w1dst s h).view.amount (.dma x) = N1 := rfl
theorem amt2 (s : Fin 4) (x : DmaSem sig) : (w2dst s).view.amount (.dma x) = N2 := rfl

theorem trip1 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (v97 : Elt F .i32) (k0_hw2 : k0_chk2 v97) (k0_t1 : Fin (k0_t1_loop v97).trips) (ht1 : k0_t1.val < 9) (p : Fin 2) (hp : p.val = k0_t1.val % 2)
    (v110 : BitVec 32) (v112 : Elt F .i32) (k0_hw4 : k0_chk4 v112) (v114 : Elt F .i32) (k0_hw3 : k0_chk3 v114) (v115 v116 : BitVec 32)
    (e : Fin 8) (he : BitVec.toNat v112 = e.val) (r : Fin 641) (hr : BitVec.toNat v114 = r.val) (k0_t2 : Fin k0_t2_loop.trips) :
    inv1 c XB W1 SC1 r p e k0_t2.val
      ⊢ wp frame (wpE defs Variants.none (c : Thread nD τ) none) Set.univ
          (k0_t2_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 v110 v112 k0_hw4 v114 k0_hw3 v115 v116 k0_t2 ⟨⟩)
          (fun _ => inv1 c XB W1 SC1 r p e (k0_t2.val + 1)) := by
  have hk : k0_t2.val < 28 := k0_t2.isLt
  have hs6 : k0_t2.val % 6 < 6 := Nat.mod_lt _ (by decide)
  unfold inv1
  iintro ⟨Hring, Hs, Hx, ⟨%H, %hH, Hh⟩, HO⟩
  ihave Hr := (w1ring_step c W1 e k0_t2.val hk ⟨k0_t2.val % 6, hs6⟩ rfl) $$ Hring
  icases Hr with ⟨Hb, Hback⟩
  unfold w1busy
  icases Hb with ⟨Hb, Hl0, Hl1⟩
  simp only [k0_t2_body, k0_part1_eq_skeleton, k0_part1_skel, k0_part2_eq_skeleton, k0_part2_skel, k0_part3_eq_skeleton, k0_part3_skel,
    k0_part4_eq_skeleton, k0_part4_skel, k0_part5_eq_skeleton, k0_part5_skel, Prog.lift, Prog.bind_op, Prog.bind_ret, Prog.bind_assoc, Prog.pure_eq_ret]
  have hd : ∀ h : Fin 2, ∀ off, off = ![k0_t2.val % 6, h.val, 0, 0] → ∀ inb, ((Memref.whole cc0_scratch1).slice (Rect.unit (s := S6x2x1408x256) off S1x1x1408x256.size inb) (fun _ => rfl)).squeeze S1408x256 squeezes_S1x1x1408x256_S1408x256
      = w1dst ⟨k0_t2.val % 6, hs6⟩ h := by
    intro h off ho inb; subst ho; rfl
  have hm : ∀ off, off = ![k0_t2.val % 6] → ∀ inb, ((cc0_scratch5.slice (Rect.unit (s := S6) off S1.size inb)).squeeze S_ squeezes_S1_S_).sem = w1sem ⟨k0_t2.val % 6, hs6⟩ := by
    intro off ho inb; subst ho; rfl
  iapply (wait2a (dstw := ((Memref.whole cc0_scratch1).slice (Rect.unit (s := S6x2x1408x256) (k0_off29 k0_t2) S1x1x1408x256.size (k0_off29_inb k0_t2)) (fun _ => rfl)).squeeze S1408x256 squeezes_S1x1x1408x256_S1408x256) Variants.none (c : Thread nD τ) none (hm _ (k0_off28_eq k0_t2) _) rfl N1_pos) $$ [Hb HO]
  · isplitl [Hb] <;> iassumption
  iintro ⟨Hb, HO⟩
  iapply (wait2b (dstw := ((Memref.whole cc0_scratch1).slice (Rect.unit (s := S6x2x1408x256) (k0_off31 k0_t2) S1x1x1408x256.size (k0_off31_inb k0_t2)) (fun _ => rfl)).squeeze S1408x256 squeezes_S1x1x1408x256_S1408x256) Variants.none (c : Thread nD τ) none (hm _ (k0_off28_eq k0_t2) _) rfl N1_pos) $$ [Hb Hl0 Hl1 HO]
  · isplitl [Hb]; · iexact Hb
    isplitl [Hl0]; · iexact Hl0
    isplitl [Hl1] <;> iassumption
  iintro ⟨Hd0, Hd1, Ht0, Ht1, Hv, HO⟩
  iapply (load_s1 (defs := defs) c e p 0 ⟨k0_t2.val, hk⟩ SC1 (off32 v97 k0_t1 ht1 p hp k0_t2).1) $$ Hs
  iintro Hs
  iapply (wp_load_rect Variants.none (c : Thread nD τ) none Set.univ (m := Memref.whole cc0_stg3_0) (r := Rect.unit (s := S896x2816) (k0_off33 v114) S256x2816.size (k0_off33_inb v114 k0_hw3)) (q := fullShare) (f := XB) (S := Finset.univ) (Finset.subset_univ _)) $$ Hx
  iintro Hx
  iapply (load_w1 (defs := defs) c e ⟨k0_t2.val % 6, hs6⟩ 0 ⟨k0_t2.val, hk⟩ W1 (k0_off34_eq k0_t2)) $$ Hd0
  iintro Hd0
  iapply (load_s1 (defs := defs) c e p 1 ⟨k0_t2.val, hk⟩ SC1 (off32 v97 k0_t1 ht1 p hp k0_t2).2) $$ Hs
  iintro Hs
  iapply (wp_load_rect Variants.none (c : Thread nD τ) none Set.univ (m := Memref.whole cc0_stg3_0) (r := Rect.unit (s := S896x2816) (k0_off33 v114) S256x2816.size (k0_off33_inb v114 k0_hw3)) (q := fullShare) (f := XB) (S := Finset.univ) (Finset.subset_univ _)) $$ Hx
  iintro Hx
  iapply (load_w1 (defs := defs) c e ⟨k0_t2.val % 6, hs6⟩ 1 ⟨k0_t2.val, hk⟩ W1 (k0_off35_eq k0_t2)) $$ Hd1
  iintro Hd1
  iapply (wp_load_rect Variants.none (c : Thread nD τ) none Set.univ (m := Memref.whole cc0_scratch0) (r := Rect.unit (s := S256x7168) (k0_off36 k0_t2) S256x256.size (k0_off36_inb k0_t2)) (q := fullShare) (f := H) (S := Finset.univ) (Finset.subset_univ _)) $$ Hh
  iintro Hh
  iapply (wp_store Variants.none (c : Thread nD τ) none Set.univ (m := Memref.whole cc0_scratch0) (r := Rect.unit (s := S256x7168) (k0_off36 k0_t2) S256x256.size (k0_off36_inb k0_t2)) (f := H) (S := Finset.univ) (Finset.subset_univ _)) $$ Hh
  iintro Hh
  have hH' := hok_step c XB W1 SC1 r e ⟨k0_t2.val, hk⟩ hH (k0_off36_eq k0_t2) (inb := k0_off36_inb k0_t2) _ (show _ = upv c XB W1 SC1 r e ⟨k0_t2.val, hk⟩ by unfold upv; rw [← xall_eq c XB r ((off33 v114).trans (by rw [hr])) (inb := k0_off33_inb v114 k0_hw3)])
  by_cases hc : k0_cond1 k0_t2 = 1#1
  · have hc6 : k0_t2.val + 6 < 28 := (cond1_iff k0_t2).1 hc
    have hs : ∀ h : Fin 2, ∀ off, off = ![v112.toNat, 0, h.val * 7168 + 256 * (k0_t2.val + 6)] → ∀ inb, ((Memref.whole main_arg4).slice (Rect.unit (s := S8x1408x14336) off S1x1408x256.size inb) (fun _ => rfl)).squeeze S1408x256 squeezes_S1x1408x256_S1408x256
        = w1src e h ⟨k0_t2.val + 6, hc6⟩ := by
      intro h off ho inb; rw [he] at ho; subst ho; rfl
    have h6 : (k0_t2.val + 6) % 6 = k0_t2.val % 6 := by omega
    rw [dif_pos hc, dif_pos hc6]
    simp only [Prog.lift, Prog.bind_op, Prog.bind_ret, Prog.bind_assoc, Prog.pure_eq_ret]
    iapply (start2a Variants.none (c : Thread nD τ) none (hs 0 _ (off39 v112 k0_t2 hc).1 _) (hd 0 _ ((k0_off38_eq k0_t2).trans (by rw [h6]; rfl)) _) (congrArg SemLoc.dma (hm _ ((k0_off37_eq k0_t2).trans (by rw [h6])) _))
      (w1src e 1 ⟨k0_t2.val + 6, hc6⟩) (w1dst ⟨k0_t2.val % 6, hs6⟩ 1) W1 (q1 := tk1 ⟨k0_t2.val % 6, hs6⟩ 1) N1 (amt1 _ _ _)) $$ [Hv Hd0 Ht0]
    · isplitl [Hv]; · iexact Hv
      isplitl [Hd0]; · unfold any; iexists _; iexact Hd0
      iexact Ht0
    iintro ⟨Hb, Hl0⟩
    iapply (start2b Variants.none (c : Thread nD τ) none (hs 1 _ (off39 v112 k0_t2 hc).2 _) (hd 1 _ ((k0_off40_eq k0_t2).trans (by rw [h6]; rfl)) _) (congrArg SemLoc.dma (hm _ ((k0_off37_eq k0_t2).trans (by rw [h6])) _)) (amt1 _ _ _)) $$ [Hb Hd1 Ht1]
    · isplitl [Hb]; · iexact Hb
      isplitl [Hd1]; · unfold any; iexists _; iexact Hd1
      iexact Ht1
    iintro ⟨Hb, Hl1⟩
    rw [wp_ret]; imodintro
    isplitl [Hback Hb Hl0 Hl1]
    · iapply Hback
      isplitl [Hb]; · iexact Hb
      isplitl [Hl0] <;> iassumption
    isplitl [Hs]; · iexact Hs
    isplitl [Hx]; · iexact Hx
    isplitl [Hh]
    · iexists _; isplitr; swap; · iexact Hh
      ipureintro; exact hH'
    iexact HO
  · have hc6 : ¬ k0_t2.val + 6 < 28 := fun h => hc ((cond1_iff k0_t2).2 h)
    rw [dif_neg hc, dif_neg hc6]
    simp only [Prog.lift, Prog.bind_op, Prog.bind_ret, Prog.bind_assoc, Prog.pure_eq_ret]
    rw [wp_ret]; imodintro
    isplitl [Hback Hv Hd0 Hd1 Ht0 Ht1]
    · iapply Hback
      unfold w1idle any
      isplitl [Hv]; · iexact Hv
      isplitl [Hd0]; · iexists _; iexact Hd0
      isplitl [Hd1]; · iexists _; iexact Hd1
      isplitl [Ht0] <;> iassumption
    isplitl [Hs]; · iexact Hs
    isplitl [Hx]; · iexact Hx
    isplitl [Hh]
    · iexists _; isplitr; swap; · iexact Hh
      ipureintro; exact hH'
    iexact HO

/-! ## One column chunk of the second product -/

/-- The state of the loop over the chunks of the second product before chunk `k`. -/
def inv2 (r : Fin 641) (p : Fin 2) (e : Fin 8) (Y0 : Buf (Elt F) ((Memref.whole cc0_stg4_0).view.loc (c : Thread nD τ))) (k : ℕ) : sProp 𝕄 :=
  iprop(bigSep Finset.univ (w2st c W2 e k)
    ∗ owns (c : Thread nD τ) (s2dst p) fullShare ((s2src e).view.read (Elt F) SC2)
    ∗ ((Memref.whole cc0_scratch0).view.loc (c : Thread nD τ) ↦{fullShare} hbuf c XB W1 SC1 r e)
    ∗ ((Memref.whole cc0_stg4_0).view.loc (c : Thread nD τ) ↦{fullShare} ystep c XB W1 SC1 W2 SC2 r e Y0 k)
    ∗ owe0 (c : Thread nD τ))

theorem trip2 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (v97 : Elt F .i32) (k0_hw2 : k0_chk2 v97) (k0_t1 : Fin (k0_t1_loop v97).trips) (ht1 : k0_t1.val < 9) (p : Fin 2) (hp : p.val = k0_t1.val % 2)
    (v110 : BitVec 32) (v112 : Elt F .i32) (k0_hw4 : k0_chk4 v112) (v114 : Elt F .i32) (k0_hw3 : k0_chk3 v114) (v115 v116 : BitVec 32)
    (e : Fin 8) (he : BitVec.toNat v112 = e.val) (r : Fin 641) (hr : BitVec.toNat v114 = r.val) (Y0) (k0_t3 : Fin k0_t3_loop.trips) :
    inv2 c XB W1 SC1 W2 SC2 r p e Y0 k0_t3.val
      ⊢ wp frame (wpE defs Variants.none (c : Thread nD τ) none) Set.univ
          (k0_t3_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 v110 v112 k0_hw4 v114 k0_hw3 v115 v116 k0_t3 ⟨⟩)
          (fun _ => inv2 c XB W1 SC1 W2 SC2 r p e Y0 (k0_t3.val + 1)) := by
  have hk : k0_t3.val < 11 := k0_t3.isLt
  have hs4 : k0_t3.val % 4 < 4 := Nat.mod_lt _ (by decide)
  unfold inv2
  iintro ⟨Hring, Hs, Hh, Hy, HO⟩
  ihave Hr := (w2ring_step c W2 e k0_t3.val hk ⟨k0_t3.val % 4, hs4⟩ rfl) $$ Hring
  icases Hr with ⟨Hb, Hback⟩
  unfold w2busy
  simp only [k0_t3_body, k0_part9_eq_skeleton, k0_part9_skel, k0_part10_eq_skeleton, k0_part10_skel, k0_part11_eq_skeleton, k0_part11_skel,
    k0_part12_eq_skeleton, k0_part12_skel, Prog.lift, Prog.bind_op, Prog.bind_ret, Prog.bind_assoc, Prog.pure_eq_ret]
  have hd : ∀ off, off = ![k0_t3.val % 4, 0, 0] → ∀ inb, ((Memref.whole cc0_scratch3).slice (Rect.unit (s := S4x3584x256) off S1x3584x256.size inb) (fun _ => rfl)).squeeze S3584x256 squeezes_S1x3584x256_S3584x256
      = w2dst ⟨k0_t3.val % 4, hs4⟩ := by
    intro off ho inb; subst ho; rfl
  have hm : ∀ off, off = ![k0_t3.val % 4] → ∀ inb, ((cc0_scratch6.slice (Rect.unit (s := S4) off S1.size inb)).squeeze S_ squeezes_S1_S_).sem = w2sem ⟨k0_t3.val % 4, hs4⟩ := by
    intro off ho inb; subst ho; rfl
  iapply (wait1 (dstw := ((Memref.whole cc0_scratch3).slice (Rect.unit (s := S4x3584x256) (k0_off62 k0_t3) S1x3584x256.size (k0_off62_inb k0_t3)) (fun _ => rfl)).squeeze S3584x256 squeezes_S1x3584x256_S3584x256) Variants.none (c : Thread nD τ) none (hm _ (k0_off61_eq k0_t3) _) rfl N2_pos) $$ [Hb HO]
  · isplitl [Hb] <;> iassumption
  iintro ⟨Hd, Ht, Hv, HO⟩
  iapply (wp_load_rect Variants.none (c : Thread nD τ) none Set.univ (m := Memref.whole cc0_scratch0) (r := Rect.unit (s := S256x7168) ![0, 0] S256x7168.size inb_S256x7168_S256x7168_0_0) (q := fullShare) (f := hbuf c XB W1 SC1 r e) (S := Finset.univ) (Finset.subset_univ _)) $$ Hh
  iintro Hh
  iapply (load_w2 (defs := defs) c e ⟨k0_t3.val % 4, hs4⟩ ⟨k0_t3.val, hk⟩ W2 (k0_off64_eq k0_t3)) $$ Hd
  iintro Hd
  iapply (load_s2 (defs := defs) c e p ⟨k0_t3.val, hk⟩ SC2 (off65 v97 k0_t1 ht1 p hp k0_t3)) $$ Hs
  iintro Hs
  iapply (wp_load_rect Variants.none (c : Thread nD τ) none Set.univ (m := Memref.whole cc0_stg4_0) (r := Rect.unit (s := S896x2816) (k0_off66 v114 k0_t3) S256x256.size (k0_off66_inb v114 k0_hw3 k0_t3)) (q := fullShare) (f := ystep c XB W1 SC1 W2 SC2 r e Y0 k0_t3.val) (S := Finset.univ) (Finset.subset_univ _)) $$ Hy
  iintro Hy
  iapply (wp_store Variants.none (c : Thread nD τ) none Set.univ (m := Memref.whole cc0_stg4_0) (r := Rect.unit (s := S896x2816) (k0_off66 v114 k0_t3) S256x256.size (k0_off66_inb v114 k0_hw3 k0_t3)) (f := ystep c XB W1 SC1 W2 SC2 r e Y0 k0_t3.val) (S := Finset.univ) (Finset.subset_univ _)) $$ Hy
  iintro Hy
  have hY' := (ystep_step c XB W1 SC1 W2 SC2 r e ⟨k0_t3.val, hk⟩ Y0 ((off66 v114 k0_t3).trans (by rw [hr])) (inb := k0_off66_inb v114 k0_hw3 k0_t3) (dnv c XB W1 SC1 W2 SC2 r e ⟨k0_t3.val, hk⟩) rfl).symm
  by_cases hc : k0_cond3 k0_t3 = 1#1
  · have hc4 : k0_t3.val + 4 < 11 := (cond2_iff k0_t3).1 hc
    have hs : ∀ off, off = ![v112.toNat, 0, 256 * (k0_t3.val + 4)] → ∀ inb, ((Memref.whole main_arg6).slice (Rect.unit (s := S8x3584x2816) off S1x3584x256.size inb) (fun _ => rfl)).squeeze S3584x256 squeezes_S1x3584x256_S3584x256
        = w2src e ⟨k0_t3.val + 4, hc4⟩ := by
      intro off ho inb; rw [he] at ho; subst ho; rfl
    rw [dif_pos hc, dif_pos hc4]
    simp only [Prog.lift, Prog.bind_op, Prog.bind_ret, Prog.bind_assoc, Prog.pure_eq_ret]
    iapply (start1 Variants.none (c : Thread nD τ) none (hs _ (off69 v112 k0_t3 hc) _) (hd _ (k0_off68_eq k0_t3) _) (congrArg SemLoc.dma (hm _ (k0_off67_eq k0_t3) _)) N2 (amt2 _ _)) $$ [Hv Hd Ht]
    · isplitl [Hv]; · iexact Hv
      isplitl [Hd]; · unfold any; iexists _; iexact Hd
      iexact Ht
    iintro Hb
    rw [wp_ret]; imodintro
    isplitl [Hback Hb]
    · iapply Hback; iexact Hb
    isplitl [Hs]; · iexact Hs
    isplitl [Hh]; · iexact Hh
    isplitl [Hy]
    · rw [show ystep c XB W1 SC1 W2 SC2 r e Y0 (k0_t3.val + 1) = _ from hY']; iexact Hy
    iexact HO
  · have hc4 : ¬ k0_t3.val + 4 < 11 := fun h => hc ((cond2_iff k0_t3).2 h)
    rw [dif_neg hc, dif_neg hc4]
    simp only [Prog.lift, Prog.bind_op, Prog.bind_ret, Prog.bind_assoc, Prog.pure_eq_ret]
    rw [wp_ret]; imodintro
    isplitl [Hback Hv Hd Ht]
    · iapply Hback
      unfold w2idle any
      isplitl [Hv]; · iexact Hv
      isplitl [Hd]; · iexists _; iexact Hd
      iexact Ht
    isplitl [Hs]; · iexact Hs
    isplitl [Hh]; · iexact Hh
    isplitl [Hy]
    · rw [show ystep c XB W1 SC1 W2 SC2 r e Y0 (k0_t3.val + 1) = _ from hY']; iexact Hy
    iexact HO

end Cert.KernelIdeal.Hand
-- ==== Proof.KIPro.lean ====
/-
  The scratch buffers cut into their slots and put together again, the arrays in HBM shared out among the copies, and the
  copies the kernel starts before its loops.
-/
module

public import proofs.«01_k».proof.Proof.KILoops

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer in pieces -/

theorem entails_of_eq {P Q : sProp 𝕄} (e : P = Q) : P ⊢ Q := e ▸ .rfl

section
variable {ℓ : Loc nD τ sig} {T : Type} [Fintype T] [DecidableEq T] (I : T → Finset (Idx ℓ)) (hd : ∀ s t, s ≠ t → Disjoint (I s) (I t))
include hd

theorem pieces_split :
    (iprop(∃ f, ℓ ↦{fullShare} f) : sProp 𝕄)
      ⊢ iprop((bigSep Finset.univ fun t => iprop(∃ g, ℓ ↦[I t]{fullShare} g)) ∗ ∃ f, ℓ ↦[Finset.univ \ Finset.univ.biUnion I]{fullShare} f) := by
  iintro ⟨%f, H⟩
  ihave H' := (pointsTo_split_subset (q := fullShare) (f := f) (Finset.subset_univ (Finset.univ.biUnion I))).1 $$ H
  icases H' with ⟨Hs, HSp⟩
  ihave H3 := ((entails_of_eq (pointsTo_biUnion (q := fullShare) (f := f) Finset.univ I (fun s _ s' _ h => hd s s' h))).trans
    (bigSep_mono (Ψ := fun t => iprop(∃ g, ℓ ↦[I t]{fullShare} g)) fun t _ => exists_intro (Φ := fun g => iprop(ℓ ↦[I t]{fullShare} g)) f)) $$ Hs
  isplitl [H3]; · iexact H3
  iexists f; iexact HSp

theorem pieces_join :
    (iprop((bigSep Finset.univ fun t => iprop(∃ g, ℓ ↦[I t]{fullShare} g)) ∗ ∃ f, ℓ ↦[Finset.univ \ Finset.univ.biUnion I]{fullShare} f) : sProp 𝕄)
      ⊢ iprop(∃ f, ℓ ↦{fullShare} f) := by
  iintro ⟨HB, ⟨%fs, HSp⟩⟩
  have : Nonempty (Buf (Elt F) ℓ) := ⟨fs⟩
  ihave HB' := (Idealize.SL.BI.bigSep_exists_pi Finset.univ (fun (s : T) (f : Buf (Elt F) ℓ) => (ℓ ↦[I s]{fullShare} f : sProp 𝕄))) $$ HB
  icases HB' with ⟨%gs, HB⟩
  ihave HJ := (pointsTo_biUnion_join (q := fullShare) Finset.univ I gs fs (fun s _ s' _ h => hd s s' h)) $$ HB
  icases HJ with ⟨%g, -, Hs⟩
  iexists _
  iapply (pointsTo_join_subset (Finset.subset_univ (Finset.univ.biUnion I)))
  isplitl [Hs]; · iexact Hs
  iexact HSp
end

theorem any_pts (c : Dev nD) {sp : Space} {s : Shape} {e : EltTy} (m : Memref sig .tc sp s e) :
    (any (c : Thread nD τ) m : sProp 𝕄) = iprop(∃ g, m.view.loc (c : Thread nD τ) ↦[m.view.set]{fullShare} g) := by
  have h1 : (any (c : Thread nD τ) m : sProp 𝕄) ⊢ iprop(∃ g, m.view.loc (c : Thread nD τ) ↦[m.view.set]{fullShare} g) := by
    unfold any owns
    iintro ⟨%X, ⟨%f, -, H⟩⟩
    iexists f; iexact H
  have h2 : (iprop(∃ g, m.view.loc (c : Thread nD τ) ↦[m.view.set]{fullShare} g) : sProp 𝕄) ⊢ any (c : Thread nD τ) m := by
    unfold any owns
    iintro ⟨%f, H⟩
    iexists _, f
    isplitr; swap; · iexact H
    ipureintro; rfl
  exact BI.equiv_iff.mp ⟨h1, h2⟩

def slot6 (t : Fin 12) : Fin 6 := ⟨t.val / 2, by omega⟩
def half2 (t : Fin 12) : Fin 2 := ⟨t.val % 2, by omega⟩

/-! ## ring1 -/

theorem ring1_set (s : Fin 6) (h : Fin 2) : (w1dst s h).view.set = (Rect.unit (s := S6x2x1408x256) ![s.val, h.val, 0, 0] S1x1x1408x256.size (by intro a; fin_cases a <;> simp [S6x2x1408x256, S1x1x1408x256] <;> omega)).set := (View.set_reshape _ _).trans (View.set_slice_whole _ _)

def I_ring1 (c : Dev nD) (t : Fin 12) : Finset (Idx ((Memref.whole cc0_scratch1).view.loc (c : Thread nD τ))) := (w1dst (slot6 t) (half2 t)).view.set

theorem I_ring1_disj (c : Dev nD) : ∀ s t, s ≠ t → Disjoint (I_ring1 c s) (I_ring1 c t) := by
  intro s t hst
  have hne : s.val ≠ t.val := fun h => hst (Fin.ext h)
  unfold I_ring1
  rw [ring1_set, ring1_set]
  by_cases h : s.val / 2 = t.val / 2
  · refine Rect.unit_disjoint 1 ?_
    show s.val % 2 + 1 ≤ t.val % 2 ∨ t.val % 2 + 1 ≤ s.val % 2
    omega
  · refine Rect.unit_disjoint 0 ?_
    show s.val / 2 + 1 ≤ t.val / 2 ∨ t.val / 2 + 1 ≤ s.val / 2
    omega

theorem ring1_anys (c : Dev nD) :
    (bigSep Finset.univ (fun t : Fin 12 => iprop(∃ g, (Memref.whole cc0_scratch1).view.loc (c : Thread nD τ) ↦[I_ring1 c t]{fullShare} g)) : sProp 𝕄)
      = iprop(any (c : Thread nD τ) (w1dst 0 0)
        ∗ any (c : Thread nD τ) (w1dst 0 1)
        ∗ any (c : Thread nD τ) (w1dst 1 0)
        ∗ any (c : Thread nD τ) (w1dst 1 1)
        ∗ any (c : Thread nD τ) (w1dst 2 0)
        ∗ any (c : Thread nD τ) (w1dst 2 1)
        ∗ any (c : Thread nD τ) (w1dst 3 0)
        ∗ any (c : Thread nD τ) (w1dst 3 1)
        ∗ any (c : Thread nD τ) (w1dst 4 0)
        ∗ any (c : Thread nD τ) (w1dst 4 1)
        ∗ any (c : Thread nD τ) (w1dst 5 0)
        ∗ any (c : Thread nD τ) (w1dst 5 1)) := by
  refine (BI.bigSep_congr (Ψ := fun t : Fin 12 => any (c : Thread nD τ) (w1dst (slot6 t) (half2 t))) (fun t _ => (any_pts c (w1dst (slot6 t) (half2 t))).symm)).trans ?_
  rw [BI.bigSep_eq_bigSepL_of_eq ([0, 1, 2, 3, 4, 5, 6, 7, 8, 9, 10, 11] : List (Fin 12)) (by decide) (by decide)]
  rfl

theorem ring1_toks (c : Dev nD) (W1 : Buf (Elt F) ((Memref.whole main_arg4).view.loc (c : Thread nD τ))) :
    (bigSep Finset.univ (fun t : Fin 12 => (Memref.whole main_arg4).view.loc (c : Thread nD τ) ↦{Transfers.shareTok fullShare 12 t} W1) : sProp 𝕄)
      = iprop(((Memref.whole main_arg4).view.loc (c : Thread nD τ) ↦{tk1 0 0} W1)
        ∗ ((Memref.whole main_arg4).view.loc (c : Thread nD τ) ↦{tk1 0 1} W1)
        ∗ ((Memref.whole main_arg4).view.loc (c : Thread nD τ) ↦{tk1 1 0} W1)
        ∗ ((Memref.whole main_arg4).view.loc (c : Thread nD τ) ↦{tk1 1 1} W1)
        ∗ ((Memref.whole main_arg4).view.loc (c : Thread nD τ) ↦{tk1 2 0} W1)
        ∗ ((Memref.whole main_arg4).view.loc (c : Thread nD τ) ↦{tk1 2 1} W1)
        ∗ ((Memref.whole main_arg4).view.loc (c : Thread nD τ) ↦{tk1 3 0} W1)
        ∗ ((Memref.whole main_arg4).view.loc (c : Thread nD τ) ↦{tk1 3 1} W1)
        ∗ ((Memref.whole main_arg4).view.loc (c : Thread nD τ) ↦{tk1 4 0} W1)
        ∗ ((Memref.whole main_arg4).view.loc (c : Thread nD τ) ↦{tk1 4 1} W1)
        ∗ ((Memref.whole main_arg4).view.loc (c : Thread nD τ) ↦{tk1 5 0} W1)
        ∗ ((Memref.whole main_arg4).view.loc (c : Thread nD τ) ↦{tk1 5 1} W1)) := by
  rw [BI.bigSep_eq_bigSepL_of_eq ([0, 1, 2, 3, 4, 5, 6, 7, 8, 9, 10, 11] : List (Fin 12)) (by decide) (by decide)]
  rfl

/-- What of the scratch buffer and of the array in HBM no slot uses. -/
def rem_ring1 (c : Dev nD) (W1 : Buf (Elt F) ((Memref.whole main_arg4).view.loc (c : Thread nD τ))) : sProp 𝕄 :=
  iprop((∃ f, (Memref.whole cc0_scratch1).view.loc (c : Thread nD τ) ↦[Finset.univ \ Finset.univ.biUnion (I_ring1 c)]{fullShare} f)
    ∗ ((Memref.whole main_arg4).view.loc (c : Thread nD τ) ↦{Transfers.shareDrop fullShare 12} W1))

theorem ring1_open (c : Dev nD) (W1 : Buf (Elt F) ((Memref.whole main_arg4).view.loc (c : Thread nD τ))) :
    (iprop((∃ f, (Memref.whole cc0_scratch1).view.loc (c : Thread nD τ) ↦{fullShare} f) ∗ ((Memref.whole main_arg4).view.loc (c : Thread nD τ) ↦{fullShare} W1)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0) : sProp 𝕄)
      ⊢ iprop((w1idle c W1 0 ∗ w1idle c W1 1 ∗ w1idle c W1 2 ∗ w1idle c W1 3 ∗ w1idle c W1 4 ∗ w1idle c W1 5) ∗ rem_ring1 c W1) := by
  iintro ⟨HB, HW, S0, S1, S2, S3, S4, S5⟩
  ihave HB' := (pieces_split (I_ring1 c) (I_ring1_disj c)) $$ HB
  icases HB' with ⟨HA, HS⟩
  ihave HA' := (entails_of_eq (ring1_anys c)) $$ HA
  icases HA' with ⟨A0, A1, A2, A3, A4, A5, A6, A7, A8, A9, A10, A11⟩
  ihave HW' := (Transfers.pointsTo_toks_split fullShare 12) $$ HW
  icases HW' with ⟨HD, HT⟩
  ihave HT' := (entails_of_eq (ring1_toks c W1)) $$ HT
  icases HT' with ⟨T0, T1, T2, T3, T4, T5, T6, T7, T8, T9, T10, T11⟩
  unfold rem_ring1 w1idle
  isplitr [HS HD]; swap
  · isplitl [HS]; · iexact HS
    iexact HD
  isplitl [S0 A0 A1 T0 T1]
  · isplitl [S0]; · iexact S0
    isplitl [A0]; · iexact A0
    isplitl [A1]; · iexact A1
    isplitl [T0]; · iexact T0
    iexact T1
  isplitl [S1 A2 A3 T2 T3]
  · isplitl [S1]; · iexact S1
    isplitl [A2]; · iexact A2
    isplitl [A3]; · iexact A3
    isplitl [T2]; · iexact T2
    iexact T3
  isplitl [S2 A4 A5 T4 T5]
  · isplitl [S2]; · iexact S2
    isplitl [A4]; · iexact A4
    isplitl [A5]; · iexact A5
    isplitl [T4]; · iexact T4
    iexact T5
  isplitl [S3 A6 A7 T6 T7]
  · isplitl [S3]; · iexact S3
    isplitl [A6]; · iexact A6
    isplitl [A7]; · iexact A7
    isplitl [T6]; · iexact T6
    iexact T7
  isplitl [S4 A8 A9 T8 T9]
  · isplitl [S4]; · iexact S4
    isplitl [A8]; · iexact A8
    isplitl [A9]; · iexact A9
    isplitl [T8]; · iexact T8
    iexact T9
  isplitl [S5]; · iexact S5
  isplitl [A10]; · iexact A10
  isplitl [A11]; · iexact A11
  isplitl [T10]; · iexact T10
  iexact T11

theorem ring1_close (c : Dev nD) (W1 : Buf (Elt F) ((Memref.whole main_arg4).view.loc (c : Thread nD τ))) :
    (iprop((w1idle c W1 0 ∗ w1idle c W1 1 ∗ w1idle c W1 2 ∗ w1idle c W1 3 ∗ w1idle c W1 4 ∗ w1idle c W1 5) ∗ rem_ring1 c W1) : sProp 𝕄)
      ⊢ iprop((∃ f, (Memref.whole cc0_scratch1).view.loc (c : Thread nD τ) ↦{fullShare} f) ∗ ((Memref.whole main_arg4).view.loc (c : Thread nD τ) ↦{fullShare} W1)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0) := by
  unfold rem_ring1 w1idle
  iintro ⟨⟨⟨S0, A0, A1, T0, T1⟩, ⟨S1, A2, A3, T2, T3⟩, ⟨S2, A4, A5, T4, T5⟩, ⟨S3, A6, A7, T6, T7⟩, ⟨S4, A8, A9, T8, T9⟩, ⟨S5, A10, A11, T10, T11⟩⟩, HS, HD⟩
  isplitr [T0 T1 T2 T3 T4 T5 T6 T7 T8 T9 T10 T11 HD S0 S1 S2 S3 S4 S5]
  · iapply (pieces_join (I_ring1 c) (I_ring1_disj c))
    isplitr [HS]; swap; · iexact HS
    iapply (entails_of_eq (ring1_anys c).symm)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  isplitl [T0 T1 T2 T3 T4 T5 T6 T7 T8 T9 T10 T11 HD]
  · iapply (Transfers.pointsTo_toks_join fullShare 12)
    isplitl [HD]; · iexact HD
    iapply (entails_of_eq (ring1_toks c W1).symm)
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    iexact T11
  isplitl [S0]; · iexact S0
  isplitl [S1]; · iexact S1
  isplitl [S2]; · iexact S2
  isplitl [S3]; · iexact S3
  isplitl [S4]; · iexact S4
  iexact S5

/-! ## ring2 -/

theorem ring2_set (s : Fin 4) : (w2dst s).view.set = (Rect.unit (s := S4x3584x256) ![s.val, 0, 0] S1x3584x256.size (by intro a; fin_cases a <;> simp [S4x3584x256, S1x3584x256] <;> omega)).set := (View.set_reshape _ _).trans (View.set_slice_whole _ _)

def I_ring2 (c : Dev nD) (t : Fin 4) : Finset (Idx ((Memref.whole cc0_scratch3).view.loc (c : Thread nD τ))) := (w2dst t).view.set

theorem I_ring2_disj (c : Dev nD) : ∀ s t, s ≠ t → Disjoint (I_ring2 c s) (I_ring2 c t) := by
  intro s t hst
  have hne : s.val ≠ t.val := fun h => hst (Fin.ext h)
  unfold I_ring2
  rw [ring2_set, ring2_set]
  refine Rect.unit_disjoint 0 ?_
  show s.val + 1 ≤ t.val ∨ t.val + 1 ≤ s.val
  omega

theorem ring2_anys (c : Dev nD) :
    (bigSep Finset.univ (fun t : Fin 4 => iprop(∃ g, (Memref.whole cc0_scratch3).view.loc (c : Thread nD τ) ↦[I_ring2 c t]{fullShare} g)) : sProp 𝕄)
      = iprop(any (c : Thread nD τ) (w2dst 0)
        ∗ any (c : Thread nD τ) (w2dst 1)
        ∗ any (c : Thread nD τ) (w2dst 2)
        ∗ any (c : Thread nD τ) (w2dst 3)) := by
  refine (BI.bigSep_congr (Ψ := fun t : Fin 4 => any (c : Thread nD τ) (w2dst t)) (fun t _ => (any_pts c (w2dst t)).symm)).trans ?_
  rw [BI.bigSep_eq_bigSepL_of_eq ([0, 1, 2, 3] : List (Fin 4)) (by decide) (by decide)]
  rfl

theorem ring2_toks (c : Dev nD) (W2 : Buf (Elt F) ((Memref.whole main_arg6).view.loc (c : Thread nD τ))) :
    (bigSep Finset.univ (fun t : Fin 4 => (Memref.whole main_arg6).view.loc (c : Thread nD τ) ↦{Transfers.shareTok fullShare 4 t} W2) : sProp 𝕄)
      = iprop(((Memref.whole main_arg6).view.loc (c : Thread nD τ) ↦{tk2 0} W2)
        ∗ ((Memref.whole main_arg6).view.loc (c : Thread nD τ) ↦{tk2 1} W2)
        ∗ ((Memref.whole main_arg6).view.loc (c : Thread nD τ) ↦{tk2 2} W2)
        ∗ ((Memref.whole main_arg6).view.loc (c : Thread nD τ) ↦{tk2 3} W2)) := by
  rw [BI.bigSep_eq_bigSepL_of_eq ([0, 1, 2, 3] : List (Fin 4)) (by decide) (by decide)]
  rfl

/-- What of the scratch buffer and of the array in HBM no slot uses. -/
def rem_ring2 (c : Dev nD) (W2 : Buf (Elt F) ((Memref.whole main_arg6).view.loc (c : Thread nD τ))) : sProp 𝕄 :=
  iprop((∃ f, (Memref.whole cc0_scratch3).view.loc (c : Thread nD τ) ↦[Finset.univ \ Finset.univ.biUnion (I_ring2 c)]{fullShare} f)
    ∗ ((Memref.whole main_arg6).view.loc (c : Thread nD τ) ↦{Transfers.shareDrop fullShare 4} W2))

theorem ring2_open (c : Dev nD) (W2 : Buf (Elt F) ((Memref.whole main_arg6).view.loc (c : Thread nD τ))) :
    (iprop((∃ f, (Memref.whole cc0_scratch3).view.loc (c : Thread nD τ) ↦{fullShare} f) ∗ ((Memref.whole main_arg6).view.loc (c : Thread nD τ) ↦{fullShare} W2)
        ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0) : sProp 𝕄)
      ⊢ iprop((w2idle c W2 0 ∗ w2idle c W2 1 ∗ w2idle c W2 2 ∗ w2idle c W2 3) ∗ rem_ring2 c W2) := by
  iintro ⟨HB, HW, S0, S1, S2, S3⟩
  ihave HB' := (pieces_split (I_ring2 c) (I_ring2_disj c)) $$ HB
  icases HB' with ⟨HA, HS⟩
  ihave HA' := (entails_of_eq (ring2_anys c)) $$ HA
  icases HA' with ⟨A0, A1, A2, A3⟩
  ihave HW' := (Transfers.pointsTo_toks_split fullShare 4) $$ HW
  icases HW' with ⟨HD, HT⟩
  ihave HT' := (entails_of_eq (ring2_toks c W2)) $$ HT
  icases HT' with ⟨T0, T1, T2, T3⟩
  unfold rem_ring2 w2idle
  isplitr [HS HD]; swap
  · isplitl [HS]; · iexact HS
    iexact HD
  isplitl [S0 A0 T0]
  · isplitl [S0]; · iexact S0
    isplitl [A0]; · iexact A0
    iexact T0
  isplitl [S1 A1 T1]
  · isplitl [S1]; · iexact S1
    isplitl [A1]; · iexact A1
    iexact T1
  isplitl [S2 A2 T2]
  · isplitl [S2]; · iexact S2
    isplitl [A2]; · iexact A2
    iexact T2
  isplitl [S3]; · iexact S3
  isplitl [A3]; · iexact A3
  iexact T3

theorem ring2_close (c : Dev nD) (W2 : Buf (Elt F) ((Memref.whole main_arg6).view.loc (c : Thread nD τ))) :
    (iprop((w2idle c W2 0 ∗ w2idle c W2 1 ∗ w2idle c W2 2 ∗ w2idle c W2 3) ∗ rem_ring2 c W2) : sProp 𝕄)
      ⊢ iprop((∃ f, (Memref.whole cc0_scratch3).view.loc (c : Thread nD τ) ↦{fullShare} f) ∗ ((Memref.whole main_arg6).view.loc (c : Thread nD τ) ↦{fullShare} W2)
        ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0) := by
  unfold rem_ring2 w2idle
  iintro ⟨⟨⟨S0, A0, T0⟩, ⟨S1, A1, T1⟩, ⟨S2, A2, T2⟩, ⟨S3, A3, T3⟩⟩, HS, HD⟩
  isplitr [T0 T1 T2 T3 HD S0 S1 S2 S3]
  · iapply (pieces_join (I_ring2 c) (I_ring2_disj c))
    isplitr [HS]; swap; · iexact HS
    iapply (entails_of_eq (ring2_anys c).symm)
    isplitl [A0]; · iexact A0
    isplitl [A1]; · iexact A1
    isplitl [A2]; · iexact A2
    iexact A3
  isplitl [T0 T1 T2 T3 HD]
  · iapply (Transfers.pointsTo_toks_join fullShare 4)
    isplitl [HD]; · iexact HD
    iapply (entails_of_eq (ring2_toks c W2).symm)
    isplitl [T0]; · iexact T0
    isplitl [T1]; · iexact T1
    isplitl [T2]; · iexact T2
    iexact T3
  isplitl [S0]; · iexact S0
  isplitl [S1]; · iexact S1
  isplitl [S2]; · iexact S2
  iexact S3

/-! ## sc1 -/

theorem sc1_set (s : Fin 2) : (s1dst s).view.set = (Rect.unit (s := S2x22x14336) ![s.val, 0, 0] S1x22x14336.size (by intro a; fin_cases a <;> simp [S2x22x14336, S1x22x14336] <;> omega)).set := (View.set_reshape _ _).trans (View.set_slice_whole _ _)

def I_sc1 (c : Dev nD) (t : Fin 2) : Finset (Idx ((Memref.whole cc0_scratch2).view.loc (c : Thread nD τ))) := (s1dst t).view.set

theorem I_sc1_disj (c : Dev nD) : ∀ s t, s ≠ t → Disjoint (I_sc1 c s) (I_sc1 c t) := by
  intro s t hst
  have hne : s.val ≠ t.val := fun h => hst (Fin.ext h)
  unfold I_sc1
  rw [sc1_set, sc1_set]
  refine Rect.unit_disjoint 0 ?_
  show s.val + 1 ≤ t.val ∨ t.val + 1 ≤ s.val
  omega

theorem sc1_anys (c : Dev nD) :
    (bigSep Finset.univ (fun t : Fin 2 => iprop(∃ g, (Memref.whole cc0_scratch2).view.loc (c : Thread nD τ) ↦[I_sc1 c t]{fullShare} g)) : sProp 𝕄)
      = iprop(any (c : Thread nD τ) (s1dst 0)
        ∗ any (c : Thread nD τ) (s1dst 1)) := by
  refine (BI.bigSep_congr (Ψ := fun t : Fin 2 => any (c : Thread nD τ) (s1dst t)) (fun t _ => (any_pts c (s1dst t)).symm)).trans ?_
  rw [BI.bigSep_eq_bigSepL_of_eq ([0, 1] : List (Fin 2)) (by decide) (by decide)]
  rfl

theorem sc1_toks (c : Dev nD) (SC1 : Buf (Elt F) ((Memref.whole main_arg5).view.loc (c : Thread nD τ))) :
    (bigSep Finset.univ (fun t : Fin 2 => (Memref.whole main_arg5).view.loc (c : Thread nD τ) ↦{Transfers.shareTok fullShare 2 t} SC1) : sProp 𝕄)
      = iprop(((Memref.whole main_arg5).view.loc (c : Thread nD τ) ↦{tks 0} SC1)
        ∗ ((Memref.whole main_arg5).view.loc (c : Thread nD τ) ↦{tks 1} SC1)) := by
  rw [BI.bigSep_eq_bigSepL_of_eq ([0, 1] : List (Fin 2)) (by decide) (by decide)]
  rfl

/-- What of the scratch buffer and of the array in HBM no slot uses. -/
def rem_sc1 (c : Dev nD) (SC1 : Buf (Elt F) ((Memref.whole main_arg5).view.loc (c : Thread nD τ))) : sProp 𝕄 :=
  iprop((∃ f, (Memref.whole cc0_scratch2).view.loc (c : Thread nD τ) ↦[Finset.univ \ Finset.univ.biUnion (I_sc1 c)]{fullShare} f)
    ∗ ((Memref.whole main_arg5).view.loc (c : Thread nD τ) ↦{Transfers.shareDrop fullShare 2} SC1))

theorem sc1_open (c : Dev nD) (SC1 : Buf (Elt F) ((Memref.whole main_arg5).view.loc (c : Thread nD τ))) :
    (iprop((∃ f, (Memref.whole cc0_scratch2).view.loc (c : Thread nD τ) ↦{fullShare} f) ∗ ((Memref.whole main_arg5).view.loc (c : Thread nD τ) ↦{fullShare} SC1)
        ∗ semVal ((c : Thread nD τ), .dma (s1sem 0)) 0 ∗ semVal ((c : Thread nD τ), .dma (s1sem 1)) 0) : sProp 𝕄)
      ⊢ iprop((s1idle c SC1 0 ∗ s1idle c SC1 1) ∗ rem_sc1 c SC1) := by
  iintro ⟨HB, HW, S0, S1⟩
  ihave HB' := (pieces_split (I_sc1 c) (I_sc1_disj c)) $$ HB
  icases HB' with ⟨HA, HS⟩
  ihave HA' := (entails_of_eq (sc1_anys c)) $$ HA
  icases HA' with ⟨A0, A1⟩
  ihave HW' := (Transfers.pointsTo_toks_split fullShare 2) $$ HW
  icases HW' with ⟨HD, HT⟩
  ihave HT' := (entails_of_eq (sc1_toks c SC1)) $$ HT
  icases HT' with ⟨T0, T1⟩
  unfold rem_sc1 s1idle
  isplitr [HS HD]; swap
  · isplitl [HS]; · iexact HS
    iexact HD
  isplitl [S0 A0 T0]
  · isplitl [S0]; · iexact S0
    isplitl [A0]; · iexact A0
    iexact T0
  isplitl [S1]; · iexact S1
  isplitl [A1]; · iexact A1
  iexact T1

theorem sc1_close (c : Dev nD) (SC1 : Buf (Elt F) ((Memref.whole main_arg5).view.loc (c : Thread nD τ))) :
    (iprop((s1idle c SC1 0 ∗ s1idle c SC1 1) ∗ rem_sc1 c SC1) : sProp 𝕄)
      ⊢ iprop((∃ f, (Memref.whole cc0_scratch2).view.loc (c : Thread nD τ) ↦{fullShare} f) ∗ ((Memref.whole main_arg5).view.loc (c : Thread nD τ) ↦{fullShare} SC1)
        ∗ semVal ((c : Thread nD τ), .dma (s1sem 0)) 0 ∗ semVal ((c : Thread nD τ), .dma (s1sem 1)) 0) := by
  unfold rem_sc1 s1idle
  iintro ⟨⟨⟨S0, A0, T0⟩, ⟨S1, A1, T1⟩⟩, HS, HD⟩
  isplitr [T0 T1 HD S0 S1]
  · iapply (pieces_join (I_sc1 c) (I_sc1_disj c))
    isplitr [HS]; swap; · iexact HS
    iapply (entails_of_eq (sc1_anys c).symm)
    isplitl [A0]; · iexact A0
    iexact A1
  isplitl [T0 T1 HD]
  · iapply (Transfers.pointsTo_toks_join fullShare 2)
    isplitl [HD]; · iexact HD
    iapply (entails_of_eq (sc1_toks c SC1).symm)
    isplitl [T0]; · iexact T0
    iexact T1
  isplitl [S0]; · iexact S0
  iexact S1

/-! ## sc2 -/

theorem sc2_set (s : Fin 2) : (s2dst s).view.set = (Rect.unit (s := S2x56x2816) ![s.val, 0, 0] S1x56x2816.size (by intro a; fin_cases a <;> simp [S2x56x2816, S1x56x2816] <;> omega)).set := (View.set_reshape _ _).trans (View.set_slice_whole _ _)

def I_sc2 (c : Dev nD) (t : Fin 2) : Finset (Idx ((Memref.whole cc0_scratch4).view.loc (c : Thread nD τ))) := (s2dst t).view.set

theorem I_sc2_disj (c : Dev nD) : ∀ s t, s ≠ t → Disjoint (I_sc2 c s) (I_sc2 c t) := by
  intro s t hst
  have hne : s.val ≠ t.val := fun h => hst (Fin.ext h)
  unfold I_sc2
  rw [sc2_set, sc2_set]
  refine Rect.unit_disjoint 0 ?_
  show s.val + 1 ≤ t.val ∨ t.val + 1 ≤ s.val
  omega

theorem sc2_anys (c : Dev nD) :
    (bigSep Finset.univ (fun t : Fin 2 => iprop(∃ g, (Memref.whole cc0_scratch4).view.loc (c : Thread nD τ) ↦[I_sc2 c t]{fullShare} g)) : sProp 𝕄)
      = iprop(any (c : Thread nD τ) (s2dst 0)
        ∗ any (c : Thread nD τ) (s2dst 1)) := by
  refine (BI.bigSep_congr (Ψ := fun t : Fin 2 => any (c : Thread nD τ) (s2dst t)) (fun t _ => (any_pts c (s2dst t)).symm)).trans ?_
  rw [BI.bigSep_eq_bigSepL_of_eq ([0, 1] : List (Fin 2)) (by decide) (by decide)]
  rfl

theorem sc2_toks (c : Dev nD) (SC2 : Buf (Elt F) ((Memref.whole main_arg7).view.loc (c : Thread nD τ))) :
    (bigSep Finset.univ (fun t : Fin 2 => (Memref.whole main_arg7).view.loc (c : Thread nD τ) ↦{Transfers.shareTok fullShare 2 t} SC2) : sProp 𝕄)
      = iprop(((Memref.whole main_arg7).view.loc (c : Thread nD τ) ↦{tks 0} SC2)
        ∗ ((Memref.whole main_arg7).view.loc (c : Thread nD τ) ↦{tks 1} SC2)) := by
  rw [BI.bigSep_eq_bigSepL_of_eq ([0, 1] : List (Fin 2)) (by decide) (by decide)]
  rfl

/-- What of the scratch buffer and of the array in HBM no slot uses. -/
def rem_sc2 (c : Dev nD) (SC2 : Buf (Elt F) ((Memref.whole main_arg7).view.loc (c : Thread nD τ))) : sProp 𝕄 :=
  iprop((∃ f, (Memref.whole cc0_scratch4).view.loc (c : Thread nD τ) ↦[Finset.univ \ Finset.univ.biUnion (I_sc2 c)]{fullShare} f)
    ∗ ((Memref.whole main_arg7).view.loc (c : Thread nD τ) ↦{Transfers.shareDrop fullShare 2} SC2))

theorem sc2_open (c : Dev nD) (SC2 : Buf (Elt F) ((Memref.whole main_arg7).view.loc (c : Thread nD τ))) :
    (iprop((∃ f, (Memref.whole cc0_scratch4).view.loc (c : Thread nD τ) ↦{fullShare} f) ∗ ((Memref.whole main_arg7).view.loc (c : Thread nD τ) ↦{fullShare} SC2)
        ∗ semVal ((c : Thread nD τ), .dma (s2sem 0)) 0 ∗ semVal ((c : Thread nD τ), .dma (s2sem 1)) 0) : sProp 𝕄)
      ⊢ iprop((s2idle c SC2 0 ∗ s2idle c SC2 1) ∗ rem_sc2 c SC2) := by
  iintro ⟨HB, HW, S0, S1⟩
  ihave HB' := (pieces_split (I_sc2 c) (I_sc2_disj c)) $$ HB
  icases HB' with ⟨HA, HS⟩
  ihave HA' := (entails_of_eq (sc2_anys c)) $$ HA
  icases HA' with ⟨A0, A1⟩
  ihave HW' := (Transfers.pointsTo_toks_split fullShare 2) $$ HW
  icases HW' with ⟨HD, HT⟩
  ihave HT' := (entails_of_eq (sc2_toks c SC2)) $$ HT
  icases HT' with ⟨T0, T1⟩
  unfold rem_sc2 s2idle
  isplitr [HS HD]; swap
  · isplitl [HS]; · iexact HS
    iexact HD
  isplitl [S0 A0 T0]
  · isplitl [S0]; · iexact S0
    isplitl [A0]; · iexact A0
    iexact T0
  isplitl [S1]; · iexact S1
  isplitl [A1]; · iexact A1
  iexact T1

theorem sc2_close (c : Dev nD) (SC2 : Buf (Elt F) ((Memref.whole main_arg7).view.loc (c : Thread nD τ))) :
    (iprop((s2idle c SC2 0 ∗ s2idle c SC2 1) ∗ rem_sc2 c SC2) : sProp 𝕄)
      ⊢ iprop((∃ f, (Memref.whole cc0_scratch4).view.loc (c : Thread nD τ) ↦{fullShare} f) ∗ ((Memref.whole main_arg7).view.loc (c : Thread nD τ) ↦{fullShare} SC2)
        ∗ semVal ((c : Thread nD τ), .dma (s2sem 0)) 0 ∗ semVal ((c : Thread nD τ), .dma (s2sem 1)) 0) := by
  unfold rem_sc2 s2idle
  iintro ⟨⟨⟨S0, A0, T0⟩, ⟨S1, A1, T1⟩⟩, HS, HD⟩
  isplitr [T0 T1 HD S0 S1]
  · iapply (pieces_join (I_sc2 c) (I_sc2_disj c))
    isplitr [HS]; swap; · iexact HS
    iapply (entails_of_eq (sc2_anys c).symm)
    isplitl [A0]; · iexact A0
    iexact A1
  isplitl [T0 T1 HD]
  · iapply (Transfers.pointsTo_toks_join fullShare 2)
    isplitl [HD]; · iexact HD
    iapply (entails_of_eq (sc2_toks c SC2).symm)
    isplitl [T0]; · iexact T0
    iexact T1
  isplitl [S0]; · iexact S0
  iexact S1

/-! ## The copies started before the loops -/

section
variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

variable {Q : PUnit → sProp (MT nD τ sig Unit (Elt F) ℕ (Pipeline.UD sig nD τ) ℕ)}

theorem amtS1 (p : Fin 2) (x : DmaSem sig) : (s1dst p).view.amount (.dma x) = NS1 := rfl
theorem amtS2 (p : Fin 2) (x : DmaSem sig) : (s2dst p).view.amount (.dma x) = NS2 := rfl

/-- Both halves of chunk `s` of the first weights, into slot `s`. -/
theorem begin1 (e : Fin 8) (s : Fin 6) (j : Fin 28) {src0 src1 : Memref sig .tc .hbm S1408x256 .i8} {dst0 dst1 : Memref sig .tc .vmem S1408x256 .i8} {sm0 sm1 : SemLoc sig}
    (hs0 : src0 = w1src e 0 j) (hd0 : dst0 = w1dst s 0) (hm0 : sm0 = .dma (w1sem s))
    (hs1 : src1 = w1src e 1 j) (hd1 : dst1 = w1dst s 1) (hm1 : sm1 = .dma (w1sem s))
    {a0 : src0.view.WordExact} {b0 : dst0.view.WordExact} {t0 : (DmaTarget.here dst0 : DmaTarget nD τ sig .tc .vmem _ _).Typed .hbm sm0}
    {a1 : src1.view.WordExact} {b1 : dst1.view.WordExact} {t1 : (DmaTarget.here dst1 : DmaTarget nD τ sig .tc .vmem _ _).Typed .hbm sm1}
    {k : PUnit → Prog (TpuEff nD τ sig (Elt F) Λ₀ .tc) PUnit} :
    (w1idle c W1 s : sProp 𝕄)
      ⊢ iprop((w1busy c W1 e s j -∗ wp frame (wpE defs Variants.none (c : Thread nD τ) none) Set.univ (k ⟨⟩) Q)
          -∗ wp frame (wpE defs Variants.none (c : Thread nD τ) none) Set.univ
              (.op (.enqueueDma src0 (.here dst0) sm0 a0 b0 t0) fun _ => .op (.enqueueDma src1 (.here dst1) sm1 a1 b1 t1) k) Q) := by
  unfold w1idle
  iintro ⟨Hv, Hd0, Hd1, Ht0, Ht1⟩ Hk
  iapply (start2a Variants.none (c : Thread nD τ) none hs0 hd0 hm0 (w1src e 1 j) (w1dst s 1) W1 (q1 := tk1 s 1) N1 (amt1 _ _ _)) $$ [Hv Hd0 Ht0]
  · isplitl [Hv]; · iexact Hv
    isplitl [Hd0]; · iexact Hd0
    iexact Ht0
  iintro ⟨Hb, Hl0⟩
  iapply (start2b Variants.none (c : Thread nD τ) none hs1 hd1 hm1 (amt1 _ _ _)) $$ [Hb Hd1 Ht1]
  · isplitl [Hb]; · iexact Hb
    isplitl [Hd1]; · iexact Hd1
    iexact Ht1
  iintro ⟨Hb, Hl1⟩
  iapply Hk
  unfold w1busy
  isplitl [Hb]; · iexact Hb
  isplitl [Hl0] <;> iassumption

theorem begin2 (e : Fin 8) (s : Fin 4) (j : Fin 11) {src0 : Memref sig .tc .hbm S3584x256 .i8} {dst0 : Memref sig .tc .vmem S3584x256 .i8} {sm0 : SemLoc sig}
    (hs0 : src0 = w2src e j) (hd0 : dst0 = w2dst s) (hm0 : sm0 = .dma (w2sem s))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (w2idle c W2 s : sProp 𝕄)
      ⊢ iprop((w2busy c W2 e s j -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold w2idle
  iintro ⟨Hv, Hd, Ht⟩ Hk
  iapply (start1 Variants.none (c : Thread nD τ) none hs0 hd0 hm0 N2 (amt2 _ _)) $$ [Hv Hd Ht]
  · isplitl [Hv]; · iexact Hv
    isplitl [Hd]; · iexact Hd
    iexact Ht
  iintro Hb
  iapply Hk
  unfold w2busy
  iexact Hb

theorem beginS1 (e : Fin 8) (p : Fin 2) {src0 : Memref sig .tc .hbm S22x14336 .bf16} {dst0 : Memref sig .tc .vmem S22x14336 .bf16} {sm0 : SemLoc sig}
    (hs0 : src0 = s1src e) (hd0 : dst0 = s1dst p) (hm0 : sm0 = .dma (s1sem p))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (s1idle c SC1 p : sProp 𝕄)
      ⊢ iprop((s1busy c SC1 e p -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold s1idle
  iintro ⟨Hv, Hd, Ht⟩ Hk
  iapply (start1 Variants.none (c : Thread nD τ) none hs0 hd0 hm0 NS1 (amtS1 _ _)) $$ [Hv Hd Ht]
  · isplitl [Hv]; · iexact Hv
    isplitl [Hd]; · iexact Hd
    iexact Ht
  iintro Hb
  iapply Hk
  unfold s1busy
  iexact Hb

theorem beginS2 (e : Fin 8) (p : Fin 2) {src0 : Memref sig .tc .hbm S56x2816 .bf16} {dst0 : Memref sig .tc .vmem S56x2816 .bf16} {sm0 : SemLoc sig}
    (hs0 : src0 = s2src e) (hd0 : dst0 = s2dst p) (hm0 : sm0 = .dma (s2sem p))
    {a0 : src0.view.WordExact} {b0 : dst0.view.WordExact} {t0 : (DmaTarget.here dst0 : DmaTarget nD τ sig .tc .vmem _ _).Typed .hbm sm0}
    {k : PUnit → Prog (TpuEff nD τ sig (Elt F) Λ₀ .tc) PUnit} :
    (s2idle c SC2 p : sProp 𝕄)
      ⊢ iprop((s2busy c SC2 e p -∗ wp frame (wpE defs Variants.none (c : Thread nD τ) none) Set.univ (k ⟨⟩) Q)
          -∗ wp frame (wpE defs Variants.none (c : Thread nD τ) none) Set.univ (.op (.enqueueDma src0 (.here dst0) sm0 a0 b0 t0) k) Q) := by
  unfold s2idle
  iintro ⟨Hv, Hd, Ht⟩ Hk
  iapply (start1 Variants.none (c : Thread nD τ) none hs0 hd0 hm0 NS2 (amtS2 _ _)) $$ [Hv Hd Ht]
  · isplitl [Hv]; · iexact Hv
    isplitl [Hd]; · iexact Hd
    iexact Ht
  iintro Hb
  iapply Hk
  unfold s2busy
  iexact Hb

end
end Cert.KernelIdeal.Hand
-- ==== Proof.KITrip.lean ====
/-
  One trip of the loop over the experts: the scales of the second product and its first four blocks of weights set out, the two inner
  loops run, the next expert's scales and first blocks set out between them, and its rows of the result written.
-/
module

public import proofs.«01_k».proof.Proof.KIPro
public import Idealize.ShloMosaic.Lib.Exec.Context

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk1_ok : ∀ n : Fin 8, k0_chk1 (BitVec.ofNat 32 n.val) := by decide +kernel
theorem chk4_ok : ∀ n : Fin 8, k0_chk4 (BitVec.ofNat 32 n.val) := by decide +kernel
theorem chk3_ok : ∀ b : Fin 41, k0_chk3 (BitVec.ofNat 32 (16 * b.val)) := by decide +kernel
theorem chk5_ok (v97 : BitVec 32) (t1 : Fin (k0_t1_loop v97).trips) (n : Fin 8) : k0_chk5 v97 t1 (BitVec.ofNat 32 n.val) := by
  unfold k0_chk5
  repeat' apply And.intro
  all_goals (intro _; revert n; decide +kernel)
theorem after : ∀ n < 9, (Scalar.indexCast (Scalar.addi (Scalar.addi 0#32 (Scalar.muli (Scf.iv 0#32 1#32 n) 1#32)) 1#32)).toNat = n + 1 := by decide +kernel
theorem other : ∀ n < 9, (Scalar.subi 1#32 (Scalar.remsi (Scalar.addi 0#32 (Scalar.muli (Scf.iv 0#32 1#32 n) 1#32)) 2#32)).toNat = (n + 1) % 2 := by decide +kernel

/-- Which of its two slots an expert's scales take, by its place in the list. -/
def par (i : ℕ) : Fin 2 := ⟨i % 2, by omega⟩
theorem par_two (i : ℕ) : par (i + 1 + 1) = par i := by unfold par; apply Fin.ext; show (i + 1 + 1) % 2 = i % 2; omega

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem w1st_0 (e : Fin 8) (s : Fin 6) (h : s.val < 28) : w1st c W1 e 0 s = w1busy c W1 e s ⟨s.val, h⟩ := by
  have : nx6 0 s = s.val := by unfold nx6; omega
  unfold w1st; simp only [this, h, dite_true]
theorem w2st_0 (e : Fin 8) (s : Fin 4) (h : s.val < 11) : w2st c W2 e 0 s = w2busy c W2 e s ⟨s.val, h⟩ := by
  have : nx4 0 s = s.val := by unfold nx4; omega
  unfold w2st; simp only [this, h, dite_true]
theorem w1st_28 (e : Fin 8) (s : Fin 6) : w1st c W1 e 28 s = w1idle c W1 s := by
  have : ¬ nx6 28 s < 28 := by unfold nx6; omega
  unfold w1st; simp only [this, dite_false]
theorem w2st_11 (e : Fin 8) (s : Fin 4) : w2st c W2 e 11 s = w2idle c W2 s := by
  have : ¬ nx4 11 s < 11 := by unfold nx4; omega
  unfold w2st; simp only [this, dite_false]

theorem ring1_start (e : Fin 8) : (iprop(w1busy c W1 e 0 ⟨0, by decide⟩ ∗ w1busy c W1 e 1 ⟨1, by decide⟩ ∗ w1busy c W1 e 2 ⟨2, by decide⟩ ∗ w1busy c W1 e 3 ⟨3, by decide⟩ ∗ w1busy c W1 e 4 ⟨4, by decide⟩ ∗ w1busy c W1 e 5 ⟨5, by decide⟩) : sProp 𝕄) ⊢ bigSep Finset.univ (w1st c W1 e 0) := by
  rw [BI.bigSep_eq_bigSepL_of_eq ([0, 1, 2, 3, 4, 5] : List (Fin 6)) (by decide) (by decide)]
  show _ ⊢ iprop(w1st c W1 e 0 0 ∗ w1st c W1 e 0 1 ∗ w1st c W1 e 0 2 ∗ w1st c W1 e 0 3 ∗ w1st c W1 e 0 4 ∗ w1st c W1 e 0 5)
  rw [w1st_0 c W1 e 0 (by decide), w1st_0 c W1 e 1 (by decide), w1st_0 c W1 e 2 (by decide), w1st_0 c W1 e 3 (by decide), w1st_0 c W1 e 4 (by decide), w1st_0 c W1 e 5 (by decide)]
  exact .rfl
theorem ring2_start (e : Fin 8) : (iprop(w2busy c W2 e 0 ⟨0, by decide⟩ ∗ w2busy c W2 e 1 ⟨1, by decide⟩ ∗ w2busy c W2 e 2 ⟨2, by decide⟩ ∗ w2busy c W2 e 3 ⟨3, by decide⟩) : sProp 𝕄) ⊢ bigSep Finset.univ (w2st c W2 e 0) := by
  rw [BI.bigSep_eq_bigSepL_of_eq ([0, 1, 2, 3] : List (Fin 4)) (by decide) (by decide)]
  show _ ⊢ iprop(w2st c W2 e 0 0 ∗ w2st c W2 e 0 1 ∗ w2st c W2 e 0 2 ∗ w2st c W2 e 0 3)
  rw [w2st_0 c W2 e 0 (by decide), w2st_0 c W2 e 1 (by decide), w2st_0 c W2 e 2 (by decide), w2st_0 c W2 e 3 (by decide)]
  exact .rfl
theorem ring1_end (e : Fin 8) : (bigSep Finset.univ (w1st c W1 e 28) : sProp 𝕄) ⊢ iprop(w1idle c W1 0 ∗ w1idle c W1 1 ∗ w1idle c W1 2 ∗ w1idle c W1 3 ∗ w1idle c W1 4 ∗ w1idle c W1 5) := by
  rw [BI.bigSep_eq_bigSepL_of_eq ([0, 1, 2, 3, 4, 5] : List (Fin 6)) (by decide) (by decide)]
  show iprop(w1st c W1 e 28 0 ∗ w1st c W1 e 28 1 ∗ w1st c W1 e 28 2 ∗ w1st c W1 e 28 3 ∗ w1st c W1 e 28 4 ∗ w1st c W1 e 28 5) ⊢ _
  rw [w1st_28 c W1 e 0, w1st_28 c W1 e 1, w1st_28 c W1 e 2, w1st_28 c W1 e 3, w1st_28 c W1 e 4, w1st_28 c W1 e 5]
theorem ring2_end (e : Fin 8) : (bigSep Finset.univ (w2st c W2 e 11) : sProp 𝕄) ⊢ iprop(w2idle c W2 0 ∗ w2idle c W2 1 ∗ w2idle c W2 2 ∗ w2idle c W2 3) := by
  rw [BI.bigSep_eq_bigSepL_of_eq ([0, 1, 2, 3] : List (Fin 4)) (by decide) (by decide)]
  show iprop(w2st c W2 e 11 0 ∗ w2st c W2 e 11 1 ∗ w2st c W2 e 11 2 ∗ w2st c W2 e 11 3) ⊢ _
  rw [w2st_11 c W2 e 0, w2st_11 c W2 e 1, w2st_11 c W2 e 2, w2st_11 c W2 e 3]

/-- One word of the first table. -/
theorem readO (IB : Buf (Elt F) ((Memref.whole cc0_stg0_0).view.loc (c : Thread nD τ))) (g : ℕ → BitVec 32) (h : ∀ i : S9.Idx, (IB i : Elt F .i32) = g ((i 0 : Fin 9) : ℕ))
    {off : Fin 1 → ℕ} {inb : ∀ a, off a + S1.size a ≤ S9.size a} {x : (Rect.unit (s := S9) off S1.size inb).shape.Idx} (k : ℕ) (ho : off = ![k]) :
    (((Memref.whole cc0_stg0_0).access (Rect.unit (s := S9) off S1.size inb)).read (Elt F) IB x : Elt F .i32) = g k := by
  subst ho
  refine (h ((Rect.unit (s := S9) ![k] S1.size inb).emb x)).trans (congrArg g ?_)
  have e0 : (((Rect.unit (s := S9) ![k] S1.size inb).emb x) 0 : ℕ) = k + ((show S1.Idx from x) 0 : ℕ) := ValueKit.rect_emb_unit_val _ _ _ x 0
  have hx : ((show S1.Idx from x) 0 : ℕ) < 1 := ((show S1.Idx from x) 0).isLt
  exact e0.trans (by omega)

/-- One word of the second table. -/
theorem readB (IB : Buf (Elt F) ((Memref.whole cc0_stg1_0).view.loc (c : Thread nD τ))) (g : ℕ → BitVec 32) (h : ∀ i : S9.Idx, (IB i : Elt F .i32) = g ((i 0 : Fin 9) : ℕ))
    {off : Fin 1 → ℕ} {inb : ∀ a, off a + S1.size a ≤ S9.size a} {x : (Rect.unit (s := S9) off S1.size inb).shape.Idx} (k : ℕ) (ho : off = ![k]) :
    (((Memref.whole cc0_stg1_0).access (Rect.unit (s := S9) off S1.size inb)).read (Elt F) IB x : Elt F .i32) = g k := by
  subst ho
  refine (h ((Rect.unit (s := S9) ![k] S1.size inb).emb x)).trans (congrArg g ?_)
  have e0 : (((Rect.unit (s := S9) ![k] S1.size inb).emb x) 0 : ℕ) = k + ((show S1.Idx from x) 0 : ℕ) := ValueKit.rect_emb_unit_val _ _ _ x 0
  have hx : ((show S1.Idx from x) 0 : ℕ) < 1 := ((show S1.Idx from x) 0).isLt
  exact e0.trans (by omega)

/-- The result buffer at zero. -/
def yzero : Buf (Elt F) ((Memref.whole cc0_stg4_0).view.loc (c : Thread nD τ)) := fun i => k0_pay1 (F := F) (show S896x2816.Idx from i)

theorem yzero_store {inb} (f : Buf (Elt F) ((Memref.whole cc0_stg4_0).view.loc (c : Thread nD τ))) :
    ((Memref.whole cc0_stg4_0).access (Rect.unit (s := S896x2816) ![0, 0] S896x2816.size inb)).write (Elt F) f (k0_pay1 (F := F)) Finset.univ = yzero c := by
  funext i
  refine store_prop (Elt F) cc0_stg4_0 inb _ _ (fun i v => v = yzero c i) ?_ ?_ i
  · intro x
    unfold yzero
    congr 1
    funext a
    apply Fin.ext
    exact ((ValueKit.rect_emb_unit_val _ _ _ x a).trans (by fin_cases a <;> exact Nat.zero_add _)).symm
  · intro i hi
    obtain ⟨a, ha⟩ := hi
    exfalso
    have hlt : ((show S896x2816.Idx from i) a : ℕ) < S896x2816.size a := ((show S896x2816.Idx from i) a).isLt
    have h0 : (![0, 0] : Fin 2 → ℕ) a = 0 := by fin_cases a <;> rfl
    have ha' : ((show S896x2816.Idx from i) a : ℕ) < (![0, 0] : Fin 2 → ℕ) a ∨ (![0, 0] : Fin 2 → ℕ) a + S896x2816.size a ≤ ((show S896x2816.Idx from i) a : ℕ) := ha
    rw [h0] at ha'
    omega

/-- The result buffer after `i` experts. -/
def yspec (eo : ℕ → Fin 8) (ro : ℕ → Fin 641) : ℕ → Buf (Elt F) ((Memref.whole cc0_stg4_0).view.loc (c : Thread nD τ))
  | 0 => yzero c
  | i + 1 => ystep c XB W1 SC1 W2 SC2 (ro i) (eo i) (yspec eo ro i) 11

/-- Before expert `i` of `n`: its scales and its first six blocks of weights are on their way (after the last one nothing is), every
    other slot is free, and the result buffer holds the experts before. -/
def inv0 (IB : Buf (Elt F) ((Memref.whole cc0_stg0_0).view.loc (c : Thread nD τ))) (BB : Buf (Elt F) ((Memref.whole cc0_stg1_0).view.loc (c : Thread nD τ)))
    (eo : ℕ → Fin 8) (ro : ℕ → Fin 641) (n i : ℕ) : sProp 𝕄 :=
  iprop((if i < n then iprop(bigSep Finset.univ (w1st c W1 (eo i) 0) ∗ s1busy c SC1 (eo i) (par i)) else iprop(bigSep Finset.univ (w1st c W1 (eo i) 28) ∗ s1idle c SC1 (par i)))
    ∗ s1idle c SC1 (par (i + 1))
    ∗ (w2idle c W2 0 ∗ w2idle c W2 1 ∗ w2idle c W2 2 ∗ w2idle c W2 3)
    ∗ s2idle c SC2 (par i) ∗ s2idle c SC2 (par (i + 1))
    ∗ ((Memref.whole cc0_stg0_0).view.loc (c : Thread nD τ) ↦{fullShare} IB)
    ∗ ((Memref.whole cc0_stg1_0).view.loc (c : Thread nD τ) ↦{fullShare} BB)
    ∗ ((Memref.whole cc0_stg3_0).view.loc (c : Thread nD τ) ↦{fullShare} XB)
    ∗ (∃ H, (Memref.whole cc0_scratch0).view.loc (c : Thread nD τ) ↦{fullShare} H)
    ∗ ((Memref.whole cc0_stg4_0).view.loc (c : Thread nD τ) ↦{fullShare} yspec c XB W1 SC1 W2 SC2 eo ro i)
    ∗ owe0 (c : Thread nD τ))

theorem ring1_any (e e' : Fin 8) : (bigSep Finset.univ (w1st c W1 e 28) : sProp 𝕄) = bigSep Finset.univ (w1st c W1 e' 28) := by
  congr 1; funext s; rw [w1st_28, w1st_28]

set_option maxHeartbeats 1200000 in
/-- One expert. -/
theorem trip0 (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (IB : Buf (Elt F) ((Memref.whole cc0_stg0_0).view.loc (c : Thread nD τ))) (BB : Buf (Elt F) ((Memref.whole cc0_stg1_0).view.loc (c : Thread nD τ)))
    (eo : ℕ → Fin 8) (ro : ℕ → Fin 641) (hro : ∀ i, ∃ b : Fin 41, (ro i).val = 16 * b.val)
    (hIB : ∀ i : S9.Idx, (IB i : Elt F .i32) = BitVec.ofNat 32 (eo ((i 0 : Fin 9) : ℕ)).val) (hBB : ∀ i : S9.Idx, (BB i : Elt F .i32) = BitVec.ofNat 32 (ro ((i 0 : Fin 9) : ℕ)).val)
    (v97 : Elt F .i32) (k0_hw2 : k0_chk2 v97) (n : ℕ) (hn : (k0_t1_loop v97).trips = n) (hn9 : n ≤ 9) (hcond : ∀ t, k0_cond2 v97 t = 1#1 ↔ t.val + 1 < n)
    (k0_t1 : Fin (k0_t1_loop v97).trips) :
    inv0 c XB W1 SC1 W2 SC2 IB BB eo ro n k0_t1.val
      ⊢ wp frame (wpE defs Variants.none (c : Thread nD τ) none) Set.univ
          (k0_t1_body (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 v97 k0_hw2 k0_t1 ⟨⟩)
          (fun _ => inv0 c XB W1 SC1 W2 SC2 IB BB eo ro n (k0_t1.val + 1)) := by
  have hlt : k0_t1.val < n := lt_of_lt_of_eq k0_t1.isLt hn
  have ht1 : k0_t1.val < 9 := lt_of_lt_of_le hlt hn9
  have o17 : k0_off17 v97 k0_t1 = ![k0_t1.val] := vec1 (index _ ht1)
  have o42 : k0_off42 v97 k0_t1 = ![k0_t1.val + 1] := vec1 (after _ ht1)
  have o18 : k0_off18 v97 k0_t1 = ![(par k0_t1.val).val] := vec1 (parity _ ht1)
  have o25 : k0_off25 v97 k0_t1 = ![(par k0_t1.val).val] := vec1 (parity _ ht1)
  have o43 : k0_off43 v97 k0_t1 = ![(par (k0_t1.val + 1)).val] := vec1 (other _ ht1)
  have o44 : k0_off44 v97 k0_t1 = ![(par (k0_t1.val + 1)).val, 0, 0] := vec3 (other _ ht1) rfl rfl
  have o19 : k0_off19 v97 k0_t1 = ![(par k0_t1.val).val, 0, 0] := vec3 (parity _ ht1) rfl rfl
  unfold inv0
  rw [if_pos hlt]
  simp only [k0_t1_body, k0_part13_eq_skeleton, k0_part13_skel, k0_part14_eq_skeleton, k0_part14_skel, k0_part6_eq_skeleton, k0_part6_skel, k0_part7_eq_skeleton, k0_part7_skel,
    k0_part8_eq_skeleton, k0_part8_skel, smemLoad, smemLoadElt_bind, Prog.lift, Prog.bind_op, Prog.bind_ret, Prog.bind_assoc, Prog.pure_eq_ret]
  iintro ⟨⟨Hr, K0⟩, K1, ⟨J0, J1, J2, J3⟩, L0, L1, Hi, Hb, Hx, ⟨%H0, Hh⟩, Hy, HO⟩
  iapply (wp_smemLoadElt_named (Val := Elt F) (defs := defs) Variants.none (c : Thread nD τ) none Set.univ (m := Memref.whole cc0_stg0_0) (r := Rect.unit (s := S9) (k0_off17 v97 k0_t1) S1.size (k0_off17_inb v97 k0_hw2 k0_t1)) (hw := View.loads_smem_one rfl numel1_S1) (f := IB) (q := fullShare) (S := Finset.univ) (Finset.subset_univ _)) $$ Hi
  iintro Hi %v112 %v1120
  have hv : v112 = BitVec.ofNat 32 (eo k0_t1.val).val := v1120.trans (readO c IB (fun k => BitVec.ofNat 32 (eo k).val) hIB k0_t1.val o17)
  have he : BitVec.toNat v112 = (eo k0_t1.val).val := by rw [hv]; simp; omega
  have k0_hw4 : k0_chk4 v112 := by rw [hv]; exact chk4_ok _
  iapply (wp_assume Variants.none (c : Thread nD τ) none Set.univ k0_hw4)
  iapply (wp_smemLoadElt_named (Val := Elt F) (defs := defs) Variants.none (c : Thread nD τ) none Set.univ (m := Memref.whole cc0_stg1_0) (r := Rect.unit (s := S9) (k0_off17 v97 k0_t1) S1.size (k0_off17_inb v97 k0_hw2 k0_t1)) (hw := View.loads_smem_one rfl numel1_S1) (f := BB) (q := fullShare) (S := Finset.univ) (Finset.subset_univ _)) $$ Hb
  iintro Hb %v114 %v1140
  have hvb : v114 = BitVec.ofNat 32 (ro k0_t1.val).val := v1140.trans (readB c BB (fun k => BitVec.ofNat 32 (ro k).val) hBB k0_t1.val o17)
  have hr : BitVec.toNat v114 = (ro k0_t1.val).val := by rw [hvb]; simp; omega
  have k0_hw3 : k0_chk3 v114 := by
    obtain ⟨b, hb⟩ := hro k0_t1.val
    rw [hvb, hb]; exact chk3_ok b
  iapply (wp_assume Variants.none (c : Thread nD τ) none Set.univ k0_hw3)
  have s2 : ∀ j : Fin 11, ∀ off, off = ![v112.toNat, 0, 256 * j.val] → ∀ inb, ((Memref.whole main_arg6).slice (Rect.unit (s := S8x3584x2816) off S1x3584x256.size inb) (fun _ => rfl)).squeeze S3584x256 squeezes_S1x3584x256_S3584x256
        = w2src (eo k0_t1.val) j := by
    intro j off ho inb; rw [he] at ho; subst ho; rfl
  have s4 : ∀ off, off = ![v112.toNat, 0, 0] → ∀ inb, ((Memref.whole main_arg7).slice (Rect.unit (s := S8x56x2816) off S1x56x2816.size inb) (fun _ => rfl)).squeeze S56x2816 squeezes_S1x56x2816_S56x2816
        = s2src (eo k0_t1.val) := by
    intro off ho inb; rw [he] at ho; subst ho; rfl
  have d1 : ∀ s : Fin 6, ∀ h : Fin 2, ∀ off, off = ![s.val, h.val, 0, 0] → ∀ inb, ((Memref.whole cc0_scratch1).slice (Rect.unit (s := S6x2x1408x256) off S1x1x1408x256.size inb) (fun _ => rfl)).squeeze S1408x256 squeezes_S1x1x1408x256_S1408x256
      = w1dst s h := by
    intro s h off ho inb; subst ho; rfl
  have m1 : ∀ s : Fin 6, ∀ off, off = ![s.val] → ∀ inb, SemLoc.dma ((cc0_scratch5.slice (Rect.unit (s := S6) off S1.size inb)).squeeze S_ squeezes_S1_S_).sem = SemLoc.dma (w1sem s) := by
    intro s off ho inb; subst ho; rfl
  have q1 : ∀ p : Fin 2, ∀ off, off = ![p.val] → ∀ inb, ((cc0_scratch7.slice (Rect.unit (s := S2) off S1.size inb)).squeeze S_ squeezes_S1_S_).sem = s1sem p := by
    intro p off ho inb; subst ho; rfl
  have q2 : ∀ p : Fin 2, ∀ off, off = ![p.val] → ∀ inb, ((cc0_scratch8.slice (Rect.unit (s := S2) off S1.size inb)).squeeze S_ squeezes_S1_S_).sem = s2sem p := by
    intro p off ho inb; subst ho; rfl
  have g1 : ∀ p : Fin 2, ∀ off, off = ![p.val, 0, 0] → ∀ inb, ((Memref.whole cc0_scratch2).slice (Rect.unit (s := S2x22x14336) off S1x22x14336.size inb) (fun _ => rfl)).squeeze S22x14336 squeezes_S1x22x14336_S22x14336
      = s1dst p := by
    intro p off ho inb; subst ho; rfl
  have g2 : ∀ p : Fin 2, ∀ off, off = ![p.val, 0, 0] → ∀ inb, ((Memref.whole cc0_scratch4).slice (Rect.unit (s := S2x56x2816) off S1x56x2816.size inb) (fun _ => rfl)).squeeze S56x2816 squeezes_S1x56x2816_S56x2816
      = s2dst p := by
    intro p off ho inb; subst ho; rfl
  iapply (beginS2 (defs := defs) c SC2 (eo k0_t1.val) (par k0_t1.val) (s4 _ rfl _) (g2 _ _ o19 _) (congrArg SemLoc.dma (q2 _ _ o18 _))) $$ L0
  iintro L0
  iapply (begin2 (defs := defs) c W2 (eo k0_t1.val) 0 ⟨0, by decide⟩ (s2 ⟨0, by decide⟩ _ rfl _) rfl rfl) $$ J0
  iintro J0
  iapply (begin2 (defs := defs) c W2 (eo k0_t1.val) 1 ⟨1, by decide⟩ (s2 ⟨1, by decide⟩ _ rfl _) rfl rfl) $$ J1
  iintro J1
  iapply (begin2 (defs := defs) c W2 (eo k0_t1.val) 2 ⟨2, by decide⟩ (s2 ⟨2, by decide⟩ _ rfl _) rfl rfl) $$ J2
  iintro J2
  iapply (begin2 (defs := defs) c W2 (eo k0_t1.val) 3 ⟨3, by decide⟩ (s2 ⟨3, by decide⟩ _ rfl _) rfl rfl) $$ J3
  iintro J3
  unfold s1busy
  iapply (wait1 (dstw := ((Memref.whole cc0_scratch2).slice (Rect.unit (s := S2x22x14336) (k0_off26 v97 k0_t1) S1x22x14336.size (k0_off26_inb v97 k0_hw2 k0_t1)) (fun _ => rfl)).squeeze S22x14336 squeezes_S1x22x14336_S22x14336) Variants.none (c : Thread nD τ) none (q1 _ _ o25 _) rfl NS1_pos) $$ [K0 HO]
  · isplitl [K0]; · iexact K0
    iexact HO
  iintro ⟨Hs, Kt, Kv, HO⟩
  have htr2 : Scf.trips k0_t2_loop.lb k0_t2_loop.ub k0_t2_loop.st = 28 := by decide +kernel
  sl_for (fun k _ => inv1 c XB W1 SC1 (ro k0_t1.val) (par k0_t1.val) (eo k0_t1.val) k) $$ [Hr Hs Hx Hh HO]
  · intro k acc
    exact trip1 c XB W1 SC1 hA0 hA1 hA2 hA3 hA8 v97 k0_hw2 k0_t1 ht1 (par k0_t1.val) rfl _ v112 k0_hw4 v114 k0_hw3 _ _ (eo k0_t1.val) he (ro k0_t1.val) hr k
  · unfold inv1
    isplitl [Hr]; · iexact Hr
    isplitl [Hs]; · iexact Hs
    isplitl [Hx]; · iexact Hx
    isplitl [Hh]
    · iexists H0; isplitr; swap; · iexact Hh
      ipureintro; intro i hi; exact absurd hi (by omega)
    iexact HO
  iintro %acc HI
  rw [htr2]; unfold inv1
  icases HI with ⟨Hr, Hs, Hx, ⟨%H, %hH, Hh⟩, HO⟩
  rw [hok_all c XB W1 SC1 (ro k0_t1.val) (eo k0_t1.val) hH]
  unfold s2busy
  iapply (wait1 (dstw := ((Memref.whole cc0_scratch4).slice (Rect.unit (s := S2x56x2816) (k0_off41 v97 k0_t1) S1x56x2816.size (k0_off41_inb v97 k0_hw2 k0_t1)) (fun _ => rfl)).squeeze S56x2816 squeezes_S1x56x2816_S56x2816) Variants.none (c : Thread nD τ) none (q2 _ _ o25 _) rfl NS2_pos) $$ [L0 HO]
  · isplitl [L0]; · iexact L0
    iexact HO
  iintro ⟨Hs2, Lt, Lv, HO⟩
  ihave Hr2 := (ring2_start c W2 (eo k0_t1.val)) $$ [J0 J1 J2 J3]
  · isplitl [J0]; · iexact J0
    isplitl [J1]; · iexact J1
    isplitl [J2]; · iexact J2
    iexact J3
  by_cases hc : k0_cond2 v97 k0_t1 = 1#1
  · have hc2 : k0_t1.val + 1 < n := (hcond k0_t1).1 hc
    simp only [dif_pos hc, smemLoadElt_bind, Prog.lift, Prog.bind_op, Prog.bind_ret, Prog.bind_assoc, Prog.pure_eq_ret]
    ihave Hr1 := (ring1_end c W1 (eo k0_t1.val)) $$ Hr
    icases Hr1 with ⟨I0, I1, I2, I3, I4, I5⟩
    iapply (wp_smemLoadElt_named (Val := Elt F) (defs := defs) Variants.none (c : Thread nD τ) none Set.univ (m := Memref.whole cc0_stg0_0) (r := Rect.unit (s := S9) (k0_off42 v97 k0_t1) S1.size (k0_off42_inb v97 k0_hw2 k0_t1 hc)) (hw := View.loads_smem_one rfl numel1_S1) (f := IB) (q := fullShare) (S := Finset.univ) (Finset.subset_univ _)) $$ Hi
    iintro Hi %v171 %v1710
    have hv' : v171 = BitVec.ofNat 32 (eo (k0_t1.val + 1)).val := v1710.trans (readO c IB (fun k => BitVec.ofNat 32 (eo k).val) hIB (k0_t1.val + 1) o42)
    have he' : BitVec.toNat v171 = (eo (k0_t1.val + 1)).val := by rw [hv']; simp; omega
    have k0_hw5 : k0_chk5 v97 k0_t1 v171 := by rw [hv']; exact chk5_ok _ _ _
    iapply (wp_assume Variants.none (c : Thread nD τ) none Set.univ k0_hw5)
    have s1' : ∀ h : Fin 2, ∀ j : Fin 28, ∀ off, off = ![v171.toNat, 0, h.val * 7168 + 256 * j.val] → ∀ inb, ((Memref.whole main_arg4).slice (Rect.unit (s := S8x1408x14336) off S1x1408x256.size inb) (fun _ => rfl)).squeeze S1408x256 squeezes_S1x1408x256_S1408x256
          = w1src (eo (k0_t1.val + 1)) h j := by
      intro h j off ho inb; rw [he'] at ho; subst ho; rfl
    have s3' : ∀ off, off = ![v171.toNat, 0, 0] → ∀ inb, ((Memref.whole main_arg5).slice (Rect.unit (s := S8x22x14336) off S1x22x14336.size inb) (fun _ => rfl)).squeeze S22x14336 squeezes_S1x22x14336_S22x14336
          = s1src (eo (k0_t1.val + 1)) := by
      intro off ho inb; rw [he'] at ho; subst ho; rfl
    iapply (beginS1 (defs := defs) c SC1 (eo (k0_t1.val + 1)) (par (k0_t1.val + 1)) (s3' _ rfl _) (g1 _ _ o44 _) (congrArg SemLoc.dma (q1 _ _ o43 _))) $$ K1
    iintro A2
    iapply (begin1 (defs := defs) c W1 (eo (k0_t1.val + 1)) 0 ⟨0, by decide⟩ (s1' 0 ⟨0, by decide⟩ _ rfl _) (d1 0 0 _ (k0_off47_eq 0) _) (m1 0 _ (k0_off46_eq 0) _) (s1' 1 ⟨0, by decide⟩ _ rfl _) (d1 0 1 _ (k0_off49_eq 0) _) (m1 0 _ (k0_off46_eq 0) _)) $$ I0
    iintro I0
    iapply (begin1 (defs := defs) c W1 (eo (k0_t1.val + 1)) 1 ⟨1, by decide⟩ (s1' 0 ⟨1, by decide⟩ _ rfl _) (d1 1 0 _ (k0_off47_eq 1) _) (m1 1 _ (k0_off46_eq 1) _) (s1' 1 ⟨1, by decide⟩ _ rfl _) (d1 1 1 _ (k0_off49_eq 1) _) (m1 1 _ (k0_off46_eq 1) _)) $$ I1
    iintro I1
    iapply (begin1 (defs := defs) c W1 (eo (k0_t1.val + 1)) 2 ⟨2, by decide⟩ (s1' 0 ⟨2, by decide⟩ _ rfl _) (d1 2 0 _ (k0_off47_eq 2) _) (m1 2 _ (k0_off46_eq 2) _) (s1' 1 ⟨2, by decide⟩ _ rfl _) (d1 2 1 _ (k0_off49_eq 2) _) (m1 2 _ (k0_off46_eq 2) _)) $$ I2
    iintro I2
    iapply (begin1 (defs := defs) c W1 (eo (k0_t1.val + 1)) 3 ⟨3, by decide⟩ (s1' 0 ⟨3, by decide⟩ _ rfl _) (d1 3 0 _ (k0_off47_eq 3) _) (m1 3 _ (k0_off46_eq 3) _) (s1' 1 ⟨3, by decide⟩ _ rfl _) (d1 3 1 _ (k0_off49_eq 3) _) (m1 3 _ (k0_off46_eq 3) _)) $$ I3
    iintro I3
    iapply (begin1 (defs := defs) c W1 (eo (k0_t1.val + 1)) 4 ⟨4, by decide⟩ (s1' 0 ⟨4, by decide⟩ _ rfl _) (d1 4 0 _ (k0_off47_eq 4) _) (m1 4 _ (k0_off46_eq 4) _) (s1' 1 ⟨4, by decide⟩ _ rfl _) (d1 4 1 _ (k0_off49_eq 4) _) (m1 4 _ (k0_off46_eq 4) _)) $$ I4
    iintro I4
    iapply (begin1 (defs := defs) c W1 (eo (k0_t1.val + 1)) 5 ⟨5, by decide⟩ (s1' 0 ⟨5, by decide⟩ _ rfl _) (d1 5 0 _ (k0_off47_eq 5) _) (m1 5 _ (k0_off46_eq 5) _) (s1' 1 ⟨5, by decide⟩ _ rfl _) (d1 5 1 _ (k0_off49_eq 5) _) (m1 5 _ (k0_off46_eq 5) _)) $$ I5
    iintro I5
    ihave A1 := (ring1_start c W1 (eo (k0_t1.val + 1))) $$ [I0 I1 I2 I3 I4 I5]
    · isplitl [I0]; · iexact I0
      isplitl [I1]; · iexact I1
      isplitl [I2]; · iexact I2
      isplitl [I3]; · iexact I3
      isplitl [I4]; · iexact I4
      iexact I5
    have htr3 : Scf.trips k0_t3_loop.lb k0_t3_loop.ub k0_t3_loop.st = 11 := by decide +kernel
    sl_for (fun k _ => inv2 c XB W1 SC1 W2 SC2 (ro k0_t1.val) (par k0_t1.val) (eo k0_t1.val) (yspec c XB W1 SC1 W2 SC2 eo ro k0_t1.val) k) $$ [Hr2 Hs2 Hh Hy HO]
    · intro k acc
      exact trip2 c XB W1 SC1 W2 SC2 hA0 hA1 hA2 hA3 hA8 v97 k0_hw2 k0_t1 ht1 (par k0_t1.val) rfl _ v112 k0_hw4 v114 k0_hw3 _ _ (eo k0_t1.val) he (ro k0_t1.val) hr _ k
    · unfold inv2
      isplitl [Hr2]; · iexact Hr2
      isplitl [Hs2]; · iexact Hs2
      isplitl [Hh]; · iexact Hh
      isplitl [Hy]
      · rw [ystep_zero]; iexact Hy
      iexact HO
    iintro %acc2 HI
    rw [htr3]; unfold inv2
    icases HI with ⟨Hr2, Hs2, Hh, Hy, HO⟩
    ihave Hr3 := (ring2_end c W2 (eo k0_t1.val)) $$ Hr2
    first | unfold trip0.sl.prog.cont_2 | unfold trip0.sl.prog.cont_1
    rw [wp_ret]; imodintro
    isplitl [A1 A2]
    · rw [if_pos hc2]
      isplitl [A1]; · iexact A1
      unfold s1busy; iexact A2
    isplitl [Kv Hs Kt]
    · rw [par_two]
      unfold s1idle any
      isplitl [Kv]; · iexact Kv
      isplitl [Hs]; · iexists _; iexact Hs
      iexact Kt
    isplitl [Hr3]; · iexact Hr3
    isplitl [L1]; · iexact L1
    isplitl [Lv Hs2 Lt]
    · rw [par_two]
      unfold s2idle any
      isplitl [Lv]; · iexact Lv
      isplitl [Hs2]; · iexists _; iexact Hs2
      iexact Lt
    isplitl [Hi]; · iexact Hi
    isplitl [Hb]; · iexact Hb
    isplitl [Hx]; · iexact Hx
    isplitl [Hh]; · iexists _; iexact Hh
    isplitl [Hy]; · iexact Hy
    iexact HO
  · have hc2 : ¬ k0_t1.val + 1 < n := fun h => hc ((hcond k0_t1).2 h)
    simp only [dif_neg hc, Prog.lift, Prog.bind_op, Prog.bind_ret, Prog.bind_assoc, Prog.pure_eq_ret]
    ihave A1 := (entails_of_eq (ring1_any c W1 (eo k0_t1.val) (eo (k0_t1.val + 1)))) $$ Hr

    have htr3 : Scf.trips k0_t3_loop.lb k0_t3_loop.ub k0_t3_loop.st = 11 := by decide +kernel
    sl_for (fun k _ => inv2 c XB W1 SC1 W2 SC2 (ro k0_t1.val) (par k0_t1.val) (eo k0_t1.val) (yspec c XB W1 SC1 W2 SC2 eo ro k0_t1.val) k) $$ [Hr2 Hs2 Hh Hy HO]
    · intro k acc
      exact trip2 c XB W1 SC1 W2 SC2 hA0 hA1 hA2 hA3 hA8 v97 k0_hw2 k0_t1 ht1 (par k0_t1.val) rfl _ v112 k0_hw4 v114 k0_hw3 _ _ (eo k0_t1.val) he (ro k0_t1.val) hr _ k
    · unfold inv2
      isplitl [Hr2]; · iexact Hr2
      isplitl [Hs2]; · iexact Hs2
      isplitl [Hh]; · iexact Hh
      isplitl [Hy]
      · rw [ystep_zero]; iexact Hy
      iexact HO
    iintro %acc2 HI
    rw [htr3]; unfold inv2
    icases HI with ⟨Hr2, Hs2, Hh, Hy, HO⟩
    ihave Hr3 := (ring2_end c W2 (eo k0_t1.val)) $$ Hr2
    unfold trip0.sl.prog.cont_3
    rw [wp_ret]; imodintro
    isplitl [A1 K1]
    · rw [if_neg hc2]
      isplitl [A1]; · iexact A1
      iexact K1
    isplitl [Kv Hs Kt]
    · rw [par_two]
      unfold s1idle any
      isplitl [Kv]; · iexact Kv
      isplitl [Hs]; · iexists _; iexact Hs
      iexact Kt
    isplitl [Hr3]; · iexact Hr3
    isplitl [L1]; · iexact L1
    isplitl [Lv Hs2 Lt]
    · rw [par_two]
      unfold s2idle any
      isplitl [Lv]; · iexact Lv
      isplitl [Hs2]; · iexists _; iexact Hs2
      iexact Lt
    isplitl [Hi]; · iexact Hi
    isplitl [Hb]; · iexact Hb
    isplitl [Hx]; · iexact Hx
    isplitl [Hh]; · iexists _; iexact Hh
    isplitl [Hy]; · iexact Hy
    iexact HO

end Cert.KernelIdeal.Hand
-- ==== Proof.KIRun.lean ====
/-
  The whole kernel: from its buffers at anything, its semaphores at zero and the arrays in HBM as they are, to the result in the
  result buffer and everything else given back.
-/
module

public import proofs.«01_k».proof.Proof.KITrip
public import Idealize.ShloMosaic.Lib.Exec.Context

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem chk2_ok : ∀ n : Fin 10, k0_chk2 (BitVec.ofNat 32 n.val) := by decide +kernel
theorem trips1 : ∀ n : Fin 10, (k0_t1_loop (BitVec.ofNat 32 n.val)).trips = n.val := by decide +kernel
theorem trips4 : ∀ n : Fin 10, (k0_t4_loop (BitVec.ofNat 32 n.val)).trips = 0 := by decide +kernel
theorem cond_n : ∀ n : Fin 10, ∀ t, k0_cond2 (BitVec.ofNat 32 n.val) t = 1#1 ↔ t.val + 1 < n.val := by decide +kernel

theorem par_cases (n : ℕ) : (par n = 0 ∧ par (n + 1) = 1) ∨ (par n = 1 ∧ par (n + 1) = 0) := by
  unfold par
  rcases Nat.mod_two_eq_zero_or_one n with h | h
  · exact .inl ⟨Fin.ext h, Fin.ext (show (n + 1) % 2 = 1 by omega)⟩
  · exact .inr ⟨Fin.ext h, Fin.ext (show (n + 1) % 2 = 0 by omega)⟩

variable {defs : Defs nD τ sig (Elt F) Λ₀} (c : Dev nD)
  (XB : Buf (Elt F) ((Memref.whole cc0_stg3_0).view.loc (c : Thread nD τ)))
  (W1 : Buf (Elt F) ((Memref.whole main_arg4).view.loc (c : Thread nD τ)))
  (SC1 : Buf (Elt F) ((Memref.whole main_arg5).view.loc (c : Thread nD τ)))
  (W2 : Buf (Elt F) ((Memref.whole main_arg6).view.loc (c : Thread nD τ)))
  (SC2 : Buf (Elt F) ((Memref.whole main_arg7).view.loc (c : Thread nD τ)))

theorem s1pair (n : ℕ) : (iprop(s1idle c SC1 (par n) ∗ s1idle c SC1 (par (n + 1))) : sProp 𝕄) ⊢ iprop(s1idle c SC1 0 ∗ s1idle c SC1 1) := by
  rcases par_cases n with ⟨h, h'⟩ | ⟨h, h'⟩
  · rw [h, h']
  · rw [h, h']
    iintro ⟨A, B⟩
    isplitl [B]; · iexact B
    iexact A
theorem s2pair (n : ℕ) : (iprop(s2idle c SC2 (par n) ∗ s2idle c SC2 (par (n + 1))) : sProp 𝕄) ⊢ iprop(s2idle c SC2 0 ∗ s2idle c SC2 1) := by
  rcases par_cases n with ⟨h, h'⟩ | ⟨h, h'⟩
  · rw [h, h']
  · rw [h, h']
    iintro ⟨A, B⟩
    isplitl [B]; · iexact B
    iexact A

set_option maxHeartbeats 4000000 in
/-- The kernel's run, for `n` experts with their numbers and first rows in the tables. -/
theorem kernelRun (hA0 : (Memref.whole cc0_stg0_0).IsWhole) (hA1 : (Memref.whole cc0_stg1_0).IsWhole) (hA2 : (Memref.whole cc0_stg2_0).IsWhole) (hA3 : (Memref.whole cc0_stg3_0).IsWhole) (hA8 : (Memref.whole cc0_stg4_0).IsWhole)
    (IB : Buf (Elt F) ((Memref.whole cc0_stg0_0).view.loc (c : Thread nD τ))) (BB : Buf (Elt F) ((Memref.whole cc0_stg1_0).view.loc (c : Thread nD τ))) (NB : Buf (Elt F) ((Memref.whole cc0_stg2_0).view.loc (c : Thread nD τ)))
    (eo : ℕ → Fin 8) (ro : ℕ → Fin 641) (n : Fin 10) (hn1 : 1 ≤ n.val) (hro : ∀ i, ∃ b : Fin 41, (ro i).val = 16 * b.val)
    (hIB : ∀ i : S9.Idx, (IB i : Elt F .i32) = BitVec.ofNat 32 (eo ((i 0 : Fin 9) : ℕ)).val) (hBB : ∀ i : S9.Idx, (BB i : Elt F .i32) = BitVec.ofNat 32 (ro ((i 0 : Fin 9) : ℕ)).val)
    (hNB : ∀ i : S1.Idx, (NB i : Elt F .i32) = BitVec.ofNat 32 n.val)
    (K : PUnit → sProp (MT nD τ sig Unit (Elt F) ℕ (Pipeline.UD sig nD τ) ℕ)) :
    (iprop(((Memref.whole cc0_stg0_0).view.loc (c : Thread nD τ) ↦{fullShare} IB)
        ∗ ((Memref.whole cc0_stg1_0).view.loc (c : Thread nD τ) ↦{fullShare} BB)
        ∗ ((Memref.whole cc0_stg2_0).view.loc (c : Thread nD τ) ↦{fullShare} NB)
        ∗ ((Memref.whole cc0_stg3_0).view.loc (c : Thread nD τ) ↦{fullShare} XB)
        ∗ (∃ f, (Memref.whole cc0_stg4_0).view.loc (c : Thread nD τ) ↦{fullShare} f)
        ∗ (∃ f, (Memref.whole cc0_scratch0).view.loc (c : Thread nD τ) ↦{fullShare} f)
        ∗ (∃ f, (Memref.whole cc0_scratch1).view.loc (c : Thread nD τ) ↦{fullShare} f)
        ∗ (∃ f, (Memref.whole cc0_scratch2).view.loc (c : Thread nD τ) ↦{fullShare} f)
        ∗ (∃ f, (Memref.whole cc0_scratch3).view.loc (c : Thread nD τ) ↦{fullShare} f)
        ∗ (∃ f, (Memref.whole cc0_scratch4).view.loc (c : Thread nD τ) ↦{fullShare} f)
        ∗ ((Memref.whole main_arg4).view.loc (c : Thread nD τ) ↦{fullShare} W1)
        ∗ ((Memref.whole main_arg5).view.loc (c : Thread nD τ) ↦{fullShare} SC1)
        ∗ ((Memref.whole main_arg6).view.loc (c : Thread nD τ) ↦{fullShare} W2)
        ∗ ((Memref.whole main_arg7).view.loc (c : Thread nD τ) ↦{fullShare} SC2)
        ∗ owe0 (c : Thread nD τ)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0 ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0 ∗ semVal ((c : Thread nD τ), .dma (s1sem 0)) 0 ∗ semVal ((c : Thread nD τ), .dma (s1sem 1)) 0 ∗ semVal ((c : Thread nD τ), .dma (s2sem 0)) 0 ∗ semVal ((c : Thread nD τ), .dma (s2sem 1)) 0
        ∗ (iprop(((Memref.whole cc0_stg0_0).view.loc (c : Thread nD τ) ↦{fullShare} IB)
        ∗ ((Memref.whole cc0_stg1_0).view.loc (c : Thread nD τ) ↦{fullShare} BB)
        ∗ ((Memref.whole cc0_stg2_0).view.loc (c : Thread nD τ) ↦{fullShare} NB)
        ∗ ((Memref.whole cc0_stg3_0).view.loc (c : Thread nD τ) ↦{fullShare} XB)
        ∗ ((Memref.whole cc0_stg4_0).view.loc (c : Thread nD τ) ↦{fullShare} yspec c XB W1 SC1 W2 SC2 eo ro n.val)
        ∗ (∃ f, (Memref.whole cc0_scratch0).view.loc (c : Thread nD τ) ↦{fullShare} f)
        ∗ (∃ f, (Memref.whole cc0_scratch1).view.loc (c : Thread nD τ) ↦{fullShare} f)
        ∗ (∃ f, (Memref.whole cc0_scratch2).view.loc (c : Thread nD τ) ↦{fullShare} f)
        ∗ (∃ f, (Memref.whole cc0_scratch3).view.loc (c : Thread nD τ) ↦{fullShare} f)
        ∗ (∃ f, (Memref.whole cc0_scratch4).view.loc (c : Thread nD τ) ↦{fullShare} f)
        ∗ ((Memref.whole main_arg4).view.loc (c : Thread nD τ) ↦{fullShare} W1)
        ∗ ((Memref.whole main_arg5).view.loc (c : Thread nD τ) ↦{fullShare} SC1)
        ∗ ((Memref.whole main_arg6).view.loc (c : Thread nD τ) ↦{fullShare} W2)
        ∗ ((Memref.whole main_arg7).view.loc (c : Thread nD τ) ↦{fullShare} SC2)
        ∗ owe0 (c : Thread nD τ)
        ∗ semVal ((c : Thread nD τ), .dma (w1sem 0)) 0 ∗ semVal ((c : Thread nD τ), .dma (w1sem 1)) 0 ∗ semVal ((c : Thread nD τ), .dma (w1sem 2)) 0 ∗ semVal ((c : Thread nD τ), .dma (w1sem 3)) 0 ∗ semVal ((c : Thread nD τ), .dma (w1sem 4)) 0 ∗ semVal ((c : Thread nD τ), .dma (w1sem 5)) 0 ∗ semVal ((c : Thread nD τ), .dma (w2sem 0)) 0 ∗ semVal ((c : Thread nD τ), .dma (w2sem 1)) 0 ∗ semVal ((c : Thread nD τ), .dma (w2sem 2)) 0 ∗ semVal ((c : Thread nD τ), .dma (w2sem 3)) 0 ∗ semVal ((c : Thread nD τ), .dma (s1sem 0)) 0 ∗ semVal ((c : Thread nD τ), .dma (s1sem 1)) 0 ∗ semVal ((c : Thread nD τ), .dma (s2sem 0)) 0 ∗ semVal ((c : Thread nD τ), .dma (s2sem 1)) 0) -∗ K ⟨⟩)) : sProp 𝕄)
      ⊢ wp frame (wpE defs Variants.none (c : Thread nD τ) none) Set.univ (cc0_moe_int4 (Memref.whole cc0_stg0_0) hA0 (Memref.whole cc0_stg1_0) hA1 (Memref.whole cc0_stg2_0) hA2 (Memref.whole cc0_stg3_0) hA3 (Memref.whole main_arg4) (Memref.isWhole_whole _) (Memref.whole main_arg5) (Memref.isWhole_whole _) (Memref.whole main_arg6) (Memref.isWhole_whole _) (Memref.whole main_arg7) (Memref.isWhole_whole _) (Memref.whole cc0_stg4_0) hA8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) K := by
  simp only [cc0_moe_int4_eq_skeleton, cc0_moe_int4_skel, k0_part29_eq_skeleton, k0_part29_skel, k0_part30_eq_skeleton, k0_part30_skel, k0_part31_eq_skeleton, k0_part31_skel,
    smemLoad, smemLoadElt_bind, Prog.lift, Prog.bind_op, Prog.bind_ret, Prog.bind_assoc, Prog.pure_eq_ret]
  iintro ⟨Hi, Hb, Hn, Hx, ⟨%Y0, Hy⟩, Hh, B1, B2, B3, B4, A2, A3, A4, A5, HO, P0, P1, P2, P3, P4, P5, P6, P7, P8, P9, P10, P11, P12, P13, HK⟩
  ihave R1 := (ring1_open c W1) $$ [B1 A2 P0 P1 P2 P3 P4 P5]
  · isplitl [B1]; · iexact B1
    isplitl [A2]; · iexact A2
    isplitl [P0]; · iexact P0
    isplitl [P1]; · iexact P1
    isplitl [P2]; · iexact P2
    isplitl [P3]; · iexact P3
    isplitl [P4]; · iexact P4
    iexact P5
  icases R1 with ⟨⟨I0, I1, I2, I3, I4, I5⟩, M1⟩
  ihave R2 := (ring2_open c W2) $$ [B3 A4 P6 P7 P8 P9]
  · isplitl [B3]; · iexact B3
    isplitl [A4]; · iexact A4
    isplitl [P6]; · iexact P6
    isplitl [P7]; · iexact P7
    isplitl [P8]; · iexact P8
    iexact P9
  icases R2 with ⟨⟨J0, J1, J2, J3⟩, M2⟩
  ihave R3 := (sc1_open c SC1) $$ [B2 A3 P10 P11]
  · isplitl [B2]; · iexact B2
    isplitl [A3]; · iexact A3
    isplitl [P10]; · iexact P10
    iexact P11
  icases R3 with ⟨⟨K0, K1⟩, M3⟩
  ihave R4 := (sc2_open c SC2) $$ [B4 A5 P12 P13]
  · isplitl [B4]; · iexact B4
    isplitl [A5]; · iexact A5
    isplitl [P12]; · iexact P12
    iexact P13
  icases R4 with ⟨⟨L0, L1⟩, M4⟩
  iapply (wp_smemLoadElt_named (Val := Elt F) (defs := defs) Variants.none (c : Thread nD τ) none Set.univ (m := Memref.whole cc0_stg0_0) (r := Rect.unit (s := S9) ![0] S1.size inb_S9_S1_0) (hw := View.loads_smem_one rfl numel1_S1) (f := IB) (q := fullShare) (S := Finset.univ) (Finset.subset_univ _)) $$ Hi
  iintro Hi %v0 %hv0
  have hv : v0 = BitVec.ofNat 32 (eo 0).val := hv0.trans (readO c IB (fun k => BitVec.ofNat 32 (eo k).val) hIB 0 rfl)
  have he : BitVec.toNat v0 = (eo 0).val := by rw [hv]; simp; omega
  have k0_hw1 : k0_chk1 v0 := by rw [hv]; exact chk1_ok _
  iapply (wp_assume Variants.none (c : Thread nD τ) none Set.univ k0_hw1)
  have s1 : ∀ h : Fin 2, ∀ j : Fin 28, ∀ off, off = ![v0.toNat, 0, h.val * 7168 + 256 * j.val] → ∀ inb, ((Memref.whole main_arg4).slice (Rect.unit (s := S8x1408x14336) off S1x1408x256.size inb) (fun _ => rfl)).squeeze S1408x256 squeezes_S1x1408x256_S1408x256
        = w1src (eo 0) h j := by
    intro h j off ho inb; rw [he] at ho; subst ho; rfl
  have s3 : ∀ off, off = ![v0.toNat, 0, 0] → ∀ inb, ((Memref.whole main_arg5).slice (Rect.unit (s := S8x22x14336) off S1x22x14336.size inb) (fun _ => rfl)).squeeze S22x14336 squeezes_S1x22x14336_S22x14336
        = s1src (eo 0) := by
    intro off ho inb; rw [he] at ho; subst ho; rfl
  have d1 : ∀ s : Fin 6, ∀ h : Fin 2, ∀ off, off = ![s.val, h.val, 0, 0] → ∀ inb, ((Memref.whole cc0_scratch1).slice (Rect.unit (s := S6x2x1408x256) off S1x1x1408x256.size inb) (fun _ => rfl)).squeeze S1408x256 squeezes_S1x1x1408x256_S1408x256
      = w1dst s h := by
    intro s h off ho inb; subst ho; rfl
  have m1 : ∀ s : Fin 6, ∀ off, off = ![s.val] → ∀ inb, SemLoc.dma ((cc0_scratch5.slice (Rect.unit (s := S6) off S1.size inb)).squeeze S_ squeezes_S1_S_).sem = SemLoc.dma (w1sem s) := by
    intro s off ho inb; subst ho; rfl
  iapply (beginS1 (defs := defs) c SC1 (eo 0) 0 (s3 _ rfl _) rfl rfl) $$ K0
  iintro K0
  iapply (begin1 (defs := defs) c W1 (eo 0) 0 ⟨0, by decide⟩ (s1 0 ⟨0, by decide⟩ _ rfl _) (d1 0 0 _ (k0_off3_eq 0) _) (m1 0 _ (k0_off2_eq 0) _) (s1 1 ⟨0, by decide⟩ _ rfl _) (d1 0 1 _ (k0_off5_eq 0) _) (m1 0 _ (k0_off2_eq 0) _)) $$ I0
  iintro I0
  iapply (begin1 (defs := defs) c W1 (eo 0) 1 ⟨1, by decide⟩ (s1 0 ⟨1, by decide⟩ _ rfl _) (d1 1 0 _ (k0_off3_eq 1) _) (m1 1 _ (k0_off2_eq 1) _) (s1 1 ⟨1, by decide⟩ _ rfl _) (d1 1 1 _ (k0_off5_eq 1) _) (m1 1 _ (k0_off2_eq 1) _)) $$ I1
  iintro I1
  iapply (begin1 (defs := defs) c W1 (eo 0) 2 ⟨2, by decide⟩ (s1 0 ⟨2, by decide⟩ _ rfl _) (d1 2 0 _ (k0_off3_eq 2) _) (m1 2 _ (k0_off2_eq 2) _) (s1 1 ⟨2, by decide⟩ _ rfl _) (d1 2 1 _ (k0_off5_eq 2) _) (m1 2 _ (k0_off2_eq 2) _)) $$ I2
  iintro I2
  iapply (begin1 (defs := defs) c W1 (eo 0) 3 ⟨3, by decide⟩ (s1 0 ⟨3, by decide⟩ _ rfl _) (d1 3 0 _ (k0_off3_eq 3) _) (m1 3 _ (k0_off2_eq 3) _) (s1 1 ⟨3, by decide⟩ _ rfl _) (d1 3 1 _ (k0_off5_eq 3) _) (m1 3 _ (k0_off2_eq 3) _)) $$ I3
  iintro I3
  iapply (begin1 (defs := defs) c W1 (eo 0) 4 ⟨4, by decide⟩ (s1 0 ⟨4, by decide⟩ _ rfl _) (d1 4 0 _ (k0_off3_eq 4) _) (m1 4 _ (k0_off2_eq 4) _) (s1 1 ⟨4, by decide⟩ _ rfl _) (d1 4 1 _ (k0_off5_eq 4) _) (m1 4 _ (k0_off2_eq 4) _)) $$ I4
  iintro I4
  iapply (begin1 (defs := defs) c W1 (eo 0) 5 ⟨5, by decide⟩ (s1 0 ⟨5, by decide⟩ _ rfl _) (d1 5 0 _ (k0_off3_eq 5) _) (m1 5 _ (k0_off2_eq 5) _) (s1 1 ⟨5, by decide⟩ _ rfl _) (d1 5 1 _ (k0_off5_eq 5) _) (m1 5 _ (k0_off2_eq 5) _)) $$ I5
  iintro I5
  ihave Hr := (ring1_start c W1 (eo 0)) $$ [I0 I1 I2 I3 I4 I5]
  · isplitl [I0]; · iexact I0
    isplitl [I1]; · iexact I1
    isplitl [I2]; · iexact I2
    isplitl [I3]; · iexact I3
    isplitl [I4]; · iexact I4
    iexact I5
  iapply (wp_smemLoadElt_named (Val := Elt F) (defs := defs) Variants.none (c : Thread nD τ) none Set.univ (m := Memref.whole cc0_stg2_0) (r := Rect.unit (s := S1) ![0] S1.size inb_S1_S1_0) (hw := View.loads_smem_one rfl numel1_S1) (f := NB) (q := fullShare) (S := Finset.univ) (Finset.subset_univ _)) $$ Hn
  iintro Hn %v97 %hv97
  have hvn : v97 = BitVec.ofNat 32 n.val := hv97.trans (hNB _)
  have k0_hw2 : k0_chk2 v97 := by rw [hvn]; exact chk2_ok n
  iapply (wp_assume Variants.none (c : Thread nD τ) none Set.univ k0_hw2)
  have hn : (k0_t1_loop v97).trips = n.val := by rw [hvn]; exact trips1 n
  have hn4 : (k0_t4_loop v97).trips = 0 := by rw [hvn]; exact trips4 n
  have hcond : ∀ t, k0_cond2 v97 t = 1#1 ↔ t.val + 1 < n.val := by rw [hvn]; exact cond_n n
  iapply (wp_load_rect Variants.none (c : Thread nD τ) none Set.univ (m := Memref.whole cc0_stg4_0) (r := Rect.unit (s := S896x2816) ![0, 0] S896x2816.size inb_S896x2816_S896x2816_0_0) (q := fullShare) (f := Y0) (S := Finset.univ) (Finset.subset_univ _)) $$ Hy
  iintro Hy
  iapply (wp_store Variants.none (c : Thread nD τ) none Set.univ (m := Memref.whole cc0_stg4_0) (r := Rect.unit (s := S896x2816) ![0, 0] S896x2816.size inb_S896x2816_S896x2816_0_0) (f := Y0) (S := Finset.univ) (Finset.subset_univ _)) $$ Hy
  iintro Hy
  rw [yzero_store c]
  icases Hh with ⟨%H0, Hh⟩
  sl_for (fun i _ => inv0 c XB W1 SC1 W2 SC2 IB BB eo ro n.val i) $$ [Hr K0 K1 J0 J1 J2 J3 L0 L1 Hi Hb Hx Hh Hy HO]
  · intro k acc
    exact trip0 c XB W1 SC1 W2 SC2 hA0 hA1 hA2 hA3 hA8 IB BB eo ro hro hIB hBB v97 k0_hw2 n.val hn (by omega) hcond k
  · unfold inv0
    rw [if_pos (show 0 < n.val by omega)]
    isplitl [Hr K0]
    · isplitl [Hr]; · iexact Hr
      iexact K0
    isplitl [K1]; · iexact K1
    isplitl [J0 J1 J2 J3]
    · isplitl [J0]; · iexact J0
      isplitl [J1]; · iexact J1
      isplitl [J2]; · iexact J2
      iexact J3
    isplitl [L0]; · iexact L0
    isplitl [L1]; · iexact L1
    isplitl [Hi]; · iexact Hi
    isplitl [Hb]; · iexact Hb
    isplitl [Hx]; · iexact Hx
    isplitl [Hh]; · iexists H0; iexact Hh
    isplitl [Hy]; · iexact Hy
    iexact HO
  iintro %acc HI
  rw [show Scf.trips (k0_t1_loop v97).lb (k0_t1_loop v97).ub (k0_t1_loop v97).st = n.val from hn]; unfold inv0
  rw [if_neg (lt_irrefl n.val)]
  icases HI with ⟨⟨Hr, K0⟩, K1, HJ, L0, L1, Hi, Hb, Hx, ⟨%H1, Hh⟩, Hy, HO⟩
  ihave Hr1 := (ring1_end c W1 (eo n.val)) $$ Hr
  ihave HKK := (s1pair c SC1 n.val) $$ [K0 K1]
  · isplitl [K0] <;> iassumption
  ihave HLL := (s2pair c SC2 n.val) $$ [L0 L1]
  · isplitl [L0] <;> iassumption
  sl_for0 hn4
  unfold kernelRun.sl.prog.cont_2
  rw [wp_ret]; imodintro
  ihave C1 := (ring1_close c W1) $$ [Hr1 M1]
  · isplitl [Hr1] <;> iassumption
  icases C1 with ⟨B1, A2, P0, P1, P2, P3, P4, P5⟩
  ihave C2 := (ring2_close c W2) $$ [HJ M2]
  · isplitl [HJ] <;> iassumption
  icases C2 with ⟨B3, A4, P6, P7, P8, P9⟩
  ihave C3 := (sc1_close c SC1) $$ [HKK M3]
  · isplitl [HKK] <;> iassumption
  icases C3 with ⟨B2, A3, P10, P11⟩
  ihave C4 := (sc2_close c SC2) $$ [HLL M4]
  · isplitl [HLL] <;> iassumption
  icases C4 with ⟨B4, A5, P12, P13⟩
  iapply HK
  isplitl [Hi]; · iexact Hi
  isplitl [Hb]; · iexact Hb
  isplitl [Hn]; · iexact Hn
  isplitl [Hx]; · iexact Hx
  isplitl [Hy]; · iexact Hy
  isplitl [Hh]; · iexists _; iexact Hh
  isplitl [B1]; · iexact B1
  isplitl [B2]; · iexact B2
  isplitl [B3]; · iexact B3
  isplitl [B4]; · iexact B4
  isplitl [A2]; · iexact A2
  isplitl [A3]; · iexact A3
  isplitl [A4]; · iexact A4
  isplitl [A5]; · iexact A5
  isplitl [HO]; · iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  iexact P13

end Cert.KernelIdeal.Hand
-- ==== Proof.KILaunch.lean ====
/-
  The launch: the kernel's run inside its pipeline, and what every final state of the program holds.
-/
module

public import proofs.«01_k».proof.Proof.KIRun
public import proofs.«01_k».proof.Proof.Gen.KernelIdeal.Frame
public import Idealize.ShloMosaic.Lib.Pipeline.Frame

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable [∀ e, Nonempty (Elt F e)]
variable (m : (ℓ : Loc nD τ sig) → Buf (Elt F) ℓ) (ρ : Dev nD → PrngReg) (eo : Dev nD → ℕ → Fin 8) (ro : Dev nD → ℕ → Fin 641) (nn : Dev nD → Fin 10)

/-! ## The kernel's own semaphores and the operands left in HBM -/

abbrev osem0 : Fin 14 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13] (by decide) (by decide)]; rfl
def H0 : Finset (Ref sig .tc) := {main_arg4, main_arg5, main_arg6, main_arg7}
theorem H0_sub : H0 ⊆ Pipeline.restRefs sig spec0 := by decide
theorem hbmPts0_eq (c : Dev nD) :
    (bigSep H0 (fun b => ((c : Thread nD τ).loc b) ↦{fullShare} V m c b) : sProp 𝕄) = iprop(((c : Thread nD τ).loc main_arg4 ↦{fullShare} V m c main_arg4) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7)) := by
  rw [BI.bigSep_eq_bigSepL_of_eq [main_arg4, main_arg5, main_arg6, main_arg7] (by decide) (by decide)]; rfl
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(((c : Thread nD τ).loc main_arg4 ↦{fullShare} V m c main_arg4) ∗ ((c : Thread nD τ).loc main_arg5 ↦{fullShare} V m c main_arg5) ∗ ((c : Thread nD τ).loc main_arg6 ↦{fullShare} V m c main_arg6) ∗ ((c : Thread nD τ).loc main_arg7 ↦{fullShare} V m c main_arg7))) := by
  rw [Pipeline.ΦD_eq, scopedRest0_eq, ownSems00_eq, hbmPts0_eq]

/-! ## What the windows hold -/

/-- The expert numbers, as their staging buffer holds them. -/
def ib (c : Dev nD) : Buf (Elt F) ((Memref.whole cc0_stg0_0).view.loc (c : Thread nD τ)) := iblk m c 0 t0_0
/-- The first rows, as their staging buffer holds them. -/
def bb (c : Dev nD) : Buf (Elt F) ((Memref.whole cc0_stg1_0).view.loc (c : Thread nD τ)) := iblk m c 1 t0_0
/-- The number of experts, as its staging buffer holds it. -/
def nb (c : Dev nD) : Buf (Elt F) ((Memref.whole cc0_stg2_0).view.loc (c : Thread nD τ)) := iblk m c 2 t0_0
/-- The rows, as their staging buffer holds them. -/
def xb (c : Dev nD) : Buf (Elt F) ((Memref.whole cc0_stg3_0).view.loc (c : Thread nD τ)) := iblk m c 3 t0_0
/-- The result the kernel leaves. -/
def yb (c : Dev nD) : Buf (Elt F) ((Memref.whole cc0_stg4_0).view.loc (c : Thread nD τ)) :=
  yspec c (xb m c) (V m c main_arg4) (V m c main_arg5) (V m c main_arg6) (V m c main_arg7) (eo c) (ro c) (nn c).val

/-- The proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yb m eo ro nn c
    | ⟨_ + 5, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m eo ro nn 0 c).A w = V m c (Pipeline.arrRef spec0 w) := by dsimp only [dats]

theorem before0 (c : Dev nD) (t : Fin cfg0.N) (d) : (dats m eo ro nn 0 c).before 0 t d = iblk m c 0 t :=
  ((dats m eo ro nn 0 c).before_in_eq_fetched 0 rfl (fun _ => rfl) (fun _ _ _ => rfl) (fun t => by unfold Dat.blockOf; rw [A_eq]; try rfl) t d).trans
    (by unfold Dat.fetched Dat.blockOf iblk; rw [A_eq]; try rfl)
theorem before1 (c : Dev nD) (t : Fin cfg0.N) (d) : (dats m eo ro nn 0 c).before 1 t d = iblk m c 1 t :=
  ((dats m eo ro nn 0 c).before_in_eq_fetched 1 rfl (fun _ => rfl) (fun _ _ _ => rfl) (fun t => by unfold Dat.blockOf; rw [A_eq]; try rfl) t d).trans
    (by unfold Dat.fetched Dat.blockOf iblk; rw [A_eq]; try rfl)
theorem before2 (c : Dev nD) (t : Fin cfg0.N) (d) : (dats m eo ro nn 0 c).before 2 t d = iblk m c 2 t :=
  ((dats m eo ro nn 0 c).before_in_eq_fetched 2 rfl (fun _ => rfl) (fun _ _ _ => rfl) (fun t => by unfold Dat.blockOf; rw [A_eq]; try rfl) t d).trans
    (by unfold Dat.fetched Dat.blockOf iblk; rw [A_eq]; try rfl)
theorem before3 (c : Dev nD) (t : Fin cfg0.N) (d) : (dats m eo ro nn 0 c).before 3 t d = iblk m c 3 t :=
  ((dats m eo ro nn 0 c).before_in_eq_fetched 3 rfl (fun _ => rfl) (fun _ _ _ => rfl) (fun t => by unfold Dat.blockOf; rw [A_eq]; try rfl) t d).trans
    (by unfold Dat.fetched Dat.blockOf iblk; rw [A_eq]; try rfl)

def bodyPre (c : Dev nD) (t : Fin cfg0.N) : sProp 𝕄 :=
  iprop((dats m eo ro nn 0 c).Φ t.castSucc ∗ (dats m eo ro nn 0 c).owesAt () t.castSucc
    ∗ (∃ d, owns (c : Thread nD τ) (st0_0 t) fullShare ((dats m eo ro nn 0 c).before 0 t d))
    ∗ (∃ d, owns (c : Thread nD τ) (st0_1 t) fullShare ((dats m eo ro nn 0 c).before 1 t d))
    ∗ (∃ d, owns (c : Thread nD τ) (st0_2 t) fullShare ((dats m eo ro nn 0 c).before 2 t d))
    ∗ (∃ d, owns (c : Thread nD τ) (st0_3 t) fullShare ((dats m eo ro nn 0 c).before 3 t d))
    ∗ (∃ d, owns (c : Thread nD τ) (st0_4 t) fullShare ((dats m eo ro nn 0 c).before 4 t d)))
def bodyPost (c : Dev nD) (t : Fin cfg0.N) : sProp 𝕄 :=
  iprop((dats m eo ro nn 0 c).Φ t.succ ∗ (dats m eo ro nn 0 c).owesAt () t.succ
    ∗ owns (c : Thread nD τ) (st0_0 t) fullShare ((dats m eo ro nn 0 c).after 0 t)
    ∗ owns (c : Thread nD τ) (st0_1 t) fullShare ((dats m eo ro nn 0 c).after 1 t)
    ∗ owns (c : Thread nD τ) (st0_2 t) fullShare ((dats m eo ro nn 0 c).after 2 t)
    ∗ owns (c : Thread nD τ) (st0_3 t) fullShare ((dats m eo ro nn 0 c).after 3 t)
    ∗ owns (c : Thread nD τ) (st0_4 t) fullShare ((dats m eo ro nn 0 c).after 4 t))

theorem own0 (c : Dev nD) (f : Buf (Elt F) ((Memref.whole cc0_stg0_0).view.loc (c : Thread nD τ))) :
    (owns (c : Thread nD τ) (st0_0 t0_0) fullShare f : sProp 𝕄) = ((Memref.whole cc0_stg0_0).view.loc (c : Thread nD τ) ↦{fullShare} f) := owns_whole (c : Thread nD τ) cc0_stg0_0 fullShare f
theorem own1 (c : Dev nD) (f : Buf (Elt F) ((Memref.whole cc0_stg1_0).view.loc (c : Thread nD τ))) :
    (owns (c : Thread nD τ) (st0_1 t0_0) fullShare f : sProp 𝕄) = ((Memref.whole cc0_stg1_0).view.loc (c : Thread nD τ) ↦{fullShare} f) := owns_whole (c : Thread nD τ) cc0_stg1_0 fullShare f
theorem own2 (c : Dev nD) (f : Buf (Elt F) ((Memref.whole cc0_stg2_0).view.loc (c : Thread nD τ))) :
    (owns (c : Thread nD τ) (st0_2 t0_0) fullShare f : sProp 𝕄) = ((Memref.whole cc0_stg2_0).view.loc (c : Thread nD τ) ↦{fullShare} f) := owns_whole (c : Thread nD τ) cc0_stg2_0 fullShare f
theorem own3 (c : Dev nD) (f : Buf (Elt F) ((Memref.whole cc0_stg3_0).view.loc (c : Thread nD τ))) :
    (owns (c : Thread nD τ) (st0_3 t0_0) fullShare f : sProp 𝕄) = ((Memref.whole cc0_stg3_0).view.loc (c : Thread nD τ) ↦{fullShare} f) := owns_whole (c : Thread nD τ) cc0_stg3_0 fullShare f
theorem own4 (c : Dev nD) (f : Buf (Elt F) ((Memref.whole cc0_stg4_0).view.loc (c : Thread nD τ))) :
    (owns (c : Thread nD τ) (st0_4 t0_0) fullShare f : sProp 𝕄) = ((Memref.whole cc0_stg4_0).view.loc (c : Thread nD τ) ↦{fullShare} f) := owns_whole (c : Thread nD τ) cc0_stg4_0 fullShare f

theorem sound_body (c : Dev nD) (hn1 : 1 ≤ (nn c).val) (hro : ∀ i, ∃ b : Fin 41, (ro c i).val = 16 * b.val)
    (hib : ∀ i : S9.Idx, (ib m c i : Elt F .i32) = BitVec.ofNat 32 (eo c ((i 0 : Fin 9) : ℕ)).val) (hbb : ∀ i : S9.Idx, (bb m c i : Elt F .i32) = BitVec.ofNat 32 (ro c ((i 0 : Fin 9) : ℕ)).val)
    (hnb : ∀ i : S1.Idx, (nb m c i : Elt F .i32) = BitVec.ofNat 32 (nn c).val) (t : Fin cfg0.N) :
    bodyPre m eo ro nn c t ⊢ wp frame (wpE (defs₀ (F := F)) Variants.none c none) Set.univ (bodyAt0 t) (fun _ => bodyPost m eo ro nn c t) := by
  obtain rfl := fin_N0 t
  unfold bodyPre bodyPost bodyAt0
  rw [show (dats m eo ro nn 0 c).Φ t0_0.succ = (dats m eo ro nn 0 c).Φ t0_0.castSucc from rfl,
    show (dats m eo ro nn 0 c).owesAt () t0_0.succ = (dats m eo ro nn 0 c).owesAt () t0_0.castSucc from rfl,
    show (dats m eo ro nn 0 c).Φ t0_0.castSucc = Pipeline.ΦD osem0 spec0 H0 (V m) c from rfl, PhiD0_eq]
  simp only [before0, before1, before2, before3]
  unfold Dat.owesAt Pipeline.owesWithin
  rw [show (dats m eo ro nn 0 c).owed t0_0.castSucc = 0 from rfl]
  iintro ⟨⟨⟨Hh, B1, B2, B3, B4⟩, Hg, ⟨P0, P1, P2, P3, P4, P5, P6, P7, P8, P9, P10, P11, P12, P13⟩, ⟨A2, A3, A4, A5⟩⟩, ⟨%W, %hW, HO⟩, ⟨%d0, Hi⟩, ⟨%d1, Hb⟩, ⟨%d2, Hn⟩, ⟨%d3, Hx⟩, ⟨%d4, Hy⟩⟩
  ihave Hi := (show owns (c : Thread nD τ) (st0_0 t0_0) fullShare (iblk m c 0 t0_0) ⊢ _ from entails_of_eq (own0 c (ib m c))) $$ Hi
  ihave Hb := (show owns (c : Thread nD τ) (st0_1 t0_0) fullShare (iblk m c 1 t0_0) ⊢ _ from entails_of_eq (own1 c (bb m c))) $$ Hb
  ihave Hn := (show owns (c : Thread nD τ) (st0_2 t0_0) fullShare (iblk m c 2 t0_0) ⊢ _ from entails_of_eq (own2 c (nb m c))) $$ Hn
  ihave Hx := (show owns (c : Thread nD τ) (st0_3 t0_0) fullShare (iblk m c 3 t0_0) ⊢ _ from entails_of_eq (own3 c (xb m c))) $$ Hx
  ihave Hy := (entails_of_eq (own4 c ((dats m eo ro nn 0 c).before 4 t0_0 d4))) $$ Hy
  iapply (kernelRun (defs := defs₀ (F := F)) c (xb m c) (V m c main_arg4) (V m c main_arg5) (V m c main_arg6) (V m c main_arg7) (hstage0_0 0) (hstage0_1 0) (hstage0_2 0) (hstage0_3 0) (hstage0_4 0) (ib m c) (bb m c) (nb m c) (eo c) (ro c) (nn c) hn1 hro hib hbb hnb _)
  isplitl [Hi]; · iexact Hi
  isplitl [Hb]; · iexact Hb
  isplitl [Hn]; · iexact Hn
  isplitl [Hx]; · iexact Hx
  isplitl [Hy]; · iexists _; iexact Hy
  isplitl [Hh]; · iexact Hh
  isplitl [B1]; · iexact B1
  isplitl [B2]; · iexact B2
  isplitl [B3]; · iexact B3
  isplitl [B4]; · iexact B4
  isplitl [A2]; · iexact A2
  isplitl [A3]; · iexact A3
  isplitl [A4]; · iexact A4
  isplitl [A5]; · iexact A5
  isplitl [HO]; · unfold owe0; iexists W; iexact HO
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10]; · iexact P10
  isplitl [P11]; · iexact P11
  isplitl [P12]; · iexact P12
  isplitl [P13]; · iexact P13
  iintro ⟨Hi, Hb, Hn, Hx, Hy, Hh, B1, B2, B3, B4, A2, A3, A4, A5, HO, P0, P1, P2, P3, P4, P5, P6, P7, P8, P9, P10, P11, P12, P13⟩
  isplitl [Hh B1 B2 B3 B4 Hg A2 A3 A4 A5 P0 P1 P2 P3 P4 P5 P6 P7 P8 P9 P10 P11 P12 P13]
  · isplitl [Hh B1 B2 B3 B4]
    · isplitl [Hh]; · iexact Hh
      isplitl [B1]; · iexact B1
      isplitl [B2]; · iexact B2
      isplitl [B3]; · iexact B3
      iexact B4
    isplitl [Hg]; · iexact Hg
    isplitl [P0 P1 P2 P3 P4 P5 P6 P7 P8 P9 P10 P11 P12 P13]
    · isplitl [P0]; · iexact P0
      isplitl [P1]; · iexact P1
      isplitl [P2]; · iexact P2
      isplitl [P3]; · iexact P3
      isplitl [P4]; · iexact P4
      isplitl [P5]; · iexact P5
      isplitl [P6]; · iexact P6
      isplitl [P7]; · iexact P7
      isplitl [P8]; · iexact P8
      isplitl [P9]; · iexact P9
      isplitl [P10]; · iexact P10
      isplitl [P11]; · iexact P11
      isplitl [P12]; · iexact P12
      iexact P13
    isplitl [A2]; · iexact A2
    isplitl [A3]; · iexact A3
    isplitl [A4]; · iexact A4
    iexact A5
  isplitl [HO]
  · unfold owe0
    icases HO with ⟨%W', HO⟩
    iexists W'; isplitr; · ipureintro; exact fun _ _ => Or.inl trivial
    iexact HO
  isplitl [Hi]; · iapply (entails_of_eq (own0 c (ib m c)).symm) $$ Hi
  isplitl [Hb]; · iapply (entails_of_eq (own1 c (bb m c)).symm) $$ Hb
  isplitl [Hn]; · iapply (entails_of_eq (own2 c (nb m c)).symm) $$ Hn
  isplitl [Hx]; · iapply (entails_of_eq (own3 c (xb m c)).symm) $$ Hx
  iapply (show ((Memref.whole cc0_stg4_0).view.loc (c : Thread nD τ) ↦{fullShare} yspec c (xb m c) (V m c main_arg4) (V m c main_arg5) (V m c main_arg6) (V m c main_arg7) (eo c) (ro c) (nn c).val) ⊢ _ from
    entails_of_eq (own4 c (yb m eo ro nn c)).symm) $$ Hy

theorem defs₀_row (t : Fin cfg0.N) : defs₀ (F := F) .tc cfg0.body (cfg0.bodyArgs t (cfg0.slots t)) = bodyAt0 t := by
  unfold defs₀; rw [Defs.onTc_tc]

theorem body_obligation (c : Dev nD) (hn1 : 1 ≤ (nn c).val) (hro : ∀ i, ∃ b : Fin 41, (ro c i).val = 16 * b.val)
    (hib : ∀ i : S9.Idx, (ib m c i : Elt F .i32) = BitVec.ofNat 32 (eo c ((i 0 : Fin 9) : ℕ)).val) (hbb : ∀ i : S9.Idx, (bb m c i : Elt F .i32) = BitVec.ofNat 32 (ro c ((i 0 : Fin 9) : ℕ)).val)
    (hnb : ∀ i : S1.Idx, (nb m c i : Elt F .i32) = BitVec.ofNat 32 (nn c).val) :
    BodyObligation (dats (F := F) m eo ro nn 0 c) (defs₀ (F := F)) Variants.none () Set.univ := fun t => by
  rw [bigSep_W0, bigSep_W0, defs₀_row]
  exact triple_restated (sound_body m eo ro nn c hn1 hro hib hbb hnb t) rfl .rfl fun _ => .rfl

/-! ## The launch -/

theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

-- the launch theorem's implicit arguments are found by unifying its conclusion with this statement, which unifies only
-- when unification may unfold plain definitions in a metavariable's type
set_option backward.isDefEq.respectTransparency.types false in
/-- From any memory whose tables are in range, every weakly fair execution ends, and the final state is as the proof data say. -/
theorem run_main (hn1 : ∀ c, 1 ≤ (nn c).val) (hro : ∀ c i, ∃ b : Fin 41, (ro c i).val = 16 * b.val)
    (hib : ∀ c, ∀ i : S9.Idx, (ib m c i : Elt F .i32) = BitVec.ofNat 32 (eo c ((i 0 : Fin 9) : ℕ)).val) (hbb : ∀ c, ∀ i : S9.Idx, (bb m c i : Elt F .i32) = BitVec.ofNat 32 (ro c ((i 0 : Fin 9) : ℕ)).val)
    (hnb : ∀ c, ∀ i : S1.Idx, (nb m c i : Elt F .i32) = BitVec.ofNat 32 (nn c).val) :
    θ_run defs (onTc (τ := τ) (main (F := F))) (s₀ m ρ) (fun r => Pipeline.FramePost cfgs (dats m eo ro nn) 0 (V m) r ∧ r.2.sem = fun _ => 0) :=
  Pipeline.θ_run_frame_dma (Q' := _) cfgs (dats m eo ro nn) (0 : Fin 1) launch0 osem0 defs₀ Variants.none ownSemFacts0 H0 H0_sub m ρ main
    (hbody := fun c => (body_obligation m eo ro nn c (hn1 c) (hro c) (hib c) (hbb c) (hnb c)).loose) (hshare := fun c => (dats m eo ro nn 0 c).share_full fun _ => rfl)
    (howed := fun _ _ => rfl) (V := V m) (hmain := hmainD m Variants.none) (hA := A_eq m eo ro nn)
    (hin := fun _ => .rfl) (hout := fun _ => .rfl)

/-- The arguments are unchanged. -/
theorem args_of (r : PUnit × MemSt nD τ sig (Elt F)) (h : Pipeline.FramePost cfgs (dats m eo ro nn) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 3).trans (((dats m eo ro nn 0 c).arrAt_in 3 rfl _).trans ((A_eq m eo ro nn c 3).trans (V_main_arg0 m c))),
    ((h c).1 0).trans (((dats m eo ro nn 0 c).arrAt_in 0 rfl _).trans ((A_eq m eo ro nn c 0).trans (V_main_arg1 m c))),
    ((h c).1 1).trans (((dats m eo ro nn 0 c).arrAt_in 1 rfl _).trans ((A_eq m eo ro nn c 1).trans (V_main_arg2 m c))),
    ((h c).1 2).trans (((dats m eo ro nn 0 c).arrAt_in 2 rfl _).trans ((A_eq m eo ro nn c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

theorem ib_eq (c : Dev nD) (i : S9.Idx) : (ib m c i : Elt F .i32) = (m ((c.tc : Thread nD τ).loc main_arg1) : S9.Idx → Elt F .i32) i := by
  refine congrArg (m ((c.tc : Thread nD τ).loc main_arg1) : S9.Idx → Elt F .i32) ?_
  funext a; apply Fin.ext; match a with
  | ⟨0, _⟩ => show 0 * 9 + 1 * (i 0).val = (i 0).val; omega
theorem bb_eq (c : Dev nD) (i : S9.Idx) : (bb m c i : Elt F .i32) = (m ((c.tc : Thread nD τ).loc main_arg2) : S9.Idx → Elt F .i32) i := by
  refine congrArg (m ((c.tc : Thread nD τ).loc main_arg2) : S9.Idx → Elt F .i32) ?_
  funext a; apply Fin.ext; match a with
  | ⟨0, _⟩ => show 0 * 9 + 1 * (i 0).val = (i 0).val; omega
theorem nb_eq (c : Dev nD) (i : S1.Idx) : (nb m c i : Elt F .i32) = (m ((c.tc : Thread nD τ).loc main_arg3) : S1.Idx → Elt F .i32) i := by
  have hi : ∀ i j : S1.Idx, i = j := fun i j => by funext a; match a with
    | ⟨0, _⟩ => exact Subsingleton.elim (α := Fin 1) _ _
  exact congrArg (m ((c.tc : Thread nD τ).loc main_arg3) : S1.Idx → Elt F .i32) (hi _ _)

end Cert.KernelIdeal.Hand
-- ==== Proof.Nibble.lean ====
/-
  Two four-bit codes in a byte: what the kernel's shifts and the reference's masks make of them.
-/
module

public import Idealize.ShloMosaic.PureOps

@[expose] public section

namespace Cert.Nibble

/-- The four-bit code number `t` of a byte (0: the low half, 1: the high half). -/
def nib (b : BitVec 8) (t : ℕ) : BitVec 4 := b.extractLsb' (4 * (t % 2)) 4

/-- A word shifted left until its nibble `t` is at the top, then right with the sign, is that nibble with its sign extended. -/
theorem shift_eq (W : BitVec 32) (t : ℕ) (ht : t < 8) : (W <<< (28 - 4 * t)).sshiftRight 28 = (W.extractLsb' (4 * t) 4).signExtend 32 := by
  apply BitVec.eq_of_getLsbD_eq
  intro i hi
  rw [BitVec.getLsbD_sshiftRight, BitVec.getLsbD_signExtend, BitVec.msb_eq_getLsbD_last, BitVec.msb_eq_getLsbD_last]
  simp only [BitVec.getLsbD_shiftLeft, BitVec.getLsbD_extractLsb']
  by_cases h4 : i < 4
  · have h1 : 28 + i < 32 := by omega
    have h2 : ¬ (32 ≤ i) := by omega
    have h3 : ¬ (28 + i < 28 - 4 * t) := by omega
    have h5 : 28 + i - (28 - 4 * t) = 4 * t + i := by omega
    simp [h1, h2, h3, h4, h5, hi]
  · have h1 : ¬ (28 + i < 32) := by omega
    have h2 : ¬ (32 ≤ i) := by omega
    have h3 : ¬ (31 < 28 - 4 * t) := by omega
    have h5 : 31 - (28 - 4 * t) = 4 * t + 3 := by omega
    simp [h1, h2, h3, h4, h5, hi]

/-- A nibble with its top bit flipped, read with its sign, is the code less eight. -/
theorem flip_toInt (n : BitVec 4) : ((n ^^^ 8#4).signExtend 32).toInt = (n.toNat : ℤ) - 8 := by revert n; decide

/-- Flipping the top bit of every nibble of a word flips that of nibble `t`. -/
theorem xor_nib (W : BitVec 32) (t : ℕ) (ht : t < 8) : (W ^^^ 2290649224#32).extractLsb' (4 * t) 4 = W.extractLsb' (4 * t) 4 ^^^ 8#4 := by
  have hc : (2290649224#32).extractLsb' (4 * t) 4 = 8#4 := by
    revert t; decide
  rw [← hc]
  apply BitVec.eq_of_getLsbD_eq
  intro i hi
  simp [hi]

/-- Nibble `t` of a word is nibble `t % 2` of the byte `t / 2`, where the word's bits are its bytes'. -/
theorem nib_of_word (W : BitVec 32) (b : BitVec 8) (t : ℕ) (ht : t < 8)
    (h : ∀ q : ℕ, q < 32 → q / 8 = t / 2 → W.getLsbD q = b.getLsbD (q % 8)) : W.extractLsb' (4 * t) 4 = nib b t := by
  apply BitVec.eq_of_getLsbD_eq
  intro i hi
  unfold nib
  rw [BitVec.getLsbD_extractLsb', BitVec.getLsbD_extractLsb', h (4 * t + i) (by omega) (by omega)]
  congr 2
  omega

/-- What the kernel makes of nibble `t` of a word. -/
theorem kernel_code (W : BitVec 32) (b : BitVec 8) (t : ℕ) (ht : t < 8)
    (h : ∀ q : ℕ, q < 32 → q / 8 = t / 2 → W.getLsbD q = b.getLsbD (q % 8)) :
    (((W ^^^ 2290649224#32) <<< (28 - 4 * t)).sshiftRight 28).toInt = ((nib b t).toNat : ℤ) - 8 := by
  rw [shift_eq _ t ht, xor_nib _ t ht, nib_of_word W b t ht h, flip_toInt]

set_option maxRecDepth 4096 in
/-- The reference's low code: the byte widened and masked. -/
theorem low_code (b : BitVec 8) : (b.setWidth 32 &&& 15#32).toInt = ((nib b 0).toNat : ℤ) := by revert b; decide +kernel

set_option maxRecDepth 4096 in
/-- The reference's high code: the byte widened and shifted right by four. -/
theorem high_code (b : BitVec 8) : ((b.setWidth 32).sshiftRight 4).toInt = ((nib b 1).toNat : ℤ) := by revert b; decide +kernel

end Cert.Nibble
-- ==== Proof.Spec.lean ====
/-
  The function both programs compute, in plain sums over the extended reals.
-/
module

public import proofs.«01_k».proof.Proof.Nibble
public import Idealize.ShloMosaic.Lib.Pointwise

@[expose] public section

noncomputable section

namespace Cert.Spec

open Idealize.ShloMosaic Cert.Nibble

/-- The number the four-bit code `t` of a byte stands for: the code less eight. -/
def code (b : BitVec 8) (t : ℕ) : EReal := ((((nib b t).toNat : ℤ) - 8 : ℤ) : ℝ)

theorem code_mod (b : BitVec 8) (t u : ℕ) (h : t % 2 = u % 2) : code b t = code b u := by
  unfold code nib; rw [h]

abbrev X0 : Shape := ⟨2, ![256, 2816]⟩
abbrev A2 : Shape := ⟨3, ![8, 1408, 14336]⟩
abbrev A3 : Shape := ⟨3, ![8, 22, 14336]⟩
abbrev A4 : Shape := ⟨3, ![8, 3584, 2816]⟩
abbrev A5 : Shape := ⟨3, ![8, 56, 2816]⟩

variable (x : X0.Idx → EReal) (w1 : A2.Idx → BitVec 8) (s1 : A3.Idx → EReal) (w2 : A4.Idx → BitVec 8) (s2 : A5.Idx → EReal) (e : Fin 8)

/-- Row `r`, column `n` of the expert's first weights: rows lie in pairs in a byte, and 128 rows share a scale. -/
def first (r : Fin 2816) (n : Fin 14336) : EReal :=
  code (w1 (ix3 e ⟨r.val / 2, by omega⟩ n)) r.val * s1 (ix3 e ⟨r.val / 128, by omega⟩ n)

/-- The expert's first product. -/
def gu (i : Fin 256) (n : Fin 14336) : EReal := ∑ r : Fin 2816, x (ix2 i r) * first w1 s1 e r n

/-- The expert's intermediate rows. -/
def hid (i : Fin 256) (k : Fin 7168) : EReal :=
  gu x w1 s1 e i ⟨k.val, by omega⟩ * Ideal.logistic (gu x w1 s1 e i ⟨k.val, by omega⟩) * gu x w1 s1 e i ⟨7168 + k.val, by omega⟩

/-- Row `r`, column `n` of the expert's second weights. -/
def second (r : Fin 7168) (n : Fin 2816) : EReal :=
  code (w2 (ix3 e ⟨r.val / 2, by omega⟩ n)) r.val * s2 (ix3 e ⟨r.val / 128, by omega⟩ n)

/-- The expert's rows. -/
def out (i : Fin 256) (n : Fin 2816) : EReal := ∑ r : Fin 7168, hid x w1 s1 e i r * second w2 s2 e r n

abbrev Xb : Shape := ⟨2, ![896, 2816]⟩

/-- The 256 rows from row `r` on. -/
def rowsFrom (X : Xb.Idx → EReal) (r : Fin 641) : X0.Idx → EReal :=
  fun i => X (ix2 ⟨r.val + (i 0).val, by have : (i 0).val < 256 := (i 0).isLt; omega⟩ (i 1))

/-- An array with 256 rows from row `r` on replaced. -/
def putAt (y : Xb.Idx → EReal) (u : Fin 256 → Fin 2816 → EReal) (r : Fin 641) : Xb.Idx → EReal :=
  fun i => if h : r.val ≤ (i 0 : Fin 896).val ∧ (i 0 : Fin 896).val < r.val + 256 then u ⟨(i 0 : Fin 896).val - r.val, by omega⟩ (i 1) else y i

/-- The result after `k` experts: `eo` lists the experts, `ro` the first rows of their buckets. -/
def rowsOf (X : Xb.Idx → EReal) (w1 : A2.Idx → BitVec 8) (s1 : A3.Idx → EReal) (w2 : A4.Idx → BitVec 8) (s2 : A5.Idx → EReal)
    (eo : ℕ → Fin 8) (ro : ℕ → Fin 641) : ℕ → Xb.Idx → EReal
  | 0 => fun _ => 0
  | k + 1 => putAt (rowsOf X w1 s1 w2 s2 eo ro k) (out (rowsFrom X (ro k)) w1 s1 w2 s2 (eo k)) (ro k)

/-- A sum over pairs of rows is the sum over the even rows and the sum over the odd ones. -/
theorem sum_pairs (N : ℕ) (f : Fin (N * 2) → EReal) :
    ∑ r, f r = ∑ k : Fin N, f ⟨2 * k.val, by omega⟩ + ∑ k : Fin N, f ⟨2 * k.val + 1, by omega⟩ := by
  rw [← Finset.sum_add_distrib, ← Fintype.sum_equiv finProdFinEquiv (fun p : Fin N × Fin 2 => f (finProdFinEquiv p)) f (fun _ => rfl), Fintype.sum_prod_type]
  refine Finset.sum_congr rfl fun k _ => ?_
  rw [Fin.sum_univ_two]
  congr 2
  · apply Fin.ext; simp [finProdFinEquiv]
  · apply Fin.ext; simp [finProdFinEquiv]; omega

end Cert.Spec
-- ==== Proof.KIWeights.lean ====
/-
  The weights the kernel makes of packed codes and group scales, one element at a time over the extended reals.
-/
module

public import proofs.«01_k».proof.Proof.Spec
public import proofs.«01_k».proof.Proof.KILoops
public import Idealize.ShloMosaic.Lib.Pointwise
public import Idealize.ShloMosaic.Lib.BitcastFour

@[expose] public section

noncomputable section

namespace Cert.KernelIdeal.Hand

open Cert.KernelIdeal Cert.KernelIdeal.Gen
open Idealize.ShloMosaic Cert.Nibble
open Cert.Spec (code code_mod)

/-- What the kernel's shifts make of a word, at nibble `t`. -/
theorem shifts_code (W : BitVec 32) (b : BitVec 8) (t : ℕ) (ht : t < 8)
    (h : ∀ q : ℕ, q < 32 → q / 8 = t / 2 → W.getLsbD q = b.getLsbD (q % 8)) :
    FloatOps.sitofp (F := Ideal) FTy.bf16 (IntOp.shrsi ArithUnit.vector (IntOp.shli ArithUnit.vector (IntOp.xori W 2290649224#32)
      (IntOp.subi 28#32 (IntOp.muli 4#32 (BitVec.ofNat 32 t)))) 28#32) = code b t := by
  have e1 : ∀ t < 8, (IntOp.subi 28#32 (IntOp.muli 4#32 (BitVec.ofNat 32 t))).toNat = 28 - 4 * t := by decide
  have e2 : IntOp.shrsi ArithUnit.vector (IntOp.shli ArithUnit.vector (IntOp.xori W 2290649224#32)
      (IntOp.subi 28#32 (IntOp.muli 4#32 (BitVec.ofNat 32 t)))) 28#32 = ((W ^^^ 2290649224#32) <<< (28 - 4 * t)).sshiftRight 28 := by
    have h1 := e1 t ht
    have h2 : 28 - 4 * t < 32 := by omega
    generalize hy : IntOp.subi 28#32 (IntOp.muli 4#32 (BitVec.ofNat 32 t)) = y at h1
    have h3 : IntOp.shli ArithUnit.vector (IntOp.xori W 2290649224#32) y = (W ^^^ 2290649224#32) <<< (28 - 4 * t) := by
      unfold IntOp.shli IntOp.xori
      rw [if_pos (by omega), ← h1]
      rfl
    rw [h3]
    unfold IntOp.shrsi
    rw [if_pos (by decide)]
    rfl
  rw [e2]
  unfold code
  rw [← kernel_code W b t ht h]
  rfl

set_option maxRecDepth 16384 in
theorem pay14_apply (v : IVec S1408x256 8) (r : Fin 2816) (q : Fin 256) :
    k0_pay4 (F := Ideal) v (ix2 r q) = code (v (ix2 ⟨r.val / 2, by omega⟩ q)) r.val := by
  pointwise [k0_pay4]
  refine (shifts_code _ (v (ix2 ⟨r.val / 2, by omega⟩ q)) _ (by omega) fun n hn hq => ?_).trans (code_mod _ _ _ (by omega))
  exact bitcast_8_32_getLsbD_ix2 v _ _ q n hn _ (by show r.val / 2 = 4 * (r.val / 8) + n / 8; omega)

set_option maxRecDepth 16384 in
theorem pay27_apply (v : Vec Ideal S1x1x1408x256 .i8) (r : Fin 2816) (q : Fin 256) :
    k0_pay17 (F := Ideal) v (ix2 r q) = code (v (ix4 0 0 ⟨r.val / 2, by omega⟩ q)) r.val := by
  pointwise [k0_pay17]
  refine (shifts_code _ (v (ix4 0 0 ⟨r.val / 2, by omega⟩ q)) _ (by omega) fun n hn hq => ?_).trans (code_mod _ _ _ (by omega))
  refine (bitcast_8_32_getLsbD_ix2 _ _ _ q n hn ⟨r.val / 2, by omega⟩ (by show r.val / 2 = 4 * (r.val / 8) + n / 8; omega)).trans ?_
  rw [← ix2_eq_valueIdx]
  pointwise

set_option maxRecDepth 16384 in
theorem pay39_apply (v : Vec Ideal S1x3584x256 .i8) (r : Fin 7168) (q : Fin 256) :
    k0_pay29 (F := Ideal) v (ix2 r q) = code (v (ix3 0 ⟨r.val / 2, by omega⟩ q)) r.val := by
  pointwise [k0_pay29]
  refine (shifts_code _ (v (ix3 0 ⟨r.val / 2, by omega⟩ q)) _ (by omega) fun n hn hq => ?_).trans (code_mod _ _ _ (by omega))
  refine (bitcast_8_32_getLsbD_ix2 _ _ _ q n hn ⟨r.val / 2, by omega⟩ (by show r.val / 2 = 4 * (r.val / 8) + n / 8; omega)).trans ?_
  rw [← ix2_eq_valueIdx]
  pointwise

/-! ## Groups of 128 rows, each times its scale -/

/-- Group `k` of the codes of an up-projection chunk, times its row of scales. -/
def piece1 (w : FVec Ideal S2816x256 .bf16) (s : FVec Ideal S22x256 .bf16) (k : Fin 22) : FVec Ideal S128x256 .bf16 :=
  mulf (extractStridedSlice S128x256 ![128 * k.val, 0] w (by revert k; decide))
    (broadcastTo S128x256 (extractStridedSlice S1x256 ![k.val, 0] s (by revert k; decide)) broadcasts_S1x256_S128x256)

/-- Group `k` of the codes of a down-projection chunk, times its row of scales. -/
def piece2 (w : FVec Ideal S7168x256 .bf16) (s : FVec Ideal S56x256 .bf16) (k : Fin 56) : FVec Ideal S128x256 .bf16 :=
  mulf (extractStridedSlice S128x256 ![128 * k.val, 0] w (by revert k; decide))
    (broadcastTo S128x256 (extractStridedSlice S1x256 ![k.val, 0] s (by revert k; decide)) broadcasts_S1x256_S128x256)

theorem cat1 (w : FVec Ideal S2816x256 .bf16) (s : FVec Ideal S22x256 .bf16) (h) (r : Fin 2816) (q : Fin 256) :
    concatenate S2816x256 0 (List.ofFn fun k : Fin 22 => (⟨S128x256, piece1 w s k⟩ : (s : Shape) × (s.Idx → Ideal .bf16))) h (ix2 r q)
      = w (ix2 r q) * s (ix2 ⟨r.val / 128, by omega⟩ q) := by
  rw [concatenate_ofFn_apply 0 (piece1 w s) h rfl 128 rfl (ix2 r q) ⟨r.val / 128, by omega⟩ rfl (ix2 ⟨r.val % 128, by omega⟩ q) rfl
    (by intro b hb; match b with
        | ⟨0, _⟩ => exact absurd rfl hb
        | ⟨1, _⟩ => rfl)]
  pointwise [piece1]
  congr 3
  apply Fin.ext
  show 128 * (r.val / 128) + r.val % 128 = r.val
  omega

theorem cat2 (w : FVec Ideal S7168x256 .bf16) (s : FVec Ideal S56x256 .bf16) (h) (r : Fin 7168) (q : Fin 256) :
    concatenate S7168x256 0 (List.ofFn fun k : Fin 56 => (⟨S128x256, piece2 w s k⟩ : (s : Shape) × (s.Idx → Ideal .bf16))) h (ix2 r q)
      = w (ix2 r q) * s (ix2 ⟨r.val / 128, by omega⟩ q) := by
  rw [concatenate_ofFn_apply 0 (piece2 w s) h rfl 128 rfl (ix2 r q) ⟨r.val / 128, by omega⟩ rfl (ix2 ⟨r.val % 128, by omega⟩ q) rfl
    (by intro b hb; match b with
        | ⟨0, _⟩ => exact absurd rfl hb
        | ⟨1, _⟩ => rfl)]
  pointwise [piece2]
  congr 3
  apply Fin.ext
  show 128 * (r.val / 128) + r.val % 128 = r.val
  omega

/-! ## The three weight tiles -/

/-- The gate tile's weights. -/
def gateW (v171 : Vec Ideal S1x22x256 .bf16) (v175 : Vec Ideal S1x1x1408x256 .i8) : FVec Ideal S2816x256 .bf16 :=
  concatenate S2816x256 0 (List.ofFn fun k : Fin 22 => (⟨S128x256, piece1 (k0_pay4 (F := Ideal) (k0_pay3 (F := Ideal) v175)) (k0_pay2 v171) k⟩ : (s : Shape) × (s.Idx → Ideal .bf16)))
    (by exact concatenates_S128x256_S128x256_S128x256_S128x256_S128x256_S128x256_S128x256_S128x256_S128x256_S128x256_S128x256_S128x256_S128x256_S128x256_S128x256_S128x256_S128x256_S128x256_S128x256_S128x256_S128x256_S128x256_S2816x256_d0)

/-- The up tile's weights, in the same form. -/
def upW' (v287 : Vec Ideal S1x22x256 .bf16) (v291 : Vec Ideal S1x1x1408x256 .i8) : FVec Ideal S2816x256 .bf16 :=
  concatenate S2816x256 0 (List.ofFn fun k : Fin 22 => (⟨S128x256, piece1 (k0_pay17 (F := Ideal) v291) (k0_pay16 v287) k⟩ : (s : Shape) × (s.Idx → Ideal .bf16)))
    (by exact concatenates_S128x256_S128x256_S128x256_S128x256_S128x256_S128x256_S128x256_S128x256_S128x256_S128x256_S128x256_S128x256_S128x256_S128x256_S128x256_S128x256_S128x256_S128x256_S128x256_S128x256_S128x256_S128x256_S2816x256_d0)

/-- The second product's weights, in the same form. -/
def dnW' (v160 : Vec Ideal S1x3584x256 .i8) (v163 : Vec Ideal S1x56x256 .bf16) : FVec Ideal S7168x256 .bf16 :=
  concatenate S7168x256 0 (List.ofFn fun k : Fin 56 => (⟨S128x256, piece2 (k0_pay29 (F := Ideal) v160) (k0_pay28 v163) k⟩ : (s : Shape) × (s.Idx → Ideal .bf16)))
    (by exact concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S7168x256_d0)

set_option maxRecDepth 16384 in
theorem gateF_eq (v171 : Vec Ideal S1x22x256 .bf16) (v173 : FVec Ideal S256x2816 .bf16) (v175 : Vec Ideal S1x1x1408x256 .i8) :
    gateF v171 v173 v175 = matmul dot_S256x2816_S2816x256_S256x256_1_0_0_1_n_n none v173 (gateW v171 v175) (constant S256x256 .f32 0x00000000#32) := rfl

set_option maxRecDepth 16384 in
theorem upW_eq (v287 : Vec Ideal S1x22x256 .bf16) (v291 : Vec Ideal S1x1x1408x256 .i8) : upW v287 v291 = upW' v287 v291 := rfl

set_option maxRecDepth 16384 in
theorem dnW_eq (v160 : Vec Ideal S1x3584x256 .i8) (v163 : Vec Ideal S1x56x256 .bf16) : dnW v160 v163 = dnW' v160 v163 := rfl

theorem gateW_apply (v171 : Vec Ideal S1x22x256 .bf16) (v175 : Vec Ideal S1x1x1408x256 .i8) (r : Fin 2816) (q : Fin 256) :
    gateW v171 v175 (ix2 r q) = code (v175 (ix4 0 0 ⟨r.val / 2, by omega⟩ q)) r.val * v171 (ix3 0 ⟨r.val / 128, by omega⟩ q) := by
  unfold gateW
  rw [cat1, pay14_apply]
  pointwise [k0_pay3, k0_pay2]

theorem upW_apply (v287 : Vec Ideal S1x22x256 .bf16) (v291 : Vec Ideal S1x1x1408x256 .i8) (r : Fin 2816) (q : Fin 256) :
    upW v287 v291 (ix2 r q) = code (v291 (ix4 0 0 ⟨r.val / 2, by omega⟩ q)) r.val * v287 (ix3 0 ⟨r.val / 128, by omega⟩ q) := by
  rw [upW_eq]
  unfold upW'
  rw [cat1, pay27_apply]
  pointwise [k0_pay16]

theorem dnW_apply (v160 : Vec Ideal S1x3584x256 .i8) (v163 : Vec Ideal S1x56x256 .bf16) (r : Fin 7168) (q : Fin 256) :
    dnW v160 v163 (ix2 r q) = code (v160 (ix3 0 ⟨r.val / 2, by omega⟩ q)) r.val * v163 (ix3 0 ⟨r.val / 128, by omega⟩ q) := by
  rw [dnW_eq]
  unfold dnW'
  rw [cat2, pay39_apply]
  pointwise [k0_pay28]

/-- What the kernel stores for a tile of the intermediate rows, one element at a time. -/
theorem upF_apply (v171 : Vec Ideal S1x22x256 .bf16) (v173 : Vec Ideal S256x2816 .bf16) (v175 : Vec Ideal S1x1x1408x256 .i8)
    (v287 : Vec Ideal S1x22x256 .bf16) (v289 : Vec Ideal S256x2816 .bf16) (v291 : Vec Ideal S1x1x1408x256 .i8) (a b : Fin 256) :
    upF v171 v173 v175 v287 v289 v291 (ix2 a b)
      = (let g : EReal := ∑ r : Fin 2816, v173 (ix2 a r) * gateW v171 v175 (ix2 r b)
         g * Ideal.logistic g * ∑ r : Fin 2816, v289 (ix2 a r) * upW v287 v291 (ix2 r b)) := by
  unfold upF
  rw [gateF_eq]
  generalize gateW v171 v175 = G
  generalize upW v287 v291 = U
  pointwise [k0_pay76]

/-- What the kernel stores for a tile of the result, one element at a time. -/
theorem dn_apply (h : Vec Ideal S256x7168 .bf16) (W : FVec Ideal S7168x256 .bf16) (a b : Fin 256) :
    k0_pay87 h W (ix2 a b) = ∑ r : Fin 7168, h (ix2 a r) * W (ix2 r b) := by
  pointwise [k0_pay87]

end Cert.KernelIdeal.Hand
-- ==== Proof.KIValue.lean ====
/-
  What the kernel leaves, one element at a time: the function of `Spec`.
-/
module

public import proofs.«01_k».proof.Proof.KIWeights

@[expose] public section

noncomputable section

namespace Cert.KernelIdeal.Hand

open Cert.KernelIdeal Cert.KernelIdeal.Gen
open Idealize.ShloMosaic Idealize.ShloMosaic.TcCoe Cert.Spec

variable (c : Dev nD)

/-- The scales of a tile of the first product are those of its columns. -/
theorem s1v_apply (SC1 : Buf (Elt Ideal) ((Memref.whole main_arg5).view.loc (c.tc : Thread nD τ))) (e : Fin 8) (h : Fin 2) (j : Fin 28) (g : Fin 22) (q : Fin 256) :
    s1v c SC1 e h j (ix3 0 g q) = (SC1 : S8x22x14336.Idx → EReal) (ix3 e g ⟨h.val * 7168 + 256 * j.val + q.val, by omega⟩) := by
  unfold s1v
  have hi : s1ix h j (ix3 0 g q) = ix3 0 g ⟨h.val * 7168 + 256 * j.val + q.val, by omega⟩ := by
    funext a; match a with
    | ⟨0, _⟩ => rfl
    | ⟨1, _⟩ => rfl
    | ⟨2, _⟩ => rfl
  have hr : (s1src e).view.read (Elt Ideal) SC1 = shapeCast S22x14336 (fun y : S1x22x14336.Idx => (SC1 : S8x22x14336.Idx → EReal)
      (ix3 ⟨e.val + 1 * (y 0).val, by have : (y 0).val < 1 := (y 0).isLt; omega⟩ ⟨0 + 1 * (y 1).val, by have : (y 1).val < 22 := (y 1).isLt; omega⟩ ⟨0 + 1 * (y 2).val, by have : (y 2).val < 14336 := (y 2).isLt; omega⟩)) (by decide) := by
    funext i
    refine congrArg (SC1 : S8x22x14336.Idx → EReal) (funext fun a => Fin.ext ?_)
    match a with
    | ⟨0, _⟩ => rfl
    | ⟨1, _⟩ => rfl
    | ⟨2, _⟩ => rfl
  rw [hi, hr]
  pointwise

/-- The codes of a tile of the first product are those of its columns. -/
theorem w1v_apply (W1 : Buf (Elt Ideal) ((Memref.whole main_arg4).view.loc (c.tc : Thread nD τ))) (e : Fin 8) (h : Fin 2) (j : Fin 28) (k : Fin 1408) (q : Fin 256) :
    w1v c W1 e h j (ix4 0 0 k q) = (W1 : S8x1408x14336.Idx → BitVec 8) (ix3 e k ⟨h.val * 7168 + 256 * j.val + q.val, by omega⟩) := by
  unfold w1v
  have hr : (w1src e h j).view.read (Elt Ideal) W1 = shapeCast S1408x256 (fun y : S1x1408x256.Idx => (W1 : S8x1408x14336.Idx → BitVec 8)
      (ix3 ⟨e.val + 1 * (y 0).val, by have : (y 0).val < 1 := (y 0).isLt; omega⟩ ⟨0 + 1 * (y 1).val, by have : (y 1).val < 1408 := (y 1).isLt; omega⟩ ⟨(h.val * 7168 + 256 * j.val) + 1 * (y 2).val, by have : (y 2).val < 256 := (y 2).isLt; omega⟩)) (by decide) := by
    funext i
    refine congrArg (W1 : S8x1408x14336.Idx → BitVec 8) (funext fun a => Fin.ext ?_)
    match a with
    | ⟨0, _⟩ => rfl
    | ⟨1, _⟩ => rfl
    | ⟨2, _⟩ => rfl
  rw [hr]
  pointwise

/-- The scales of a tile of the second product. -/
theorem s2v_apply (SC2 : Buf (Elt Ideal) ((Memref.whole main_arg7).view.loc (c.tc : Thread nD τ))) (e : Fin 8) (j : Fin 11) (g : Fin 56) (q : Fin 256) :
    s2v c SC2 e j (ix3 0 g q) = (SC2 : S8x56x2816.Idx → EReal) (ix3 e g ⟨256 * j.val + q.val, by omega⟩) := by
  unfold s2v
  have hi : s2ix j (ix3 0 g q) = ix3 0 g ⟨256 * j.val + q.val, by omega⟩ := by
    funext a; match a with
    | ⟨0, _⟩ => rfl
    | ⟨1, _⟩ => rfl
    | ⟨2, _⟩ => rfl
  have hr : (s2src e).view.read (Elt Ideal) SC2 = shapeCast S56x2816 (fun y : S1x56x2816.Idx => (SC2 : S8x56x2816.Idx → EReal)
      (ix3 ⟨e.val + 1 * (y 0).val, by have : (y 0).val < 1 := (y 0).isLt; omega⟩ ⟨0 + 1 * (y 1).val, by have : (y 1).val < 56 := (y 1).isLt; omega⟩ ⟨0 + 1 * (y 2).val, by have : (y 2).val < 2816 := (y 2).isLt; omega⟩)) (by decide) := by
    funext i
    refine congrArg (SC2 : S8x56x2816.Idx → EReal) (funext fun a => Fin.ext ?_)
    match a with
    | ⟨0, _⟩ => rfl
    | ⟨1, _⟩ => rfl
    | ⟨2, _⟩ => rfl
  rw [hi, hr]
  pointwise

/-- The codes of a tile of the second product. -/
theorem w2v_apply (W2 : Buf (Elt Ideal) ((Memref.whole main_arg6).view.loc (c.tc : Thread nD τ))) (e : Fin 8) (j : Fin 11) (k : Fin 3584) (q : Fin 256) :
    w2v c W2 e j (ix3 0 k q) = (W2 : S8x3584x2816.Idx → BitVec 8) (ix3 e k ⟨256 * j.val + q.val, by omega⟩) := by
  unfold w2v
  have hr : (w2src e j).view.read (Elt Ideal) W2 = shapeCast S3584x256 (fun y : S1x3584x256.Idx => (W2 : S8x3584x2816.Idx → BitVec 8)
      (ix3 ⟨e.val + 1 * (y 0).val, by have : (y 0).val < 1 := (y 0).isLt; omega⟩ ⟨0 + 1 * (y 1).val, by have : (y 1).val < 3584 := (y 1).isLt; omega⟩ ⟨(256 * j.val) + 1 * (y 2).val, by have : (y 2).val < 256 := (y 2).isLt; omega⟩)) (by decide) := by
    funext i
    refine congrArg (W2 : S8x3584x2816.Idx → BitVec 8) (funext fun a => Fin.ext ?_)
    match a with
    | ⟨0, _⟩ => rfl
    | ⟨1, _⟩ => rfl
    | ⟨2, _⟩ => rfl
  rw [hr]
  pointwise

variable (XB : Buf (Elt Ideal) ((Memref.whole cc0_stg3_0).view.loc (c.tc : Thread nD τ)))
  (W1 : Buf (Elt Ideal) ((Memref.whole main_arg4).view.loc (c.tc : Thread nD τ))) (SC1 : Buf (Elt Ideal) ((Memref.whole main_arg5).view.loc (c.tc : Thread nD τ)))
  (W2 : Buf (Elt Ideal) ((Memref.whole main_arg6).view.loc (c.tc : Thread nD τ))) (SC2 : Buf (Elt Ideal) ((Memref.whole main_arg7).view.loc (c.tc : Thread nD τ)))
  (e : Fin 8)
  (q : Fin 641)

theorem xall_rows : (xall c XB q : S256x2816.Idx → EReal) = rowsFrom XB q := by
  funext i
  unfold rowsFrom
  refine congrArg (XB : S896x2816.Idx → EReal) (funext fun a => Fin.ext ?_)
  match a with
  | ⟨0, _⟩ => show q.val + 1 * (i 0).val = q.val + (i 0).val; omega
  | ⟨1, _⟩ => show 0 + 1 * (i 1).val = (i 1).val; omega

theorem hall_eq : (hall c XB W1 SC1 q e : S256x7168.Idx → EReal) = (hbuf c XB W1 SC1 q e : S256x7168.Idx → EReal) := by
  funext i
  refine congrArg (hbuf c XB W1 SC1 q e : S256x7168.Idx → EReal) (funext fun a => Fin.ext ?_)
  match a with
  | ⟨0, _⟩ => show 0 + 1 * (i 0).val = (i 0).val; omega
  | ⟨1, _⟩ => show 0 + 1 * (i 1).val = (i 1).val; omega

theorem sq2_eq (a : Fin 256) (b : ℕ) : sq2 a b = ix2 a ⟨b % 256, Nat.mod_lt _ (by decide)⟩ := by
  funext k; match k with
  | ⟨0, _⟩ => exact Fin.ext (Nat.mod_eq_of_lt a.isLt)
  | ⟨1, _⟩ => rfl

/-- The product of the rows with a tile of the first weights. -/
theorem tile_eq (h : Fin 2) (j : Fin 28) (a b : Fin 256) (n : Fin 14336) (hn : n.val = h.val * 7168 + 256 * j.val + b.val) :
    (∑ r : Fin 2816, (xall c XB q : S256x2816.Idx → EReal) (ix2 a r)
        * (code (w1v c W1 e h j (ix4 0 0 ⟨r.val / 2, by omega⟩ b)) r.val * s1v c SC1 e h j (ix3 0 ⟨r.val / 128, by omega⟩ b) : EReal))
      = gu (rowsFrom XB q) W1 SC1 e a n := by
  unfold gu first
  rw [xall_rows]
  have hn' : n = ⟨h.val * 7168 + 256 * j.val + b.val, by omega⟩ := Fin.ext hn
  refine Finset.sum_congr rfl fun r _ => ?_
  rw [w1v_apply, s1v_apply, ← hn']

/-- The intermediate rows. -/
theorem hbuf_apply (a : Fin 256) (k : Fin 7168) : (hbuf c XB W1 SC1 q e : S256x7168.Idx → EReal) (ix2 a k) = hid (rowsFrom XB q) W1 SC1 e a k := by
  show upv c XB W1 SC1 q e ⟨k.val / 256, by omega⟩ (sq2 a k.val) = _
  rw [sq2_eq]
  unfold upv
  rw [upF_apply]
  simp only [gateW_apply, upW_apply]
  rw [tile_eq c XB W1 SC1 e q 0 ⟨k.val / 256, by omega⟩ a ⟨k.val % 256, by omega⟩ ⟨k.val, by omega⟩ (by show k.val = 0 * 7168 + 256 * (k.val / 256) + k.val % 256; omega),
    tile_eq c XB W1 SC1 e q 1 ⟨k.val / 256, by omega⟩ a ⟨k.val % 256, by omega⟩ ⟨7168 + k.val, by omega⟩ (by show 7168 + k.val = 1 * 7168 + 256 * (k.val / 256) + k.val % 256; omega)]
  rfl

/-- A tile of an expert's rows. -/
theorem dnv_apply (a : Fin 256) (n : Fin 2816) :
    dnv c XB W1 SC1 W2 SC2 q e ⟨n.val / 256, by omega⟩ (sq2 a n.val) = out (rowsFrom XB q) W1 SC1 W2 SC2 e a n := by
  rw [sq2_eq]
  unfold dnv
  rw [dn_apply]
  unfold out second
  refine Finset.sum_congr rfl fun r _ => ?_
  have hn : (⟨256 * (n.val / 256) + n.val % 256, by omega⟩ : Fin 2816) = n := Fin.ext (by show 256 * (n.val / 256) + n.val % 256 = n.val; omega)
  rw [dnW_apply, w2v_apply, s2v_apply, hall_eq, hbuf_apply]
  simp only [hn]

/-- One expert's rows put into the result. -/
theorem ystep_eq (Y : Buf (Elt Ideal) ((Memref.whole cc0_stg4_0).view.loc (c.tc : Thread nD τ))) :
    (ystep c XB W1 SC1 W2 SC2 q e Y 11 : S896x2816.Idx → EReal) = putAt Y (out (rowsFrom XB q) W1 SC1 W2 SC2 e) q := by
  funext i
  have h1 : (i 1 : Fin 2816).val < 256 * 11 := (i 1 : Fin 2816).isLt
  unfold putAt ystep
  by_cases hc : q.val ≤ (i 0 : Fin 896).val ∧ (i 0 : Fin 896).val < q.val + 256
  · rw [dif_pos hc]
    refine (if_pos ⟨hc.1, hc.2, h1⟩).trans ?_
    exact dnv_apply c XB W1 SC1 W2 SC2 e q ⟨(i 0 : Fin 896).val - q.val, by omega⟩ (i 1)
  · rw [dif_neg hc]
    exact if_neg fun h => hc ⟨h.1, h.2.1⟩

end Cert.KernelIdeal.Hand
-- ==== Proof.KIOut.lean ====
/-
  The run of the kernel over the extended reals, with its result named: the function of `Spec`.
-/
module

public import proofs.«01_k».proof.Proof.KILaunch
public import proofs.«01_k».proof.Proof.KIValue

@[expose] public section

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (eo : Dev nD → ℕ → Fin 8) (ro : Dev nD → ℕ → Fin 641) (nn : Dev nD → Fin 10)

/-- The kernel's result on a device: the function of `Spec` of that device's arrays. -/
def res (c : Dev nD) : Buf (Elt Ideal) ((c.tc : Thread nD τ).loc main_v0) :=
  fun i : S896x2816.Idx => Cert.Spec.rowsOf (m ((c.tc : Thread nD τ).loc main_arg0) : S896x2816.Idx → EReal) (m ((c.tc : Thread nD τ).loc main_arg4) : S8x1408x14336.Idx → BitVec 8)
    (m ((c.tc : Thread nD τ).loc main_arg5) : S8x22x14336.Idx → EReal) (m ((c.tc : Thread nD τ).loc main_arg6) : S8x3584x2816.Idx → BitVec 8)
    (m ((c.tc : Thread nD τ).loc main_arg7) : S8x56x2816.Idx → EReal) (eo c) (ro c) (nn c).val i

/-- The one block of the rows is all the rows. -/
theorem xb_eq (c : Dev nD) : (xb m c : S896x2816.Idx → EReal) = (m ((c.tc : Thread nD τ).loc main_arg0) : S896x2816.Idx → EReal) := by
  funext i
  refine congrArg (m ((c.tc : Thread nD τ).loc main_arg0) : S896x2816.Idx → EReal) (funext fun a => Fin.ext ?_)
  match a with
  | ⟨0, _⟩ => show 0 * 896 + 1 * (i 0).val = (i 0).val; omega
  | ⟨1, _⟩ => show 0 * 2816 + 1 * (i 1).val = (i 1).val; omega

/-- The zero fill. -/
theorem yzero_eq (c : Dev nD) : (yzero (F := Ideal) c : S896x2816.Idx → EReal) = fun _ => (0 : EReal) := by
  funext i
  show Ideal.ofBits .f32 0x00000000#32 = 0
  simp [Ideal.ofBits, Ideal.ieee]

/-- The result after `k` experts. -/
theorem yspec_eq (c : Dev nD) (XB : Buf (Elt Ideal) ((Memref.whole cc0_stg3_0).view.loc (c.tc : Thread nD τ)))
    (W1 : Buf (Elt Ideal) ((Memref.whole main_arg4).view.loc (c.tc : Thread nD τ))) (SC1 : Buf (Elt Ideal) ((Memref.whole main_arg5).view.loc (c.tc : Thread nD τ)))
    (W2 : Buf (Elt Ideal) ((Memref.whole main_arg6).view.loc (c.tc : Thread nD τ))) (SC2 : Buf (Elt Ideal) ((Memref.whole main_arg7).view.loc (c.tc : Thread nD τ)))
    (e : ℕ → Fin 8) (r : ℕ → Fin 641) (k : ℕ) :
    (yspec c XB W1 SC1 W2 SC2 e r k : S896x2816.Idx → EReal) = Cert.Spec.rowsOf XB W1 SC1 W2 SC2 e r k := by
  induction k with
  | zero => exact yzero_eq c
  | succ k ih =>
    refine (ystep_eq c XB W1 SC1 W2 SC2 (e k) (r k) (yspec c XB W1 SC1 W2 SC2 e r k)).trans ?_
    exact congrArg (fun y => Cert.Spec.putAt y (Cert.Spec.out (Cert.Spec.rowsFrom XB (r k)) W1 SC1 W2 SC2 (e k)) (r k)) ih

/-- What the kernel leaves in the result's buffer. -/
theorem yb_eq (c : Dev nD) : (yb m eo ro nn c : S896x2816.Idx → EReal) = res m eo ro nn c := by
  refine (yspec_eq c _ _ _ _ _ _ _ _).trans ?_
  exact congrArg (fun X : S896x2816.Idx → EReal => Cert.Spec.rowsOf X (m ((c.tc : Thread nD τ).loc main_arg4) : S8x1408x14336.Idx → BitVec 8)
    (m ((c.tc : Thread nD τ).loc main_arg5) : S8x22x14336.Idx → EReal) (m ((c.tc : Thread nD τ).loc main_arg6) : S8x3584x2816.Idx → BitVec 8)
    (m ((c.tc : Thread nD τ).loc main_arg7) : S8x56x2816.Idx → EReal) (eo c) (ro c) (nn c).val) (xb_eq m c)

set_option maxRecDepth 16384 in
theorem flushed_eq (c : Dev nD) (t : Fin cfg0.N) : (dats m eo ro nn 0 c).flushed 4 t = (win0_4.blk t).view.read (Elt Ideal) (res m eo ro nn c) := by
  show (cfg0.win 4).cut (grid0.coords t) (yb m eo ro nn c) = _
  rw [yb_eq m eo ro nn c]
  funext i
  refine congrArg (res m eo ro nn c : S896x2816.Idx → EReal) (funext fun a => Fin.ext ?_)
  match a with
  | ⟨0, _⟩ => show (i 0).val = 0 * 896 + 1 * (i 0).val; omega
  | ⟨1, _⟩ => show (i 1).val = 0 * 2816 + 1 * (i 1).val; omega

set_option maxRecDepth 16384 in
theorem cover (i : S896x2816.Idx) : ∃ t : Fin cfg0.N, (cfg0.win 4).flush t = true ∧ i ∈ ((cfg0.win 4).blk t).view.set := by
  refine ⟨t0_0, by decide, ?_⟩
  show i ∈ ((View.whole main_v0).slice (win0_4.rect t0_0)).set
  rw [View.set_slice_whole, Rect.mem_set_unit]
  intro a
  match a with
  | ⟨0, _⟩ => exact ⟨Nat.zero_le _, by show (i 0).val < 0 * 896 + 896; have : (i 0).val < 896 := (i 0).isLt; omega⟩
  | ⟨1, _⟩ => exact ⟨Nat.zero_le _, by show (i 1).val < 0 * 2816 + 2816; have : (i 1).val < 2816 := (i 1).isLt; omega⟩

/-- The result array ends holding the function of `Spec`. -/
theorem final (c : Dev nD) : (dats m eo ro nn 0 c).arrAt 4 cfg0.N = res m eo ro nn c :=
  (dats m eo ro nn 0 c).arrAt_eq_of_cover 4 (res m eo ro nn c) (fun t _ => flushed_eq m eo ro nn c t) cover

/-- The run: the result is the function of `Spec`, the arguments are unchanged. -/
theorem run_value (hn1 : ∀ c, 1 ≤ (nn c).val) (hro : ∀ c i, ∃ b : Fin 41, (ro c i).val = 16 * b.val)
    (h1 : ∀ (c : Dev nD) (i : S9.Idx), (m ((c.tc : Thread nD τ).loc main_arg1) : S9.Idx → BitVec 32) i = BitVec.ofNat 32 (eo c ((i 0 : Fin 9) : ℕ)).val)
    (h2 : ∀ (c : Dev nD) (i : S9.Idx), (m ((c.tc : Thread nD τ).loc main_arg2) : S9.Idx → BitVec 32) i = BitVec.ofNat 32 (ro c ((i 0 : Fin 9) : ℕ)).val)
    (h3 : ∀ (c : Dev nD) (i : S1.Idx), (m ((c.tc : Thread nD τ).loc main_arg3) : S1.Idx → BitVec 32) i = BitVec.ofNat 32 (nn c).val) :
    θ_run defs (onTc (τ := τ) (main (F := Ideal))) ⟨m, fun _ => 0, ρ⟩ (fun r => ∀ c : Dev nD,
      r.2.mem ((c.tc : Thread nD τ).loc main_v0) = res m eo ro nn c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 4).trans (final m eo ro nn c), args_of m eo ro nn r h.1 c⟩)
    (run_main (F := Ideal) m ρ eo ro nn hn1 hro (fun c i => (ib_eq m c i).trans (h1 c i)) (fun c i => (bb_eq m c i).trans (h2 c i)) (fun c i => (nb_eq m c i).trans (h3 c i)))

end Cert.KernelIdeal.Hand
-- ==== Proof.RefRun.lean ====
/-
  The reference's operations: those before the loop, the condition's, and one trip's in eight stretches; and its run.
-/
module

public import proofs.«01_k».proof.Proof.Gen.ReferenceIdeal
public import Idealize.ShloMosaic.Lib.StableHlo.RunLoop
public import Idealize.ShloMosaic.Lib.StableHlo.RunClose
public import Idealize.ShloMosaic.Lib.Scf.Counter
public import Idealize.ShloMosaic.Lib.Scf.ExitTest

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch P, what comes before the loop. -/
abbrev opsP : List (HloOp τ sig (Elt F)) :=
  [ reshape main_arg3 main_v0 (rfl : (.i32 : EltTy) = .i32) shapeCasts_S1_S_,
    nullary main_cst (constant S_ .f32 0x00000000#32),
    unary main_cst main_v1 (broadcastInDim S896x2816 ![] bcast_S_S896x2816 : (⟨S_, .f32⟩ : BufTy).Contents (Elt F) → (⟨S896x2816, .f32⟩ : BufTy).Contents (Elt F)),
    nullary main_c (constantI S_ 32 0#32),
    unary main_arg1 main_v2_0 id,
    unary main_arg2 main_v2_1 id,
    unary main_arg0 main_v2_2 id,
    unary main_arg4 main_v2_3 id,
    unary main_arg5 main_v2_4 id,
    unary main_arg6 main_v2_5 id,
    unary main_arg7 main_v2_6 id,
    unary main_c main_v2_7 id,
    unary main_v0 main_v2_8 id,
    unary main_v1 main_v2_9 id ]

/-- The buffers stretch P writes. -/
abbrev wrP : List (Ref sig .tc) := [main_v0, main_cst, main_v1, main_c, main_v2_0, main_v2_1, main_v2_2, main_v2_3, main_v2_4, main_v2_5, main_v2_6, main_v2_7, main_v2_8, main_v2_9]

theorem opsP_sub : (opsP : List (HloOp τ sig (Elt F))).Forall fun op => op.bufs ⊆ tcRefs τ sig :=
  ⟨reshape_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩

/-- A buffer stretch P does not write keeps its contents. -/
theorem keepP (V : Valuation τ sig (Elt F)) (r : Ref sig .tc) (hr : r ∉ wrP) :
    after (opsP (F := F)) V (Proc.devRef .tc r) = V (Proc.devRef .tc r) :=
  after_of_writes_sub _ V (forall_writes_sub_of_map (W := wrP) rfl) hr

/-- Stretch A, one trip: the next counter, the expert's number, its first row, its rows, and its slices of the first weights and scales. -/
abbrev opsA : List (HloOp τ sig (Elt F)) :=
  [ nullary main_while0b_c_9 (constantI S_ 32 1#32),
    binary main_v2_7 main_while0b_c_9 main_while0b_v3 (addi : (⟨S_, .i32⟩ : BufTy).Contents (Elt F) → (⟨S_, .i32⟩ : BufTy).Contents (Elt F) → (⟨S_, .i32⟩ : BufTy).Contents (Elt F)),
    unaryIndexed main_v2_0 ![main_v2_7] ⟨S_, .i32⟩ main_while0b_v4 ((fun x i => Host.dynamicSlice S1 x (fun k => (i k (Shape.Idx.first h_S_)).toInt) sliceFits_S9_S1) : (⟨S9, .i32⟩ : BufTy).Contents (Elt F) → (Fin 1 → (⟨S_, .i32⟩ : BufTy).Contents (Elt F)) → (⟨S1, .i32⟩ : BufTy).Contents (Elt F)),
    reshape main_while0b_v4 main_while0b_v5 (rfl : (.i32 : EltTy) = .i32) shapeCasts_S1_S_,
    unaryIndexed main_v2_1 ![main_v2_7] ⟨S_, .i32⟩ main_while0b_v6 ((fun x i => Host.dynamicSlice S1 x (fun k => (i k (Shape.Idx.first h_S_)).toInt) sliceFits_S9_S1) : (⟨S9, .i32⟩ : BufTy).Contents (Elt F) → (Fin 1 → (⟨S_, .i32⟩ : BufTy).Contents (Elt F)) → (⟨S1, .i32⟩ : BufTy).Contents (Elt F)),
    reshape main_while0b_v6 main_while0b_v7 (rfl : (.i32 : EltTy) = .i32) shapeCasts_S1_S_,
    nullary main_while0b_c_10 (constantI S_ 32 0#32),
    unaryIndexed main_v2_2 ![main_while0b_v7, main_while0b_c_10] ⟨S_, .i32⟩ main_while0b_v8 ((fun x i => Host.dynamicSlice S256x2816 x (fun k => (i k (Shape.Idx.first h_S_)).toInt) sliceFits_S896x2816_S256x2816) : (⟨S896x2816, .bf16⟩ : BufTy).Contents (Elt F) → (Fin 2 → (⟨S_, .i32⟩ : BufTy).Contents (Elt F)) → (⟨S256x2816, .bf16⟩ : BufTy).Contents (Elt F)),
    nullary main_while0b_c_11 (constantI S_ 32 0#32),
    nullary main_while0b_c_12 (constantI S_ 32 0#32),
    unaryIndexed main_v2_3 ![main_while0b_v5, main_while0b_c_11, main_while0b_c_12] ⟨S_, .i32⟩ main_while0b_v9 ((fun x i => Host.dynamicSlice S1x1408x14336 x (fun k => (i k (Shape.Idx.first h_S_)).toInt) sliceFits_S8x1408x14336_S1x1408x14336) : (⟨S8x1408x14336, .i8⟩ : BufTy).Contents (Elt F) → (Fin 3 → (⟨S_, .i32⟩ : BufTy).Contents (Elt F)) → (⟨S1x1408x14336, .i8⟩ : BufTy).Contents (Elt F)),
    reshape main_while0b_v9 main_while0b_v10 (rfl : (.i8 : EltTy) = .i8) shapeCasts_S1x1408x14336_S1408x14336,
    nullary main_while0b_c_13 (constantI S_ 32 0#32),
    nullary main_while0b_c_14 (constantI S_ 32 0#32),
    unaryIndexed main_v2_4 ![main_while0b_v5, main_while0b_c_13, main_while0b_c_14] ⟨S_, .i32⟩ main_while0b_v11 ((fun x i => Host.dynamicSlice S1x22x14336 x (fun k => (i k (Shape.Idx.first h_S_)).toInt) sliceFits_S8x22x14336_S1x22x14336) : (⟨S8x22x14336, .bf16⟩ : BufTy).Contents (Elt F) → (Fin 3 → (⟨S_, .i32⟩ : BufTy).Contents (Elt F)) → (⟨S1x22x14336, .bf16⟩ : BufTy).Contents (Elt F)),
    reshape main_while0b_v11 main_while0b_v12 (rfl : (.bf16 : EltTy) = .bf16) shapeCasts_S1x22x14336_S22x14336 ]

/-- The buffers stretch A writes. -/
abbrev wrA : List (Ref sig .tc) := [main_while0b_c_9, main_while0b_v3, main_while0b_v4, main_while0b_v5, main_while0b_v6, main_while0b_v7, main_while0b_c_10, main_while0b_v8, main_while0b_c_11, main_while0b_c_12, main_while0b_v9, main_while0b_v10, main_while0b_c_13, main_while0b_c_14, main_while0b_v11, main_while0b_v12]

theorem opsA_sub : (opsA : List (HloOp τ sig (Elt F))).Forall fun op => op.bufs ⊆ tcRefs τ sig :=
  ⟨nullary_bufs_sub .., binary_bufs_sub .., unaryIndexed_bufs_sub .., reshape_bufs_sub .., unaryIndexed_bufs_sub .., reshape_bufs_sub .., nullary_bufs_sub .., unaryIndexed_bufs_sub .., nullary_bufs_sub .., nullary_bufs_sub .., unaryIndexed_bufs_sub .., reshape_bufs_sub .., nullary_bufs_sub .., nullary_bufs_sub .., unaryIndexed_bufs_sub .., reshape_bufs_sub ..⟩

/-- A buffer stretch A does not write keeps its contents. -/
theorem keepA (V : Valuation τ sig (Elt F)) (r : Ref sig .tc) (hr : r ∉ wrA) :
    after (opsA (F := F)) V (Proc.devRef .tc r) = V (Proc.devRef .tc r) :=
  after_of_writes_sub _ V (forall_writes_sub_of_map (W := wrA) rfl) hr

/-- Stretch B, one trip: the first weights, even rows and odd rows. -/
abbrev opsB : List (HloOp τ sig (Elt F)) :=
  [ unary main_while0b_v10 main_while0b_v13 ((extui 32 · natLt_8_32) : (⟨S1408x14336, .i8⟩ : BufTy).Contents (Elt F) → (⟨S1408x14336, .i32⟩ : BufTy).Contents (Elt F)),
    nullary main_while0b_c_15 (constantI S_ 32 15#32),
    unary main_while0b_c_15 main_while0b_v14 (broadcastInDim S1408x14336 ![] bcast_S_S1408x14336 : (⟨S_, .i32⟩ : BufTy).Contents (Elt F) → (⟨S1408x14336, .i32⟩ : BufTy).Contents (Elt F)),
    binary main_while0b_v13 main_while0b_v14 main_while0b_v15 (andi : (⟨S1408x14336, .i32⟩ : BufTy).Contents (Elt F) → (⟨S1408x14336, .i32⟩ : BufTy).Contents (Elt F) → (⟨S1408x14336, .i32⟩ : BufTy).Contents (Elt F)),
    nullary main_while0b_c_16 (constantI S_ 32 4#32),
    unary main_while0b_c_16 main_while0b_v16 (broadcastInDim S1408x14336 ![] bcast_S_S1408x14336 : (⟨S_, .i32⟩ : BufTy).Contents (Elt F) → (⟨S1408x14336, .i32⟩ : BufTy).Contents (Elt F)),
    binary main_while0b_v13 main_while0b_v16 main_while0b_v17 (Host.shrsi : (⟨S1408x14336, .i32⟩ : BufTy).Contents (Elt F) → (⟨S1408x14336, .i32⟩ : BufTy).Contents (Elt F) → (⟨S1408x14336, .i32⟩ : BufTy).Contents (Elt F)),
    unary main_while0b_v15 main_while0b_v18 (sitofp .bf16 : (⟨S1408x14336, .i32⟩ : BufTy).Contents (Elt F) → (⟨S1408x14336, .bf16⟩ : BufTy).Contents (Elt F)),
    nullary main_while0b_cst_17 (constant S_ .bf16 0x4100#16),
    unary main_while0b_cst_17 main_while0b_v19 (broadcastInDim S1408x14336 ![] bcast_S_S1408x14336 : (⟨S_, .bf16⟩ : BufTy).Contents (Elt F) → (⟨S1408x14336, .bf16⟩ : BufTy).Contents (Elt F)),
    binary main_while0b_v18 main_while0b_v19 main_while0b_v20 (subf : (⟨S1408x14336, .bf16⟩ : BufTy).Contents (Elt F) → (⟨S1408x14336, .bf16⟩ : BufTy).Contents (Elt F) → (⟨S1408x14336, .bf16⟩ : BufTy).Contents (Elt F)),
    reshape main_while0b_v20 main_while0b_v21 (rfl : (.bf16 : EltTy) = .bf16) shapeCasts_S1408x14336_S22x64x14336,
    unary main_while0b_v12 main_while0b_v22 (broadcastInDim S22x1x14336 ![0, 2] bcast_S22x14336_S22x1x14336_0_2 : (⟨S22x14336, .bf16⟩ : BufTy).Contents (Elt F) → (⟨S22x1x14336, .bf16⟩ : BufTy).Contents (Elt F)),
    unary main_while0b_v22 main_while0b_v23 (broadcastInDim S22x64x14336 ![0, 1, 2] bcast_S22x1x14336_S22x64x14336_0_1_2 : (⟨S22x1x14336, .bf16⟩ : BufTy).Contents (Elt F) → (⟨S22x64x14336, .bf16⟩ : BufTy).Contents (Elt F)),
    binary main_while0b_v21 main_while0b_v23 main_while0b_v24 (mulf : (⟨S22x64x14336, .bf16⟩ : BufTy).Contents (Elt F) → (⟨S22x64x14336, .bf16⟩ : BufTy).Contents (Elt F) → (⟨S22x64x14336, .bf16⟩ : BufTy).Contents (Elt F)),
    reshape main_while0b_v24 main_while0b_v25 (rfl : (.bf16 : EltTy) = .bf16) shapeCasts_S22x64x14336_S1408x14336,
    unary main_while0b_v17 main_while0b_v26 (sitofp .bf16 : (⟨S1408x14336, .i32⟩ : BufTy).Contents (Elt F) → (⟨S1408x14336, .bf16⟩ : BufTy).Contents (Elt F)),
    nullary main_while0b_cst_18 (constant S_ .bf16 0x4100#16),
    unary main_while0b_cst_18 main_while0b_v27 (broadcastInDim S1408x14336 ![] bcast_S_S1408x14336 : (⟨S_, .bf16⟩ : BufTy).Contents (Elt F) → (⟨S1408x14336, .bf16⟩ : BufTy).Contents (Elt F)),
    binary main_while0b_v26 main_while0b_v27 main_while0b_v28 (subf : (⟨S1408x14336, .bf16⟩ : BufTy).Contents (Elt F) → (⟨S1408x14336, .bf16⟩ : BufTy).Contents (Elt F) → (⟨S1408x14336, .bf16⟩ : BufTy).Contents (Elt F)),
    reshape main_while0b_v28 main_while0b_v29 (rfl : (.bf16 : EltTy) = .bf16) shapeCasts_S1408x14336_S22x64x14336,
    unary main_while0b_v12 main_while0b_v30 (broadcastInDim S22x1x14336 ![0, 2] bcast_S22x14336_S22x1x14336_0_2 : (⟨S22x14336, .bf16⟩ : BufTy).Contents (Elt F) → (⟨S22x1x14336, .bf16⟩ : BufTy).Contents (Elt F)),
    unary main_while0b_v30 main_while0b_v31 (broadcastInDim S22x64x14336 ![0, 1, 2] bcast_S22x1x14336_S22x64x14336_0_1_2 : (⟨S22x1x14336, .bf16⟩ : BufTy).Contents (Elt F) → (⟨S22x64x14336, .bf16⟩ : BufTy).Contents (Elt F)),
    binary main_while0b_v29 main_while0b_v31 main_while0b_v32 (mulf : (⟨S22x64x14336, .bf16⟩ : BufTy).Contents (Elt F) → (⟨S22x64x14336, .bf16⟩ : BufTy).Contents (Elt F) → (⟨S22x64x14336, .bf16⟩ : BufTy).Contents (Elt F)),
    reshape main_while0b_v32 main_while0b_v33 (rfl : (.bf16 : EltTy) = .bf16) shapeCasts_S22x64x14336_S1408x14336 ]

/-- The buffers stretch B writes. -/
abbrev wrB : List (Ref sig .tc) := [main_while0b_v13, main_while0b_c_15, main_while0b_v14, main_while0b_v15, main_while0b_c_16, main_while0b_v16, main_while0b_v17, main_while0b_v18, main_while0b_cst_17, main_while0b_v19, main_while0b_v20, main_while0b_v21, main_while0b_v22, main_while0b_v23, main_while0b_v24, main_while0b_v25, main_while0b_v26, main_while0b_cst_18, main_while0b_v27, main_while0b_v28, main_while0b_v29, main_while0b_v30, main_while0b_v31, main_while0b_v32, main_while0b_v33]

theorem opsB_sub : (opsB : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., unary_bufs_sub .., binary_bufs_sub .., reshape_bufs_sub .., unary_bufs_sub .., nullary_bufs_sub .., unary_bufs_sub .., binary_bufs_sub .., reshape_bufs_sub .., unary_bufs_sub .., unary_bufs_sub .., binary_bufs_sub .., reshape_bufs_sub ..⟩

/-- A buffer stretch B does not write keeps its contents. -/
theorem keepB (V : Valuation τ sig (Elt F)) (r : Ref sig .tc) (hr : r ∉ wrB) :
    after (opsB (F := F)) V (Proc.devRef .tc r) = V (Proc.devRef .tc r) :=
  after_of_writes_sub _ V (forall_writes_sub_of_map (W := wrB) rfl) hr

/-- Stretch C, one trip: the first product. -/
abbrev opsC : List (HloOp τ sig (Elt F)) :=
  [ unary main_while0b_v8 main_while0b_v34 ((Host.slice S256x1408 ![0, 0] ![1, 2] · slicesBy_S256x2816_S256x1408_0s1_0s2) : (⟨S256x2816, .bf16⟩ : BufTy).Contents (Elt F) → (⟨S256x1408, .bf16⟩ : BufTy).Contents (Elt F)),
    binary main_while0b_v34 main_while0b_v25 main_while0b_v35 ((fun l r => Host.dotGeneral dot_S256x1408_S1408x14336_S256x14336_1_0_0_1_n_n none l r) : (⟨S256x1408, .bf16⟩ : BufTy).Contents (Elt F) → (⟨S1408x14336, .bf16⟩ : BufTy).Contents (Elt F) → (⟨S256x14336, .f32⟩ : BufTy).Contents (Elt F)),
    unary main_while0b_v8 main_while0b_v36 ((Host.slice S256x1408 ![0, 1] ![1, 2] · slicesBy_S256x2816_S256x1408_0s1_1s2) : (⟨S256x2816, .bf16⟩ : BufTy).Contents (Elt F) → (⟨S256x1408, .bf16⟩ : BufTy).Contents (Elt F)),
    binary main_while0b_v36 main_while0b_v33 main_while0b_v37 ((fun l r => Host.dotGeneral dot_S256x1408_S1408x14336_S256x14336_1_0_0_1_n_n none l r) : (⟨S256x1408, .bf16⟩ : BufTy).Contents (Elt F) → (⟨S1408x14336, .bf16⟩ : BufTy).Contents (Elt F) → (⟨S256x14336, .f32⟩ : BufTy).Contents (Elt F)),
    binary main_while0b_v35 main_while0b_v37 main_while0b_v38 (addf : (⟨S256x14336, .f32⟩ : BufTy).Contents (Elt F) → (⟨S256x14336, .f32⟩ : BufTy).Contents (Elt F) → (⟨S256x14336, .f32⟩ : BufTy).Contents (Elt F)) ]

/-- The buffers stretch C writes. -/
abbrev wrC : List (Ref sig .tc) := [main_while0b_v34, main_while0b_v35, main_while0b_v36, main_while0b_v37, main_while0b_v38]

theorem opsC_sub : (opsC : List (HloOp τ sig (Elt F))).Forall fun op => op.bufs ⊆ tcRefs τ sig :=
  ⟨unary_bufs_sub .., binary_bufs_sub .., unary_bufs_sub .., binary_bufs_sub .., binary_bufs_sub ..⟩

/-- A buffer stretch C does not write keeps its contents. -/
theorem keepC (V : Valuation τ sig (Elt F)) (r : Ref sig .tc) (hr : r ∉ wrC) :
    after (opsC (F := F)) V (Proc.devRef .tc r) = V (Proc.devRef .tc r) :=
  after_of_writes_sub _ V (forall_writes_sub_of_map (W := wrC) rfl) hr

/-- Stretch D, one trip: the intermediate rows. -/
abbrev opsD : List (HloOp τ sig (Elt F)) :=
  [ unary main_while0b_v38 main_while0b_v39 ((extractStridedSlice S256x7168 ![0, 0] · slices_S256x14336_S256x7168_0_0) : (⟨S256x14336, .f32⟩ : BufTy).Contents (Elt F) → (⟨S256x7168, .f32⟩ : BufTy).Contents (Elt F)),
    unary main_while0b_v38 main_while0b_v40 ((extractStridedSlice S256x7168 ![0, 7168] · slices_S256x14336_S256x7168_0_7168) : (⟨S256x14336, .f32⟩ : BufTy).Contents (Elt F) → (⟨S256x7168, .f32⟩ : BufTy).Contents (Elt F)),
    TRef.unary (TRef.of (T := ⟨S256x7168, .f32⟩) main_while0b_v39) (TRef.of (T := ⟨S256x7168, .f32⟩) main_while0b_call0_v0) Host.negf,
    TRef.unary (TRef.of (T := ⟨S256x7168, .f32⟩) main_while0b_call0_v0) (TRef.of (T := ⟨S256x7168, .f32⟩) main_while0b_call0_v1) Host.exp,
    TRef.nullary (TRef.of (T := ⟨S_, .f32⟩) main_while0b_call0_cst) (constant S_ .f32 0x3F800000#32),
    TRef.unary (TRef.of (T := ⟨S_, .f32⟩) main_while0b_call0_cst) (TRef.of (T := ⟨S256x7168, .f32⟩) main_while0b_call0_v2) (broadcastInDim S256x7168 ![] bcast_S_S256x7168),
    TRef.binary (TRef.of (T := ⟨S256x7168, .f32⟩) main_while0b_call0_v2) (TRef.of (T := ⟨S256x7168, .f32⟩) main_while0b_call0_v1) (TRef.of (T := ⟨S256x7168, .f32⟩) main_while0b_call0_v3) addf,
    TRef.nullary (TRef.of (T := ⟨S_, .f32⟩) main_while0b_call0_cst_0) (constant S_ .f32 0x3F800000#32),
    TRef.unary (TRef.of (T := ⟨S_, .f32⟩) main_while0b_call0_cst_0) (TRef.of (T := ⟨S256x7168, .f32⟩) main_while0b_call0_v4) (broadcastInDim S256x7168 ![] bcast_S_S256x7168),
    TRef.binary (TRef.of (T := ⟨S256x7168, .f32⟩) main_while0b_call0_v4) (TRef.of (T := ⟨S256x7168, .f32⟩) main_while0b_call0_v3) (TRef.of (T := ⟨S256x7168, .f32⟩) main_while0b_call0_v5) Host.divf,
    TRef.binary (TRef.of (T := ⟨S256x7168, .f32⟩) main_while0b_v39) (TRef.of (T := ⟨S256x7168, .f32⟩) main_while0b_call0_v5) (TRef.of (T := ⟨S256x7168, .f32⟩) main_while0b_v41) mulf,
    binary main_while0b_v41 main_while0b_v40 main_while0b_v42 (mulf : (⟨S256x7168, .f32⟩ : BufTy).Contents (Elt F) → (⟨S256x7168, .f32⟩ : BufTy).Contents (Elt F) → (⟨S256x7168, .f32⟩ : BufTy).Contents (Elt F)),
    unary main_while0b_v42 main_while0b_v43 ((truncf .bf16 · bitsLt_bf16_f32) : (⟨S256x7168, .f32⟩ : BufTy).Contents (Elt F) → (⟨S256x7168, .bf16⟩ : BufTy).Contents (Elt F)) ]

/-- The buffers stretch D writes. -/
abbrev wrD : List (Ref sig .tc) := [main_while0b_v39, main_while0b_v40, main_while0b_call0_v0, main_while0b_call0_v1, main_while0b_call0_cst, main_while0b_call0_v2, main_while0b_call0_v3, main_while0b_call0_cst_0, main_while0b_call0_v4, main_while0b_call0_v5, main_while0b_v41, main_while0b_v42, main_while0b_v43]

theorem opsD_sub : (opsD : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub ..⟩

/-- A buffer stretch D does not write keeps its contents. -/
theorem keepD (V : Valuation τ sig (Elt F)) (r : Ref sig .tc) (hr : r ∉ wrD) :
    after (opsD (F := F)) V (Proc.devRef .tc r) = V (Proc.devRef .tc r) :=
  after_of_writes_sub _ V (forall_writes_sub_of_map (W := wrD) rfl) hr

/-- Stretch E, one trip: the expert's slices of the second weights and scales. -/
abbrev opsE : List (HloOp τ sig (Elt F)) :=
  [ nullary main_while0b_c_19 (constantI S_ 32 0#32),
    nullary main_while0b_c_20 (constantI S_ 32 0#32),
    unaryIndexed main_v2_5 ![main_while0b_v5, main_while0b_c_19, main_while0b_c_20] ⟨S_, .i32⟩ main_while0b_v44 ((fun x i => Host.dynamicSlice S1x3584x2816 x (fun k => (i k (Shape.Idx.first h_S_)).toInt) sliceFits_S8x3584x2816_S1x3584x2816) : (⟨S8x3584x2816, .i8⟩ : BufTy).Contents (Elt F) → (Fin 3 → (⟨S_, .i32⟩ : BufTy).Contents (Elt F)) → (⟨S1x3584x2816, .i8⟩ : BufTy).Contents (Elt F)),
    reshape main_while0b_v44 main_while0b_v45 (rfl : (.i8 : EltTy) = .i8) shapeCasts_S1x3584x2816_S3584x2816,
    nullary main_while0b_c_21 (constantI S_ 32 0#32),
    nullary main_while0b_c_22 (constantI S_ 32 0#32),
    unaryIndexed main_v2_6 ![main_while0b_v5, main_while0b_c_21, main_while0b_c_22] ⟨S_, .i32⟩ main_while0b_v46 ((fun x i => Host.dynamicSlice S1x56x2816 x (fun k => (i k (Shape.Idx.first h_S_)).toInt) sliceFits_S8x56x2816_S1x56x2816) : (⟨S8x56x2816, .bf16⟩ : BufTy).Contents (Elt F) → (Fin 3 → (⟨S_, .i32⟩ : BufTy).Contents (Elt F)) → (⟨S1x56x2816, .bf16⟩ : BufTy).Contents (Elt F)),
    reshape main_while0b_v46 main_while0b_v47 (rfl : (.bf16 : EltTy) = .bf16) shapeCasts_S1x56x2816_S56x2816 ]

/-- The buffers stretch E writes. -/
abbrev wrE : List (Ref sig .tc) := [main_while0b_c_19, main_while0b_c_20, main_while0b_v44, main_while0b_v45, main_while0b_c_21, main_while0b_c_22, main_while0b_v46, main_while0b_v47]

theorem opsE_sub : (opsE : List (HloOp τ sig (Elt F))).Forall fun op => op.bufs ⊆ tcRefs τ sig :=
  ⟨nullary_bufs_sub .., nullary_bufs_sub .., unaryIndexed_bufs_sub .., reshape_bufs_sub .., nullary_bufs_sub .., nullary_bufs_sub .., unaryIndexed_bufs_sub .., reshape_bufs_sub ..⟩

/-- A buffer stretch E does not write keeps its contents. -/
theorem keepE (V : Valuation τ sig (Elt F)) (r : Ref sig .tc) (hr : r ∉ wrE) :
    after (opsE (F := F)) V (Proc.devRef .tc r) = V (Proc.devRef .tc r) :=
  after_of_writes_sub _ V (forall_writes_sub_of_map (W := wrE) rfl) hr

/-- Stretch G, one trip: the second weights, even rows and odd rows. -/
abbrev opsG : List (HloOp τ sig (Elt F)) :=
  [ unary main_while0b_v45 main_while0b_v48 ((extui 32 · natLt_8_32) : (⟨S3584x2816, .i8⟩ : BufTy).Contents (Elt F) → (⟨S3584x2816, .i32⟩ : BufTy).Contents (Elt F)),
    nullary main_while0b_c_23 (constantI S_ 32 15#32),
    unary main_while0b_c_23 main_while0b_v49 (broadcastInDim S3584x2816 ![] bcast_S_S3584x2816 : (⟨S_, .i32⟩ : BufTy).Contents (Elt F) → (⟨S3584x2816, .i32⟩ : BufTy).Contents (Elt F)),
    binary main_while0b_v48 main_while0b_v49 main_while0b_v50 (andi : (⟨S3584x2816, .i32⟩ : BufTy).Contents (Elt F) → (⟨S3584x2816, .i32⟩ : BufTy).Contents (Elt F) → (⟨S3584x2816, .i32⟩ : BufTy).Contents (Elt F)),
    nullary main_while0b_c_24 (constantI S_ 32 4#32),
    unary main_while0b_c_24 main_while0b_v51 (broadcastInDim S3584x2816 ![] bcast_S_S3584x2816 : (⟨S_, .i32⟩ : BufTy).Contents (Elt F) → (⟨S3584x2816, .i32⟩ : BufTy).Contents (Elt F)),
    binary main_while0b_v48 main_while0b_v51 main_while0b_v52 (Host.shrsi : (⟨S3584x2816, .i32⟩ : BufTy).Contents (Elt F) → (⟨S3584x2816, .i32⟩ : BufTy).Contents (Elt F) → (⟨S3584x2816, .i32⟩ : BufTy).Contents (Elt F)),
    unary main_while0b_v50 main_while0b_v53 (sitofp .bf16 : (⟨S3584x2816, .i32⟩ : BufTy).Contents (Elt F) → (⟨S3584x2816, .bf16⟩ : BufTy).Contents (Elt F)),
    nullary main_while0b_cst_25 (constant S_ .bf16 0x4100#16),
    unary main_while0b_cst_25 main_while0b_v54 (broadcastInDim S3584x2816 ![] bcast_S_S3584x2816 : (⟨S_, .bf16⟩ : BufTy).Contents (Elt F) → (⟨S3584x2816, .bf16⟩ : BufTy).Contents (Elt F)),
    binary main_while0b_v53 main_while0b_v54 main_while0b_v55 (subf : (⟨S3584x2816, .bf16⟩ : BufTy).Contents (Elt F) → (⟨S3584x2816, .bf16⟩ : BufTy).Contents (Elt F) → (⟨S3584x2816, .bf16⟩ : BufTy).Contents (Elt F)),
    reshape main_while0b_v55 main_while0b_v56 (rfl : (.bf16 : EltTy) = .bf16) shapeCasts_S3584x2816_S56x64x2816,
    unary main_while0b_v47 main_while0b_v57 (broadcastInDim S56x1x2816 ![0, 2] bcast_S56x2816_S56x1x2816_0_2 : (⟨S56x2816, .bf16⟩ : BufTy).Contents (Elt F) → (⟨S56x1x2816, .bf16⟩ : BufTy).Contents (Elt F)),
    unary main_while0b_v57 main_while0b_v58 (broadcastInDim S56x64x2816 ![0, 1, 2] bcast_S56x1x2816_S56x64x2816_0_1_2 : (⟨S56x1x2816, .bf16⟩ : BufTy).Contents (Elt F) → (⟨S56x64x2816, .bf16⟩ : BufTy).Contents (Elt F)),
    binary main_while0b_v56 main_while0b_v58 main_while0b_v59 (mulf : (⟨S56x64x2816, .bf16⟩ : BufTy).Contents (Elt F) → (⟨S56x64x2816, .bf16⟩ : BufTy).Contents (Elt F) → (⟨S56x64x2816, .bf16⟩ : BufTy).Contents (Elt F)),
    reshape main_while0b_v59 main_while0b_v60 (rfl : (.bf16 : EltTy) = .bf16) shapeCasts_S56x64x2816_S3584x2816,
    unary main_while0b_v52 main_while0b_v61 (sitofp .bf16 : (⟨S3584x2816, .i32⟩ : BufTy).Contents (Elt F) → (⟨S3584x2816, .bf16⟩ : BufTy).Contents (Elt F)),
    nullary main_while0b_cst_26 (constant S_ .bf16 0x4100#16),
    unary main_while0b_cst_26 main_while0b_v62 (broadcastInDim S3584x2816 ![] bcast_S_S3584x2816 : (⟨S_, .bf16⟩ : BufTy).Contents (Elt F) → (⟨S3584x2816, .bf16⟩ : BufTy).Contents (Elt F)),
    binary main_while0b_v61 main_while0b_v62 main_while0b_v63 (subf : (⟨S3584x2816, .bf16⟩ : BufTy).Contents (Elt F) → (⟨S3584x2816, .bf16⟩ : BufTy).Contents (Elt F) → (⟨S3584x2816, .bf16⟩ : BufTy).Contents (Elt F)),
    reshape main_while0b_v63 main_while0b_v64 (rfl : (.bf16 : EltTy) = .bf16) shapeCasts_S3584x2816_S56x64x2816,
    unary main_while0b_v47 main_while0b_v65 (broadcastInDim S56x1x2816 ![0, 2] bcast_S56x2816_S56x1x2816_0_2 : (⟨S56x2816, .bf16⟩ : BufTy).Contents (Elt F) → (⟨S56x1x2816, .bf16⟩ : BufTy).Contents (Elt F)),
    unary main_while0b_v65 main_while0b_v66 (broadcastInDim S56x64x2816 ![0, 1, 2] bcast_S56x1x2816_S56x64x2816_0_1_2 : (⟨S56x1x2816, .bf16⟩ : BufTy).Contents (Elt F) → (⟨S56x64x2816, .bf16⟩ : BufTy).Contents (Elt F)),
    binary main_while0b_v64 main_while0b_v66 main_while0b_v67 (mulf : (⟨S56x64x2816, .bf16⟩ : BufTy).Contents (Elt F) → (⟨S56x64x2816, .bf16⟩ : BufTy).Contents (Elt F) → (⟨S56x64x2816, .bf16⟩ : BufTy).Contents (Elt F)),
    reshape main_while0b_v67 main_while0b_v68 (rfl : (.bf16 : EltTy) = .bf16) shapeCasts_S56x64x2816_S3584x2816 ]

/-- The buffers stretch G writes. -/
abbrev wrG : List (Ref sig .tc) := [main_while0b_v48, main_while0b_c_23, main_while0b_v49, main_while0b_v50, main_while0b_c_24, main_while0b_v51, main_while0b_v52, main_while0b_v53, main_while0b_cst_25, main_while0b_v54, main_while0b_v55, main_while0b_v56, main_while0b_v57, main_while0b_v58, main_while0b_v59, main_while0b_v60, main_while0b_v61, main_while0b_cst_26, main_while0b_v62, main_while0b_v63, main_while0b_v64, main_while0b_v65, main_while0b_v66, main_while0b_v67, main_while0b_v68]

theorem opsG_sub : (opsG : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., nullary_bufs_sub .., unary_bufs_sub .., binary_bufs_sub .., reshape_bufs_sub .., unary_bufs_sub .., unary_bufs_sub .., binary_bufs_sub .., reshape_bufs_sub .., unary_bufs_sub .., nullary_bufs_sub .., unary_bufs_sub .., binary_bufs_sub .., reshape_bufs_sub .., unary_bufs_sub .., unary_bufs_sub .., binary_bufs_sub .., reshape_bufs_sub ..⟩

/-- A buffer stretch G does not write keeps its contents. -/
theorem keepG (V : Valuation τ sig (Elt F)) (r : Ref sig .tc) (hr : r ∉ wrG) :
    after (opsG (F := F)) V (Proc.devRef .tc r) = V (Proc.devRef .tc r) :=
  after_of_writes_sub _ V (forall_writes_sub_of_map (W := wrG) rfl) hr

/-- Stretch H, one trip: the second product. -/
abbrev opsH : List (HloOp τ sig (Elt F)) :=
  [ unary main_while0b_v43 main_while0b_v69 ((Host.slice S256x3584 ![0, 0] ![1, 2] · slicesBy_S256x7168_S256x3584_0s1_0s2) : (⟨S256x7168, .bf16⟩ : BufTy).Contents (Elt F) → (⟨S256x3584, .bf16⟩ : BufTy).Contents (Elt F)),
    binary main_while0b_v69 main_while0b_v60 main_while0b_v70 ((fun l r => Host.dotGeneral dot_S256x3584_S3584x2816_S256x2816_1_0_0_1_n_n none l r) : (⟨S256x3584, .bf16⟩ : BufTy).Contents (Elt F) → (⟨S3584x2816, .bf16⟩ : BufTy).Contents (Elt F) → (⟨S256x2816, .f32⟩ : BufTy).Contents (Elt F)),
    unary main_while0b_v43 main_while0b_v71 ((Host.slice S256x3584 ![0, 1] ![1, 2] · slicesBy_S256x7168_S256x3584_0s1_1s2) : (⟨S256x7168, .bf16⟩ : BufTy).Contents (Elt F) → (⟨S256x3584, .bf16⟩ : BufTy).Contents (Elt F)),
    binary main_while0b_v71 main_while0b_v68 main_while0b_v72 ((fun l r => Host.dotGeneral dot_S256x3584_S3584x2816_S256x2816_1_0_0_1_n_n none l r) : (⟨S256x3584, .bf16⟩ : BufTy).Contents (Elt F) → (⟨S3584x2816, .bf16⟩ : BufTy).Contents (Elt F) → (⟨S256x2816, .f32⟩ : BufTy).Contents (Elt F)),
    binary main_while0b_v70 main_while0b_v72 main_while0b_v73 (addf : (⟨S256x2816, .f32⟩ : BufTy).Contents (Elt F) → (⟨S256x2816, .f32⟩ : BufTy).Contents (Elt F) → (⟨S256x2816, .f32⟩ : BufTy).Contents (Elt F)) ]

/-- The buffers stretch H writes. -/
abbrev wrH : List (Ref sig .tc) := [main_while0b_v69, main_while0b_v70, main_while0b_v71, main_while0b_v72, main_while0b_v73]

theorem opsH_sub : (opsH : List (HloOp τ sig (Elt F))).Forall fun op => op.bufs ⊆ tcRefs τ sig :=
  ⟨unary_bufs_sub .., binary_bufs_sub .., unary_bufs_sub .., binary_bufs_sub .., binary_bufs_sub ..⟩

/-- A buffer stretch H does not write keeps its contents. -/
theorem keepH (V : Valuation τ sig (Elt F)) (r : Ref sig .tc) (hr : r ∉ wrH) :
    after (opsH (F := F)) V (Proc.devRef .tc r) = V (Proc.devRef .tc r) :=
  after_of_writes_sub _ V (forall_writes_sub_of_map (W := wrH) rfl) hr

/-- Stretch K, one trip: the rows put into the result, and the loop carried on. -/
abbrev opsK : List (HloOp τ sig (Elt F)) :=
  [ nullary main_while0b_c_27 (constantI S_ 32 0#32),
    binaryIndexed main_v2_9 main_while0b_v73 ![main_while0b_v7, main_while0b_c_27] ⟨S_, .i32⟩ main_while0b_v74 ((fun x u i => Host.dynamicUpdateSlice x u (fun k => (i k (Shape.Idx.first h_S_)).toInt) updateFits_S896x2816_S256x2816) : (⟨S896x2816, .f32⟩ : BufTy).Contents (Elt F) → (⟨S256x2816, .f32⟩ : BufTy).Contents (Elt F) → (Fin 2 → (⟨S_, .i32⟩ : BufTy).Contents (Elt F)) → (⟨S896x2816, .f32⟩ : BufTy).Contents (Elt F)),
    unary main_while0b_v3 main_v2_7 id,
    unary main_while0b_v74 main_v2_9 id ]

/-- The buffers stretch K writes. -/
abbrev wrK : List (Ref sig .tc) := [main_while0b_c_27, main_while0b_v74, main_v2_7, main_v2_9]

theorem opsK_sub : (opsK : List (HloOp τ sig (Elt F))).Forall fun op => op.bufs ⊆ tcRefs τ sig :=
  ⟨nullary_bufs_sub .., binaryIndexed_bufs_sub .., unary_bufs_sub .., unary_bufs_sub ..⟩

/-- A buffer stretch K does not write keeps its contents. -/
theorem keepK (V : Valuation τ sig (Elt F)) (r : Ref sig .tc) (hr : r ∉ wrK) :
    after (opsK (F := F)) V (Proc.devRef .tc r) = V (Proc.devRef .tc r) :=
  after_of_writes_sub _ V (forall_writes_sub_of_map (W := wrK) rfl) hr

/-- Stretch Q, the loop's condition. -/
abbrev opsQ : List (HloOp τ sig (Elt F)) :=
  [ binary main_v2_7 main_v2_8 main_while0c_v3 (cmpi .slt : (⟨S_, .i32⟩ : BufTy).Contents (Elt F) → (⟨S_, .i32⟩ : BufTy).Contents (Elt F) → (⟨S_, .i1⟩ : BufTy).Contents (Elt F)) ]

/-- The buffers stretch Q writes. -/
abbrev wrQ : List (Ref sig .tc) := [main_while0c_v3]

theorem opsQ_sub : (opsQ : List (HloOp τ sig (Elt F))).Forall fun op => op.bufs ⊆ tcRefs τ sig :=
  binary_bufs_sub ..

/-- A buffer stretch Q does not write keeps its contents. -/
theorem keepQ (V : Valuation τ sig (Elt F)) (r : Ref sig .tc) (hr : r ∉ wrQ) :
    after (opsQ (F := F)) V (Proc.devRef .tc r) = V (Proc.devRef .tc r) :=
  after_of_writes_sub _ V (forall_writes_sub_of_map (W := wrQ) rfl) hr

/-- The contents after the condition and one trip, from those before. -/
def step (V : Valuation τ sig (Elt F)) : Valuation τ sig (Elt F) :=
  after opsK (after opsH (after opsG (after opsE (after opsD (after opsC (after opsB (after opsA (after opsQ V))))))))

theorem step_keep (V : Valuation τ sig (Elt F)) (r : Ref sig .tc) (hQ : r ∉ wrQ) (hA : r ∉ wrA) (hB : r ∉ wrB) (hC : r ∉ wrC) (hD : r ∉ wrD) (hE : r ∉ wrE) (hG : r ∉ wrG) (hH : r ∉ wrH) (hK : r ∉ wrK) :
    step V (Proc.devRef .tc r) = V (Proc.devRef .tc r) := by
  unfold step
  rw [keepK _ r hK, keepH _ r hH, keepG _ r hG, keepE _ r hE, keepD _ r hD, keepC _ r hC, keepB _ r hB, keepA _ r hA, keepQ _ r hQ]

/-- One trip's stretches. -/
abbrev bodyI : List (List (HloOp τ sig (Elt F))) := [opsA, opsB, opsC, opsD, opsE, opsG, opsH, opsK]

theorem body_eq : main_while0_body (F := F) = Pipeline.chain (bodyI.map fun ops => (seq ops : Prog _ PUnit)) := by
  show main_while0_body (F := F) = Pipeline.chain [seq opsA, seq opsB, seq opsC, seq opsD, seq opsE, seq opsG, seq opsH, seq opsK]
  unfold main_while0_body
  rewrite [chain_seq_cons, chain_seq_cons, chain_seq_cons, chain_seq_cons, chain_seq_cons, chain_seq_cons, chain_seq_cons, chain_seq_cons]
  chain_rfl

theorem main_eq (c : Dev nD) : main (F := F) c = Pipeline.chain (([opsP].map fun ops => (seq ops : Prog _ PUnit)) ++ HostLoop.enter 0 :: ([] : List (List (HloOp τ sig (Elt F)))).map fun ops => (seq ops : Prog _ PUnit)) := by
  show main (F := F) c = Pipeline.chain [seq opsP, HostLoop.enter 0]
  rewrite [chain_seq_cons, Pipeline.chain_cons]
  chain_rfl

theorem plainP : Plain ([opsP] : List (List (HloOp τ sig (Elt F)))) := Plain.cons opsP_sub Plain.nil
theorem plainB : Plain (bodyI : List (List (HloOp τ sig (Elt F)))) :=
  Plain.cons opsA_sub (Plain.cons opsB_sub (Plain.cons opsC_sub (Plain.cons opsD_sub (Plain.cons opsE_sub (Plain.cons opsG_sub (Plain.cons opsH_sub (Plain.cons opsK_sub Plain.nil)))))))

/-- The contents before trip `k`. -/
def before (m : (ℓ : Loc nD τ sig) → Buf (Elt F) ℓ) (c : Dev nD) : ℕ → Valuation τ sig (Elt F)
  | 0 => after opsP (launchContents m c)
  | k + 1 => step (before m c k)

theorem atTrip_eq (m : (ℓ : Loc nD τ sig) → Buf (Elt F) ℓ) (c : Dev nD) (k : ℕ) :
    atTrip (opsQ (F := F)) bodyI (entryContents [opsP] m) k c = before m c k := by
  induction k with
  | zero => rfl
  | succ k ih => rw [atTrip_succ, ih]; rfl

end Cert.ReferenceIdeal.Hand
-- ==== Proof.RefTerms.lean ====
/-
  The reference's stretches as functions of arrays, read one element at a time over the extended reals.
-/
module

public import proofs.«01_k».proof.Proof.Spec
public import proofs.«01_k».proof.Proof.Gen.ReferenceIdeal
public import Idealize.ShloMosaic.Lib.Pointwise
public import Idealize.ShloMosaic.Lib.WordCmp
public import Idealize.ShloMosaic.Lib.IdealHost

@[expose] public section

noncomputable section

namespace Cert.ReferenceIdeal.Hand

open Cert.ReferenceIdeal Cert.ReferenceIdeal.Gen
open Idealize.ShloMosaic Cert.Nibble
open Cert.Spec (code code_mod)

/-- The number 8 of the reference's constant. -/
theorem eight_eq : FloatOps.ofBits (F := Ideal) FTy.bf16 0x4100#16 = ((8 : ℝ) : EReal) := by
  show Ideal.ofBits .bf16 0x4100#16 = _
  simp [Ideal.ofBits, Ideal.ieee, -EReal.coe_mul]
  norm_num

theorem less_eight (z : ℤ) : ((z : ℝ) : EReal) - ((8 : ℝ) : EReal) = (((z - 8 : ℤ) : ℝ) : EReal) := by
  push_cast; rfl

theorem low_eq (b : BitVec 8) :
    FloatOps.subf (F := Ideal) (FloatOps.sitofp (F := Ideal) FTy.bf16 (IntOp.andi (b.setWidth 32) 15#32)) (FloatOps.ofBits FTy.bf16 0x4100#16) = code b 0 := by
  rw [eight_eq]
  unfold code
  rw [← low_code b]
  exact less_eight _

theorem high_eq (b : BitVec 8) :
    FloatOps.subf (F := Ideal) (FloatOps.sitofp (F := Ideal) FTy.bf16 (IntOp.shrsi ArithUnit.host (b.setWidth 32) 4#32)) (FloatOps.ofBits FTy.bf16 0x4100#16) = code b 1 := by
  rw [eight_eq]
  unfold code
  rw [← high_code b]
  exact less_eight _

/-- The slices of the weights and scales start at the expert's number. -/
theorem start_eq (a : S_.Idx → BitVec 32) (e : Fin 8) (h : ∀ i, a i = BitVec.ofNat 32 e.val) (k : Fin 3) :
    (((![a, constantI S_ 32 0#32, constantI S_ 32 0#32] : Fin 3 → (⟨S_, .i32⟩ : BufTy).Contents (Elt Ideal))) k (Shape.Idx.first h_S_)).toInt
      = ((![e.val, 0, 0] : Fin 3 → ℕ) k : ℤ) := by
  match k with
  | 0 => exact (congrArg BitVec.toInt (h _)).trans (by clear h; revert e; decide)
  | 1 => rfl
  | 2 => rfl

/-- The expert's first packed codes. -/
def codes1 (w : S8x1408x14336.Idx → BitVec 8) (a : S_.Idx → BitVec 32) : S1408x14336.Idx → BitVec 8 :=
  shapeCast S1408x14336 (Host.dynamicSlice S1x1408x14336 w (fun k => (((![a, constantI S_ 32 0#32, constantI S_ 32 0#32] : Fin 3 → (⟨S_, .i32⟩ : BufTy).Contents (Elt Ideal))) k (Shape.Idx.first h_S_)).toInt) sliceFits_S8x1408x14336_S1x1408x14336) shapeCasts_S1x1408x14336_S1408x14336

set_option maxRecDepth 16384 in
theorem codes1_apply (w : S8x1408x14336.Idx → BitVec 8) (a : S_.Idx → BitVec 32) (e : Fin 8) (h : ∀ i, a i = BitVec.ofNat 32 e.val)
    (k : Fin 1408) (n : Fin 14336) : codes1 w a (ix2 k n) = w (ix3 e k n) := by
  have hk : (S8x1408x14336).Slices ![e.val, 0, 0] S1x1408x14336 := ⟨rfl, fun a => by
    match a with
    | 0 => show e.val + 1 ≤ 8; omega
    | 1 => exact Nat.le_of_eq (Nat.zero_add _)
    | 2 => exact Nat.le_of_eq (Nat.zero_add _)⟩
  unfold codes1
  rw [WordCmp.dynamicSlice_eq_extract _ w _ sliceFits_S8x1408x14336_S1x1408x14336 ![e.val, 0, 0] hk (start_eq a e h)]
  pointwise []

/-- The expert's first scales. -/
def scales1 (w : S8x22x14336.Idx → Ideal .bf16) (a : S_.Idx → BitVec 32) : S22x14336.Idx → Ideal .bf16 :=
  shapeCast S22x14336 (Host.dynamicSlice S1x22x14336 w (fun k => (((![a, constantI S_ 32 0#32, constantI S_ 32 0#32] : Fin 3 → (⟨S_, .i32⟩ : BufTy).Contents (Elt Ideal))) k (Shape.Idx.first h_S_)).toInt) sliceFits_S8x22x14336_S1x22x14336) shapeCasts_S1x22x14336_S22x14336

set_option maxRecDepth 16384 in
theorem scales1_apply (w : S8x22x14336.Idx → Ideal .bf16) (a : S_.Idx → BitVec 32) (e : Fin 8) (h : ∀ i, a i = BitVec.ofNat 32 e.val)
    (k : Fin 22) (n : Fin 14336) : scales1 w a (ix2 k n) = w (ix3 e k n) := by
  have hk : (S8x22x14336).Slices ![e.val, 0, 0] S1x22x14336 := ⟨rfl, fun a => by
    match a with
    | 0 => show e.val + 1 ≤ 8; omega
    | 1 => exact Nat.le_of_eq (Nat.zero_add _)
    | 2 => exact Nat.le_of_eq (Nat.zero_add _)⟩
  unfold scales1
  rw [WordCmp.dynamicSlice_eq_extract _ w _ sliceFits_S8x22x14336_S1x22x14336 ![e.val, 0, 0] hk (start_eq a e h)]
  pointwise []

/-- The expert's second packed codes. -/
def codes2 (w : S8x3584x2816.Idx → BitVec 8) (a : S_.Idx → BitVec 32) : S3584x2816.Idx → BitVec 8 :=
  shapeCast S3584x2816 (Host.dynamicSlice S1x3584x2816 w (fun k => (((![a, constantI S_ 32 0#32, constantI S_ 32 0#32] : Fin 3 → (⟨S_, .i32⟩ : BufTy).Contents (Elt Ideal))) k (Shape.Idx.first h_S_)).toInt) sliceFits_S8x3584x2816_S1x3584x2816) shapeCasts_S1x3584x2816_S3584x2816

set_option maxRecDepth 16384 in
theorem codes2_apply (w : S8x3584x2816.Idx → BitVec 8) (a : S_.Idx → BitVec 32) (e : Fin 8) (h : ∀ i, a i = BitVec.ofNat 32 e.val)
    (k : Fin 3584) (n : Fin 2816) : codes2 w a (ix2 k n) = w (ix3 e k n) := by
  have hk : (S8x3584x2816).Slices ![e.val, 0, 0] S1x3584x2816 := ⟨rfl, fun a => by
    match a with
    | 0 => show e.val + 1 ≤ 8; omega
    | 1 => exact Nat.le_of_eq (Nat.zero_add _)
    | 2 => exact Nat.le_of_eq (Nat.zero_add _)⟩
  unfold codes2
  rw [WordCmp.dynamicSlice_eq_extract _ w _ sliceFits_S8x3584x2816_S1x3584x2816 ![e.val, 0, 0] hk (start_eq a e h)]
  pointwise []

/-- The expert's second scales. -/
def scales2 (w : S8x56x2816.Idx → Ideal .bf16) (a : S_.Idx → BitVec 32) : S56x2816.Idx → Ideal .bf16 :=
  shapeCast S56x2816 (Host.dynamicSlice S1x56x2816 w (fun k => (((![a, constantI S_ 32 0#32, constantI S_ 32 0#32] : Fin 3 → (⟨S_, .i32⟩ : BufTy).Contents (Elt Ideal))) k (Shape.Idx.first h_S_)).toInt) sliceFits_S8x56x2816_S1x56x2816) shapeCasts_S1x56x2816_S56x2816

set_option maxRecDepth 16384 in
theorem scales2_apply (w : S8x56x2816.Idx → Ideal .bf16) (a : S_.Idx → BitVec 32) (e : Fin 8) (h : ∀ i, a i = BitVec.ofNat 32 e.val)
    (k : Fin 56) (n : Fin 2816) : scales2 w a (ix2 k n) = w (ix3 e k n) := by
  have hk : (S8x56x2816).Slices ![e.val, 0, 0] S1x56x2816 := ⟨rfl, fun a => by
    match a with
    | 0 => show e.val + 1 ≤ 8; omega
    | 1 => exact Nat.le_of_eq (Nat.zero_add _)
    | 2 => exact Nat.le_of_eq (Nat.zero_add _)⟩
  unfold scales2
  rw [WordCmp.dynamicSlice_eq_extract _ w _ sliceFits_S8x56x2816_S1x56x2816 ![e.val, 0, 0] hk (start_eq a e h)]
  pointwise []

/-- The even rows of the first weights. -/
def low1 (v : S1408x14336.Idx → BitVec 8) (s : S22x14336.Idx → Ideal .bf16) : S1408x14336.Idx → Ideal .bf16 :=
  shapeCast S1408x14336 (mulf (shapeCast S22x64x14336 (subf (sitofp .bf16 (andi (extui 32 v natLt_8_32) (broadcastInDim S1408x14336 ![] bcast_S_S1408x14336 (constantI S_ 32 15#32)))) (broadcastInDim S1408x14336 ![] bcast_S_S1408x14336 (constant (F := Ideal) S_ .bf16 0x4100#16))) shapeCasts_S1408x14336_S22x64x14336) (broadcastInDim S22x64x14336 ![0, 1, 2] bcast_S22x1x14336_S22x64x14336_0_1_2 (broadcastInDim S22x1x14336 ![0, 2] bcast_S22x14336_S22x1x14336_0_2 s))) shapeCasts_S22x64x14336_S1408x14336

set_option maxRecDepth 16384 in
theorem low1_apply (v : S1408x14336.Idx → BitVec 8) (s : S22x14336.Idx → Ideal .bf16) (k : Fin 1408) (n : Fin 14336) :
    low1 v s (ix2 k n) = code (v (ix2 k n)) 0 * s (ix2 ⟨k.val / 64, by omega⟩ n) := by
  pointwise [low1]
  exact congrArg (· * _) (low_eq _)

/-- The odd rows of the first weights. -/
def high1 (v : S1408x14336.Idx → BitVec 8) (s : S22x14336.Idx → Ideal .bf16) : S1408x14336.Idx → Ideal .bf16 :=
  shapeCast S1408x14336 (mulf (shapeCast S22x64x14336 (subf (sitofp .bf16 (Host.shrsi (extui 32 v natLt_8_32) (broadcastInDim S1408x14336 ![] bcast_S_S1408x14336 (constantI S_ 32 4#32)))) (broadcastInDim S1408x14336 ![] bcast_S_S1408x14336 (constant (F := Ideal) S_ .bf16 0x4100#16))) shapeCasts_S1408x14336_S22x64x14336) (broadcastInDim S22x64x14336 ![0, 1, 2] bcast_S22x1x14336_S22x64x14336_0_1_2 (broadcastInDim S22x1x14336 ![0, 2] bcast_S22x14336_S22x1x14336_0_2 s))) shapeCasts_S22x64x14336_S1408x14336

set_option maxRecDepth 16384 in
theorem high1_apply (v : S1408x14336.Idx → BitVec 8) (s : S22x14336.Idx → Ideal .bf16) (k : Fin 1408) (n : Fin 14336) :
    high1 v s (ix2 k n) = code (v (ix2 k n)) 1 * s (ix2 ⟨k.val / 64, by omega⟩ n) := by
  pointwise [high1]
  exact congrArg (· * _) (high_eq _)

/-- The even rows of the second weights. -/
def low2 (v : S3584x2816.Idx → BitVec 8) (s : S56x2816.Idx → Ideal .bf16) : S3584x2816.Idx → Ideal .bf16 :=
  shapeCast S3584x2816 (mulf (shapeCast S56x64x2816 (subf (sitofp .bf16 (andi (extui 32 v natLt_8_32) (broadcastInDim S3584x2816 ![] bcast_S_S3584x2816 (constantI S_ 32 15#32)))) (broadcastInDim S3584x2816 ![] bcast_S_S3584x2816 (constant (F := Ideal) S_ .bf16 0x4100#16))) shapeCasts_S3584x2816_S56x64x2816) (broadcastInDim S56x64x2816 ![0, 1, 2] bcast_S56x1x2816_S56x64x2816_0_1_2 (broadcastInDim S56x1x2816 ![0, 2] bcast_S56x2816_S56x1x2816_0_2 s))) shapeCasts_S56x64x2816_S3584x2816

set_option maxRecDepth 16384 in
theorem low2_apply (v : S3584x2816.Idx → BitVec 8) (s : S56x2816.Idx → Ideal .bf16) (k : Fin 3584) (n : Fin 2816) :
    low2 v s (ix2 k n) = code (v (ix2 k n)) 0 * s (ix2 ⟨k.val / 64, by omega⟩ n) := by
  pointwise [low2]
  exact congrArg (· * _) (low_eq _)

/-- The odd rows of the second weights. -/
def high2 (v : S3584x2816.Idx → BitVec 8) (s : S56x2816.Idx → Ideal .bf16) : S3584x2816.Idx → Ideal .bf16 :=
  shapeCast S3584x2816 (mulf (shapeCast S56x64x2816 (subf (sitofp .bf16 (Host.shrsi (extui 32 v natLt_8_32) (broadcastInDim S3584x2816 ![] bcast_S_S3584x2816 (constantI S_ 32 4#32)))) (broadcastInDim S3584x2816 ![] bcast_S_S3584x2816 (constant (F := Ideal) S_ .bf16 0x4100#16))) shapeCasts_S3584x2816_S56x64x2816) (broadcastInDim S56x64x2816 ![0, 1, 2] bcast_S56x1x2816_S56x64x2816_0_1_2 (broadcastInDim S56x1x2816 ![0, 2] bcast_S56x2816_S56x1x2816_0_2 s))) shapeCasts_S56x64x2816_S3584x2816

set_option maxRecDepth 16384 in
theorem high2_apply (v : S3584x2816.Idx → BitVec 8) (s : S56x2816.Idx → Ideal .bf16) (k : Fin 3584) (n : Fin 2816) :
    high2 v s (ix2 k n) = code (v (ix2 k n)) 1 * s (ix2 ⟨k.val / 64, by omega⟩ n) := by
  pointwise [high2]
  exact congrArg (· * _) (high_eq _)

/-- The first product, even and odd rows apart. -/
def prod1 (x : S256x2816.Idx → Ideal .bf16) (lo hi : S1408x14336.Idx → Ideal .bf16) : S256x14336.Idx → Ideal .f32 :=
  addf (Host.dotGeneral dot_S256x1408_S1408x14336_S256x14336_1_0_0_1_n_n none (Host.slice S256x1408 ![0, 0] ![1, 2] x slicesBy_S256x2816_S256x1408_0s1_0s2) lo)
    (Host.dotGeneral dot_S256x1408_S1408x14336_S256x14336_1_0_0_1_n_n none (Host.slice S256x1408 ![0, 1] ![1, 2] x slicesBy_S256x2816_S256x1408_0s1_1s2) hi)

set_option maxRecDepth 16384 in
theorem prod1_apply (x : S256x2816.Idx → Ideal .bf16) (lo hi : S1408x14336.Idx → Ideal .bf16) (i : Fin 256) (n : Fin 14336) :
    prod1 x lo hi (ix2 i n) = (∑ k : Fin 1408, (x (ix2 i ⟨2 * k.val, by omega⟩) : EReal) * lo (ix2 k n))
      + ∑ k : Fin 1408, (x (ix2 i ⟨2 * k.val + 1, by omega⟩) : EReal) * hi (ix2 k n) := by
  pointwise [prod1]
  simp only [Nat.add_comm 1]

/-- The second product, even and odd rows apart. -/
def prod2 (x : S256x7168.Idx → Ideal .bf16) (lo hi : S3584x2816.Idx → Ideal .bf16) : S256x2816.Idx → Ideal .f32 :=
  addf (Host.dotGeneral dot_S256x3584_S3584x2816_S256x2816_1_0_0_1_n_n none (Host.slice S256x3584 ![0, 0] ![1, 2] x slicesBy_S256x7168_S256x3584_0s1_0s2) lo)
    (Host.dotGeneral dot_S256x3584_S3584x2816_S256x2816_1_0_0_1_n_n none (Host.slice S256x3584 ![0, 1] ![1, 2] x slicesBy_S256x7168_S256x3584_0s1_1s2) hi)

set_option maxRecDepth 16384 in
theorem prod2_apply (x : S256x7168.Idx → Ideal .bf16) (lo hi : S3584x2816.Idx → Ideal .bf16) (i : Fin 256) (n : Fin 2816) :
    prod2 x lo hi (ix2 i n) = (∑ k : Fin 3584, (x (ix2 i ⟨2 * k.val, by omega⟩) : EReal) * lo (ix2 k n))
      + ∑ k : Fin 3584, (x (ix2 i ⟨2 * k.val + 1, by omega⟩) : EReal) * hi (ix2 k n) := by
  pointwise [prod2]
  simp only [Nat.add_comm 1]

/-- The intermediate rows from the first product. -/
def mid (g : S256x14336.Idx → Ideal .f32) : S256x7168.Idx → Ideal .bf16 :=
  truncf .bf16 (mulf (mulf (extractStridedSlice S256x7168 ![0, 0] g slices_S256x14336_S256x7168_0_0)
    (Host.divf (broadcastInDim S256x7168 ![] bcast_S_S256x7168 (constant (F := Ideal) S_ .f32 0x3F800000#32)) (addf (broadcastInDim S256x7168 ![] bcast_S_S256x7168 (constant (F := Ideal) S_ .f32 0x3F800000#32)) (Host.exp (Host.negf (extractStridedSlice S256x7168 ![0, 0] g slices_S256x14336_S256x7168_0_0))))))
    (extractStridedSlice S256x7168 ![0, 7168] g slices_S256x14336_S256x7168_0_7168)) bitsLt_bf16_f32

set_option maxRecDepth 16384 in
theorem mid_apply (g : S256x14336.Idx → Ideal .f32) (i : Fin 256) (k : Fin 7168) :
    mid g (ix2 i k) = (g (ix2 i ⟨k.val, by omega⟩) : EReal) * Ideal.logistic (g (ix2 i ⟨k.val, by omega⟩)) * g (ix2 i ⟨7168 + k.val, by omega⟩) := by
  pointwise [mid]
  rfl

/-- The word a table holds at a counter. -/
def word (t : S9.Idx → BitVec 32) (a : S_.Idx → BitVec 32) : S_.Idx → BitVec 32 :=
  shapeCast S_ (Host.dynamicSlice S1 t (fun k => (((![a] : Fin 1 → (⟨S_, .i32⟩ : BufTy).Contents (Elt Ideal))) k (Shape.Idx.first h_S_)).toInt) sliceFits_S9_S1) shapeCasts_S1_S_

theorem word_apply (t : S9.Idx → BitVec 32) (a : S_.Idx → BitVec 32) (f : ℕ → ℕ) (h : ∀ i : S9.Idx, t i = BitVec.ofNat 32 (f ((i 0 : Fin 9) : ℕ)))
    (n : Fin 9) (ha : ∀ i, a i = BitVec.ofNat 32 n.val) (i : S_.Idx) : word t a i = BitVec.ofNat 32 (f n.val) := by
  have hk : (S9).Slices ![n.val] S1 := ⟨rfl, fun a => by
    match a with
    | 0 => show n.val + 1 ≤ 9; omega⟩
  unfold word
  rw [WordCmp.dynamicSlice_eq_extract _ t _ sliceFits_S9_S1 ![n.val] hk (fun k => by
    match k with
    | 0 => exact (congrArg BitVec.toInt (ha _)).trans (by clear ha hk; revert n; decide))]
  refine (h _).trans (congrArg (fun k : ℕ => BitVec.ofNat 32 (f k)) ?_)
  have : ∀ p : Fin 1, n.val + p.val = n.val := fun p => by omega
  exact this _

/-- The rows from a row number on. -/
def rows (x : S896x2816.Idx → Ideal .bf16) (b : S_.Idx → BitVec 32) : S256x2816.Idx → Ideal .bf16 :=
  Host.dynamicSlice S256x2816 x (fun k => (((![b, constantI S_ 32 0#32] : Fin 2 → (⟨S_, .i32⟩ : BufTy).Contents (Elt Ideal))) k (Shape.Idx.first h_S_)).toInt) sliceFits_S896x2816_S256x2816

theorem small_toInt (r : ℕ) (h : r < 641) : (BitVec.ofNat 32 r).toInt = (r : ℤ) := by
  rw [BitVec.toInt_eq_toNat_of_lt] <;> rw [BitVec.toNat_ofNat, Nat.mod_eq_of_lt (by omega)]; omega

theorem row_start (b : S_.Idx → BitVec 32) (r : Fin 641) (h : ∀ i, b i = BitVec.ofNat 32 r.val) (k : Fin 2) :
    (((![b, constantI S_ 32 0#32] : Fin 2 → (⟨S_, .i32⟩ : BufTy).Contents (Elt Ideal))) k (Shape.Idx.first h_S_)).toInt = ((![r.val, 0] : Fin 2 → ℕ) k : ℤ) := by
  match k with
  | 0 => exact (congrArg BitVec.toInt (h _)).trans (small_toInt r.val r.isLt)
  | 1 => rfl

theorem row_fits (r : Fin 641) : (S896x2816).Slices ![r.val, 0] S256x2816 := ⟨rfl, fun a => by
    match a with
    | 0 => show r.val + 256 ≤ 896; omega
    | 1 => exact Nat.le_of_eq (Nat.zero_add _)⟩

theorem rows_eq (x : S896x2816.Idx → Ideal .bf16) (b : S_.Idx → BitVec 32) (r : Fin 641) (h : ∀ i, b i = BitVec.ofNat 32 r.val) :
    rows x b = Cert.Spec.rowsFrom x r := by
  unfold rows
  rw [WordCmp.dynamicSlice_eq_extract _ x _ sliceFits_S896x2816_S256x2816 ![r.val, 0] (row_fits r) (row_start b r h)]
  funext i
  unfold Cert.Spec.rowsFrom
  refine congrArg x (funext fun a => Fin.ext ?_)
  match a with
  | 0 => rfl
  | 1 => exact Nat.zero_add _

/-- Rows put into an array from a row number on. -/
def put (y : S896x2816.Idx → Ideal .f32) (u : S256x2816.Idx → Ideal .f32) (b : S_.Idx → BitVec 32) : S896x2816.Idx → Ideal .f32 :=
  Host.dynamicUpdateSlice y u (fun k => (((![b, constantI S_ 32 0#32] : Fin 2 → (⟨S_, .i32⟩ : BufTy).Contents (Elt Ideal))) k (Shape.Idx.first h_S_)).toInt) updateFits_S896x2816_S256x2816

theorem put_eq (y : S896x2816.Idx → Ideal .f32) (u : S256x2816.Idx → Ideal .f32) (b : S_.Idx → BitVec 32) (r : Fin 641) (h : ∀ i, b i = BitVec.ofNat 32 r.val) :
    put y u b = Cert.Spec.putAt y (fun i n => u (ix2 i n)) r := by
  unfold put
  rw [WordCmp.dynamicUpdateSlice_eq_update y u _ updateFits_S896x2816_S256x2816 ![r.val, 0] (row_fits r) (row_start b r h)]
  funext i
  unfold Cert.Spec.putAt updateSlice
  by_cases hc : r.val ≤ (i 0 : Fin 896).val ∧ (i 0 : Fin 896).val < r.val + 256
  · rw [dif_pos hc, dif_pos (fun a => by
      match a with
      | 0 => exact hc
      | 1 => exact ⟨Nat.zero_le _, by show (i 1).val < 0 + 2816; have : (i 1).val < 2816 := (i 1).isLt; omega⟩)]
    refine congrArg u (funext fun a => Fin.ext ?_)
    match a with
    | 0 => rfl
    | 1 => rfl
  · rw [dif_neg hc, dif_neg (fun hh => hc (hh 0))]

end Cert.ReferenceIdeal.Hand
-- ==== Proof.RefStretch.lean ====
/-
  What each stretch of the reference's operations leaves in the buffers the later ones read.
-/
module

public import proofs.«01_k».proof.Proof.RefRun
public import proofs.«01_k».proof.Proof.RefTerms
public import Idealize.ShloMosaic.Lib.StableHlo.RunClose

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec (code code_mod sum_pairs)

variable (V : Valuation τ sig (Elt Ideal))

set_option maxRecDepth 8192 in
set_option maxHeartbeats 2000000 in
theorem atP_ctr : after (opsP (F := Ideal)) V (Proc.devRef .tc main_v2_7) = (constantI S_ 32 0#32) := by
  simp only [opsP]
  after_results_simp <;> rfl

set_option maxRecDepth 8192 in
set_option maxHeartbeats 2000000 in
theorem atP_ub : after (opsP (F := Ideal)) V (Proc.devRef .tc main_v2_8) = shapeCast S_ (V (Proc.devRef .tc main_arg3)) shapeCasts_S1_S_ := by
  simp only [opsP]
  after_results_simp <;> rfl

set_option maxRecDepth 8192 in
set_option maxHeartbeats 2000000 in
theorem atP_y : after (opsP (F := Ideal)) V (Proc.devRef .tc main_v2_9) = broadcastInDim S896x2816 ![] bcast_S_S896x2816 (constant (F := Ideal) S_ .f32 0x00000000#32) := by
  simp only [opsP]
  after_results_simp <;> rfl

set_option maxRecDepth 8192 in
set_option maxHeartbeats 2000000 in
theorem atP_0 : after (opsP (F := Ideal)) V (Proc.devRef .tc main_v2_0) = (V (Proc.devRef .tc main_arg1)) := by
  simp only [opsP]
  after_results_simp <;> rfl

set_option maxRecDepth 8192 in
set_option maxHeartbeats 2000000 in
theorem atP_1 : after (opsP (F := Ideal)) V (Proc.devRef .tc main_v2_1) = (V (Proc.devRef .tc main_arg2)) := by
  simp only [opsP]
  after_results_simp <;> rfl

set_option maxRecDepth 8192 in
set_option maxHeartbeats 2000000 in
theorem atP_2 : after (opsP (F := Ideal)) V (Proc.devRef .tc main_v2_2) = (V (Proc.devRef .tc main_arg0)) := by
  simp only [opsP]
  after_results_simp <;> rfl

set_option maxRecDepth 8192 in
set_option maxHeartbeats 2000000 in
theorem atP_3 : after (opsP (F := Ideal)) V (Proc.devRef .tc main_v2_3) = (V (Proc.devRef .tc main_arg4)) := by
  simp only [opsP]
  after_results_simp <;> rfl

set_option maxRecDepth 8192 in
set_option maxHeartbeats 2000000 in
theorem atP_4 : after (opsP (F := Ideal)) V (Proc.devRef .tc main_v2_4) = (V (Proc.devRef .tc main_arg5)) := by
  simp only [opsP]
  after_results_simp <;> rfl

set_option maxRecDepth 8192 in
set_option maxHeartbeats 2000000 in
theorem atP_5 : after (opsP (F := Ideal)) V (Proc.devRef .tc main_v2_5) = (V (Proc.devRef .tc main_arg6)) := by
  simp only [opsP]
  after_results_simp <;> rfl

set_option maxRecDepth 8192 in
set_option maxHeartbeats 2000000 in
theorem atP_6 : after (opsP (F := Ideal)) V (Proc.devRef .tc main_v2_6) = (V (Proc.devRef .tc main_arg7)) := by
  simp only [opsP]
  after_results_simp <;> rfl

set_option maxRecDepth 8192 in
set_option maxHeartbeats 2000000 in
theorem atA_v3 : after (opsA (F := Ideal)) V (Proc.devRef .tc main_while0b_v3) = addi (V (Proc.devRef .tc main_v2_7)) (constantI S_ 32 1#32) := by
  simp only [opsA]
  after_results_simp <;> rfl

set_option maxRecDepth 8192 in
set_option maxHeartbeats 2000000 in
theorem atA_v5 : after (opsA (F := Ideal)) V (Proc.devRef .tc main_while0b_v5) = (word (V (Proc.devRef .tc main_v2_0)) (V (Proc.devRef .tc main_v2_7))) := by
  simp only [opsA]
  after_results_simp_entrywise
  unfold word
  rfl

set_option maxRecDepth 8192 in
set_option maxHeartbeats 2000000 in
theorem atA_v7 : after (opsA (F := Ideal)) V (Proc.devRef .tc main_while0b_v7) = (word (V (Proc.devRef .tc main_v2_1)) (V (Proc.devRef .tc main_v2_7))) := by
  simp only [opsA]
  after_results_simp_entrywise
  unfold word
  rfl

set_option maxRecDepth 8192 in
set_option maxHeartbeats 2000000 in
theorem atA_v8 : after (opsA (F := Ideal)) V (Proc.devRef .tc main_while0b_v8) = rows (V (Proc.devRef .tc main_v2_2)) (word (V (Proc.devRef .tc main_v2_1)) (V (Proc.devRef .tc main_v2_7))) := by
  simp only [opsA]
  after_results_simp_entrywise
  unfold rows word
  rfl

set_option maxRecDepth 8192 in
set_option maxHeartbeats 2000000 in
theorem atA_v10 : after (opsA (F := Ideal)) V (Proc.devRef .tc main_while0b_v10) = codes1 (V (Proc.devRef .tc main_v2_3)) (word (V (Proc.devRef .tc main_v2_0)) (V (Proc.devRef .tc main_v2_7))) := by
  simp only [opsA]
  after_results_simp_entrywise
  unfold codes1 word
  rfl

set_option maxRecDepth 8192 in
set_option maxHeartbeats 2000000 in
theorem atA_v12 : after (opsA (F := Ideal)) V (Proc.devRef .tc main_while0b_v12) = scales1 (V (Proc.devRef .tc main_v2_4)) (word (V (Proc.devRef .tc main_v2_0)) (V (Proc.devRef .tc main_v2_7))) := by
  simp only [opsA]
  after_results_simp_entrywise
  unfold scales1 word
  rfl

set_option maxRecDepth 8192 in
set_option maxHeartbeats 2000000 in
theorem atB_v25 : after (opsB (F := Ideal)) V (Proc.devRef .tc main_while0b_v25) = low1 (V (Proc.devRef .tc main_while0b_v10)) (V (Proc.devRef .tc main_while0b_v12)) := by
  simp only [opsB]
  after_results_simp <;> rfl

set_option maxRecDepth 8192 in
set_option maxHeartbeats 2000000 in
theorem atB_v33 : after (opsB (F := Ideal)) V (Proc.devRef .tc main_while0b_v33) = high1 (V (Proc.devRef .tc main_while0b_v10)) (V (Proc.devRef .tc main_while0b_v12)) := by
  simp only [opsB]
  after_results_simp <;> rfl

set_option maxRecDepth 8192 in
set_option maxHeartbeats 2000000 in
theorem atC_v38 : after (opsC (F := Ideal)) V (Proc.devRef .tc main_while0b_v38) = prod1 (V (Proc.devRef .tc main_while0b_v8)) (V (Proc.devRef .tc main_while0b_v25)) (V (Proc.devRef .tc main_while0b_v33)) := by
  simp only [opsC]
  after_results_simp <;> rfl

set_option maxRecDepth 8192 in
set_option maxHeartbeats 2000000 in
theorem atD_v43 : after (opsD (F := Ideal)) V (Proc.devRef .tc main_while0b_v43) = mid (V (Proc.devRef .tc main_while0b_v38)) := by
  simp only [opsD, TRef.binary, TRef.nullary, TRef.unary, TRef.toBuf, TRef.ofBuf, cast_eq]
  after_results_simp <;> rfl

set_option maxRecDepth 8192 in
set_option maxHeartbeats 2000000 in
theorem atE_v45 : after (opsE (F := Ideal)) V (Proc.devRef .tc main_while0b_v45) = codes2 (V (Proc.devRef .tc main_v2_5)) (V (Proc.devRef .tc main_while0b_v5)) := by
  simp only [opsE]
  after_results_simp_entrywise
  unfold codes2
  rfl

set_option maxRecDepth 8192 in
set_option maxHeartbeats 2000000 in
theorem atE_v47 : after (opsE (F := Ideal)) V (Proc.devRef .tc main_while0b_v47) = scales2 (V (Proc.devRef .tc main_v2_6)) (V (Proc.devRef .tc main_while0b_v5)) := by
  simp only [opsE]
  after_results_simp_entrywise
  unfold scales2
  rfl

set_option maxRecDepth 8192 in
set_option maxHeartbeats 2000000 in
theorem atG_v60 : after (opsG (F := Ideal)) V (Proc.devRef .tc main_while0b_v60) = low2 (V (Proc.devRef .tc main_while0b_v45)) (V (Proc.devRef .tc main_while0b_v47)) := by
  simp only [opsG]
  after_results_simp <;> rfl

set_option maxRecDepth 8192 in
set_option maxHeartbeats 2000000 in
theorem atG_v68 : after (opsG (F := Ideal)) V (Proc.devRef .tc main_while0b_v68) = high2 (V (Proc.devRef .tc main_while0b_v45)) (V (Proc.devRef .tc main_while0b_v47)) := by
  simp only [opsG]
  after_results_simp <;> rfl

set_option maxRecDepth 8192 in
set_option maxHeartbeats 2000000 in
theorem atH_v73 : after (opsH (F := Ideal)) V (Proc.devRef .tc main_while0b_v73) = prod2 (V (Proc.devRef .tc main_while0b_v43)) (V (Proc.devRef .tc main_while0b_v60)) (V (Proc.devRef .tc main_while0b_v68)) := by
  simp only [opsH]
  after_results_simp <;> rfl

set_option maxRecDepth 8192 in
set_option maxHeartbeats 2000000 in
theorem atK_y : after (opsK (F := Ideal)) V (Proc.devRef .tc main_v2_9) = put (V (Proc.devRef .tc main_v2_9)) (V (Proc.devRef .tc main_while0b_v73)) (V (Proc.devRef .tc main_while0b_v7)) := by
  simp only [opsK]
  after_results_simp_entrywise
  unfold put
  rfl

set_option maxRecDepth 8192 in
set_option maxHeartbeats 2000000 in
theorem atK_ctr : after (opsK (F := Ideal)) V (Proc.devRef .tc main_v2_7) = (V (Proc.devRef .tc main_while0b_v3)) := by
  simp only [opsK]
  after_results_simp <;> rfl

end Cert.ReferenceIdeal.Hand
-- ==== Proof.RefLoop.lean ====
/-
  The reference's run: its loop runs as many trips as the fourth argument says, and what each trip does to the buffers it carries.
-/
module

public import proofs.«01_k».proof.Proof.RefStretch

@[expose] public section

noncomputable section

namespace Cert.ReferenceIdeal.Hand

open Cert.ReferenceIdeal Cert.ReferenceIdeal.Gen Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

/-- One expert's rows as one function of the arrays. -/
def value (x : S256x2816.Idx → Ideal .bf16) (a : S_.Idx → BitVec 32) (w1 : S8x1408x14336.Idx → BitVec 8) (s1 : S8x22x14336.Idx → Ideal .bf16)
    (w2 : S8x3584x2816.Idx → BitVec 8) (s2 : S8x56x2816.Idx → Ideal .bf16) : S256x2816.Idx → Ideal .f32 :=
  prod2 (mid (prod1 x (low1 (codes1 w1 a) (scales1 s1 a)) (high1 (codes1 w1 a) (scales1 s1 a))))
    (low2 (codes2 w2 a) (scales2 s2 a)) (high2 (codes2 w2 a) (scales2 s2 a))

section

variable (V : Valuation τ sig (Elt Ideal))

/-- A trip adds one to the counter. -/
theorem step_ctr : step V (Proc.devRef .tc main_v2_7) = addi (V (Proc.devRef .tc main_v2_7)) (constantI S_ 32 1#32) := by
  unfold step
  rw [atK_ctr, keepH _ main_while0b_v3 (by decide), keepG _ main_while0b_v3 (by decide), keepE _ main_while0b_v3 (by decide), keepD _ main_while0b_v3 (by decide),
    keepC _ main_while0b_v3 (by decide), keepB _ main_while0b_v3 (by decide), atA_v3, keepQ _ main_v2_7 (by decide)]

set_option maxRecDepth 8192 in
/-- A trip puts one expert's rows into the result. -/
theorem step_y : step V (Proc.devRef .tc main_v2_9) = put (V (Proc.devRef .tc main_v2_9))
    (value (rows (V (Proc.devRef .tc main_v2_2)) (word (V (Proc.devRef .tc main_v2_1)) (V (Proc.devRef .tc main_v2_7)))) (word (V (Proc.devRef .tc main_v2_0)) (V (Proc.devRef .tc main_v2_7)))
      (V (Proc.devRef .tc main_v2_3)) (V (Proc.devRef .tc main_v2_4)) (V (Proc.devRef .tc main_v2_5)) (V (Proc.devRef .tc main_v2_6)))
    (word (V (Proc.devRef .tc main_v2_1)) (V (Proc.devRef .tc main_v2_7))) := by
  unfold step value
  rw [atK_y, atH_v73,
    keepH _ main_v2_9 (by decide), keepG _ main_v2_9 (by decide), keepE _ main_v2_9 (by decide), keepD _ main_v2_9 (by decide), keepC _ main_v2_9 (by decide),
    keepB _ main_v2_9 (by decide), keepA _ main_v2_9 (by decide), keepQ _ main_v2_9 (by decide),
    keepH _ main_while0b_v7 (by decide), keepG _ main_while0b_v7 (by decide), keepE _ main_while0b_v7 (by decide), keepD _ main_while0b_v7 (by decide),
    keepC _ main_while0b_v7 (by decide), keepB _ main_while0b_v7 (by decide), atA_v7,
    atG_v60, atG_v68, keepG _ main_while0b_v43 (by decide), keepE _ main_while0b_v43 (by decide), atD_v43, atC_v38, atB_v25, atB_v33,
    keepB _ main_while0b_v8 (by decide), atA_v8, atA_v10, atA_v12, atE_v45, atE_v47,
    keepD _ main_while0b_v5 (by decide), keepC _ main_while0b_v5 (by decide), keepB _ main_while0b_v5 (by decide), atA_v5,
    keepD _ main_v2_5 (by decide), keepC _ main_v2_5 (by decide), keepB _ main_v2_5 (by decide), keepA _ main_v2_5 (by decide), keepQ _ main_v2_5 (by decide),
    keepD _ main_v2_6 (by decide), keepC _ main_v2_6 (by decide), keepB _ main_v2_6 (by decide), keepA _ main_v2_6 (by decide), keepQ _ main_v2_6 (by decide),
    keepQ _ main_v2_0 (by decide), keepQ _ main_v2_1 (by decide), keepQ _ main_v2_2 (by decide), keepQ _ main_v2_3 (by decide), keepQ _ main_v2_4 (by decide),
    keepQ _ main_v2_7 (by decide)]

end

variable (m : (ℓ : Loc nD τ sig) → Buf (Elt Ideal) ℓ) (c : Dev nD)

/-- A buffer no trip writes is before every trip what it was before the loop. -/
theorem before_keep (k : ℕ) (r : Ref sig .tc) (hQ : r ∉ wrQ) (hA : r ∉ wrA) (hB : r ∉ wrB) (hC : r ∉ wrC) (hD : r ∉ wrD) (hE : r ∉ wrE) (hG : r ∉ wrG) (hH : r ∉ wrH) (hK : r ∉ wrK) :
    before m c k (Proc.devRef .tc r) = after (opsP (F := Ideal)) (launchContents m c) (Proc.devRef .tc r) := by
  induction k with
  | zero => rfl
  | succ k ih => exact (step_keep _ r hQ hA hB hC hD hE hG hH hK).trans ih

/-- The bound of the loop. -/
def bound : BitVec 32 := shapeCast S_ (m ((c.tc : Thread nD τ).loc main_arg3) : S1.Idx → BitVec 32) shapeCasts_S1_S_ HostLoop.idx0

theorem before_ub (k : ℕ) : before m c k (Proc.devRef .tc main_v2_8) = shapeCast S_ (m ((c.tc : Thread nD τ).loc main_arg3) : S1.Idx → BitVec 32) shapeCasts_S1_S_ :=
  (before_keep m c k main_v2_8 (by decide) (by decide) (by decide) (by decide) (by decide) (by decide) (by decide) (by decide) (by decide)).trans (atP_ub _)

theorem before_ctr (k : ℕ) : before m c k (Proc.devRef .tc main_v2_7) = fun _ => Scf.iv 0#32 1#32 k := by
  induction k with
  | zero => exact (atP_ctr _).trans (by rw [Scf.iv_zero]; rfl)
  | succ k ih =>
    refine (step_ctr _).trans ?_
    rw [ih, Scf.iv_succ]
    rfl

/-- The loop's counter never wraps. -/
theorem count_ok (u : BitVec 32) : Scf.OK 0#32 u 1#32 := by
  have h0 : (0#32 : BitVec 32).toInt = 0 := by decide
  have h1 : (1#32 : BitVec 32).toInt = 1 := by decide
  have h2 := BitVec.toInt_lt (x := u)
  refine ⟨by decide, ?_⟩
  unfold Scf.trips
  rw [h0, h1]
  norm_num at h2 ⊢
  omega

/-- The number of trips. -/
def count : ℕ := Scf.trips 0#32 (bound m c) 1#32

theorem count_eq (n : ℕ) (hn : n < 2 ^ 31) (h : bound m c = BitVec.ofNat 32 n) : count m c = n := by
  have h0 : (0#32 : BitVec 32).toInt = 0 := by decide
  have h1 : (1#32 : BitVec 32).toInt = 1 := by decide
  have h2 : (BitVec.ofNat 32 n).toInt = (n : ℤ) := by
    rw [BitVec.toInt_eq_toNat_of_lt] <;> rw [BitVec.toNat_ofNat, Nat.mod_eq_of_lt (by omega)]; omega
  unfold count Scf.trips
  rw [h, h0, h1, h2]
  simp

-- `iapply` of a rule stated for any thread at the TensorCore thread unifies only when unification may unfold
-- plain definitions in a metavariable's type
set_option backward.isDefEq.respectTransparency.types false in
theorem cond_spec (hc : ∀ c c' : Dev nD, c = c') : CondSpec pcfgs defs₀ loops (main_while0_cond (F := Ideal)) opsQ bodyI (entryContents [opsP] m) (count m c) := by
  intro k hk c' bd
  have e := hc c' c
  subst e
  rw [atTrip_eq]
  unfold main_while0_cond
  iintro ⟨Hb, Hh⟩
  iapply (StableHlo.wp_hlo_within (Variants.lift Variants.none) (c' : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  have hctr := before_ctr m c' k
  have hub := before_ub m c' k
  isplitr
  · ipureintro
    show Iff (IntOp.cmpi .slt (before m c' k (Proc.devRef .tc main_v2_7) HostLoop.idx0) (before m c' k (Proc.devRef .tc main_v2_8) HostLoop.idx0) = 1#1) (k < count m c')
    rw [hctr, hub]
    exact Scf.cmpi_slt_iv_ub_iff (count_ok _) hk
  isplitl [Hb]; · iexact Hb
  rw [StableHlo.after_cons, StableHlo.after_nil]; iexact Hh

theorem dev_one (c c' : Dev nD) : c = c' := Subsingleton.elim (α := Fin 1) c c'

/-- The run: every buffer but the condition's ends at its contents after the last trip. -/
theorem run (ρ : Dev nD → PrngReg) :
    θ_run defs (onTc (τ := τ) (main (F := Ideal))) ⟨m, fun _ => 0, ρ⟩ fun r => ∀ (c : Dev nD) (b : Ref sig .tc), (Proc.devRef .tc b : DevRef τ sig).isScoped = false →
      b ∉ wrQ → r.2.mem ((c.tc : Thread nD τ).loc b) = before m c (count m c) (Proc.devRef .tc b) := by
  refine (θ_run defs _ _).mono (fun r h c b hb hq => (h c b hb).trans ?_)
    (StableHlo.run_loop pcfgs defs₀ loops main 0 main_while0_cond main_while0_body rfl [opsP] bodyI [] opsQ plainP plainB Plain.nil main_eq body_eq
      (count m (0 : Fin 1)) m ρ (cond_spec m (0 : Fin 1) dev_one))
  rw [dev_one c (0 : Fin 1)]
  show after opsQ (atTrip opsQ bodyI (entryContents [opsP] m) (count m (0 : Fin 1)) (0 : Fin 1)) (Proc.devRef .tc b) = _
  rw [atTrip_eq, keepQ _ b hq]

end Cert.ReferenceIdeal.Hand
-- ==== Proof.RefValue.lean ====
/-
  The reference's result: the rows `Cert.Spec.rowsOf` of its arguments, for tables with numbers in range.
-/
module

public import proofs.«01_k».proof.Proof.RefLoop

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.Spec (code code_mod sum_pairs)

section

variable (x : S256x2816.Idx → Ideal .bf16) (a : S_.Idx → BitVec 32) (w1 : S8x1408x14336.Idx → BitVec 8) (s1 : S8x22x14336.Idx → Ideal .bf16)
  (w2 : S8x3584x2816.Idx → BitVec 8) (s2 : S8x56x2816.Idx → Ideal .bf16) (e : Fin 8) (h : ∀ i, a i = BitVec.ofNat 32 e.val)

include h

theorem low1_first (k : Fin 1408) (n : Fin 14336) :
    low1 (codes1 w1 a) (scales1 s1 a) (ix2 k n) = Cert.Spec.first w1 s1 e ⟨2 * k.val, by omega⟩ n := by
  rw [low1_apply, codes1_apply w1 a e h, scales1_apply s1 a e h]
  unfold Cert.Spec.first
  rw [code_mod _ 0 (2 * k.val) (by omega)]
  congr 4 <;> first | (apply Fin.ext; show k.val = _ / 2; simp only []; omega) | (show k.val / 64 = _ / 128; simp only []; omega)

theorem high1_first (k : Fin 1408) (n : Fin 14336) :
    high1 (codes1 w1 a) (scales1 s1 a) (ix2 k n) = Cert.Spec.first w1 s1 e ⟨2 * k.val + 1, by omega⟩ n := by
  rw [high1_apply, codes1_apply w1 a e h, scales1_apply s1 a e h]
  unfold Cert.Spec.first
  rw [code_mod _ 1 (2 * k.val + 1) (by omega)]
  congr 4 <;> first | (apply Fin.ext; show k.val = _ / 2; simp only []; omega) | (show k.val / 64 = _ / 128; simp only []; omega)

theorem low2_second (k : Fin 3584) (n : Fin 2816) :
    low2 (codes2 w2 a) (scales2 s2 a) (ix2 k n) = Cert.Spec.second w2 s2 e ⟨2 * k.val, by omega⟩ n := by
  rw [low2_apply, codes2_apply w2 a e h, scales2_apply s2 a e h]
  unfold Cert.Spec.second
  rw [code_mod _ 0 (2 * k.val) (by omega)]
  congr 4 <;> first | (apply Fin.ext; show k.val = _ / 2; simp only []; omega) | (show k.val / 64 = _ / 128; simp only []; omega)

theorem high2_second (k : Fin 3584) (n : Fin 2816) :
    high2 (codes2 w2 a) (scales2 s2 a) (ix2 k n) = Cert.Spec.second w2 s2 e ⟨2 * k.val + 1, by omega⟩ n := by
  rw [high2_apply, codes2_apply w2 a e h, scales2_apply s2 a e h]
  unfold Cert.Spec.second
  rw [code_mod _ 1 (2 * k.val + 1) (by omega)]
  congr 4 <;> first | (apply Fin.ext; show k.val = _ / 2; simp only []; omega) | (show k.val / 64 = _ / 128; simp only []; omega)

/-- The reference's first product is the plain one. -/
theorem prod1_gu (i : Fin 256) (n : Fin 14336) :
    prod1 x (low1 (codes1 w1 a) (scales1 s1 a)) (high1 (codes1 w1 a) (scales1 s1 a)) (ix2 i n) = Cert.Spec.gu x w1 s1 e i n := by
  rw [prod1_apply]
  unfold Cert.Spec.gu
  refine Eq.trans ?_ (sum_pairs 1408 fun r : Fin 2816 => x (ix2 i r) * Cert.Spec.first w1 s1 e r n).symm
  refine congrArg₂ (· + ·) (Finset.sum_congr rfl fun k _ => ?_) (Finset.sum_congr rfl fun k _ => ?_)
  · rw [low1_first a w1 s1 e h]
  · rw [high1_first a w1 s1 e h]

/-- The reference's intermediate rows are the plain ones. -/
theorem mid_hid (i : Fin 256) (k : Fin 7168) :
    mid (prod1 x (low1 (codes1 w1 a) (scales1 s1 a)) (high1 (codes1 w1 a) (scales1 s1 a))) (ix2 i k) = Cert.Spec.hid x w1 s1 e i k := by
  rw [mid_apply, prod1_gu x a w1 s1 e h, prod1_gu x a w1 s1 e h]
  rfl

/-- The reference's rows are the plain ones. -/
theorem value_out (i : Fin 256) (n : Fin 2816) : value x a w1 s1 w2 s2 (ix2 i n) = Cert.Spec.out x w1 s1 w2 s2 e i n := by
  unfold value
  rw [prod2_apply]
  unfold Cert.Spec.out
  refine Eq.trans ?_ (sum_pairs 3584 fun r : Fin 7168 => Cert.Spec.hid x w1 s1 e i r * Cert.Spec.second w2 s2 e r n).symm
  refine congrArg₂ (· + ·) (Finset.sum_congr rfl fun k _ => ?_) (Finset.sum_congr rfl fun k _ => ?_)
  · rw [mid_hid x a w1 s1 e h, low2_second a w2 s2 e h]
  · rw [mid_hid x a w1 s1 e h, high2_second a w2 s2 e h]

end

/-! ## The loop -/

variable (m : (ℓ : Loc nD τ sig) → Buf (Elt Ideal) ℓ) (c : Dev nD)

/-- An argument is before every trip what it was at the start. -/
theorem before_arg (k : ℕ) (r : Ref sig .tc) (hP : r ∉ wrP) (hQ : r ∉ wrQ) (hA : r ∉ wrA) (hB : r ∉ wrB) (hC : r ∉ wrC) (hD : r ∉ wrD) (hE : r ∉ wrE) (hG : r ∉ wrG)
    (hH : r ∉ wrH) (hK : r ∉ wrK) : before m c k (Proc.devRef .tc r) = m ((c.tc : Thread nD τ).loc r) :=
  (before_keep m c k r hQ hA hB hC hD hE hG hH hK).trans (keepP _ r hP)

theorem before_v2_0 (k : ℕ) : before m c k (Proc.devRef .tc main_v2_0) = m ((c.tc : Thread nD τ).loc main_arg1) :=
  (before_keep m c k main_v2_0 (by decide) (by decide) (by decide) (by decide) (by decide) (by decide) (by decide) (by decide) (by decide)).trans (atP_0 _)

theorem before_v2_1 (k : ℕ) : before m c k (Proc.devRef .tc main_v2_1) = m ((c.tc : Thread nD τ).loc main_arg2) :=
  (before_keep m c k main_v2_1 (by decide) (by decide) (by decide) (by decide) (by decide) (by decide) (by decide) (by decide) (by decide)).trans (atP_1 _)

theorem before_v2_2 (k : ℕ) : before m c k (Proc.devRef .tc main_v2_2) = m ((c.tc : Thread nD τ).loc main_arg0) :=
  (before_keep m c k main_v2_2 (by decide) (by decide) (by decide) (by decide) (by decide) (by decide) (by decide) (by decide) (by decide)).trans (atP_2 _)

theorem before_v2_3 (k : ℕ) : before m c k (Proc.devRef .tc main_v2_3) = m ((c.tc : Thread nD τ).loc main_arg4) :=
  (before_keep m c k main_v2_3 (by decide) (by decide) (by decide) (by decide) (by decide) (by decide) (by decide) (by decide) (by decide)).trans (atP_3 _)

theorem before_v2_4 (k : ℕ) : before m c k (Proc.devRef .tc main_v2_4) = m ((c.tc : Thread nD τ).loc main_arg5) :=
  (before_keep m c k main_v2_4 (by decide) (by decide) (by decide) (by decide) (by decide) (by decide) (by decide) (by decide) (by decide)).trans (atP_4 _)

theorem before_v2_5 (k : ℕ) : before m c k (Proc.devRef .tc main_v2_5) = m ((c.tc : Thread nD τ).loc main_arg6) :=
  (before_keep m c k main_v2_5 (by decide) (by decide) (by decide) (by decide) (by decide) (by decide) (by decide) (by decide) (by decide)).trans (atP_5 _)

theorem before_v2_6 (k : ℕ) : before m c k (Proc.devRef .tc main_v2_6) = m ((c.tc : Thread nD τ).loc main_arg7) :=
  (before_keep m c k main_v2_6 (by decide) (by decide) (by decide) (by decide) (by decide) (by decide) (by decide) (by decide) (by decide)).trans (atP_6 _)

/-- The counter is the number of the trip. -/
theorem ctr_word (k : ℕ) : Scf.iv 0#32 1#32 k = BitVec.ofNat 32 k := by
  induction k with
  | zero => rw [Scf.iv_zero]
  | succ k ih => rw [Scf.iv_succ, ih]; exact BitVec.ofNat_add_ofNat k 1

/-- The zeros the loop starts from. -/
theorem zero_eq : (broadcastInDim S896x2816 ![] bcast_S_S896x2816 (constant (F := Ideal) S_ .f32 0x00000000#32) : S896x2816.Idx → EReal) = fun _ => 0 := by
  funext i
  show Ideal.ofBits .f32 0x00000000#32 = 0
  simp [Ideal.ofBits, Ideal.ieee]

/-- The result before trip `k`. -/
theorem before_y (eo : ℕ → Fin 8) (ro : ℕ → Fin 641)
    (h1 : ∀ i : S9.Idx, (m ((c.tc : Thread nD τ).loc main_arg1) : S9.Idx → BitVec 32) i = BitVec.ofNat 32 (eo ((i 0 : Fin 9) : ℕ)).val)
    (h2 : ∀ i : S9.Idx, (m ((c.tc : Thread nD τ).loc main_arg2) : S9.Idx → BitVec 32) i = BitVec.ofNat 32 (ro ((i 0 : Fin 9) : ℕ)).val) (k : ℕ) (hk : k ≤ 9) :
    (before m c k (Proc.devRef .tc main_v2_9) : S896x2816.Idx → EReal) = Cert.Spec.rowsOf (m ((c.tc : Thread nD τ).loc main_arg0) : S896x2816.Idx → EReal)
      (m ((c.tc : Thread nD τ).loc main_arg4) : S8x1408x14336.Idx → BitVec 8) (m ((c.tc : Thread nD τ).loc main_arg5) : S8x22x14336.Idx → EReal)
      (m ((c.tc : Thread nD τ).loc main_arg6) : S8x3584x2816.Idx → BitVec 8) (m ((c.tc : Thread nD τ).loc main_arg7) : S8x56x2816.Idx → EReal) eo ro k := by
  induction k with
  | zero => exact (atP_y _).trans zero_eq
  | succ k ih =>
    have ih' := ih (by omega)
    have hw : ∀ i, before m c k (Proc.devRef .tc main_v2_7) i = BitVec.ofNat 32 (⟨k, by omega⟩ : Fin 9).val := fun i => by
      rw [before_ctr]; exact ctr_word k
    refine (step_y _).trans ?_
    rw [before_v2_0, before_v2_1, before_v2_2, before_v2_3, before_v2_4, before_v2_5, before_v2_6]
    have ho := word_apply (m ((c.tc : Thread nD τ).loc main_arg1)) (before m c k (Proc.devRef .tc main_v2_7)) (fun n => (eo n).val) h1 ⟨k, by omega⟩ hw
    have hb := word_apply (m ((c.tc : Thread nD τ).loc main_arg2)) (before m c k (Proc.devRef .tc main_v2_7)) (fun n => (ro n).val) h2 ⟨k, by omega⟩ hw
    rw [put_eq _ _ _ (ro k) hb, rows_eq _ _ (ro k) hb]
    refine (congrArg (fun y => Cert.Spec.putAt y _ (ro k)) ih').trans ?_
    refine congrArg (fun u => Cert.Spec.putAt _ u (ro k)) (funext fun i => funext fun n => ?_)
    exact value_out _ _ _ _ _ _ (eo k) ho i n

/-- The run: the reference leaves its arguments as they were, and its result is what its loop's last trip leaves. -/
theorem run_value (ρ : Dev nD → PrngReg) :
    θ_run defs (onTc (τ := τ) (main (F := Ideal))) ⟨m, fun _ => 0, ρ⟩ fun r => ∀ c : Dev nD,
      r.2.mem ((c.tc : Thread nD τ).loc main_v2_9) = before m c (count m c) (Proc.devRef .tc main_v2_9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v2_9 rfl (by decide),
      (h c main_arg0 rfl (by decide)).trans (before_arg m c _ main_arg0 (by decide) (by decide) (by decide) (by decide) (by decide) (by decide) (by decide) (by decide) (by decide) (by decide)),
      (h c main_arg1 rfl (by decide)).trans (before_arg m c _ main_arg1 (by decide) (by decide) (by decide) (by decide) (by decide) (by decide) (by decide) (by decide) (by decide) (by decide)),
      (h c main_arg2 rfl (by decide)).trans (before_arg m c _ main_arg2 (by decide) (by decide) (by decide) (by decide) (by decide) (by decide) (by decide) (by decide) (by decide) (by decide)),
      (h c main_arg3 rfl (by decide)).trans (before_arg m c _ main_arg3 (by decide) (by decide) (by decide) (by decide) (by decide) (by decide) (by decide) (by decide) (by decide) (by decide)),
      (h c main_arg4 rfl (by decide)).trans (before_arg m c _ main_arg4 (by decide) (by decide) (by decide) (by decide) (by decide) (by decide) (by decide) (by decide) (by decide) (by decide)),
      (h c main_arg5 rfl (by decide)).trans (before_arg m c _ main_arg5 (by decide) (by decide) (by decide) (by decide) (by decide) (by decide) (by decide) (by decide) (by decide) (by decide)),
      (h c main_arg6 rfl (by decide)).trans (before_arg m c _ main_arg6 (by decide) (by decide) (by decide) (by decide) (by decide) (by decide) (by decide) (by decide) (by decide) (by decide)),
      (h c main_arg7 rfl (by decide)).trans (before_arg m c _ main_arg7 (by decide) (by decide) (by decide) (by decide) (by decide) (by decide) (by decide) (by decide) (by decide) (by decide))⟩)
    (run m ρ)

end Cert.ReferenceIdeal.Hand
-- ==== Proof.lean ====
/-
  The claims, put together: the kernel runs and leaves its arguments and its semaphores as they were (as it is printed and read over
  the extended reals), so does the reference, and over the extended reals the two end with equal results.
-/
module

public import proofs.«01_k».proof.Defs
public import proofs.«01_k».proof.Proof.Pre
public import proofs.«01_k».proof.Proof.KLaunch
public import proofs.«01_k».proof.Proof.KIOut
public import proofs.«01_k».proof.Proof.RefValue

@[expose] public section

noncomputable section

namespace Cert.Proof

open Idealize.ShloMosaic Idealize.ShloMosaic.TcCoe Idealize.SL.Sem

/-- The kernel's frame. -/
theorem frame_Kernel : Cert.quiescent_Kernel (hKernel := Cert.Kernel.Gen.facts) (hPre_named := Cert.Pre_named.Gen.facts) := by
  intro m g hpre
  choose eo ro nn h1 hro ho hb hn using fun c : Dev Cert.Kernel.nD => Cert.Named.tables (F := Bits) _ _ _ _ _ _ _ _ (hpre c)
  exact (θ_run Cert.Kernel.defs _ _).mono (fun r h => ⟨fun c => Cert.Kernel.Hand.args_of m eo ro nn r h.1 c, h.2⟩)
    (Cert.Kernel.Hand.run_main (F := Bits) m g eo ro nn h1 hro (fun c i => (Cert.Kernel.Hand.ib_eq m c i).trans (ho c i))
      (fun c i => (Cert.Kernel.Hand.bb_eq m c i).trans (hb c i)) (fun c i => (Cert.Kernel.Hand.nb_eq m c i).trans (hn c i)))

/-- The frame of the kernel read over the extended reals. -/
theorem frame_KernelIdeal : Cert.quiescent_KernelIdeal (hKernelIdeal := Cert.KernelIdeal.Gen.facts) (hPre_named := Cert.Pre_named.Gen.facts) := by
  intro m g hpre
  choose eo ro nn h1 hro ho hb hn using fun c : Dev Cert.KernelIdeal.nD => Cert.Named.tables (F := Ideal) _ _ _ _ _ _ _ _ (hpre c)
  exact (θ_run Cert.KernelIdeal.defs _ _).mono (fun r h => ⟨fun c => Cert.KernelIdeal.Hand.args_of m eo ro nn r h.1 c, h.2⟩)
    (Cert.KernelIdeal.Hand.run_main (F := Ideal) m g eo ro nn h1 hro (fun c i => (Cert.KernelIdeal.Hand.ib_eq m c i).trans (ho c i))
      (fun c i => (Cert.KernelIdeal.Hand.bb_eq m c i).trans (hb c i)) (fun c i => (Cert.KernelIdeal.Hand.nb_eq m c i).trans (hn c i)))

/-- The reference's frame. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Hand.run_value m g)

/-- The reference's frame under the precondition. -/
theorem frame_ReferenceIdeal_named : Cert.quiescent_ReferenceIdeal_pre_named (hReferenceIdeal := Cert.ReferenceIdeal.Gen.facts)
    (hPre_named := Cert.Pre_named.Gen.facts) := fun m g _ =>
  (θ_run Cert.ReferenceIdeal.defs _ _).mono (fun r h => ⟨fun c => (h c).2, Idealize.ShloMosaic.sem_eq_zero_of_no_sems (by decide) r.2⟩)
    (Cert.ReferenceIdeal.Hand.run_value m g)

/-- The kernel's rows are the reference's. -/
theorem algebraic : Cert.algebraic_KernelIdeal_ReferenceIdeal (hKernelIdeal := Cert.KernelIdeal.Gen.facts) (hReferenceIdeal := Cert.ReferenceIdeal.Gen.facts)
    (hPre_named := Cert.Pre_named.Gen.facts) := by
  intro m g m' g' hpre hargs
  choose eo ro nn h1 hro ho hb hn using fun c : Dev Cert.KernelIdeal.nD => Cert.Named.tables (F := Ideal) _ _ _ _ _ _ _ _ (hpre c)
  refine ⟨Cert.KernelIdeal.Hand.res m eo ro nn, Cert.KernelIdeal.Hand.run_value m g eo ro nn h1 hro ho hb hn, ?_⟩
  refine (θ_run Cert.ReferenceIdeal.defs _ _).mono (fun r h c => ⟨(h c).1.trans ?_, (h c).2⟩) (Cert.ReferenceIdeal.Hand.run_value m' g')
  obtain ⟨e0, e1, e2, e3, e4, e5, e6, e7⟩ := hargs c
  have hc : Cert.ReferenceIdeal.Hand.count m' c = (nn c).val :=
    Cert.ReferenceIdeal.Hand.count_eq m' c (nn c).val (by have := (nn c).isLt; omega) ((congrFun e3 _).trans (hn c _))
  rw [hc]
  refine (Cert.ReferenceIdeal.Hand.before_y m' c (eo c) (ro c) (fun i => (congrFun e1 i).trans (ho c i)) (fun i => (congrFun e2 i).trans (hb c i)) (nn c).val
    (by have := (nn c).isLt; omega)).trans ?_
  rw [e0, e4, e5, e6, e7]
  rfl

theorem claim : Cert.Claim :=
  ⟨Cert.Kernel.Gen.facts, Cert.KernelIdeal.Gen.facts, Cert.ReferenceIdeal.Gen.facts, Cert.Pre_named.Gen.facts,
    frame_Kernel, frame_KernelIdeal, frame_ReferenceIdeal, frame_ReferenceIdeal_named, trivial, algebraic⟩

end Cert.Proof
